-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "inv_ctrl" .f32 0x3F44EC4F#32 ((4194304 / 5452595 : ℝ) : EReal)
  ∧ IdealRules.named_const.Statement Cert.KernelIdeal.κ "ctrl" .f32 0x3FA66666#32 ((5452595 / 4194304 : ℝ) : EReal)

def algebraic_KernelIdeal_ReferenceIdeal_on_written_pre_inputs_ok [hKernelIdeal : Cert.KernelIdeal.Facts] [hReferenceIdeal : Cert.ReferenceIdeal.Facts] [hPre_inputs_ok : Cert.Pre_inputs_ok.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![9216, 32000]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v0_0) i = v0 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v0_1) i = v1 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![9216, 32000]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v66) i = v0 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v74) i = v1 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v73) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_ok : Cert.Pre_inputs_ok.Facts) (hOn_written : Cert.On_written.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_on_written_pre_inputs_ok (hKernelIdeal := hKernelIdeal) (hReferenceIdeal := hReferenceIdeal) (hPre_inputs_ok := hPre_inputs_ok) (hOn_written := hOn_written)
-- ==== On_written.lean ====
abbrev S32000x1024 : Shape := ⟨2, ![32000, 1024]⟩
abbrev S9216x1024 : Shape := ⟨2, ![9216, 1024]⟩
abbrev S9x9216x128 : Shape := ⟨3, ![9, 9216, 128]⟩
abbrev S9216x128 : Shape := ⟨2, ![9216, 128]⟩
abbrev S_ : Shape := ⟨0, ![]⟩
abbrev S9216x32000 : Shape := ⟨2, ![9216, 32000]⟩

class Facts : Prop where
  bcast_S_S9216x32000 : S_.BroadcastsInDim S9216x32000 (![] : Fin 0 → Fin S9216x32000.rank)
  bcast_S_S9216x128 : S_.BroadcastsInDim S9216x128 (![] : Fin 0 → Fin S9216x128.rank)

variable [Facts]

def fn {F : FTy → Type} [FloatOps F] (main_arg0 : FVec F S32000x1024 .bf16) (main_arg1 : FVec F S9216x1024 .bf16) (main_arg2 : IVec S9x9216x128 32) (main_arg3 : IVec S9216x128 32) : IVec S9216x32000 1 × IVec S9216x128 1 × IVec S9216x128 1 :=
  let main_v0 : IVec S9216x128 32 := iotaInDim S9216x128 32 1
  let main_c : IVec S_ 1 := constantI S_ 1 1#1
  let main_v1 : IVec S9216x32000 1 := broadcastInDim S9216x32000 ![] bcast_S_S9216x32000 main_c
  let main_c_0 : IVec S_ 32 := constantI S_ 32 40#32
  let main_v2 : IVec S9216x128 32 := broadcastInDim S9216x128 ![] bcast_S_S9216x128 main_c_0
  let main_v3 : IVec S9216x128 1 := cmpi .slt main_v0 main_v2
  let main_c_1 : IVec S_ 1 := constantI S_ 1 1#1
  let main_v4 : IVec S9216x128 1 := broadcastInDim S9216x128 ![] bcast_S_S9216x128 main_c_1
  (main_v1, main_v3, main_v4)
-- ==== Pre_inputs_ok.lean ====
abbrev S32000x1024 : Shape := ⟨2, ![32000, 1024]⟩
abbrev S9216x1024 : Shape := ⟨2, ![9216, 1024]⟩
abbrev S9x9216x128 : Shape := ⟨3, ![9, 9216, 128]⟩
abbrev S9216x128 : Shape := ⟨2, ![9216, 128]⟩
abbrev S9216x40 : Shape := ⟨2, ![9216, 40]⟩
abbrev S9216x1 : Shape := ⟨2, ![9216, 1]⟩
abbrev S9216 : Shape := ⟨1, ![9216]⟩
abbrev S_ : Shape := ⟨0, ![]⟩

class Facts : Prop where
  slices_S9216x128_S9216x40_0_0 : S9216x128.Slices ![0, 0] S9216x40
  slices_S9216x128_S9216x1_0_126 : S9216x128.Slices ![0, 126] S9216x1
  shapeCasts_S9216x1_S9216 : S9216x1.ShapeCasts S9216
  slices_S9216x128_S9216x1_0_127 : S9216x128.Slices ![0, 127] S9216x1
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S9216x1024 : S_.BroadcastsInDim S9216x1024 (![] : Fin 0 → Fin S9216x1024.rank)
  reducesTo_S9216x1024_S_d0_1 : S9216x1024.ReducesTo [0, 1] S_
  bcast_S_S9216x40 : S_.BroadcastsInDim S9216x40 (![] : Fin 0 → Fin S9216x40.rank)
  reducesTo_S9216x40_S_d0_1 : S9216x40.ReducesTo [0, 1] S_
  bcast_S_S9216 : S_.BroadcastsInDim S9216 (![] : Fin 0 → Fin S9216.rank)
  reducesTo_S9216_S_d0 : S9216.ReducesTo [0] S_

variable [Facts]

def fn_part1 {F : FTy → Type} [FloatOps F] (main_v0 : IVec S9216x40 32) (main_v3 : FVec F S9216 .f32) (main_v6 : FVec F S9216 .f32) (main_v15 : IVec S_ 1) (main_v17 : IVec S9216x40 1) (main_c_3 : IVec S_ 32) : IVec S_ 1 :=
  let main_v18 : IVec S9216x40 32 := broadcastInDim S9216x40 ![] bcast_S_S9216x40 main_c_3
  let main_v19 : IVec S9216x40 1 := cmpi .slt main_v0 main_v18
  let main_v20 : IVec S9216x40 1 := andi main_v17 main_v19
  let main_c_4 : IVec S_ 1 := constantI S_ 1 1#1
  let main_v21 : IVec S_ 1 := (fun x v => Host.reduce IntOp.andi x v reducesTo_S9216x40_S_d0_1 h_S_) main_v20 main_c_4
  let main_v22 : IVec S_ 1 := andi main_v15 main_v21
  let main_cst_5 : FVec F S_ .f32 := constant S_ .f32 0x00000000#32
  let main_v23 : FVec F S9216 .f32 := broadcastInDim S9216 ![] bcast_S_S9216 main_cst_5
  let main_v24 : IVec S9216 1 := cmpf .une main_v3 main_v23
  let main_c_6 : IVec S_ 1 := constantI S_ 1 1#1
  let main_v25 : IVec S_ 1 := (fun x v => Host.reduce IntOp.andi x v reducesTo_S9216_S_d0 h_S_) main_v24 main_c_6
  let main_v26 : IVec S_ 1 := andi main_v22 main_v25
  let main_cst_7 : FVec F S_ .f32 := constant S_ .f32 0x00000000#32
  let main_v27 : FVec F S9216 .f32 := broadcastInDim S9216 ![] bcast_S_S9216 main_cst_7
  let main_v28 : IVec S9216 1 := cmpf .ogt main_v6 main_v27
  let main_c_8 : IVec S_ 1 := constantI S_ 1 1#1
  let main_v29 : IVec S_ 1 := (fun x v => Host.reduce IntOp.andi x v reducesTo_S9216_S_d0 h_S_) main_v28 main_c_8
  let main_v30 : IVec S_ 1 := andi main_v26 main_v29
  main_v30

def fn {F : FTy → Type} [FloatOps F] (main_arg0 : FVec F S32000x1024 .bf16) (main_arg1 : FVec F S9216x1024 .bf16) (main_arg2 : IVec S9x9216x128 32) (main_arg3 : IVec S9216x128 32) : IVec S_ 1 :=
  let main_v0 : IVec S9216x40 32 := (extractStridedSlice S9216x40 ![0, 0] · slices_S9216x128_S9216x40_0_0) main_arg3
  let main_v1 : IVec S9216x1 32 := (extractStridedSlice S9216x1 ![0, 126] · slices_S9216x128_S9216x1_0_126) main_arg3
  let main_v2 : IVec S9216 32 := shapeCast S9216 main_v1 shapeCasts_S9216x1_S9216
  let main_v3 : FVec F S9216 .f32 := bitcastToFloat .f32 main_v2
  let main_v4 : IVec S9216x1 32 := (extractStridedSlice S9216x1 ![0, 127] · slices_S9216x128_S9216x1_0_127) main_arg3
  let main_v5 : IVec S9216 32 := shapeCast S9216 main_v4 shapeCasts_S9216x1_S9216
  let main_v6 : FVec F S9216 .f32 := bitcastToFloat .f32 main_v5
  let main_v7 : FVec F S32000x1024 .bf16 := Host.absf main_arg0
  let main_cst : FVec F S_ .bf16 := constant S_ .bf16 0x7F80#16
  let main_v8 : FVec F S32000x1024 .bf16 := broadcastInDim S32000x1024 ![] bcast_S_S32000x1024 main_cst
  let main_v9 : IVec S32000x1024 1 := cmpf .olt main_v7 main_v8
  let main_c : IVec S_ 1 := constantI S_ 1 1#1
  let main_v10 : IVec S_ 1 := (fun x v => Host.reduce IntOp.andi x v reducesTo_S32000x1024_S_d0_1 h_S_) main_v9 main_c
  let main_v11 : FVec F S9216x1024 .bf16 := Host.absf main_arg1
  let main_cst_0 : FVec F S_ .bf16 := constant S_ .bf16 0x7F80#16
  let main_v12 : FVec F S9216x1024 .bf16 := broadcastInDim S9216x1024 ![] bcast_S_S9216x1024 main_cst_0
  let main_v13 : IVec S9216x1024 1 := cmpf .olt main_v11 main_v12
  let main_c_1 : IVec S_ 1 := constantI S_ 1 1#1
  let main_v14 : IVec S_ 1 := (fun x v => Host.reduce IntOp.andi x v reducesTo_S9216x1024_S_d0_1 h_S_) main_v13 main_c_1
  let main_v15 : IVec S_ 1 := andi main_v10 main_v14
  let main_c_2 : IVec S_ 32 := constantI S_ 32 0#32
  let main_v16 : IVec S9216x40 32 := broadcastInDim S9216x40 ![] bcast_S_S9216x40 main_c_2
  let main_v17 : IVec S9216x40 1 := cmpi .sge main_v0 main_v16
  let main_c_3 : IVec S_ 32 := constantI S_ 32 32000#32
  fn_part1 (F := F) main_v0 main_v3 main_v6 main_v15 main_v17 main_c_3
-- ==== Kernel.lean ====
abbrev S32000x1024 : Shape := ⟨2, ![32000, 1024]⟩
abbrev S9216x1024 : Shape := ⟨2, ![9216, 1024]⟩
abbrev S9x9216x128 : Shape := ⟨3, ![9, 9216, 128]⟩
abbrev S9216x128 : Shape := ⟨2, ![9216, 128]⟩
abbrev S9216x32000 : Shape := ⟨2, ![9216, 32000]⟩
abbrev S1280x1024 : Shape := ⟨2, ![1280, 1024]⟩
abbrev S64x1024 : Shape := ⟨2, ![64, 1024]⟩
abbrev S9x64x128 : Shape := ⟨3, ![9, 64, 128]⟩
abbrev S64x128 : Shape := ⟨2, ![64, 128]⟩
abbrev S64x6400 : Shape := ⟨2, ![64, 6400]⟩
abbrev S31x320x1280 : Shape := ⟨3, ![31, 320, 1280]⟩
abbrev S320x1024 : Shape := ⟨2, ![320, 1024]⟩
abbrev S9x320x128 : Shape := ⟨3, ![9, 320, 128]⟩
abbrev S320x128 : Shape := ⟨2, ![320, 128]⟩
abbrev S3x64x128 : Shape := ⟨3, ![3, 64, 128]⟩
abbrev S2x64x128 : Shape := ⟨3, ![2, 64, 128]⟩
abbrev S1x64x128 : Shape := ⟨3, ![1, 64, 128]⟩
abbrev S64 : Shape := ⟨1, ![64]⟩
abbrev S64x1 : Shape := ⟨2, ![64, 1]⟩
abbrev S1x320x128 : Shape := ⟨3, ![1, 320, 128]⟩
abbrev S320x512 : Shape := ⟨2, ![320, 512]⟩
abbrev S256x512 : Shape := ⟨2, ![256, 512]⟩
abbrev S320x256 : Shape := ⟨2, ![320, 256]⟩
abbrev S320x128x1 : Shape := ⟨3, ![320, 128, 1]⟩

abbrev nBuf : Space → Nat
  | .hbm => 7
  | .vmem => 27
  | .smem => 0
  | _ => 0

abbrev bufTy : (tb : Table) → Fin (tcTables nBuf tb) → BufTy
  | .hbm, ⟨0, _⟩ => ⟨S32000x1024, .bf16⟩
  | .hbm, ⟨1, _⟩ => ⟨S9216x1024, .bf16⟩
  | .hbm, ⟨2, _⟩ => ⟨S9x9216x128, .i32⟩
  | .hbm, ⟨3, _⟩ => ⟨S9216x128, .i32⟩
  | .hbm, ⟨4, _⟩ => ⟨S9216x32000, .bf16⟩
  | .hbm, ⟨5, _⟩ => ⟨S9216x128, .f32⟩
  | .hbm, ⟨6, _⟩ => ⟨S9216x128, .f32⟩
  | .local _ .vmem, ⟨0, _⟩ => ⟨S1280x1024, .bf16⟩
  | .local _ .vmem, ⟨1, _⟩ => ⟨S1280x1024, .bf16⟩
  | .local _ .vmem, ⟨2, _⟩ => ⟨S64x1024, .bf16⟩
  | .local _ .vmem, ⟨3, _⟩ => ⟨S64x1024, .bf16⟩
  | .local _ .vmem, ⟨4, _⟩ => ⟨S9x64x128, .i32⟩
  | .local _ .vmem, ⟨5, _⟩ => ⟨S9x64x128, .i32⟩
  | .local _ .vmem, ⟨6, _⟩ => ⟨S64x128, .i32⟩
  | .local _ .vmem, ⟨7, _⟩ => ⟨S64x128, .i32⟩
  | .local _ .vmem, ⟨8, _⟩ => ⟨S64x6400, .bf16⟩
  | .local _ .vmem, ⟨9, _⟩ => ⟨S64x6400, .bf16⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S31x320x1280, .f32⟩
  | .local _ .vmem, ⟨15, _⟩ => ⟨S320x1024, .bf16⟩
  | .local _ .vmem, ⟨16, _⟩ => ⟨S9x320x128, .i32⟩
  | .local _ .vmem, ⟨17, _⟩ => ⟨S320x128, .i32⟩
  | .local _ .vmem, ⟨18, _⟩ => ⟨S320x128, .i32⟩
  | .local _ .vmem, ⟨19, _⟩ => ⟨S320x128, .i32⟩
  | .local _ .vmem, ⟨20, _⟩ => ⟨S320x128, .f32⟩
  | .local _ .vmem, ⟨21, _⟩ => ⟨S320x128, .f32⟩
  | .local _ .vmem, ⟨22, _⟩ => ⟨S320x128, .f32⟩
  | .local _ .vmem, ⟨23, _⟩ => ⟨S320x128, .f32⟩
  | .local _ .vmem, ⟨24, _⟩ => ⟨S3x64x128, .f32⟩
  | .local _ .vmem, ⟨25, _⟩ => ⟨S3x64x128, .f32⟩
  | .local _ .vmem, ⟨26, _⟩ => ⟨S2x64x128, .f32⟩
  | _, _ => ⟨S32000x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![150, 5], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  v10

def k0_mult1 (i : grid0.Coords) : BitVec 32 :=
  let arg0 : BitVec 32 := BitVec.ofNat 32 (i 0).val
  let c5_i32_0 : BitVec 32 := 5#32
  let v2 : BitVec 32 := Scalar.remsi arg0 c5_i32_0
  let c64_i32_774 : BitVec 32 := 64#32
  let v1921 : BitVec 32 := Scalar.muli v2 c64_i32_774
  v1921
def k0_off1 (i : grid0.Coords) : Fin 2 → Nat :=
  let arg0 : BitVec 32 := BitVec.ofNat 32 (i 0).val
  let c5_i32_0 : BitVec 32 := 5#32
  let v2 : BitVec 32 := Scalar.remsi arg0 c5_i32_0
  let c64_i32_774 : BitVec 32 := 64#32
  let v1921 : BitVec 32 := Scalar.muli v2 c64_i32_774
  let v1922 : BitVec 32 := v1921
  let v1971 : Index := Scalar.indexCast v1922
  let c0_807 : Index := 0#32
  ![v1971.toNat, 0]
def k0_off2 (i : grid0.Coords) : Fin 2 → Nat :=
  let arg0 : BitVec 32 := BitVec.ofNat 32 (i 0).val
  let c5_i32_0 : BitVec 32 := 5#32
  let v2 : BitVec 32 := Scalar.remsi arg0 c5_i32_0
  let c64_i32_774 : BitVec 32 := 64#32
  let v1921 : BitVec 32 := Scalar.muli v2 c64_i32_774
  let v1922 : BitVec 32 := v1921
  let v2054 : Index := Scalar.indexCast v1922
  let c0_847 : Index := 0#32
  ![v2054.toNat, 0]
def k0_off3 (i : grid0.Coords) : Fin 3 → Nat :=
  let c0_851 : Index := 0#32
  let arg0 : BitVec 32 := BitVec.ofNat 32 (i 0).val
  let c5_i32_0 : BitVec 32 := 5#32
  let v2 : BitVec 32 := Scalar.remsi arg0 c5_i32_0
  let c64_i32_774 : BitVec 32 := 64#32
  let v1921 : BitVec 32 := Scalar.muli v2 c64_i32_774
  let v1922 : BitVec 32 := v1921
  let v2059 : Index := Scalar.indexCast v1922
  let c0_852 : Index := 0#32
  ![0, v2059.toNat, 0]
def k0_off4 (i : grid0.Coords) : Fin 3 → Nat :=
  let arg0 : BitVec 32 := BitVec.ofNat 32 (i 0).val
  let c5_i32_0 : BitVec 32 := 5#32
  let v2 : BitVec 32 := Scalar.remsi arg0 c5_i32_0
  let c5_i32_3 : BitVec 32 := 5#32
  let v6 : BitVec 32 := Scalar.muli v2 c5_i32_3
  let arg1 : BitVec 32 := BitVec.ofNat 32 (i 1).val
  let v7 : BitVec 32 := Scalar.addi v6 arg1
  let c0_i32_5 : BitVec 32 := 0#32
  let v12 : BitVec 1 := Scalar.cmpi .sgt v7 c0_i32_5
  let v13 : BitVec 32 := Scalar.extui v12
  let c0_i32_6 : BitVec 32 := 0#32
  let v14 : BitVec 1 := Scalar.cmpi .slt v7 c0_i32_6
  let v15 : BitVec 32 := Scalar.extui v14
  let v16 : BitVec 32 := Scalar.subi v13 v15
  let c3_i32 : BitVec 32 := 3#32
  let c0_i32_7 : BitVec 32 := 0#32
  let v17 : BitVec 1 := Scalar.cmpi .sgt c3_i32 c0_i32_7
  let v18 : BitVec 32 := Scalar.extui v17
  let c0_i32_8 : BitVec 32 := 0#32
  let v19 : BitVec 1 := Scalar.cmpi .slt c3_i32 c0_i32_8
  let v20 : BitVec 32 := Scalar.extui v19
  let v21 : BitVec 32 := Scalar.subi v18 v20
  let v22 : BitVec 1 := Scalar.cmpi .ne v16 v21
  let v23 : BitVec 32 := Scalar.remsi v7 c3_i32
  let c0_i32_9 : BitVec 32 := 0#32
  let v24 : BitVec 1 := Scalar.cmpi .ne v23 c0_i32_9
  let v25 : BitVec 1 := Scalar.andi v22 v24
  let v11 : BitVec 32 := Scalar.divsi v7 c3_i32
  let c1_i32_10 : BitVec 32 := 1#32
  let v26 : BitVec 32 := Scalar.subi v11 c1_i32_10
  let v27 : BitVec 32 := Scalar.select v25 v26 v11
  let v28 : Index := Scalar.indexCast v27
  let c0 : Index := 0#32
  let c0_11 : Index := 0#32
  ![v28.toNat, 0, 0]
def k0_off5 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v77 : Index := Scalar.indexCast v39
  let c0_47 : Index := 0#32
  let c0_48 : Index := 0#32
  ![v77.toNat, 0, 0]
def k0_off6 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v112 : Index := Scalar.indexCast v39
  let c0_59 : Index := 0#32
  let c128 : Index := 128#32
  ![v112.toNat, 0, 128]
def k0_mult2 (i : grid0.Coords) : BitVec 32 :=
  let arg0 : BitVec 32 := BitVec.ofNat 32 (i 0).val
  let c5_i32_0 : BitVec 32 := 5#32
  let v2 : BitVec 32 := Scalar.remsi arg0 c5_i32_0
  let c64_i32 : BitVec 32 := 64#32
  let v140 : BitVec 32 := Scalar.muli v2 c64_i32
  v140
def k0_off7 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v150 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v151 : Index := Scalar.indexCast v141
  let c0_82 : Index := 0#32
  ![v150.toNat, v151.toNat, 0]
def k0_off8 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v166 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v167 : Index := Scalar.indexCast v141
  let c128_86 : Index := 128#32
  ![v166.toNat, v167.toNat, 128]
def k0_off9 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v182 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v183 : Index := Scalar.indexCast v141
  let c256 : Index := 256#32
  ![v182.toNat, v183.toNat, 256]
def k0_off10 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v198 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v199 : Index := Scalar.indexCast v141
  let c384 : Index := 384#32
  ![v198.toNat, v199.toNat, 384]
def k0_off11 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v214 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v215 : Index := Scalar.indexCast v141
  let c512_96 : Index := 512#32
  ![v214.toNat, v215.toNat, 512]
def k0_off12 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v230 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v231 : Index := Scalar.indexCast v141
  let c640 : Index := 640#32
  ![v230.toNat, v231.toNat, 640]
def k0_off13 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v246 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v247 : Index := Scalar.indexCast v141
  let c768 : Index := 768#32
  ![v246.toNat, v247.toNat, 768]
def k0_off14 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v262 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v263 : Index := Scalar.indexCast v141
  let c896 : Index := 896#32
  ![v262.toNat, v263.toNat, 896]
def k0_off15 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v278 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v279 : Index := Scalar.indexCast v141
  let c1024 : Index := 1024#32
  ![v278.toNat, v279.toNat, 1024]
def k0_off16 (i : grid0.Coords) (c0_i32_68 : BitVec 32) : Fin 3 → Nat :=
  let arg0 : BitVec 32 := BitVec.ofNat 32 (i 0).val
  let c5_i32_15 : BitVec 32 := 5#32
  let v40 : BitVec 32 := Scalar.subi arg0 c5_i32_15
  let c5_i32_16 : BitVec 32 := 5#32
  let v41 : BitVec 32 := Scalar.muli v40 c5_i32_16
  let arg1 : BitVec 32 := BitVec.ofNat 32 (i 1).val
  let c5_i32_17 : BitVec 32 := 5#32
  let v42 : BitVec 32 := Scalar.muli arg1 c5_i32_17
  let v43 : BitVec 32 := Scalar.addi v41 v42
  let c155_i32 : BitVec 32 := 155#32
  let v44 : BitVec 32 := Scalar.addi v43 c155_i32
  let v136 : BitVec 32 := Scalar.addi v44 c0_i32_68
  let c31_i32_69 : BitVec 32 := 31#32
  let v137 : BitVec 32 := Scalar.remsi v136 c31_i32_69
  let v294 : Index := Scalar.indexCast v137
  let c5_i32_0 : BitVec 32 := 5#32
  let v2 : BitVec 32 := Scalar.remsi arg0 c5_i32_0
  let c64_i32 : BitVec 32 := 64#32
  let v140 : BitVec 32 := Scalar.muli v2 c64_i32
  let v141 : BitVec 32 := v140
  let v295 : Index := Scalar.indexCast v141
  let c1152 : Index := 1152#32
  ![v294.toNat, v295.toNat, 1152]
def k0_mult3 (i : grid0.Coords) : BitVec 32 :=
  let arg0 : BitVec 32 := BitVec.ofNat 32 (i 0).val
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  v319
def k0_off17 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v325 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v326 : Index := Scalar.indexCast v320
  let c0_131 : Index := 0#32
  ![v325.toNat, v326.toNat, 0]
def k0_off18 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v335 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v336 : Index := Scalar.indexCast v320
  let c128_135 : Index := 128#32
  ![v335.toNat, v336.toNat, 128]
def k0_off19 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v345 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v346 : Index := Scalar.indexCast v320
  let c256_139 : Index := 256#32
  ![v345.toNat, v346.toNat, 256]
def k0_off20 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v355 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v356 : Index := Scalar.indexCast v320
  let c384_143 : Index := 384#32
  ![v355.toNat, v356.toNat, 384]
def k0_off21 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v365 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v366 : Index := Scalar.indexCast v320
  let c512_147 : Index := 512#32
  ![v365.toNat, v366.toNat, 512]
def k0_off22 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v375 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v376 : Index := Scalar.indexCast v320
  let c640_151 : Index := 640#32
  ![v375.toNat, v376.toNat, 640]
def k0_off23 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v385 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v386 : Index := Scalar.indexCast v320
  let c768_155 : Index := 768#32
  ![v385.toNat, v386.toNat, 768]
def k0_off24 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v395 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v396 : Index := Scalar.indexCast v320
  let c896_159 : Index := 896#32
  ![v395.toNat, v396.toNat, 896]
def k0_off25 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v405 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v406 : Index := Scalar.indexCast v320
  let c1024_163 : Index := 1024#32
  ![v405.toNat, v406.toNat, 1024]
def k0_off26 (i : grid0.Coords) (c0_i32_70 : BitVec 32) : Fin 3 → Nat :=
  let arg0 : BitVec 32 := BitVec.ofNat 32 (i 0).val
  let c5_i32_18 : BitVec 32 := 5#32
  let v45 : BitVec 32 := Scalar.subi arg0 c5_i32_18
  let c1_i32_19 : BitVec 32 := 1#32
  let v46 : BitVec 32 := Scalar.subi v45 c1_i32_19
  let c5_i32_20 : BitVec 32 := 5#32
  let v47 : BitVec 32 := Scalar.muli v46 c5_i32_20
  let arg1 : BitVec 32 := BitVec.ofNat 32 (i 1).val
  let c5_i32_21 : BitVec 32 := 5#32
  let v48 : BitVec 32 := Scalar.muli arg1 c5_i32_21
  let v49 : BitVec 32 := Scalar.addi v47 v48
  let c155_i32_22 : BitVec 32 := 155#32
  let v50 : BitVec 32 := Scalar.addi v49 c155_i32_22
  let v138 : BitVec 32 := Scalar.addi v50 c0_i32_70
  let c31_i32_71 : BitVec 32 := 31#32
  let v139 : BitVec 32 := Scalar.remsi v138 c31_i32_71
  let v415 : Index := Scalar.indexCast v139
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_124 : BitVec 32 := 64#32
  let v319 : BitVec 32 := Scalar.muli v5 c64_i32_124
  let v320 : BitVec 32 := v319
  let v416 : Index := Scalar.indexCast v320
  let c1152_167 : Index := 1152#32
  ![v415.toNat, v416.toNat, 1152]
def k0_off27 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v451 : Index := Scalar.indexCast v39
  let c0_196 : Index := 0#32
  let c256_197 : Index := 256#32
  ![v451.toNat, 0, 256]
def k0_off28 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v486 : Index := Scalar.indexCast v39
  let c0_209 : Index := 0#32
  let c384_210 : Index := 384#32
  ![v486.toNat, 0, 384]
def k0_mult4 (i : grid0.Coords) : BitVec 32 :=
  let arg0 : BitVec 32 := BitVec.ofNat 32 (i 0).val
  let c5_i32_0 : BitVec 32 := 5#32
  let v2 : BitVec 32 := Scalar.remsi arg0 c5_i32_0
  let c64_i32_223 : BitVec 32 := 64#32
  let v514 : BitVec 32 := Scalar.muli v2 c64_i32_223
  v514
def k0_mult5 (i : grid0.Coords) : BitVec 32 :=
  let arg0 : BitVec 32 := BitVec.ofNat 32 (i 0).val
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_285 : BitVec 32 := 64#32
  let v693 : BitVec 32 := Scalar.muli v5 c64_i32_285
  v693
def k0_off29 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v825 : Index := Scalar.indexCast v39
  let c0_347 : Index := 0#32
  let c512_348 : Index := 512#32
  ![v825.toNat, 0, 512]
def k0_off30 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v860 : Index := Scalar.indexCast v39
  let c0_360 : Index := 0#32
  let c640_361 : Index := 640#32
  ![v860.toNat, 0, 640]
def k0_mult6 (i : grid0.Coords) : BitVec 32 :=
  let arg0 : BitVec 32 := BitVec.ofNat 32 (i 0).val
  let c5_i32_0 : BitVec 32 := 5#32
  let v2 : BitVec 32 := Scalar.remsi arg0 c5_i32_0
  let c64_i32_374 : BitVec 32 := 64#32
  let v888 : BitVec 32 := Scalar.muli v2 c64_i32_374
  v888
def k0_mult7 (i : grid0.Coords) : BitVec 32 :=
  let arg0 : BitVec 32 := BitVec.ofNat 32 (i 0).val
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_436 : BitVec 32 := 64#32
  let v1067 : BitVec 32 := Scalar.muli v5 c64_i32_436
  v1067
def k0_off31 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v1199 : Index := Scalar.indexCast v39
  let c0_499 : Index := 0#32
  let c768_500 : Index := 768#32
  ![v1199.toNat, 0, 768]
def k0_off32 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v1234 : Index := Scalar.indexCast v39
  let c0_512 : Index := 0#32
  let c896_513 : Index := 896#32
  ![v1234.toNat, 0, 896]
def k0_mult8 (i : grid0.Coords) : BitVec 32 :=
  let arg0 : BitVec 32 := BitVec.ofNat 32 (i 0).val
  let c5_i32_0 : BitVec 32 := 5#32
  let v2 : BitVec 32 := Scalar.remsi arg0 c5_i32_0
  let c64_i32_525 : BitVec 32 := 64#32
  let v1262 : BitVec 32 := Scalar.muli v2 c64_i32_525
  v1262
def k0_mult9 (i : grid0.Coords) : BitVec 32 :=
  let arg0 : BitVec 32 := BitVec.ofNat 32 (i 0).val
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_587 : BitVec 32 := 64#32
  let v1441 : BitVec 32 := Scalar.muli v5 c64_i32_587
  v1441
def k0_off33 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v1573 : Index := Scalar.indexCast v39
  let c0_649 : Index := 0#32
  let c1024_650 : Index := 1024#32
  ![v1573.toNat, 0, 1024]
def k0_off34 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c31_i32 : BitVec 32 := 31#32
  let v39 : BitVec 32 := Scalar.remsi v1 c31_i32
  let v1608 : Index := Scalar.indexCast v39
  let c0_662 : Index := 0#32
  let c1152_663 : Index := 1152#32
  ![v1608.toNat, 0, 1152]
def k0_mult10 (i : grid0.Coords) : BitVec 32 :=
  let arg0 : BitVec 32 := BitVec.ofNat 32 (i 0).val
  let c5_i32_0 : BitVec 32 := 5#32
  let v2 : BitVec 32 := Scalar.remsi arg0 c5_i32_0
  let c64_i32_675 : BitVec 32 := 64#32
  let v1636 : BitVec 32 := Scalar.muli v2 c64_i32_675
  v1636
def k0_mult11 (i : grid0.Coords) : BitVec 32 :=
  let arg0 : BitVec 32 := BitVec.ofNat 32 (i 0).val
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c64_i32_737 : BitVec 32 := 64#32
  let v1815 : BitVec 32 := Scalar.muli v5 c64_i32_737
  v1815
def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.remsi arg0 c5_i32
  let c5_i32_0 : BitVec 32 := 5#32
  let v1 : BitVec 32 := Scalar.muli v0 c5_i32_0
  let v2 : BitVec 32 := Scalar.addi v1 arg1
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c143_i32 : BitVec 32 := 143#32
  let v0 : BitVec 32 := Scalar.minsi arg0 c143_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c143_i32 : BitVec 32 := 143#32
  let v0 : BitVec 32 := Scalar.minsi arg0 c143_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c143_i32 : BitVec 32 := 143#32
  let v0 : BitVec 32 := Scalar.minsi arg0 c143_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c6_i32_0 : BitVec 32 := 6#32
  let v1 : BitVec 32 := Scalar.subi arg0 c6_i32_0
  let c0_i32 : BitVec 32 := 0#32
  let c143_i32 : BitVec 32 := 143#32
  let v2 : BitVec 32 := Scalar.maxsi c0_i32 v1
  let v3 : BitVec 32 := Scalar.minsi c143_i32 v2
  let c5_i32 : BitVec 32 := 5#32
  let v4 : BitVec 32 := Scalar.addi arg0 c5_i32
  let c1_i32 : BitVec 32 := 1#32
  let v5 : BitVec 32 := Scalar.subi v4 c1_i32
  let v6 : BitVec 32 := Scalar.addi v5 arg1
  let c5_i32_1 : BitVec 32 := 5#32
  let v7 : BitVec 32 := Scalar.remsi v6 c5_i32_1
  let c0_i32_2 : BitVec 32 := 0#32
  let v8 : BitVec 32 := Scalar.select v0 c0_i32_2 v7
  let c0_i32_3 : BitVec 32 := 0#32
  ![v3.toNat, v8.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg0 c5_i32
  let c0_i32 : BitVec 32 := 0#32
  let c143_i32 : BitVec 32 := 143#32
  let v1 : BitVec 32 := Scalar.maxsi c0_i32 v0
  let v2 : BitVec 32 := Scalar.minsi c143_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let c143_i32 : BitVec 32 := 143#32
  let v1 : BitVec 32 := Scalar.maxsi c0_i32 v0
  let v2 : BitVec 32 := Scalar.minsi c143_i32 v1
  let c0_i32_0 : BitVec 32 := 0#32
  let c0_i32_1 : BitVec 32 := 0#32
  ![v2.toNat, c0_i32_0.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x6400 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "ctrl" => some ((5452595 / 4194304 : ℝ) : EReal)
  | "inv_ctrl" => some ((4194304 / 5452595 : ℝ) : EReal)
  | "log2e" => some (((Real.log 2)⁻¹ : ℝ) : EReal)
  | _ => none
-- ==== ReferenceIdeal.lean ====
abbrev S32000x1024 : Shape := ⟨2, ![32000, 1024]⟩
abbrev S9216x1024 : Shape := ⟨2, ![9216, 1024]⟩
abbrev S9x9216x128 : Shape := ⟨3, ![9, 9216, 128]⟩
abbrev S9216x128 : Shape := ⟨2, ![9216, 128]⟩
abbrev S9216x40 : Shape := ⟨2, ![9216, 40]⟩
abbrev S9216x1 : Shape := ⟨2, ![9216, 1]⟩
abbrev S9216 : Shape := ⟨1, ![9216]⟩
abbrev S9216x512 : Shape := ⟨2, ![9216, 512]⟩
abbrev S32000x512 : Shape := ⟨2, ![32000, 512]⟩
abbrev S9216x32000 : Shape := ⟨2, ![9216, 32000]⟩
abbrev S9216x9x128 : Shape := ⟨3, ![9216, 9, 128]⟩
abbrev S9216x9x1x128 : Shape := ⟨4, ![9216, 9, 1, 128]⟩
abbrev S30 : Shape := ⟨1, ![30]⟩
abbrev S1x1x30x1 : Shape := ⟨4, ![1, 1, 30, 1]⟩
abbrev S9216x9x30x128 : Shape := ⟨4, ![9216, 9, 30, 128]⟩
abbrev S_ : Shape := ⟨0, ![]⟩
abbrev S9216x34560 : Shape := ⟨2, ![9216, 34560]⟩
abbrev S9216x40x1 : Shape := ⟨3, ![9216, 40, 1]⟩

abbrev nBuf : Space → Nat
  | .hbm => 108
  | .vmem => 0
  | .smem => 0
  | _ => 0

abbrev bufTy : (tb : Table) → Fin (tcTables nBuf tb) → BufTy
  | .hbm, ⟨0, _⟩ => ⟨S32000x1024, .bf16⟩
  | .hbm, ⟨1, _⟩ => ⟨S9216x1024, .bf16⟩
  | .hbm, ⟨2, _⟩ => ⟨S9x9216x128, .i32⟩
  | .hbm, ⟨3, _⟩ => ⟨S9216x128, .i32⟩
  | .hbm, ⟨4, _⟩ => ⟨S9216x40, .i32⟩
  | .hbm, ⟨5, _⟩ => ⟨S9216x1, .i32⟩
  | .hbm, ⟨6, _⟩ => ⟨S9216, .i32⟩
  | .hbm, ⟨7, _⟩ => ⟨S9216, .f32⟩
  | .hbm, ⟨8, _⟩ => ⟨S9216x1, .i32⟩
  | .hbm, ⟨9, _⟩ => ⟨S9216, .i32⟩
  | .hbm, ⟨10, _⟩ => ⟨S9216, .f32⟩
  | .hbm, ⟨11, _⟩ => ⟨S9216x512, .bf16⟩
  | .hbm, ⟨12, _⟩ => ⟨S32000x512, .bf16⟩
  | .hbm, ⟨13, _⟩ => ⟨S9216x32000, .f32⟩
  | .hbm, ⟨14, _⟩ => ⟨S9216x512, .bf16⟩
  | .hbm, ⟨15, _⟩ => ⟨S32000x512, .bf16⟩
  | .hbm, ⟨16, _⟩ => ⟨S9216x32000, .f32⟩
  | .hbm, ⟨17, _⟩ => ⟨S9216x32000, .f32⟩
  | .hbm, ⟨18, _⟩ => ⟨S9216x9x128, .i32⟩
  | .hbm, ⟨19, _⟩ => ⟨S9216x9x1x128, .i32⟩
  | .hbm, ⟨20, _⟩ => ⟨S30, .i32⟩
  | .hbm, ⟨21, _⟩ => ⟨S1x1x30x1, .i32⟩
  | .hbm, ⟨22, _⟩ => ⟨S9216x9x30x128, .i32⟩
  | .hbm, ⟨23, _⟩ => ⟨S9216x9x30x128, .i32⟩
  | .hbm, ⟨24, _⟩ => ⟨S9216x9x30x128, .i32⟩
  | .hbm, ⟨25, _⟩ => ⟨S_, .i32⟩
  | .hbm, ⟨26, _⟩ => ⟨S9216x9x30x128, .i32⟩
  | .hbm, ⟨27, _⟩ => ⟨S9216x9x30x128, .i32⟩
  | .hbm, ⟨28, _⟩ => ⟨S_, .i32⟩
  | .hbm, ⟨29, _⟩ => ⟨S9216x9x30x128, .i32⟩
  | .hbm, ⟨30, _⟩ => ⟨S9216x9x30x128, .i1⟩
  | .hbm, ⟨31, _⟩ => ⟨S9216x34560, .i1⟩
  | .hbm, ⟨32, _⟩ => ⟨S9216x32000, .i1⟩
  | .hbm, ⟨33, _⟩ => ⟨S_, .f32⟩
  | .hbm, ⟨34, _⟩ => ⟨S9216x32000, .f32⟩
  | .hbm, ⟨35, _⟩ => ⟨S9216x32000, .i1⟩
  | .hbm, ⟨36, _⟩ => ⟨S_, .f32⟩
  | .hbm, ⟨37, _⟩ => ⟨S9216x32000, .f32⟩
  | .hbm, ⟨38, _⟩ => ⟨S9216x32000, .f32⟩
  | .hbm, ⟨39, _⟩ => ⟨S_, .f32⟩
  | .hbm, ⟨40, _⟩ => ⟨S9216x32000, .f32⟩
  | .hbm, ⟨41, _⟩ => ⟨S9216x32000, .f32⟩
  | .hbm, ⟨42, _⟩ => ⟨S9216x32000, .f32⟩
  | .hbm, ⟨43, _⟩ => ⟨S9216x32000, .f32⟩
  | .hbm, ⟨44, _⟩ => ⟨S_, .i32⟩
  | .hbm, ⟨45, _⟩ => ⟨S9216x40, .i32⟩
  | .hbm, ⟨46, _⟩ => ⟨S9216x40, .i1⟩
  | .hbm, ⟨47, _⟩ => ⟨S_, .i32⟩
  | .hbm, ⟨48, _⟩ => ⟨S9216x40, .i32⟩
  | .hbm, ⟨49, _⟩ => ⟨S9216x40, .i32⟩
  | .hbm, ⟨50, _⟩ => ⟨S9216x40, .i32⟩
  | .hbm, ⟨51, _⟩ => ⟨S9216x40x1, .i32⟩
  | .hbm, ⟨52, _⟩ => ⟨S9216x40, .f32⟩
  | .hbm, ⟨53, _⟩ => ⟨S9216x1, .f32⟩
  | .hbm, ⟨54, _⟩ => ⟨S9216x32000, .f32⟩
  | .hbm, ⟨55, _⟩ => ⟨S9216x32000, .f32⟩
  | .hbm, ⟨56, _⟩ => ⟨S_, .f32⟩
  | .hbm, ⟨57, _⟩ => ⟨S9216, .f32⟩
  | .hbm, ⟨58, _⟩ => ⟨S9216x1, .f32⟩
  | .hbm, ⟨59, _⟩ => ⟨S9216x32000, .f32⟩
  | .hbm, ⟨60, _⟩ => ⟨S9216x32000, .f32⟩
  | .hbm, ⟨61, _⟩ => ⟨S9216x32000, .f32⟩
  | .hbm, ⟨62, _⟩ => ⟨S_, .f32⟩
  | .hbm, ⟨63, _⟩ => ⟨S9216, .f32⟩
  | .hbm, ⟨64, _⟩ => ⟨S9216x1, .f32⟩
  | .hbm, ⟨65, _⟩ => ⟨S9216x1, .f32⟩
  | .hbm, ⟨66, _⟩ => ⟨S9216x1, .f32⟩
  | .hbm, ⟨67, _⟩ => ⟨S9216, .f32⟩
  | .hbm, ⟨68, _⟩ => ⟨S9216x1, .f32⟩
  | .hbm, ⟨69, _⟩ => ⟨S9216x1, .f32⟩
  | .hbm, ⟨70, _⟩ => ⟨S9216x1, .f32⟩
  | .hbm, ⟨71, _⟩ => ⟨S9216x32000, .f32⟩
  | .hbm, ⟨72, _⟩ => ⟨S9216x32000, .f32⟩
  | .hbm, ⟨73, _⟩ => ⟨S9216x32000, .f32⟩
  | .hbm, ⟨74, _⟩ => ⟨S9216x32000, .f32⟩
  | .hbm, ⟨75, _⟩ => ⟨S_, .f32⟩
  | .hbm, ⟨76, _⟩ => ⟨S9216x32000, .f32⟩
  | .hbm, ⟨77, _⟩ => ⟨S9216x32000, .i1⟩
  | .hbm, ⟨78, _⟩ => ⟨S_, .f32⟩
  | .hbm, ⟨79, _⟩ => ⟨S_, .f32⟩
  | .hbm, ⟨80, _⟩ => ⟨S9216x32000, .f32⟩
  | .hbm, ⟨81, _⟩ => ⟨S9216x32000, .f32⟩
  | .hbm, ⟨82, _⟩ => ⟨S_, .f32⟩
  | .hbm, ⟨83, _⟩ => ⟨S9216, .f32⟩
  | .hbm, ⟨84, _⟩ => ⟨S9216x1, .f32⟩
  | .hbm, ⟨85, _⟩ => ⟨S9216x1, .f32⟩
  | .hbm, ⟨86, _⟩ => ⟨S9216x1, .f32⟩
  | .hbm, ⟨87, _⟩ => ⟨S9216x32000, .f32⟩
  | .hbm, ⟨88, _⟩ => ⟨S9216x32000, .f32⟩
  | .hbm, ⟨89, _⟩ => ⟨S_, .f32⟩
  | .hbm, ⟨90, _⟩ => ⟨S_, .f32⟩
  | .hbm, ⟨91, _⟩ => ⟨S9216x32000, .f32⟩
  | .hbm, ⟨92, _⟩ => ⟨S9216x32000, .f32⟩
  | .hbm, ⟨93, _⟩ => ⟨S9216x32000, .bf16⟩
  | .hbm, ⟨94, _⟩ => ⟨S9216x32000, .f32⟩
  | .hbm, ⟨95, _⟩ => ⟨S_, .f32⟩
  | .hbm, ⟨96, _⟩ => ⟨S9216, .f32⟩
  | .hbm, ⟨97, _⟩ => ⟨S9216x1, .f32⟩
  | .hbm, ⟨98, _⟩ => ⟨S9216x128, .i32⟩
  | .hbm, ⟨99, _⟩ => ⟨S_, .i32⟩
  | .hbm, ⟨100, _⟩ => ⟨S9216x128, .i32⟩
  | .hbm, ⟨101, _⟩ => ⟨S9216x128, .i1⟩
  | .hbm, ⟨102, _⟩ => ⟨S9216x128, .f32⟩
  | .hbm, ⟨103, _⟩ => ⟨S9216x128, .f32⟩
  | .hbm, ⟨104, _⟩ => ⟨S9216x128, .f32⟩
  | .hbm, ⟨105, _⟩ => ⟨S_, .i32⟩
  | .hbm, ⟨106, _⟩ => ⟨S_, .f32⟩
  | .hbm, ⟨107, _⟩ => ⟨S9216x128, .f32⟩
  | _, _ => ⟨S32000x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_call3_v0 : Ref sig .tc := ⟨.hbm, 79, rfl⟩
abbrev main_call3_v1 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_call4_v0 : Ref sig .tc := ⟨.hbm, 90, rfl⟩
abbrev main_call4_v1 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_10 : Ref sig .tc := ⟨.hbm, 99, rfl⟩
abbrev main_v71 : Ref sig .tc := ⟨.hbm, 100, rfl⟩
abbrev main_v72 : Ref sig .tc := ⟨.hbm, 101, rfl⟩
abbrev main_call5_v0 : Ref sig .tc := ⟨.hbm, 102, rfl⟩
abbrev main_call5_v1 : Ref sig .tc := ⟨.hbm, 103, rfl⟩
abbrev main_v73 : Ref sig .tc := ⟨.hbm, 104, rfl⟩
abbrev main_c_11 : Ref sig .tc := ⟨.hbm, 105, rfl⟩
abbrev main_call6_v0 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Proof.OffsK.lean ====
module

public import proofs.«01_k».proof.Proof.Gen.Kernel
public import Idealize.ShloMosaic.Lib.Tactic
public import Idealize.ShloMosaic.Lib.Pipeline.Kit

@[expose] public section

noncomputable section

namespace Cert.Kernel.Hand

open Cert.Kernel Cert.Kernel.Gen
open Idealize.ShloMosaic
open Idealize.ShloMosaic.Tactic

/-- The word of the mask a tile of 1280 columns reads: tile `v = 5 (w mod 5) + ii` reads word `v / 3`. -/
theorem k0_off4_eq (i : grid0.Coords) : k0_off4 i = ![(5 * ((i 0).val % 5) + (i 1).val) / 3, 0, 0] := by
  have h : ∀ (a : Fin 150) (b : Fin 5), k0_off4 (Fin.cons a (Fin.cons b finZeroElim)) = ![(5 * (a.val % 5) + b.val) / 3, 0, 0] := by
    decide +kernel
  have e : i = (Fin.cons (i 0) (Fin.cons (i 1) finZeroElim) : grid0.Coords) := by
    funext a
    match a with
    | ⟨0, _⟩ => rfl
    | ⟨1, _⟩ => rfl
  rw [e]; exact h (i 0) (i 1)

instance closedOff_k0_off4 (i : grid0.Coords) : ClosedOff (k0_off4 i) := ⟨![(5 * ((i 0).val % 5) + (i 1).val) / 3, 0, 0], k0_off4_eq i⟩

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.Kernel.Hand

end
-- ==== Proof.RunKA.lean ====
module

public import proofs.«01_k».proof.Proof.Gen.Kernel
public import proofs.«01_k».proof.Proof.Gen.Kernel.Skeleton
public import proofs.«01_k».proof.Proof.OffsK
public import Idealize.ShloMosaic.Lib.Tactic
public import Idealize.ShloMosaic.Lib.Pipeline.Kit

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem runA (c : Dev nD) (i : grid0.Coords) (hc : k0_cond1 i = 1#1)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c M2 f2 ∗ pt c M3 f3 ∗ pt c M4 f4 ∗ pt c M5 f5 ∗ (∃ f, pt c M6 f) ∗ (∃ f, pt c M7 f) ∗ (∃ f, pt c M8 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ
        (cc0_head i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H2, H3, H4, H5, H6, H7, H8, H9, H10, H11, H12, H13, H14, H15, H16, H17, H18, H19, H20, H21, Hk⟩
  sl_exec_parts (disch := sl_exact hc)
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.Kernel.Hand

end
-- ==== Proof.RunKB.lean ====
module

public import proofs.«01_k».proof.Proof.Gen.Kernel
public import proofs.«01_k».proof.Proof.Gen.Kernel.Skeleton
public import proofs.«01_k».proof.Proof.OffsK
public import Idealize.ShloMosaic.Lib.Tactic
public import Idealize.ShloMosaic.Lib.Pipeline.Kit

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
theorem runB (c : Dev nD) (i : grid0.Coords) (hc : ¬ k0_cond1 i = 1#1)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c M2 f2 ∗ pt c M3 f3 ∗ pt c M4 f4 ∗ pt c M5 f5 ∗ (∃ f, pt c M6 f) ∗ (∃ f, pt c M7 f) ∗ (∃ f, pt c M8 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ
        (cc0_head i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H2, H3, H4, H5, H6, H7, H8, H9, H10, H11, H12, H13, H14, H15, H16, H17, H18, H19, H20, H21, Hk⟩
  sl_exec_parts (disch := sl_exact hc)
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.Kernel.Hand

end
-- ==== Proof.FrameK.lean ====
module

public import proofs.«01_k».proof.Proof.Gen.Kernel.Frame
public import proofs.«01_k».proof.Proof.RunKA
public import proofs.«01_k».proof.Proof.RunKB
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Window 0's staging memref at point `t`, as the pipeline passes it. -/
abbrev ms0 (t : Fin cfg0.N) : Memref sig .tc .vmem S1280x1024 .bf16 := win0_0.stage (cfg0.slots t 0)
abbrev hs0 (t : Fin cfg0.N) : (ms0 t).IsWhole := hstage0_0 ((cfg0.slots t 0).cast nbuf0_0)

/-- Window 1's staging memref at point `t`, as the pipeline passes it. -/
abbrev ms1 (t : Fin cfg0.N) : Memref sig .tc .vmem S64x1024 .bf16 := win0_1.stage (cfg0.slots t 1)
abbrev hs1 (t : Fin cfg0.N) : (ms1 t).IsWhole := hstage0_1 ((cfg0.slots t 1).cast nbuf0_1)

/-- Window 2's staging memref at point `t`, as the pipeline passes it. -/
abbrev ms2 (t : Fin cfg0.N) : Memref sig .tc .vmem S9x64x128 .i32 := win0_2.stage (cfg0.slots t 2)
abbrev hs2 (t : Fin cfg0.N) : (ms2 t).IsWhole := hstage0_2 ((cfg0.slots t 2).cast nbuf0_2)

/-- Window 3's staging memref at point `t`, as the pipeline passes it. -/
abbrev ms3 (t : Fin cfg0.N) : Memref sig .tc .vmem S64x128 .i32 := win0_3.stage (cfg0.slots t 3)
abbrev hs3 (t : Fin cfg0.N) : (ms3 t).IsWhole := hstage0_3 ((cfg0.slots t 3).cast nbuf0_3)

/-- Window 4's staging memref at point `t`, as the pipeline passes it. -/
abbrev ms4 (t : Fin cfg0.N) : Memref sig .tc .vmem S64x6400 .bf16 := win0_4.stage (cfg0.slots t 4)
abbrev hs4 (t : Fin cfg0.N) : (ms4 t).IsWhole := hstage0_4 ((cfg0.slots t 4).cast nbuf0_4)

/-- Window 5's staging memref at point `t`, as the pipeline passes it. -/
abbrev ms5 (t : Fin cfg0.N) : Memref sig .tc .vmem S64x128 .f32 := win0_5.stage (cfg0.slots t 5)
abbrev hs5 (t : Fin cfg0.N) : (ms5 t).IsWhole := hstage0_5 ((cfg0.slots t 5).cast nbuf0_5)

/-- Window 6's staging memref at point `t`, as the pipeline passes it. -/
abbrev ms6 (t : Fin cfg0.N) : Memref sig .tc .vmem S64x128 .f32 := win0_6.stage (cfg0.slots t 6)
abbrev hs6 (t : Fin cfg0.N) : (ms6 t).IsWhole := hstage0_6 ((cfg0.slots t 6).cast nbuf0_6)

/-- The three outputs forgotten: the frame says nothing of what they hold. -/
def forgets0 : Fin 7 → Bool := fun w => match w with | 0 | 1 | 2 | 3 => false | 4 | 5 | 6 => true

/-- The proof data on core `c`: the arrays as the region finds them, an input's block left in place, the outputs unnamed, every scratch
    buffer at some contents between the points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare d) ∗ (∃ d, owns (c : Thread nD τ) (ms5 t) fullShare d) ∗ (∃ d, owns (c : Thread nD τ) (ms6 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ (∃ d, owns (c : Thread nD τ) (ms4 t) fullShare d) ∗ (∃ d, owns (c : Thread nD τ) (ms5 t) fullShare d) ∗ (∃ d, owns (c : Thread nD τ) (ms6 t) fullShare d))

/-- A whole memref's buffer held at `f` is the memref owned at what it reads of `f`. -/
theorem owns_of_pt (c : Dev nD) {sp : Space} {S : Shape} {e : EltTy} {M : Memref sig .tc sp S e} (h : M.IsWhole) (f : Bf (F := F) c M) :
    pt c M f ⊢ owns (c : Thread nD τ) M fullShare (M.view.read (Elt F) f) := by
  unfold owns pt
  rw [h.set_eq_univ]
  iintro H
  iexists f; isplitr; swap; · iexact H
  ipureintro; rfl

theorem pt_of_owns (c : Dev nD) {sp : Space} {S : Shape} {e : EltTy} {M : Memref sig .tc sp S e} (h : M.IsWhole) (d : S.Idx → Elt F e) :
    (owns (c : Thread nD τ) M fullShare d : sProp 𝕄) ⊢ pt c M (h.unread d) := by
  unfold owns pt
  rw [h.set_eq_univ]
  iintro ⟨%f, %hf, H⟩
  rw [h.eq_unread hf]
  iexact H

/-- The body at a point, either way the window branch goes: the inputs' buffers as they were, everything else at some contents. -/
theorem run (c : Dev nD) (t : Fin cfg0.N)
    (f2 : Bf (F := F) c (ms0 t)) (f3 : Bf (F := F) c (ms1 t)) (f4 : Bf (F := F) c (ms2 t)) (f5 : Bf (F := F) c (ms3 t)) (f6 : Bf (F := F) c (ms4 t)) (f7 : Bf (F := F) c (ms5 t)) (f8 : Bf (F := F) c (ms6 t))
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c (ms0 t) f2 ∗ pt c (ms1 t) f3 ∗ pt c (ms2 t) f4 ∗ pt c (ms3 t) f5 ∗ pt c (ms4 t) f6 ∗ pt c (ms5 t) f7 ∗ pt c (ms6 t) f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c (ms0 t) f2 ∗ pt c (ms1 t) f3 ∗ pt c (ms2 t) f4 ∗ pt c (ms3 t) f5 ∗ (∃ f, pt c (ms4 t) f) ∗ (∃ f, pt c (ms5 t) f) ∗ (∃ f, pt c (ms6 t) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ (bodyAt0 t) Q := by
  iintro ⟨H2, H3, H4, H5, H6, H7, H8, H9, H10, H11, H12, H13, H14, H15, H16, H17, H18, H19, H20, H21, Hk⟩
  by_cases hc : k0_cond1 (grid0.coords t) = 1#1
  · unfold bodyAt0
    iapply (runA c (grid0.coords t) hc (ms0 t) (hs0 t) (ms1 t) (hs1 t) (ms2 t) (hs2 t) (ms3 t) (hs3 t) (ms4 t) (hs4 t) (ms5 t) (hs5 t) (ms6 t) (hs6 t) f2 f3 f4 f5 f6 f7 f8 f9 f10 f11 f12 f13 f14 f15 f16 f17 f18 f19 f20 f21 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hk
  · unfold bodyAt0
    iapply (runB c (grid0.coords t) hc (ms0 t) (hs0 t) (ms1 t) (hs1 t) (ms2 t) (hs2 t) (ms3 t) (hs3 t) (ms4 t) (hs4 t) (ms5 t) (hs5 t) (ms6 t) (hs6 t) f2 f3 f4 f5 f6 f7 f8 f9 f10 f11 f12 f13 f14 f15 f16 f17 f18 f19 f20 f21 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hk

set_option maxHeartbeats 2000000 in
/-- The body at the point: the windows and the scratch opened into their buffers, `run`, everything closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3, after_0, after_1, after_2, after_3]
  iintro ⟨⟨⟨⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hg⟩, HO, ⟨%d2, H2⟩, ⟨%d3, H3⟩, ⟨%d4, H4⟩, ⟨%d5, H5⟩, ⟨%d6, H6⟩, ⟨%d7, H7⟩, ⟨%d8, H8⟩⟩
  iapply (run c t ((hs0 t).unread _) ((hs1 t).unread _) ((hs2 t).unread _) ((hs3 t).unread _) ((hs4 t).unread _) ((hs5 t).unread _) ((hs6 t).unread _) f9 f10 f11 f12 f13 f14 f15 f16 f17 f18 f19 f20 f21 _)
  isplitl [H2]; · iapply (pt_of_owns c (hs0 t) _); iexact H2
  isplitl [H3]; · iapply (pt_of_owns c (hs1 t) _); iexact H3
  isplitl [H4]; · iapply (pt_of_owns c (hs2 t) _); iexact H4
  isplitl [H5]; · iapply (pt_of_owns c (hs3 t) _); iexact H5
  isplitl [H6]; · iapply (pt_of_owns c (hs4 t) _); iexact H6
  isplitl [H7]; · iapply (pt_of_owns c (hs5 t) _); iexact H7
  isplitl [H8]; · iapply (pt_of_owns c (hs6 t) _); iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H2, H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
  isplitl [Hg H9 H10 H11 H12 H13 H14 H15 H16 H17 H18 H19 H20 H21]
  · isplitr [Hg]; swap; · iexact Hg
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  isplitl [HO]; · iexact HO
  isplitl [H2]; · ihave H2' := (owns_of_pt c (hs0 t) _) $$ H2; rw [(hs0 t).read_unread]; iexact H2'
  isplitl [H3]; · ihave H3' := (owns_of_pt c (hs1 t) _) $$ H3; rw [(hs1 t).read_unread]; iexact H3'
  isplitl [H4]; · ihave H4' := (owns_of_pt c (hs2 t) _) $$ H4; rw [(hs2 t).read_unread]; iexact H4'
  isplitl [H5]; · ihave H5' := (owns_of_pt c (hs3 t) _) $$ H5; rw [(hs3 t).read_unread]; iexact H5'
  isplitl [H6]; · iexists _; iapply (owns_of_pt c (hs4 t) _); iexact H6
  isplitl [H7]; · iexists _; iapply (owns_of_pt c (hs5 t) _); iexact H7
  iexists _; iapply (owns_of_pt c (hs6 t) _); iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution of @main terminates without a fault, with each argument array at its launch contents and every
    semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}
theorem final_args {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨h.arr_in c 0 rfl, h.arr_in c 1 rfl, h.arr_in c 2 rfl, h.arr_in c 3 rfl⟩

end Cert.Kernel.Hand

end
-- ==== Proof.OffsI.lean ====
module

public import proofs.«01_k».proof.Proof.Gen.KernelIdeal
public import Idealize.ShloMosaic.Lib.Tactic
public import Idealize.ShloMosaic.Lib.Pipeline.Kit

@[expose] public section

noncomputable section

namespace Cert.KernelIdeal.Hand

open Cert.KernelIdeal Cert.KernelIdeal.Gen
open Idealize.ShloMosaic
open Idealize.ShloMosaic.Tactic

/-- The word of the mask a tile of 1280 columns reads: tile `v = 5 (w mod 5) + ii` reads word `v / 3`. -/
theorem k0_off4_eq (i : grid0.Coords) : k0_off4 i = ![(5 * ((i 0).val % 5) + (i 1).val) / 3, 0, 0] := by
  have h : ∀ (a : Fin 150) (b : Fin 5), k0_off4 (Fin.cons a (Fin.cons b finZeroElim)) = ![(5 * (a.val % 5) + b.val) / 3, 0, 0] := by
    decide +kernel
  have e : i = (Fin.cons (i 0) (Fin.cons (i 1) finZeroElim) : grid0.Coords) := by
    funext a
    match a with
    | ⟨0, _⟩ => rfl
    | ⟨1, _⟩ => rfl
  rw [e]; exact h (i 0) (i 1)

instance closedOff_k0_off4 (i : grid0.Coords) : ClosedOff (k0_off4 i) := ⟨![(5 * ((i 0).val % 5) + (i 1).val) / 3, 0, 0], k0_off4_eq i⟩

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

end Cert.KernelIdeal.Hand

end
-- ==== Proof.RunIA.lean ====
module

public import proofs.«01_k».proof.Proof.Gen.KernelIdeal
public import proofs.«01_k».proof.Proof.Gen.KernelIdeal.Skeleton
public import proofs.«01_k».proof.Proof.OffsI
public import Idealize.ShloMosaic.Lib.Tactic
public import Idealize.ShloMosaic.Lib.Pipeline.Kit

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
theorem runA (c : Dev nD) (i : grid0.Coords) (hc : k0_cond1 i = 1#1)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c M2 f2 ∗ pt c M3 f3 ∗ pt c M4 f4 ∗ pt c M5 f5 ∗ (∃ f, pt c M6 f) ∗ (∃ f, pt c M7 f) ∗ (∃ f, pt c M8 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ
        (cc0_head i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H2, H3, H4, H5, H6, H7, H8, H9, H10, H11, H12, H13, H14, H15, H16, H17, H18, H19, H20, H21, Hk⟩
  sl_exec_parts (disch := sl_exact hc)
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.KernelIdeal.Hand

end
-- ==== Proof.RunIB.lean ====
module

public import proofs.«01_k».proof.Proof.Gen.KernelIdeal
public import proofs.«01_k».proof.Proof.Gen.KernelIdeal.Skeleton
public import proofs.«01_k».proof.Proof.OffsI
public import Idealize.ShloMosaic.Lib.Tactic
public import Idealize.ShloMosaic.Lib.Pipeline.Kit

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
theorem runB (c : Dev nD) (i : grid0.Coords) (hc : ¬ k0_cond1 i = 1#1)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c M2 f2 ∗ pt c M3 f3 ∗ pt c M4 f4 ∗ pt c M5 f5 ∗ (∃ f, pt c M6 f) ∗ (∃ f, pt c M7 f) ∗ (∃ f, pt c M8 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ
        (cc0_head i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q := by
  iintro ⟨H2, H3, H4, H5, H6, H7, H8, H9, H10, H11, H12, H13, H14, H15, H16, H17, H18, H19, H20, H21, Hk⟩
  sl_exec_parts (disch := sl_exact hc)
  sl_step
  iapply Hk
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

end Cert.KernelIdeal.Hand

end
-- ==== Proof.FrameI.lean ====
module

public import proofs.«01_k».proof.Proof.Gen.KernelIdeal.Frame
public import proofs.«01_k».proof.Proof.RunIA
public import proofs.«01_k».proof.Proof.RunIB
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Window 0's staging memref at point `t`, as the pipeline passes it. -/
abbrev ms0 (t : Fin cfg0.N) : Memref sig .tc .vmem S1280x1024 .bf16 := win0_0.stage (cfg0.slots t 0)
abbrev hs0 (t : Fin cfg0.N) : (ms0 t).IsWhole := hstage0_0 ((cfg0.slots t 0).cast nbuf0_0)

/-- Window 1's staging memref at point `t`, as the pipeline passes it. -/
abbrev ms1 (t : Fin cfg0.N) : Memref sig .tc .vmem S64x1024 .bf16 := win0_1.stage (cfg0.slots t 1)
abbrev hs1 (t : Fin cfg0.N) : (ms1 t).IsWhole := hstage0_1 ((cfg0.slots t 1).cast nbuf0_1)

/-- Window 2's staging memref at point `t`, as the pipeline passes it. -/
abbrev ms2 (t : Fin cfg0.N) : Memref sig .tc .vmem S9x64x128 .i32 := win0_2.stage (cfg0.slots t 2)
abbrev hs2 (t : Fin cfg0.N) : (ms2 t).IsWhole := hstage0_2 ((cfg0.slots t 2).cast nbuf0_2)

/-- Window 3's staging memref at point `t`, as the pipeline passes it. -/
abbrev ms3 (t : Fin cfg0.N) : Memref sig .tc .vmem S64x128 .i32 := win0_3.stage (cfg0.slots t 3)
abbrev hs3 (t : Fin cfg0.N) : (ms3 t).IsWhole := hstage0_3 ((cfg0.slots t 3).cast nbuf0_3)

/-- Window 4's staging memref at point `t`, as the pipeline passes it. -/
abbrev ms4 (t : Fin cfg0.N) : Memref sig .tc .vmem S64x6400 .bf16 := win0_4.stage (cfg0.slots t 4)
abbrev hs4 (t : Fin cfg0.N) : (ms4 t).IsWhole := hstage0_4 ((cfg0.slots t 4).cast nbuf0_4)

/-- Window 5's staging memref at point `t`, as the pipeline passes it. -/
abbrev ms5 (t : Fin cfg0.N) : Memref sig .tc .vmem S64x128 .f32 := win0_5.stage (cfg0.slots t 5)
abbrev hs5 (t : Fin cfg0.N) : (ms5 t).IsWhole := hstage0_5 ((cfg0.slots t 5).cast nbuf0_5)

/-- Window 6's staging memref at point `t`, as the pipeline passes it. -/
abbrev ms6 (t : Fin cfg0.N) : Memref sig .tc .vmem S64x128 .f32 := win0_6.stage (cfg0.slots t 6)
abbrev hs6 (t : Fin cfg0.N) : (ms6 t).IsWhole := hstage0_6 ((cfg0.slots t 6).cast nbuf0_6)

/-- The three outputs forgotten: the frame says nothing of what they hold. -/
def forgets0 : Fin 7 → Bool := fun w => match w with | 0 | 1 | 2 | 3 => false | 4 | 5 | 6 => true

/-- The proof data on core `c`: the arrays as the region finds them, an input's block left in place, the outputs unnamed, every scratch
    buffer at some contents between the points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare d) ∗ (∃ d, owns (c : Thread nD τ) (ms5 t) fullShare d) ∗ (∃ d, owns (c : Thread nD τ) (ms6 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ (∃ d, owns (c : Thread nD τ) (ms4 t) fullShare d) ∗ (∃ d, owns (c : Thread nD τ) (ms5 t) fullShare d) ∗ (∃ d, owns (c : Thread nD τ) (ms6 t) fullShare d))

/-- A whole memref's buffer held at `f` is the memref owned at what it reads of `f`. -/
theorem owns_of_pt (c : Dev nD) {sp : Space} {S : Shape} {e : EltTy} {M : Memref sig .tc sp S e} (h : M.IsWhole) (f : Bf (F := F) c M) :
    pt c M f ⊢ owns (c : Thread nD τ) M fullShare (M.view.read (Elt F) f) := by
  unfold owns pt
  rw [h.set_eq_univ]
  iintro H
  iexists f; isplitr; swap; · iexact H
  ipureintro; rfl

theorem pt_of_owns (c : Dev nD) {sp : Space} {S : Shape} {e : EltTy} {M : Memref sig .tc sp S e} (h : M.IsWhole) (d : S.Idx → Elt F e) :
    (owns (c : Thread nD τ) M fullShare d : sProp 𝕄) ⊢ pt c M (h.unread d) := by
  unfold owns pt
  rw [h.set_eq_univ]
  iintro ⟨%f, %hf, H⟩
  rw [h.eq_unread hf]
  iexact H

/-- The body at a point, either way the window branch goes: the inputs' buffers as they were, everything else at some contents. -/
theorem run (c : Dev nD) (t : Fin cfg0.N)
    (f2 : Bf (F := F) c (ms0 t)) (f3 : Bf (F := F) c (ms1 t)) (f4 : Bf (F := F) c (ms2 t)) (f5 : Bf (F := F) c (ms3 t)) (f6 : Bf (F := F) c (ms4 t)) (f7 : Bf (F := F) c (ms5 t)) (f8 : Bf (F := F) c (ms6 t))
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12))
    (Q : PUnit → sProp 𝕄) :
    iprop(pt c (ms0 t) f2 ∗ pt c (ms1 t) f3 ∗ pt c (ms2 t) f4 ∗ pt c (ms3 t) f5 ∗ pt c (ms4 t) f6 ∗ pt c (ms5 t) f7 ∗ pt c (ms6 t) f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
      ∗ (iprop(pt c (ms0 t) f2 ∗ pt c (ms1 t) f3 ∗ pt c (ms2 t) f4 ∗ pt c (ms3 t) f5 ∗ (∃ f, pt c (ms4 t) f) ∗ (∃ f, pt c (ms5 t) f) ∗ (∃ f, pt c (ms6 t) f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f)) -∗ Q ⟨⟩))
    ⊢ wp frame (wpE (defs₀ (F := F)) Variants.none c none) Set.univ (bodyAt0 t) Q := by
  iintro ⟨H2, H3, H4, H5, H6, H7, H8, H9, H10, H11, H12, H13, H14, H15, H16, H17, H18, H19, H20, H21, Hk⟩
  by_cases hc : k0_cond1 (grid0.coords t) = 1#1
  · unfold bodyAt0
    iapply (runA c (grid0.coords t) hc (ms0 t) (hs0 t) (ms1 t) (hs1 t) (ms2 t) (hs2 t) (ms3 t) (hs3 t) (ms4 t) (hs4 t) (ms5 t) (hs5 t) (ms6 t) (hs6 t) f2 f3 f4 f5 f6 f7 f8 f9 f10 f11 f12 f13 f14 f15 f16 f17 f18 f19 f20 f21 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hk
  · unfold bodyAt0
    iapply (runB c (grid0.coords t) hc (ms0 t) (hs0 t) (ms1 t) (hs1 t) (ms2 t) (hs2 t) (ms3 t) (hs3 t) (ms4 t) (hs4 t) (ms5 t) (hs5 t) (ms6 t) (hs6 t) f2 f3 f4 f5 f6 f7 f8 f9 f10 f11 f12 f13 f14 f15 f16 f17 f18 f19 f20 f21 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hk

set_option maxHeartbeats 2000000 in
/-- The body at the point: the windows and the scratch opened into their buffers, `run`, everything closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [before_0, before_1, before_2, before_3, after_0, after_1, after_2, after_3]
  iintro ⟨⟨⟨⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hg⟩, HO, ⟨%d2, H2⟩, ⟨%d3, H3⟩, ⟨%d4, H4⟩, ⟨%d5, H5⟩, ⟨%d6, H6⟩, ⟨%d7, H7⟩, ⟨%d8, H8⟩⟩
  iapply (run c t ((hs0 t).unread _) ((hs1 t).unread _) ((hs2 t).unread _) ((hs3 t).unread _) ((hs4 t).unread _) ((hs5 t).unread _) ((hs6 t).unread _) f9 f10 f11 f12 f13 f14 f15 f16 f17 f18 f19 f20 f21 _)
  isplitl [H2]; · iapply (pt_of_owns c (hs0 t) _); iexact H2
  isplitl [H3]; · iapply (pt_of_owns c (hs1 t) _); iexact H3
  isplitl [H4]; · iapply (pt_of_owns c (hs2 t) _); iexact H4
  isplitl [H5]; · iapply (pt_of_owns c (hs3 t) _); iexact H5
  isplitl [H6]; · iapply (pt_of_owns c (hs4 t) _); iexact H6
  isplitl [H7]; · iapply (pt_of_owns c (hs5 t) _); iexact H7
  isplitl [H8]; · iapply (pt_of_owns c (hs6 t) _); iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H2, H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
  isplitl [Hg H9 H10 H11 H12 H13 H14 H15 H16 H17 H18 H19 H20 H21]
  · isplitr [Hg]; swap; · iexact Hg
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  isplitl [HO]; · iexact HO
  isplitl [H2]; · ihave H2' := (owns_of_pt c (hs0 t) _) $$ H2; rw [(hs0 t).read_unread]; iexact H2'
  isplitl [H3]; · ihave H3' := (owns_of_pt c (hs1 t) _) $$ H3; rw [(hs1 t).read_unread]; iexact H3'
  isplitl [H4]; · ihave H4' := (owns_of_pt c (hs2 t) _) $$ H4; rw [(hs2 t).read_unread]; iexact H4'
  isplitl [H5]; · ihave H5' := (owns_of_pt c (hs3 t) _) $$ H5; rw [(hs3 t).read_unread]; iexact H5'
  isplitl [H6]; · iexists _; iapply (owns_of_pt c (hs4 t) _); iexact H6
  isplitl [H7]; · iexists _; iapply (owns_of_pt c (hs5 t) _); iexact H7
  iexists _; iapply (owns_of_pt c (hs6 t) _); iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution of @main terminates without a fault, with each argument array at its launch contents and every
    semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m ρ}
theorem final_args {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨h.arr_in c 0 rfl, h.arr_in c 1 rfl, h.arr_in c 2 rfl, h.arr_in c 3 rfl⟩

end Cert.KernelIdeal.Hand

end
-- ==== Proof.SplitI.lean ====
module

public import proofs.«01_k».proof.Proof.Gen.KernelIdeal
public import proofs.«01_k».proof.Proof.OffsI

@[expose] public section

noncomputable section

namespace Cert.KernelIdeal.Hand

open Cert.KernelIdeal Cert.KernelIdeal.Gen
open Idealize.ShloMosaic Idealize.SL.Sem

variable {F : FTy → Type} [FloatOps F] [Named F]

/-- What the body does at the first point of a window: store the finished lane's results, start the next lane. -/
def window (i : grid0.Coords) (k0_h1 : k0_cond1 i = 1#1) (arg2 : Memref sig .tc .vmem S1280x1024 .bf16) (harg2 : arg2.IsWhole) (arg3 : Memref sig .tc .vmem S64x1024 .bf16) (harg3 : arg3.IsWhole) (arg4 : Memref sig .tc .vmem S9x64x128 .i32) (harg4 : arg4.IsWhole) (arg5 : Memref sig .tc .vmem S64x128 .i32) (harg5 : arg5.IsWhole) (arg6 : Memref sig .tc .vmem S64x6400 .bf16) (harg6 : arg6.IsWhole) (arg7 : Memref sig .tc .vmem S64x128 .f32) (harg7 : arg7.IsWhole) (arg8 : Memref sig .tc .vmem S64x128 .f32) (harg8 : arg8.IsWhole) (arg9 : Memref sig .tc .vmem S31x320x1280 .f32) (harg9 : arg9.IsWhole) (arg10 : Memref sig .tc .vmem S320x1024 .bf16) (harg10 : arg10.IsWhole) (arg11 : Memref sig .tc .vmem S9x320x128 .i32) (harg11 : arg11.IsWhole) (arg12 : Memref sig .tc .vmem S320x128 .i32) (harg12 : arg12.IsWhole) (arg13 : Memref sig .tc .vmem S320x128 .i32) (harg13 : arg13.IsWhole) (arg14 : Memref sig .tc .vmem S320x128 .i32) (harg14 : arg14.IsWhole) (arg15 : Memref sig .tc .vmem S320x128 .f32) (harg15 : arg15.IsWhole) (arg16 : Memref sig .tc .vmem S320x128 .f32) (harg16 : arg16.IsWhole) (arg17 : Memref sig .tc .vmem S320x128 .f32) (harg17 : arg17.IsWhole) (arg18 : Memref sig .tc .vmem S320x128 .f32) (harg18 : arg18.IsWhole) (arg19 : Memref sig .tc .vmem S3x64x128 .f32) (harg19 : arg19.IsWhole) (arg20 : Memref sig .tc .vmem S3x64x128 .f32) (harg20 : arg20.IsWhole) (arg21 : Memref sig .tc .vmem S2x64x128 .f32) (harg21 : arg21.IsWhole) :
    Prog (TpuEff nD τ sig (Elt F) Λ₀ .tc) PUnit := do
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c5_i32_0 : BitVec 32 := 5#32
  let v2 : BitVec 32 := Scalar.remsi arg0 c5_i32_0
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c5_i32_3 : BitVec 32 := 5#32
  let v6 : BitVec 32 := Scalar.muli v2 c5_i32_3
  let v7 : BitVec 32 := Scalar.addi v6 arg1
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  let ⟨v1922, v1926, v1928, v1932, v1940, v1947, v1950, v1952, cst_800⟩ : Σ' (v1922 : BitVec 32) (v1926 : FVec F S64x128 .f32) (v1928 : FVec F S64x128 .f32) (v1932 : FVec F S64x1 .f32) (v1940 : FVec F S64x1 .f32) (v1947 : FVec F S64x128 .f32) (v1950 : IVec S64x128 1) (v1952 : FVec F S64x128 .f32), F .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2
  let ⟨v1964, v1976, v1979, v1980, v1998⟩ : Σ' (v1964 : IVec S64x128 32) (v1976 : FVec F S64x128 .f32) (v1979 : FVec F S64x128 .f32) (v1980 : FVec F S64x128 .f32), FVec F S64x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v1922 v1926 v1928 v1932 v1940 v1947 v1950 v1952 cst_800
  let cst_831 : F .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v1922 v1976 v1979 v1980 v1998
  let ⟨v2063, v2065⟩ : Σ' (v2063 : Vec F S64x128 .i32), IVec S64x128 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v1922 cst_831
  let v2066 : Index := Scalar.indexCast v1922
  let c0_855 : Index := 0#32
  let v2067 : Vec F S64x128 .i32 ← Prog.lift (.load arg13 (Rect.unit (s := S320x128) (k0_off1 i) S64x128.size (k0_off1_inb i k0_h1)).toLoadRect (View.loadsAt_vmem h_S64x128))
  have v2068 : IVec S64x128 32 := shapeCast S64x128 v2067 shapeCasts_S64x128_S64x128
  have v2069 : IVec S64x128 32 := shapeCast S64x128 v2065 shapeCasts_S64x128_S64x128
  Prog.lift (.store arg13 (Rect.unit (s := S320x128) (k0_off1 i) S64x128.size (k0_off1_inb i k0_h1)) v2069 Finset.univ (View.stores_vmem_bits_univ h_S64x128 rfl) (.inl rfl))
  let c40_i32 : BitVec 32 := 40#32
  have v2070 : IVec S64x128 32 := broadcast S64x128 c40_i32
  have v2071 : IVec S64x128 1 := cmpi .slt v1964 v2070
  let c7_i32_856 : BitVec 32 := 7#32
  have v2072 : IVec S64x128 32 := broadcast S64x128 c7_i32_856
  have v2073 : IVec S64x128 32 := shrsi v2063 v2072
  let c_m1_i32 : BitVec 32 := 4294967295#32
  have v2074 : IVec S64x128 32 := broadcast S64x128 c_m1_i32
  have v2075 : IVec S64x128 32 := select v2071 v2073 v2074
  let v2076 : Index := Scalar.indexCast v1922
  let c0_857 : Index := 0#32
  let v2077 : Vec F S64x128 .i32 ← Prog.lift (.load arg14 (Rect.unit (s := S320x128) (k0_off1 i) S64x128.size (k0_off1_inb i k0_h1)).toLoadRect (View.loadsAt_vmem h_S64x128))
  have v2078 : IVec S64x128 32 := shapeCast S64x128 v2077 shapeCasts_S64x128_S64x128
  have v2079 : IVec S64x128 32 := shapeCast S64x128 v2075 shapeCasts_S64x128_S64x128
  Prog.lift (.store arg14 (Rect.unit (s := S320x128) (k0_off1 i) S64x128.size (k0_off1_inb i k0_h1)) v2079 Finset.univ (View.stores_vmem_bits_univ h_S64x128 rfl) (.inl rfl))
  have v2080 : IVec S64x1 32 := extractStridedSlice S64x1 ![0, 126] v2063 slices_S64x128_o0_126_S64x1
  have v2081 : FVec F S64x1 .f32 := bitcastToFloat .f32 v2080
  have cst_858 : F .f32 := Scalar.ofBits .f32 0x3F800000#32
  have v2082 : FVec F S64x1 .f32 := broadcast S64x1 cst_858
  have v2083 : FVec F S64x1 .f32 := divf v2082 v2081
  have v2084 : FVec F S64x1 .f32 := shapeCast S64x1 v2083 shapeCasts_S64x1_S64x1
  have v2085 : FVec F S64x128 .f32 := broadcastTo S64x128 v2084 broadcasts_S64x1_S64x128
  let v2086 : Index := Scalar.indexCast v1922
  let c0_859 : Index := 0#32
  let v2087 : Vec F S64x128 .f32 ← Prog.lift (.load arg15 (Rect.unit (s := S320x128) (k0_off1 i) S64x128.size (k0_off1_inb i k0_h1)).toLoadRect (View.loadsAt_vmem h_S64x128))
  have v2088 : FVec F S64x128 .f32 := shapeCast S64x128 v2087 shapeCasts_S64x128_S64x128
  have v2089 : FVec F S64x128 .f32 := shapeCast S64x128 v2085 shapeCasts_S64x128_S64x128
  Prog.lift (.store arg15 (Rect.unit (s := S320x128) (k0_off1 i) S64x128.size (k0_off1_inb i k0_h1)) v2089 Finset.univ (View.stores_vmem_bits_univ h_S64x128 rfl) (.inl rfl))
  have v2090 : IVec S64x1 32 := extractStridedSlice S64x1 ![0, 127] v2063 slices_S64x128_o0_127_S64x1
  have v2091 : FVec F S64x1 .f32 := bitcastToFloat .f32 v2090
  have v2092 : FVec F S64x1 .f32 := shapeCast S64x1 v2091 shapeCasts_S64x1_S64x1
  have v2093 : FVec F S64x128 .f32 := broadcastTo S64x128 v2092 broadcasts_S64x1_S64x128
  let v2094 : Index := Scalar.indexCast v1922
  let c0_860 : Index := 0#32
  let v2095 : Vec F S64x128 .f32 ← Prog.lift (.load arg16 (Rect.unit (s := S320x128) (k0_off1 i) S64x128.size (k0_off1_inb i k0_h1)).toLoadRect (View.loadsAt_vmem h_S64x128))
  have v2096 : FVec F S64x128 .f32 := shapeCast S64x128 v2095 shapeCasts_S64x128_S64x128
  have v2097 : FVec F S64x128 .f32 := shapeCast S64x128 v2093 shapeCasts_S64x128_S64x128
  Prog.lift (.store arg16 (Rect.unit (s := S320x128) (k0_off1 i) S64x128.size (k0_off1_inb i k0_h1)) v2097 Finset.univ (View.stores_vmem_bits_univ h_S64x128 rfl) (.inl rfl))
  pure ⟨⟩

/-- What the body does at every point: one tile of the vocabulary. -/
def tile (i : grid0.Coords) (arg2 : Memref sig .tc .vmem S1280x1024 .bf16) (harg2 : arg2.IsWhole) (arg3 : Memref sig .tc .vmem S64x1024 .bf16) (harg3 : arg3.IsWhole) (arg4 : Memref sig .tc .vmem S9x64x128 .i32) (harg4 : arg4.IsWhole) (arg5 : Memref sig .tc .vmem S64x128 .i32) (harg5 : arg5.IsWhole) (arg6 : Memref sig .tc .vmem S64x6400 .bf16) (harg6 : arg6.IsWhole) (arg7 : Memref sig .tc .vmem S64x128 .f32) (harg7 : arg7.IsWhole) (arg8 : Memref sig .tc .vmem S64x128 .f32) (harg8 : arg8.IsWhole) (arg9 : Memref sig .tc .vmem S31x320x1280 .f32) (harg9 : arg9.IsWhole) (arg10 : Memref sig .tc .vmem S320x1024 .bf16) (harg10 : arg10.IsWhole) (arg11 : Memref sig .tc .vmem S9x320x128 .i32) (harg11 : arg11.IsWhole) (arg12 : Memref sig .tc .vmem S320x128 .i32) (harg12 : arg12.IsWhole) (arg13 : Memref sig .tc .vmem S320x128 .i32) (harg13 : arg13.IsWhole) (arg14 : Memref sig .tc .vmem S320x128 .i32) (harg14 : arg14.IsWhole) (arg15 : Memref sig .tc .vmem S320x128 .f32) (harg15 : arg15.IsWhole) (arg16 : Memref sig .tc .vmem S320x128 .f32) (harg16 : arg16.IsWhole) (arg17 : Memref sig .tc .vmem S320x128 .f32) (harg17 : arg17.IsWhole) (arg18 : Memref sig .tc .vmem S320x128 .f32) (harg18 : arg18.IsWhole) (arg19 : Memref sig .tc .vmem S3x64x128 .f32) (harg19 : arg19.IsWhole) (arg20 : Memref sig .tc .vmem S3x64x128 .f32) (harg20 : arg20.IsWhole) (arg21 : Memref sig .tc .vmem S2x64x128 .f32) (harg21 : arg21.IsWhole) :
    Prog (TpuEff nD τ sig (Elt F) Λ₀ .tc) PUnit := do
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c5_i32_0 : BitVec 32 := 5#32
  let v2 : BitVec 32 := Scalar.remsi arg0 c5_i32_0
  let c5_i32_1 : BitVec 32 := 5#32
  let v3 : BitVec 32 := Scalar.addi arg0 c5_i32_1
  let c1_i32 : BitVec 32 := 1#32
  let v4 : BitVec 32 := Scalar.subi v3 c1_i32
  let c5_i32_2 : BitVec 32 := 5#32
  let v5 : BitVec 32 := Scalar.remsi v4 c5_i32_2
  let c5_i32_3 : BitVec 32 := 5#32
  let v6 : BitVec 32 := Scalar.muli v2 c5_i32_3
  let v7 : BitVec 32 := Scalar.addi v6 arg1
  let c0_i32 : BitVec 32 := 0#32
  let v8 : BitVec 1 := Scalar.cmpi .eq arg1 c0_i32
  let v9 : BitVec 32 := Scalar.extui v8
  let c0_i32_4 : BitVec 32 := 0#32
  let v10 : BitVec 1 := Scalar.cmpi .ne v9 c0_i32_4
  let c3_i32 : BitVec 32 := 3#32
  let v11 : BitVec 32 := Scalar.divsi v7 c3_i32
  let c0_i32_5 : BitVec 32 := 0#32
  let v12 : BitVec 1 := Scalar.cmpi .sgt v7 c0_i32_5
  let v13 : BitVec 32 := Scalar.extui v12
  let c0_i32_6 : BitVec 32 := 0#32
  let v14 : BitVec 1 := Scalar.cmpi .slt v7 c0_i32_6
  let v15 : BitVec 32 := Scalar.extui v14
  let v16 : BitVec 32 := Scalar.subi v13 v15
  let c0_i32_7 : BitVec 32 := 0#32
  let v17 : BitVec 1 := Scalar.cmpi .sgt c3_i32 c0_i32_7
  let v18 : BitVec 32 := Scalar.extui v17
  let c0_i32_8 : BitVec 32 := 0#32
  let v19 : BitVec 1 := Scalar.cmpi .slt c3_i32 c0_i32_8
  let v20 : BitVec 32 := Scalar.extui v19
  let v21 : BitVec 32 := Scalar.subi v18 v20
  let v22 : BitVec 1 := Scalar.cmpi .ne v16 v21
  let v23 : BitVec 32 := Scalar.remsi v7 c3_i32
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : Index := Scalar.indexCast v27
  let c0 : Index := 0#32
  let c0_11 : Index := 0#32
  let v29 : Vec F S1x320x128 .i32 ← Prog.lift (.load arg11 (Rect.unit (s := S9x320x128) (k0_off4 i) S1x320x128.size (k0_off4_inb i)).toLoadRect (View.loadsAt_vmem h_S1x320x128))
  have v30 : IVec S320x128 32 := shapeCast S320x128 v29 shapeCasts_S1x320x128_S320x128
  let c3_i32_12 : BitVec 32 := 3#32
  let v31 : BitVec 32 := Scalar.muli v27 c3_i32_12
  let v32 : BitVec 32 := Scalar.subi v7 v31
  let c10_i32 : BitVec 32 := 10#32
  let v33 : BitVec 32 := Scalar.muli v32 c10_i32
  have v34 : IVec S320x128 32 := broadcast S320x128 v33
  have v35 : IVec S320x128 32 := shrsi v30 v34
  let c0_13 : Index := 0#32
  let c0_14 : Index := 0#32
  let ⟨v39, v44, v50, v57, v58, v59, v60, v61, v62, v63, c1_i32_41⟩ : Σ' (v39 : BitVec 32) (v44 : BitVec 32) (v50 : BitVec 32) (v57 : FVec F S320x256 .f32) (v58 : Vec F S320x128 .i32) (v59 : Vec F S320x128 .f32) (v60 : Vec F S320x128 .i32) (v61 : Vec F S320x128 .i32) (v62 : Vec F S320x128 .f32) (v63 : FVec F S320x128 .f32), BitVec 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 v1 v35
  let ⟨v81, v98, v102, v104, cst_56⟩ : Σ' (v81 : FVec F S320x128 .f32) (v98 : FVec F S320x128 .f32) (v102 : IVec S320x128 1) (v104 : IVec S320x128 1), F .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v57 v58 v59 v60 v61 v62 v63 c1_i32_41
  let ⟨v137, v139, v141⟩ : Σ' (v137 : BitVec 32) (v139 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v7 v39 v44 v50 v59 v60 v61 v81 v98 v102 v104 cst_56
  let ⟨v143, v174, v179, v181⟩ : Σ' (v143 : FVec F S64x128 .f32) (v174 : FVec F S64x128 .f32) (v179 : FVec F S64x128 .f32), FVec F S64x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v141
  let ⟨v222, v227, v229⟩ : Σ' (v222 : FVec F S64x128 .f32) (v227 : FVec F S64x128 .f32), FVec F S64x128 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v141 v143 v174 v179 v181
  let ⟨v270, v275, v277⟩ : Σ' (v270 : FVec F S64x128 .f32) (v275 : FVec F S64x128 .f32), FVec F S64x128 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v137 v141 v143 v222 v227 v229
  let v319 : BitVec 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v137 v141 v143 v270 v275 v277
  let ⟨v320, v322, v324, v357⟩ : Σ' (v320 : BitVec 32) (v322 : FVec F S64x128 .f32) (v324 : FVec F S64x128 .f32), Vec F S1x64x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v139 v319
  let v397 : Vec F S1x64x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v139 v320 v322 v324 v357
  let v431 : FVec F S320x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v139 v320 v322 v324 v397
  let ⟨v432, v433, v434, v435, v455, v463, v467, v468⟩ : Σ' (v432 : Vec F S320x128 .i32) (v433 : Vec F S320x128 .f32) (v434 : Vec F S320x128 .i32) (v435 : Vec F S320x128 .i32) (v455 : FVec F S320x128 .f32) (v463 : FVec F S320x128 .f32) (v467 : IVec S320x128 1), Vec F S320x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v431
  let v509 : FVec F S320x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v431 v432 v433 v434 v435 v455 v463 v467 v468
  let ⟨v511, v513, v515, v517, v532, v537, v539, v544, v545⟩ : Σ' (v511 : BitVec 32) (v513 : BitVec 32) (v515 : BitVec 32) (v517 : FVec F S64x128 .f32) (v532 : FVec F S64x128 .f32) (v537 : FVec F S64x128 .f32) (v539 : FVec F S64x128 .f32) (v544 : FVec F S64x128 .f32), FVec F S64x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v44 v50 v509
  let ⟨v580, v585, v587, v592, v593⟩ : Σ' (v580 : FVec F S64x128 .f32) (v585 : FVec F S64x128 .f32) (v587 : FVec F S64x128 .f32) (v592 : FVec F S64x128 .f32), FVec F S64x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v511 v515 v517 v532 v537 v539 v544 v545
  let ⟨v628, v633, v635, v640, v641⟩ : Σ' (v628 : FVec F S64x128 .f32) (v633 : FVec F S64x128 .f32) (v635 : FVec F S64x128 .f32) (v640 : FVec F S64x128 .f32), FVec F S64x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v511 v515 v517 v580 v585 v587 v592 v593
  let ⟨v681, v683⟩ : Σ' (v681 : FVec F S64x128 .f32), FVec F S64x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v511 v515 v517 v628 v633 v635 v640 v641
  let ⟨v694, v696, v698, v721⟩ : Σ' (v694 : BitVec 32) (v696 : FVec F S64x128 .f32) (v698 : FVec F S64x128 .f32), Vec F S1x64x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v513 v681 v683
  let v761 : Vec F S1x64x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v513 v694 v696 v698 v721
  let v799 : Vec F S320x512 .bf16 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v513 v694 v696 v698 v761
  let ⟨v805, v806, v807, v808, v809, v811, v829, v831, c128_i32_350⟩ : Σ' (v805 : FVec F S320x256 .f32) (v806 : Vec F S320x128 .i32) (v807 : Vec F S320x128 .f32) (v808 : Vec F S320x128 .i32) (v809 : Vec F S320x128 .i32) (v811 : FVec F S320x128 .f32) (v829 : FVec F S320x128 .f32) (v831 : IVec S320x128 1), BitVec 32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 v799
  let ⟨v864, v872, v873, c5_i32_365⟩ : Σ' (v864 : FVec F S320x128 .f32) (v872 : FVec F S320x128 .f32) (v873 : BitVec 32), BitVec 32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v805 v806 v807 v808 v809 v811 v829 v831 c128_i32_350
  let ⟨v885, v887, v889, v891, v895, v897, v902, v905, v906, v907⟩ : Σ' (v885 : BitVec 32) (v887 : BitVec 32) (v889 : BitVec 32) (v891 : FVec F S64x128 .f32) (v895 : FVec F S64x128 .f32) (v897 : FVec F S64x128 .f32) (v902 : FVec F S64x128 .f32) (v905 : FVec F S64x128 .f32) (v906 : FVec F S64x128 .f32), FVec F S64x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v44 v50 v809 v864 v872 v873 c5_i32_365
  let ⟨v943, v945, v950, v953, v954, v955⟩ : Σ' (v943 : FVec F S64x128 .f32) (v945 : FVec F S64x128 .f32) (v950 : FVec F S64x128 .f32) (v953 : FVec F S64x128 .f32) (v954 : FVec F S64x128 .f32), FVec F S64x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v885 v889 v891 v895 v897 v902 v905 v906 v907
  let ⟨v991, v993, v998, v1001, v1002, v1003⟩ : Σ' (v991 : FVec F S64x128 .f32) (v993 : FVec F S64x128 .f32) (v998 : FVec F S64x128 .f32) (v1001 : FVec F S64x128 .f32) (v1002 : FVec F S64x128 .f32), FVec F S64x128 .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v885 v889 v891 v943 v945 v950 v953 v954 v955
  let ⟨v1039, v1041, v1046, v1049, v1050, v1051⟩ : Σ' (v1039 : FVec F S64x128 .f32) (v1041 : FVec F S64x128 .f32) (v1046 : FVec F S64x128 .f32) (v1049 : FVec F S64x128 .f32) (v1050 : FVec F S64x128 .f32), FVec F S64x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v885 v889 v891 v991 v993 v998 v1001 v1002 v1003
  let ⟨v1068, v1070, v1072, v1085⟩ : Σ' (v1068 : BitVec 32) (v1070 : FVec F S64x128 .f32) (v1072 : FVec F S64x128 .f32), Vec F S1x64x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v887 v1039 v1041 v1046 v1049 v1050 v1051
  let v1125 : Vec F S1x64x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v887 v1068 v1070 v1072 v1085
  let v1165 : Vec F S1x64x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v887 v1068 v1070 v1072 v1125
  let ⟨v1179, v1180, v1181, v1182, v1183, v1184, v1185, v1189, v1194, v1195⟩ : Σ' (v1179 : FVec F S320x256 .f32) (v1180 : Vec F S320x128 .i32) (v1181 : Vec F S320x128 .f32) (v1182 : Vec F S320x128 .i32) (v1183 : Vec F S320x128 .i32) (v1184 : Vec F S320x128 .f32) (v1185 : FVec F S320x128 .f32) (v1189 : IVec S320x128 1) (v1194 : FVec F S320x128 .f32), FVec F S320x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1070 v1072 v1165
  let ⟨v1203, v1220, v1233, v1237⟩ : Σ' (v1203 : FVec F S320x128 .f32) (v1220 : FVec F S320x128 .f32) (v1233 : FVec F S320x128 .f32), FVec F S1x320x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v1179 v1180 v1181 v1182 v1183 v1184 v1185 v1189 v1194 v1195
  let ⟨v1259, v1261, v1263, v1265, v1267, v1269⟩ : Σ' (v1259 : BitVec 32) (v1261 : BitVec 32) (v1263 : BitVec 32) (v1265 : FVec F S64x128 .f32) (v1267 : FVec F S64x128 .f32), FVec F S64x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v7 v44 v50 v1182 v1183 v1203 v1220 v1233 v1237
  let ⟨v1303, v1308, v1312, v1317⟩ : Σ' (v1303 : FVec F S64x128 .f32) (v1308 : FVec F S64x128 .f32) (v1312 : FVec F S64x128 .f32), FVec F S64x128 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1259 v1263 v1265 v1267 v1269
  let ⟨v1351, v1356, v1360, v1365⟩ : Σ' (v1351 : FVec F S64x128 .f32) (v1356 : FVec F S64x128 .f32) (v1360 : FVec F S64x128 .f32), FVec F S64x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1259 v1263 v1265 v1303 v1308 v1312 v1317
  let ⟨v1399, v1404, v1408, v1413⟩ : Σ' (v1399 : FVec F S64x128 .f32) (v1404 : FVec F S64x128 .f32) (v1408 : FVec F S64x128 .f32), FVec F S64x128 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1259 v1263 v1265 v1351 v1356 v1360 v1365
  let ⟨v1442, v1444, v1446, v1449⟩ : Σ' (v1442 : BitVec 32) (v1444 : FVec F S64x128 .f32) (v1446 : FVec F S64x128 .f32), Vec F S1x64x128 .f32 ← k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v1259 v1261 v1263 v1265 v1399 v1404 v1408 v1413
  let v1489 : Vec F S1x64x128 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1261 v1442 v1444 v1446 v1449
  let v1529 : Vec F S1x64x128 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1261 v1442 v1444 v1446 v1489
  let ⟨v1553, v1554, v1555, v1556, v1557, v1558, v1559, c256_i32⟩ : Σ' (v1553 : FVec F S320x256 .f32) (v1554 : Vec F S320x128 .i32) (v1555 : Vec F S320x128 .f32) (v1556 : Vec F S320x128 .i32) (v1557 : Vec F S320x128 .i32) (v1558 : Vec F S320x128 .f32) (v1559 : FVec F S320x128 .f32), BitVec 32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1261 v1442 v1444 v1446 v1529
  let ⟨v1577, v1594, v1598, v1600, cst_659⟩ : Σ' (v1577 : FVec F S320x128 .f32) (v1594 : FVec F S320x128 .f32) (v1598 : IVec S320x128 1) (v1600 : IVec S320x128 1), F .f32 ← k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v7 v39 v1553 v1554 v1555 v1556 v1557 v1558 v1559 c256_i32
  let ⟨v1633, v1635, v1637⟩ : Σ' (v1633 : BitVec 32) (v1635 : BitVec 32), BitVec 32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 v7 v39 v44 v50 v1555 v1556 v1557 v1577 v1594 v1598 v1600 cst_659
  let ⟨v1639, v1670, v1675, v1677⟩ : Σ' (v1639 : FVec F S64x128 .f32) (v1670 : FVec F S64x128 .f32) (v1675 : FVec F S64x128 .f32), FVec F S64x128 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1633 v1637
  let ⟨v1718, v1723, v1725⟩ : Σ' (v1718 : FVec F S64x128 .f32) (v1723 : FVec F S64x128 .f32), FVec F S64x128 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1633 v1637 v1639 v1670 v1675 v1677
  let ⟨v1766, v1771, v1773⟩ : Σ' (v1766 : FVec F S64x128 .f32) (v1771 : FVec F S64x128 .f32), FVec F S64x128 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1633 v1637 v1639 v1718 v1723 v1725
  let v1815 : BitVec 32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v1633 v1637 v1639 v1766 v1771 v1773
  let ⟨v1816, v1818, v1820, v1853⟩ : Σ' (v1816 : BitVec 32) (v1818 : FVec F S64x128 .f32) (v1820 : FVec F S64x128 .f32), Vec F S1x64x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1635 v1815
  let v1893 : Vec F S1x64x128 .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1635 v1816 v1818 v1820 v1853
  have v1894 : FVec F S64x128 .f32 := shapeCast S64x128 v1893 shapeCasts_S1x64x128_S64x128
  have v1895 : IVec S64x128 1 := cmpf .oge v1894 v1818
  have v1896 : FVec F S64x128 .f32 := subf v1894 v1820
  have cst_766 : F .f32 := Scalar.ofBits .f32 0x00000000#32
  have v1897 : FVec F S64x128 .f32 := broadcast S64x128 cst_766
  have v1898 : FVec F S64x128 .f32 := select v1895 v1896 v1897
  have v1899 : FVec F S64x128 .bf16 := truncf .bf16 v1898 bitsLt_bf16_f32
  let c0_767 : Index := 0#32
  let c6016 : Index := 6016#32
  let v1900 : Vec F S64x128 .bf16 ← Prog.lift (.load arg6 (Rect.unit (s := S64x6400) ![0, 6016] S64x128.size inb_S64x6400_S64x128_0_6016).toLoadRect (View.loadsAt_vmem h_S64x128))
  Prog.lift (.store arg6 (Rect.unit (s := S64x6400) ![0, 6016] S64x128.size inb_S64x6400_S64x128_0_6016) v1899 Finset.univ (View.stores_vmem h_S64x128 (harg6.storeExact_slice rfl _ packedbf16_S64x6400_S64x128_0_6016) (fun _ => rfl)) (.inl rfl))
  let v1901 : Index := Scalar.indexCast v1635
  let v1902 : Index := Scalar.indexCast v1816
  let c1024_768 : Index := 1024#32
  let v1903 : Vec F S1x64x128 .f32 ← Prog.lift (.load arg9 (Rect.unit (s := S31x320x1280) (k0_off25 i 4#32) S1x64x128.size (k0_off25_inb i 4)).toLoadRect (View.loadsAt_vmem h_S1x64x128))
  have v1904 : FVec F S64x128 .f32 := shapeCast S64x128 v1903 shapeCasts_S1x64x128_S64x128
  have v1905 : IVec S64x128 1 := cmpf .oge v1904 v1818
  have v1906 : FVec F S64x128 .f32 := subf v1904 v1820
  have cst_769 : F .f32 := Scalar.ofBits .f32 0x00000000#32
  have v1907 : FVec F S64x128 .f32 := broadcast S64x128 cst_769
  have v1908 : FVec F S64x128 .f32 := select v1905 v1906 v1907
  have v1909 : FVec F S64x128 .bf16 := truncf .bf16 v1908 bitsLt_bf16_f32
  let c0_770 : Index := 0#32
  let c6144 : Index := 6144#32
  let v1910 : Vec F S64x128 .bf16 ← Prog.lift (.load arg6 (Rect.unit (s := S64x6400) ![0, 6144] S64x128.size inb_S64x6400_S64x128_0_6144).toLoadRect (View.loadsAt_vmem h_S64x128))
  Prog.lift (.store arg6 (Rect.unit (s := S64x6400) ![0, 6144] S64x128.size inb_S64x6400_S64x128_0_6144) v1909 Finset.univ (View.stores_vmem h_S64x128 (harg6.storeExact_slice rfl _ packedbf16_S64x6400_S64x128_0_6144) (fun _ => rfl)) (.inl rfl))
  let v1911 : Index := Scalar.indexCast v1635
  let v1912 : Index := Scalar.indexCast v1816
  let c1152_771 : Index := 1152#32
  let v1913 : Vec F S1x64x128 .f32 ← Prog.lift (.load arg9 (Rect.unit (s := S31x320x1280) (k0_off26 i 4#32) S1x64x128.size (k0_off26_inb i 4)).toLoadRect (View.loadsAt_vmem h_S1x64x128))
  have v1914 : FVec F S64x128 .f32 := shapeCast S64x128 v1913 shapeCasts_S1x64x128_S64x128
  have v1915 : IVec S64x128 1 := cmpf .oge v1914 v1818
  have v1916 : FVec F S64x128 .f32 := subf v1914 v1820
  have cst_772 : F .f32 := Scalar.ofBits .f32 0x00000000#32
  have v1917 : FVec F S64x128 .f32 := broadcast S64x128 cst_772
  have v1918 : FVec F S64x128 .f32 := select v1915 v1916 v1917
  have v1919 : FVec F S64x128 .bf16 := truncf .bf16 v1918 bitsLt_bf16_f32
  let c0_773 : Index := 0#32
  let c6272 : Index := 6272#32
  let v1920 : Vec F S64x128 .bf16 ← Prog.lift (.load arg6 (Rect.unit (s := S64x6400) ![0, 6272] S64x128.size inb_S64x6400_S64x128_0_6272).toLoadRect (View.loadsAt_vmem h_S64x128))
  Prog.lift (.store arg6 (Rect.unit (s := S64x6400) ![0, 6272] S64x128.size inb_S64x6400_S64x128_0_6272) v1919 Finset.univ (View.stores_vmem h_S64x128 (harg6.storeExact_slice rfl _ packedbf16_S64x6400_S64x128_0_6272) (fun _ => rfl)) (.inl rfl))
  pure ⟨⟩

set_option maxRecDepth 20000 in
/-- The first point of a window runs `window`, then `tile`. -/
theorem head_pos (i : grid0.Coords) (arg2 : Memref sig .tc .vmem S1280x1024 .bf16) (harg2 : arg2.IsWhole) (arg3 : Memref sig .tc .vmem S64x1024 .bf16) (harg3 : arg3.IsWhole) (arg4 : Memref sig .tc .vmem S9x64x128 .i32) (harg4 : arg4.IsWhole) (arg5 : Memref sig .tc .vmem S64x128 .i32) (harg5 : arg5.IsWhole) (arg6 : Memref sig .tc .vmem S64x6400 .bf16) (harg6 : arg6.IsWhole) (arg7 : Memref sig .tc .vmem S64x128 .f32) (harg7 : arg7.IsWhole) (arg8 : Memref sig .tc .vmem S64x128 .f32) (harg8 : arg8.IsWhole) (arg9 : Memref sig .tc .vmem S31x320x1280 .f32) (harg9 : arg9.IsWhole) (arg10 : Memref sig .tc .vmem S320x1024 .bf16) (harg10 : arg10.IsWhole) (arg11 : Memref sig .tc .vmem S9x320x128 .i32) (harg11 : arg11.IsWhole) (arg12 : Memref sig .tc .vmem S320x128 .i32) (harg12 : arg12.IsWhole) (arg13 : Memref sig .tc .vmem S320x128 .i32) (harg13 : arg13.IsWhole) (arg14 : Memref sig .tc .vmem S320x128 .i32) (harg14 : arg14.IsWhole) (arg15 : Memref sig .tc .vmem S320x128 .f32) (harg15 : arg15.IsWhole) (arg16 : Memref sig .tc .vmem S320x128 .f32) (harg16 : arg16.IsWhole) (arg17 : Memref sig .tc .vmem S320x128 .f32) (harg17 : arg17.IsWhole) (arg18 : Memref sig .tc .vmem S320x128 .f32) (harg18 : arg18.IsWhole) (arg19 : Memref sig .tc .vmem S3x64x128 .f32) (harg19 : arg19.IsWhole) (arg20 : Memref sig .tc .vmem S3x64x128 .f32) (harg20 : arg20.IsWhole) (arg21 : Memref sig .tc .vmem S2x64x128 .f32) (harg21 : arg21.IsWhole) (h : k0_cond1 i = 1#1) :
    cc0_head (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (window i h arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  unfold cc0_head k0_part52 k0_part5 window tile
  simp only [Prog.bind_assoc, pure_bind, dif_pos h]

set_option maxRecDepth 20000 in
/-- Every other point runs `tile` alone. -/
theorem head_neg (i : grid0.Coords) (arg2 : Memref sig .tc .vmem S1280x1024 .bf16) (harg2 : arg2.IsWhole) (arg3 : Memref sig .tc .vmem S64x1024 .bf16) (harg3 : arg3.IsWhole) (arg4 : Memref sig .tc .vmem S9x64x128 .i32) (harg4 : arg4.IsWhole) (arg5 : Memref sig .tc .vmem S64x128 .i32) (harg5 : arg5.IsWhole) (arg6 : Memref sig .tc .vmem S64x6400 .bf16) (harg6 : arg6.IsWhole) (arg7 : Memref sig .tc .vmem S64x128 .f32) (harg7 : arg7.IsWhole) (arg8 : Memref sig .tc .vmem S64x128 .f32) (harg8 : arg8.IsWhole) (arg9 : Memref sig .tc .vmem S31x320x1280 .f32) (harg9 : arg9.IsWhole) (arg10 : Memref sig .tc .vmem S320x1024 .bf16) (harg10 : arg10.IsWhole) (arg11 : Memref sig .tc .vmem S9x320x128 .i32) (harg11 : arg11.IsWhole) (arg12 : Memref sig .tc .vmem S320x128 .i32) (harg12 : arg12.IsWhole) (arg13 : Memref sig .tc .vmem S320x128 .i32) (harg13 : arg13.IsWhole) (arg14 : Memref sig .tc .vmem S320x128 .i32) (harg14 : arg14.IsWhole) (arg15 : Memref sig .tc .vmem S320x128 .f32) (harg15 : arg15.IsWhole) (arg16 : Memref sig .tc .vmem S320x128 .f32) (harg16 : arg16.IsWhole) (arg17 : Memref sig .tc .vmem S320x128 .f32) (harg17 : arg17.IsWhole) (arg18 : Memref sig .tc .vmem S320x128 .f32) (harg18 : arg18.IsWhole) (arg19 : Memref sig .tc .vmem S3x64x128 .f32) (harg19 : arg19.IsWhole) (arg20 : Memref sig .tc .vmem S3x64x128 .f32) (harg20 : arg20.IsWhole) (arg21 : Memref sig .tc .vmem S2x64x128 .f32) (harg21 : arg21.IsWhole) (h : ¬ k0_cond1 i = 1#1) :
    cc0_head (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = tile i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  unfold cc0_head k0_part52 k0_part5 tile
  simp only [Prog.bind_assoc, pure_bind, dif_neg h]

end Cert.KernelIdeal.Hand

end
-- ==== Proof.RunT.lean ====
module

public import proofs.«01_k».proof.Proof.Gen.KernelIdeal
public import proofs.«01_k».proof.Proof.Gen.KernelIdeal.Skeleton
public import proofs.«01_k».proof.Proof.SplitI
public import Idealize.ShloMosaic.Lib.Tactic
public import Idealize.ShloMosaic.Lib.Pipeline.Kit

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option sl_exec.resultNames true in
set_option maxHeartbeats 4000000 in
/-- One tile: what each buffer it stores into ends at, and the run that leaves it there. -/
def runT (c : Dev nD) (i : grid0.Coords)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12)) :
    {L : Bf (F := F) c M6 × Bf (F := F) c (Memref.whole cc0_scratch0) × Bf (F := F) c (Memref.whole cc0_scratch3) × Bf (F := F) c (Memref.whole cc0_scratch8) × Bf (F := F) c (Memref.whole cc0_scratch9) × Bf (F := F) c (Memref.whole cc0_scratch10) // ∀ (Q : PUnit → sProp 𝕄),
      iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
        ∗ (iprop(pt c M2 f2 ∗ pt c M3 f3 ∗ pt c M4 f4 ∗ pt c M5 f5 ∗ pt c M6 (L.1) ∗ pt c M7 f7 ∗ pt c M8 f8 ∗ pt c (Memref.whole cc0_scratch0) (L.2.1) ∗ pt c (Memref.whole cc0_scratch1) f10 ∗ pt c (Memref.whole cc0_scratch2) f11 ∗ pt c (Memref.whole cc0_scratch3) (L.2.2.1) ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) (L.2.2.2.1) ∗ pt c (Memref.whole cc0_scratch9) (L.2.2.2.2.1) ∗ pt c (Memref.whole cc0_scratch10) (L.2.2.2.2.2) ∗ pt c (Memref.whole cc0_scratch11) f20 ∗ pt c (Memref.whole cc0_scratch12) f21) -∗ Q ⟨⟩))
      ⊢ wp frame (wpE (defs₀ (F := F)) Variants.none c none) Set.univ
        (tile i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q} := by
  refine ⟨⟨?c6, ?c9, ?c12, ?c17, ?c18, ?c19⟩, fun Q => ?run⟩
  case run =>
  iintro ⟨H2, H3, H4, H5, H6, H7, H8, H9, H10, H11, H12, H13, H14, H15, H16, H17, H18, H19, H20, H21, Hk⟩
  unfold tile
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Hand

end
-- ==== Proof.WrLib.lean ====
module

public import proofs.«01_k».proof.Proof.Gen.KernelIdeal
public import Idealize.ShloMosaic.Lib.Pointwise
public import Idealize.ShloMosaic.Lib.WritesUnit
public import Idealize.ShloMosaic.Lib.Pipeline.FrameBody
public import Idealize.ShloMosaic.Lib.Tactic

@[expose] public section

noncomputable section

namespace Cert.KernelIdeal.Hand

open Idealize.ShloMosaic

section
variable {sig : RefSig} {κ : Kind} {sp : Space} {e : EltTy} {Val : EltTy → Type}

/-- A load through a unit-stride rectangle of a rank-2 buffer whose contents are a function of two numbers. -/
theorem readAt_nat2 {n : Fin 2 → ℕ} {v : View sig κ sp ⟨2, n⟩ e} {f : v.ty.Contents Val} {G : ℕ → ℕ → Val e}
    (h : ∀ j : (⟨2, n⟩ : Shape).Idx, v.read Val f j = G (j (0 : Fin 2)).val (j (1 : Fin 2)).val)
    {off size : Fin 2 → ℕ} (inb : ∀ a : Fin 2, off a + size a ≤ n a) (x : (⟨2, size⟩ : Shape).Idx) :
    v.readAt Val (Rect.unit (s := ⟨2, n⟩) off size inb).toLoadRect f x
      = G (off 0 + (x (0 : Fin 2)).val) (off 1 + (x (1 : Fin 2)).val) := by
  rw [View.readAt_eq_ld]
  show v.read Val f _ = _
  rw [h]
  show G (off 0 + 1 * (x (0 : Fin 2)).val) (off 1 + 1 * (x (1 : Fin 2)).val) = _
  rw [Nat.one_mul, Nat.one_mul]

/-- The same at rank 3. -/
theorem readAt_nat3 {n : Fin 3 → ℕ} {v : View sig κ sp ⟨3, n⟩ e} {f : v.ty.Contents Val} {G : ℕ → ℕ → ℕ → Val e}
    (h : ∀ j : (⟨3, n⟩ : Shape).Idx, v.read Val f j = G (j (0 : Fin 3)).val (j (1 : Fin 3)).val (j (2 : Fin 3)).val)
    {off size : Fin 3 → ℕ} (inb : ∀ a : Fin 3, off a + size a ≤ n a) (x : (⟨3, size⟩ : Shape).Idx) :
    v.readAt Val (Rect.unit (s := ⟨3, n⟩) off size inb).toLoadRect f x
      = G (off 0 + (x (0 : Fin 3)).val) (off 1 + (x (1 : Fin 3)).val) (off 2 + (x (2 : Fin 3)).val) := by
  rw [View.readAt_eq_ld]
  show v.read Val f _ = _
  rw [h]
  show G (off 0 + 1 * (x (0 : Fin 3)).val) (off 1 + 1 * (x (1 : Fin 3)).val) (off 2 + 1 * (x (2 : Fin 3)).val) = _
  rw [Nat.one_mul, Nat.one_mul, Nat.one_mul]

/-- Such a load after stores that all lie off its box on one axis reads what the stores found. -/
theorem readAt_writes_off {s : Shape} {v : View sig κ sp s e} {f : v.ty.Contents Val} {L : List (View.Piece Val s e)}
    {off size : Fin s.rank → ℕ} (inb : ∀ a, off a + size a ≤ s.size a)
    (h : ∀ y : s.Idx, (∀ a, off a ≤ (y a).val ∧ (y a).val < off a + size a) → ∀ p ∈ L, y ∉ p.1.set) :
    v.readAt Val (Rect.unit off size inb).toLoadRect (v.writes Val f L) = v.readAt Val (Rect.unit off size inb).toLoadRect f := by
  refine View.readAt_writes_of_forall_not_mem v f L _ fun j p hp => h _ (fun a => ?_) p hp
  show off a ≤ off a + 1 * (j a).val ∧ off a + 1 * (j a).val < off a + size a
  have := (j a).isLt
  have h2 : (j a).val < size a := this
  omega

/-- What stores leave at index `y`, the newest first: the newest if it holds `y`, else what the rest left. -/
theorem writes_step {s : Shape} {v : View sig κ sp s e} {f : v.ty.Contents Val} {L : List (View.Piece Val s e)}
    {off off' size : Fin s.rank → ℕ} (inb : ∀ a, off a + size a ≤ s.size a) (w : (⟨s.rank, size⟩ : Shape).Idx → Val e)
    (heq : off = off') (y : s.Idx) (z : Val e)
    (hin : ∀ x : (⟨s.rank, size⟩ : Shape).Idx, (∀ a, (y a).val = off' a + (x a).val) → w x = z)
    (hout : (¬ ∀ a, off' a ≤ (y a).val ∧ (y a).val < off' a + size a) → v.read Val (v.writes Val f L) y = z) :
    v.read Val (v.writes Val f (⟨Rect.unit off size inb, w⟩ :: L)) y = z := by
  rw [View.read_writes_cons_unit v f inb w L y heq]
  split
  · rename_i h
    refine hin _ fun a => ?_
    have := h a
    rw [Rect.unitLocal_val]; omega
  · rename_i h; exact hout h

/-- A masked store over the whole of a rank-2 buffer. -/
theorem read_write_masked {n : Fin 2 → ℕ} {v : View sig κ sp ⟨2, n⟩ e} (off : Fin 2 → ℕ) (h0 : off = fun _ => 0)
    (inb : ∀ a : Fin 2, off a + n a ≤ n a) (f : v.ty.Contents Val) (w : (⟨2, n⟩ : Shape).Idx → Val e) (M : Finset (⟨2, n⟩ : Shape).Idx)
    (y : (⟨2, n⟩ : Shape).Idx) :
    v.read Val ((v.slice (Rect.unit (s := ⟨2, n⟩) off n inb)).write Val f w M) y = if y ∈ M then w y else v.read Val f y := by
  subst h0
  have he : (Rect.unit (s := ⟨2, n⟩) (fun _ => 0) n inb).emb y = y := by
    funext a; apply Fin.ext
    show 0 + 1 * (y a).val = _
    omega
  by_cases hy : y ∈ M
  · rw [if_pos hy]
    have := View.read_slice_write_emb (v := v) (Rect.unit (s := ⟨2, n⟩) (fun _ => 0) n inb) f w hy
    rw [he] at this
    exact this
  · rw [if_neg hy]
    refine View.read_slice_write_of_not_mem (v := v) (Rect.unit (s := ⟨2, n⟩) (fun _ => 0) n inb) f w M fun h => hy ?_
    obtain ⟨x, hx, hxy⟩ := Finset.mem_map.mp h
    have hex : (Rect.unit (s := ⟨2, n⟩) (fun _ => 0) n inb).emb x = x := by
      funext a; apply Fin.ext
      show 0 + 1 * (x a).val = _
      omega
    rw [hex] at hxy
    exact hxy ▸ hx

end

end Cert.KernelIdeal.Hand

end
-- ==== Proof.TileZ.lean ====
module

public import proofs.«01_k».proof.Proof.RunT
public import proofs.«01_k».proof.Proof.WrLib

@[expose] public section

noncomputable section

namespace Cert.KernelIdeal.Hand

open Cert.KernelIdeal Cert.KernelIdeal.Gen
open Idealize.ShloMosaic Idealize.ShloMosaic.Tactic

/-- Logit of row `p`, column `q` of a weight block: first half of the contraction minus second half. -/
def zN (X W : ℕ → ℕ → EReal) (p q : ℕ) : EReal :=
  (∑ k : Fin 512, X p k.val * W q k.val) - ∑ k : Fin 512, X p (512 + k.val) * W q (512 + k.val)

/-- A column index in range is read as it stands: it is not negative, and within a tile's lanes. -/
theorem lo_nat (a : BitVec 32) (h : a.toNat < 128) :
    (Scalar.select (IntOp.cmpi .slt a 0#32) (IntOp.addi a 128#32) a).toNat % 128 = a.toNat := by
  have h1 : IntOp.cmpi .slt a 0#32 = 0#1 := by
    revert h; intro h
    have : ¬ (a.slt 0#32) := by
      rw [BitVec.slt_zero_iff_msb_cond, BitVec.msb_eq_decide]
      simp; omega
    simp [IntOp.cmpi, this]
  rw [h1]
  simp [Scalar.select]
  omega

theorem mem_on {t : Shape} (m : IVec t 1) (x : t.Idx) : x ∈ IVec.on m ↔ m x = 1#1 := by
  simp [IVec.on]

theorem zero2 : (![0, 0] : Fin 2 → ℕ) = fun _ => 0 := by funext a; fin_cases a <;> rfl

/-- Word equality, as the comparison answers it. -/
theorem cmpi_eq_one (a b : BitVec 32) : Scalar.cmpi .eq a b = 1#1 ↔ a = b := by
  show BitVec.ofBool (a == b) = 1#1 ↔ a = b
  by_cases h : a = b
  · subst h; simp
  · have : (a == b) = false := by simpa using h
    rw [this]; simp [h]

section
variable (c : Dev nD) (i : grid0.Coords) (M2 : Memref sig .tc .vmem S1280x1024 .bf16)
  (f2 : Bf (F := Ideal) c M2) (f10 : Bf (F := Ideal) c (Memref.whole cc0_scratch1))
  (f13 : Bf (F := Ideal) c (Memref.whole cc0_scratch4)) (f14 : Bf (F := Ideal) c (Memref.whole cc0_scratch5))
  (f17 : Bf (F := Ideal) c (Memref.whole cc0_scratch8))
  (X W : ℕ → ℕ → EReal) (LO TI : ℕ → ℕ → BitVec 32)
  (hW : ∀ j : S1280x1024.Idx, M2.view.read (Elt Ideal) f2 j = W (j 0).val (j 1).val)
  (hX : ∀ j : S320x1024.Idx, (Memref.whole cc0_scratch1).view.read (Elt Ideal) f10 j = X (j 0).val (j 1).val)
  (hLO : ∀ j : S320x128.Idx, (Memref.whole cc0_scratch4).view.read (Elt Ideal) f13 j = LO (j 0).val (j 1).val)
  (hTI : ∀ j : S320x128.Idx, (Memref.whole cc0_scratch5).view.read (Elt Ideal) f14 j = TI (j 0).val (j 1).val)

include hW hX hLO hTI

/-- Tile column 0: the lanes whose token lies in it receive its logit, the others keep what they held. -/
theorem gz_0 (j : S320x128.Idx) (hlt : (LO (j 0).val (j 1).val).toNat < 128) : (Memref.whole cc0_scratch8).view.read (Elt Ideal) (runT.sl.H17_w1 c i M2 f2 f10 f13 f14 f17) j
    = if TI (j 0).val (j 1).val = Scalar.addi (Scalar.muli (runT.sl.v7 i) 10#32) 0#32
        then zN X W (j 0).val (0 + (LO (j 0).val (j 1).val).toNat)
      else (Memref.whole cc0_scratch8).view.read (Elt Ideal) f17 j := by
  rw [runT.sl.H17_w1]
  refine (read_write_masked _ zero2 _ _ _ _ _).trans ?_
  idx_vars j
  refine if_congr ?_ ?_ rfl
  · rw [mem_on]
    pointwise [runT.sl.v60, runT.sl.v63, runT.sl.v57, runT.sl.v53, runT.sl.cst, runT.sl.v56, runT.sl.v61, k0_pay41, k0_pay42, readAt_nat2 hTI, zero_add]
    exact cmpi_eq_one _ _
  · pointwise [runT.sl.v60, runT.sl.v63, runT.sl.v57, runT.sl.v53, runT.sl.cst, runT.sl.v56, runT.sl.v7, runT.sl.v6, runT.sl.v2, runT.sl.v61, k0_pay41, k0_pay42, readAt_nat2 hX, readAt_nat2 hW, readAt_nat2 hLO, lo_nat _ hlt, zN, zero_add]
    try simp only [add_assoc, Nat.reduceAdd, ← Nat.add_assoc]

/-- Tile column 1: the lanes whose token lies in it receive its logit, the others keep what they held. -/
theorem gz_1 (j : S320x128.Idx) (hlt : (LO (j 0).val (j 1).val).toNat < 128) : (Memref.whole cc0_scratch8).view.read (Elt Ideal) (runT.sl.H17_w2 c i M2 f2 f10 f13 f14 f17) j
    = if TI (j 0).val (j 1).val = Scalar.addi (Scalar.muli (runT.sl.v7 i) 10#32) 1#32
        then zN X W (j 0).val (128 + (LO (j 0).val (j 1).val).toNat)
      else (Memref.whole cc0_scratch8).view.read (Elt Ideal) (runT.sl.H17_w1 c i M2 f2 f10 f13 f14 f17) j := by
  rw [runT.sl.H17_w2]
  refine (read_write_masked _ zero2 _ _ _ _ _).trans ?_
  idx_vars j
  refine if_congr ?_ ?_ rfl
  · rw [mem_on]
    pointwise [runT.sl.v60, runT.sl.v98, runT.sl.v57, runT.sl.v53, runT.sl.cst, runT.sl.v56, runT.sl.v61, k0_pay48, k0_pay49, k0_pay43, readAt_nat2 hTI, zero_add]
    exact cmpi_eq_one _ _
  · pointwise [runT.sl.v60, runT.sl.v98, runT.sl.v57, runT.sl.v53, runT.sl.cst, runT.sl.v56, runT.sl.v7, runT.sl.v6, runT.sl.v2, runT.sl.v61, k0_pay48, k0_pay49, k0_pay43, readAt_nat2 hX, readAt_nat2 hW, readAt_nat2 hLO, lo_nat _ hlt, zN, zero_add]
    try simp only [add_assoc, Nat.reduceAdd, ← Nat.add_assoc]

/-- Tile column 2: the lanes whose token lies in it receive its logit, the others keep what they held. -/
theorem gz_2 (j : S320x128.Idx) (hlt : (LO (j 0).val (j 1).val).toNat < 128) : (Memref.whole cc0_scratch8).view.read (Elt Ideal) (runT.sl.H17_w3 c i M2 f2 f10 f13 f14 f17) j
    = if TI (j 0).val (j 1).val = Scalar.addi (Scalar.muli (runT.sl.v7 i) 10#32) 2#32
        then zN X W (j 0).val (256 + (LO (j 0).val (j 1).val).toNat)
      else (Memref.whole cc0_scratch8).view.read (Elt Ideal) (runT.sl.H17_w2 c i M2 f2 f10 f13 f14 f17) j := by
  rw [runT.sl.H17_w3]
  refine (read_write_masked _ zero2 _ _ _ _ _).trans ?_
  idx_vars j
  refine if_congr ?_ ?_ rfl
  · rw [mem_on]
    pointwise [runT.sl.v463, runT.sl.v431, runT.sl.v427, runT.sl.cst, runT.sl.v430, runT.sl.v467, k0_pay103, k0_pay104, k0_pay101, k0_pay97, k0_pay102, readAt_nat2 hTI, zero_add]
    exact cmpi_eq_one _ _
  · pointwise [runT.sl.v463, runT.sl.v431, runT.sl.v427, runT.sl.cst, runT.sl.v430, runT.sl.v467, runT.sl.v7, runT.sl.v6, runT.sl.v2, k0_pay103, k0_pay104, k0_pay101, k0_pay97, k0_pay102, readAt_nat2 hX, readAt_nat2 hW, readAt_nat2 hLO, lo_nat _ hlt, zN, zero_add]
    try simp only [add_assoc, Nat.reduceAdd, ← Nat.add_assoc]

/-- Tile column 3: the lanes whose token lies in it receive its logit, the others keep what they held. -/
theorem gz_3 (j : S320x128.Idx) (hlt : (LO (j 0).val (j 1).val).toNat < 128) : (Memref.whole cc0_scratch8).view.read (Elt Ideal) (runT.sl.H17_w4 c i M2 f2 f10 f13 f14 f17) j
    = if TI (j 0).val (j 1).val = Scalar.addi (Scalar.muli (runT.sl.v7 i) 10#32) 3#32
        then zN X W (j 0).val (384 + (LO (j 0).val (j 1).val).toNat)
      else (Memref.whole cc0_scratch8).view.read (Elt Ideal) (runT.sl.H17_w3 c i M2 f2 f10 f13 f14 f17) j := by
  rw [runT.sl.H17_w4]
  refine (read_write_masked _ zero2 _ _ _ _ _).trans ?_
  idx_vars j
  refine if_congr ?_ ?_ rfl
  · rw [mem_on]
    pointwise [runT.sl.v431, runT.sl.v427, runT.sl.cst, runT.sl.v430, runT.sl.v434, runT.sl.v435, k0_pay108, k0_pay105, k0_pay109, readAt_nat2 hTI, zero_add]
    exact cmpi_eq_one _ _
  · pointwise [runT.sl.v431, runT.sl.v427, runT.sl.cst, runT.sl.v430, runT.sl.v434, runT.sl.v7, runT.sl.v6, runT.sl.v2, runT.sl.v435, k0_pay108, k0_pay105, k0_pay109, readAt_nat2 hX, readAt_nat2 hW, readAt_nat2 hLO, lo_nat _ hlt, zN, zero_add]
    try simp only [add_assoc, Nat.reduceAdd, ← Nat.add_assoc]

/-- Tile column 4: the lanes whose token lies in it receive its logit, the others keep what they held. -/
theorem gz_4 (j : S320x128.Idx) (hlt : (LO (j 0).val (j 1).val).toNat < 128) : (Memref.whole cc0_scratch8).view.read (Elt Ideal) (runT.sl.H17_w5 c i M2 f2 f10 f13 f14 f17) j
    = if TI (j 0).val (j 1).val = Scalar.addi (Scalar.muli (runT.sl.v7 i) 10#32) 4#32
        then zN X W (j 0).val (512 + (LO (j 0).val (j 1).val).toNat)
      else (Memref.whole cc0_scratch8).view.read (Elt Ideal) (runT.sl.H17_w4 c i M2 f2 f10 f13 f14 f17) j := by
  rw [runT.sl.H17_w5]
  refine (read_write_masked _ zero2 _ _ _ _ _).trans ?_
  idx_vars j
  refine if_congr ?_ ?_ rfl
  · rw [mem_on]
    pointwise [runT.sl.v434, runT.sl.v811, runT.sl.v799, runT.sl.v831, runT.sl.v435, k0_pay167, k0_pay168, k0_pay162, k0_pay161, k0_pay166, readAt_nat2 hTI, zero_add]
    exact cmpi_eq_one _ _
  · pointwise [runT.sl.v434, runT.sl.v811, runT.sl.v799, runT.sl.v831, runT.sl.v7, runT.sl.v6, runT.sl.v2, runT.sl.v435, k0_pay167, k0_pay168, k0_pay162, k0_pay161, k0_pay166, readAt_nat2 hX, readAt_nat2 hW, readAt_nat2 hLO, lo_nat _ hlt, zN, zero_add]
    try simp only [add_assoc, Nat.reduceAdd, ← Nat.add_assoc]

/-- Tile column 5: the lanes whose token lies in it receive its logit, the others keep what they held. -/
theorem gz_5 (j : S320x128.Idx) (hlt : (LO (j 0).val (j 1).val).toNat < 128) : (Memref.whole cc0_scratch8).view.read (Elt Ideal) (runT.sl.H17_w6 c i M2 f2 f10 f13 f14 f17) j
    = if TI (j 0).val (j 1).val = Scalar.addi (Scalar.muli (runT.sl.v7 i) 10#32) 5#32
        then zN X W (j 0).val (640 + (LO (j 0).val (j 1).val).toNat)
      else (Memref.whole cc0_scratch8).view.read (Elt Ideal) (runT.sl.H17_w5 c i M2 f2 f10 f13 f14 f17) j := by
  rw [runT.sl.H17_w6]
  refine (read_write_masked _ zero2 _ _ _ _ _).trans ?_
  idx_vars j
  refine if_congr ?_ ?_ rfl
  · rw [mem_on]
    pointwise [runT.sl.v872, runT.sl.v805, runT.sl.v799, runT.sl.v434, runT.sl.v435, runT.sl.v873, k0_pay174, k0_pay175, k0_pay173, k0_pay169, k0_pay161, readAt_nat2 hTI, zero_add]
    exact cmpi_eq_one _ _
  · pointwise [runT.sl.v872, runT.sl.v805, runT.sl.v799, runT.sl.v434, runT.sl.v435, runT.sl.v873, runT.sl.v7, runT.sl.v6, runT.sl.v2, k0_pay174, k0_pay175, k0_pay173, k0_pay169, k0_pay161, readAt_nat2 hX, readAt_nat2 hW, readAt_nat2 hLO, lo_nat _ hlt, zN, zero_add]
    try simp only [add_assoc, Nat.reduceAdd, ← Nat.add_assoc]

/-- Tile column 6: the lanes whose token lies in it receive its logit, the others keep what they held. -/
theorem gz_6 (j : S320x128.Idx) (hlt : (LO (j 0).val (j 1).val).toNat < 128) : (Memref.whole cc0_scratch8).view.read (Elt Ideal) (runT.sl.H17_w7 c i M2 f2 f10 f13 f14 f17) j
    = if TI (j 0).val (j 1).val = Scalar.addi (Scalar.muli (runT.sl.v7 i) 10#32) 6#32
        then zN X W (j 0).val (768 + (LO (j 0).val (j 1).val).toNat)
      else (Memref.whole cc0_scratch8).view.read (Elt Ideal) (runT.sl.H17_w6 c i M2 f2 f10 f13 f14 f17) j := by
  rw [runT.sl.H17_w7]
  refine (read_write_masked _ zero2 _ _ _ _ _).trans ?_
  idx_vars j
  refine if_congr ?_ ?_ rfl
  · rw [mem_on]
    pointwise [runT.sl.v434, runT.sl.v1185, runT.sl.v435, k0_pay237, k0_pay238, k0_pay230, k0_pay229, readAt_nat2 hTI, zero_add]
    exact cmpi_eq_one _ _
  · pointwise [runT.sl.v434, runT.sl.v1185, runT.sl.v7, runT.sl.v6, runT.sl.v2, runT.sl.v435, k0_pay237, k0_pay238, k0_pay230, k0_pay229, readAt_nat2 hX, readAt_nat2 hW, readAt_nat2 hLO, lo_nat _ hlt, zN, zero_add]
    try simp only [add_assoc, Nat.reduceAdd, ← Nat.add_assoc]

/-- Tile column 7: the lanes whose token lies in it receive its logit, the others keep what they held. -/
theorem gz_7 (j : S320x128.Idx) (hlt : (LO (j 0).val (j 1).val).toNat < 128) : (Memref.whole cc0_scratch8).view.read (Elt Ideal) (runT.sl.H17_w8 c i M2 f2 f10 f13 f14 f17) j
    = if TI (j 0).val (j 1).val = Scalar.addi (Scalar.muli (runT.sl.v7 i) 10#32) 7#32
        then zN X W (j 0).val (896 + (LO (j 0).val (j 1).val).toNat)
      else (Memref.whole cc0_scratch8).view.read (Elt Ideal) (runT.sl.H17_w7 c i M2 f2 f10 f13 f14 f17) j := by
  rw [runT.sl.H17_w8]
  refine (read_write_masked _ zero2 _ _ _ _ _).trans ?_
  idx_vars j
  refine if_congr ?_ ?_ rfl
  · rw [mem_on]
    pointwise [runT.sl.v1253, runT.sl.v1246, runT.sl.v1220, runT.sl.v1179, runT.sl.v1245, runT.sl.v1244, runT.sl.v1243, runT.sl.v1240, runT.sl.v434, runT.sl.v1239, runT.sl.v1242, runT.sl.v1241, runT.sl.v1254, runT.sl.v1250, runT.sl.v435, runT.sl.v1249, runT.sl.v1248, runT.sl.v873, k0_pay239, k0_pay229, readAt_nat2 hTI, zero_add]
    exact cmpi_eq_one _ _
  · pointwise [runT.sl.v1253, runT.sl.v1246, runT.sl.v1220, runT.sl.v1179, runT.sl.v1245, runT.sl.v1244, runT.sl.v1243, runT.sl.v1240, runT.sl.v434, runT.sl.v1239, runT.sl.v1242, runT.sl.v1241, runT.sl.v1254, runT.sl.v1250, runT.sl.v435, runT.sl.v1249, runT.sl.v1248, runT.sl.v873, runT.sl.v7, runT.sl.v6, runT.sl.v2, k0_pay239, k0_pay229, readAt_nat2 hX, readAt_nat2 hW, readAt_nat2 hLO, lo_nat _ hlt, zN, zero_add]
    try simp only [add_assoc, Nat.reduceAdd, ← Nat.add_assoc]

/-- Tile column 8: the lanes whose token lies in it receive its logit, the others keep what they held. -/
theorem gz_8 (j : S320x128.Idx) (hlt : (LO (j 0).val (j 1).val).toNat < 128) : (Memref.whole cc0_scratch8).view.read (Elt Ideal) (runT.sl.H17_w9 c i M2 f2 f10 f13 f14 f17) j
    = if TI (j 0).val (j 1).val = Scalar.addi (Scalar.muli (runT.sl.v7 i) 10#32) 8#32
        then zN X W (j 0).val (1024 + (LO (j 0).val (j 1).val).toNat)
      else (Memref.whole cc0_scratch8).view.read (Elt Ideal) (runT.sl.H17_w8 c i M2 f2 f10 f13 f14 f17) j := by
  rw [runT.sl.H17_w9]
  refine (read_write_masked _ zero2 _ _ _ _ _).trans ?_
  idx_vars j
  refine if_congr ?_ ?_ rfl
  · rw [mem_on]
    pointwise [runT.sl.v60, runT.sl.v1559, runT.sl.v1553, runT.sl.v1549, runT.sl.cst, runT.sl.v1552, runT.sl.v61, k0_pay297, k0_pay298, readAt_nat2 hTI, zero_add]
    exact cmpi_eq_one _ _
  · pointwise [runT.sl.v60, runT.sl.v1559, runT.sl.v1553, runT.sl.v1549, runT.sl.cst, runT.sl.v1552, runT.sl.v7, runT.sl.v6, runT.sl.v2, runT.sl.v61, k0_pay297, k0_pay298, readAt_nat2 hX, readAt_nat2 hW, readAt_nat2 hLO, lo_nat _ hlt, zN, zero_add]
    try simp only [add_assoc, Nat.reduceAdd, ← Nat.add_assoc]

/-- Tile column 9: the lanes whose token lies in it receive its logit, the others keep what they held. -/
theorem gz_9 (j : S320x128.Idx) (hlt : (LO (j 0).val (j 1).val).toNat < 128) : (Memref.whole cc0_scratch8).view.read (Elt Ideal) (runT.sl.H17_w10 c i M2 f2 f10 f13 f14 f17) j
    = if TI (j 0).val (j 1).val = Scalar.addi (Scalar.muli (runT.sl.v7 i) 10#32) 9#32
        then zN X W (j 0).val (1152 + (LO (j 0).val (j 1).val).toNat)
      else (Memref.whole cc0_scratch8).view.read (Elt Ideal) (runT.sl.H17_w9 c i M2 f2 f10 f13 f14 f17) j := by
  rw [runT.sl.H17_w10]
  refine (read_write_masked _ zero2 _ _ _ _ _).trans ?_
  idx_vars j
  refine if_congr ?_ ?_ rfl
  · rw [mem_on]
    pointwise [runT.sl.v60, runT.sl.v1594, runT.sl.v1553, runT.sl.v1549, runT.sl.cst, runT.sl.v1552, runT.sl.v61, k0_pay304, k0_pay305, k0_pay299, readAt_nat2 hTI, zero_add]
    exact cmpi_eq_one _ _
  · pointwise [runT.sl.v60, runT.sl.v1594, runT.sl.v1553, runT.sl.v1549, runT.sl.cst, runT.sl.v1552, runT.sl.v7, runT.sl.v6, runT.sl.v2, runT.sl.v61, k0_pay304, k0_pay305, k0_pay299, readAt_nat2 hX, readAt_nat2 hW, readAt_nat2 hLO, lo_nat _ hlt, zN, zero_add]
    try simp only [add_assoc, Nat.reduceAdd, ← Nat.add_assoc]

end

end Cert.KernelIdeal.Hand

end
-- ==== Proof.TileR.lean ====
module

public import proofs.«01_k».proof.Proof.TileZ

@[expose] public section

noncomputable section

namespace Cert.KernelIdeal.Hand

open Cert.KernelIdeal Cert.KernelIdeal.Gen
open Idealize.ShloMosaic Idealize.ShloMosaic.Tactic

/-- Penalised, tempered logit of row `p`, lane `l` of tile column `t`; bit `t` of `WD p l` says the token was seen. -/
def lN (X W RT : ℕ → ℕ → EReal) (WD : ℕ → ℕ → BitVec 32) (p t l : ℕ) : EReal :=
  zN X W p (128 * t + l) * Scalar.select (IntOp.cmpi .ne (IntOp.andi (WD p l) (BitVec.ofNat 32 (2 ^ t))) 0#32)
    (if 0 < zN X W p (128 * t + l) then (Named.named (F := Ideal) (φ := .f32) κ "inv_ctrl" 1061481551#32 : EReal) else (Named.named (F := Ideal) (φ := .f32) κ "ctrl" 1067869798#32 : EReal)) 1
    * RT p l

/-- How far a tile shifts its word: tile `v` takes the bits from `10 (v mod 3)` on. -/
theorem amt (i : grid0.Coords) : runT.sl.v33 i = BitVec.ofNat 32 (10 * ((5 * ((i 0).val % 5) + (i 1).val) % 3)) := by
  have h : ∀ (a : Fin 150) (b : Fin 5), runT.sl.v33 (Fin.cons a (Fin.cons b finZeroElim)) = BitVec.ofNat 32 (10 * ((5 * (a.val % 5) + b.val) % 3)) := by
    decide +kernel
  have e : i = (Fin.cons (i 0) (Fin.cons (i 1) finZeroElim) : grid0.Coords) := by
    funext a
    match a with
    | ⟨0, _⟩ => rfl
    | ⟨1, _⟩ => rfl
  rw [e]; exact h (i 0) (i 1)

/-- The word of a tile's ten seen bits, shifted down. -/
def wdN (MW : ℕ → ℕ → ℕ → BitVec 32) (v p l : ℕ) : BitVec 32 :=
  IntOp.shrsi .vector (MW (v / 3) p l) (BitVec.ofNat 32 (10 * (v % 3)))

section
variable (c : Dev nD) (i : grid0.Coords) (M2 : Memref sig .tc .vmem S1280x1024 .bf16)
  (f2 : Bf (F := Ideal) c M2) (f9 : Bf (F := Ideal) c (Memref.whole cc0_scratch0)) (f10 : Bf (F := Ideal) c (Memref.whole cc0_scratch1))
  (f11 : Bf (F := Ideal) c (Memref.whole cc0_scratch2)) (f15 : Bf (F := Ideal) c (Memref.whole cc0_scratch6))
  (f18 : Bf (F := Ideal) c (Memref.whole cc0_scratch9))
  (X W RT MX : ℕ → ℕ → EReal) (MW : ℕ → ℕ → ℕ → BitVec 32) (WD : ℕ → ℕ → BitVec 32) (R : ℕ → ℕ → ℕ → EReal)
  (hW : ∀ j : S1280x1024.Idx, M2.view.read (Elt Ideal) f2 j = W (j 0).val (j 1).val)
  (hX : ∀ j : S320x1024.Idx, (Memref.whole cc0_scratch1).view.read (Elt Ideal) f10 j = X (j 0).val (j 1).val)
  (hRT : ∀ j : S320x128.Idx, (Memref.whole cc0_scratch6).view.read (Elt Ideal) f15 j = RT (j 0).val (j 1).val)
  (hMX : ∀ j : S320x128.Idx, (Memref.whole cc0_scratch9).view.read (Elt Ideal) f18 j = MX (j 0).val (j 1).val)
  (hMW : ∀ j : S9x320x128.Idx, (Memref.whole cc0_scratch2).view.read (Elt Ideal) f11 j = MW (j 0).val (j 1).val (j 2).val)
  (hWD : ∀ j : S320x128.Idx, runT.sl.v58 (F := Ideal) c i f11 j = WD (j 0).val (j 1).val)
  (hR : ∀ j : S31x320x1280.Idx, (Memref.whole cc0_scratch0).view.read (Elt Ideal) f9 j = R (j 0).val (j 1).val (j 2).val)

include hMW in
theorem word (j : S320x128.Idx) : runT.sl.v58 c i f11 j = wdN MW (5 * ((i 0).val % 5) + (i 1).val) (j 0).val (j 1).val := by
  unfold runT.sl.v58 runT.sl.H12_1
  rw [View.readCov_cons_toLoadRect]
  idx_vars j
  have h0 : k0_off4 i 0 = (5 * ((i 0).val % 5) + (i 1).val) / 3 := by rw [k0_off4_eq]; rfl
  have h1 : k0_off4 i 1 = 0 := by rw [k0_off4_eq]; rfl
  have h2 : k0_off4 i 2 = 0 := by rw [k0_off4_eq]; rfl
  pointwise [runT.sl.v38, runT.sl.v35, runT.sl.v30, runT.sl.v34, readAt_nat3 hMW, amt, wdN, h0, h1, h2, zero_add]

include hW hX hRT hWD

/-- Tile column 0 of the ring's current slot. -/
theorem ring_0 (j : S31x320x1280.Idx) :
    (Memref.whole cc0_scratch0).view.read (Elt Ideal) ((Memref.whole cc0_scratch0).view.writes (Elt Ideal) f9 (runT.sl.H9_1 c i M2 f2 f10 f11 f15)) j
    = if (j 0).val = (5 * (i 0).val + (i 1).val) % 31 ∧ 0 ≤ (j 2).val ∧ (j 2).val < 128 then lN X W RT WD (j 1).val 0 ((j 2).val - 0)
      else (Memref.whole cc0_scratch0).view.read (Elt Ideal) f9 j := by
  rw [runT.sl.H9_1]
  have e432 : runT.sl.v432 c i f11 = runT.sl.v58 (F := Ideal) c i f11 := rfl
  refine writes_step (off' := ![(5 * (i 0).val + (i 1).val) % 31, 0, 0]) _ _ (k0_off5_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 0 + x2.val at h2
      rw [h1, h2, Nat.zero_add, Nat.add_sub_cancel_left]
      pointwise [runT.sl.v59, runT.sl.v63, runT.sl.v57, runT.sl.v53, runT.sl.cst, runT.sl.v56, k0_pay39, k0_pay38, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 0 + x2.val at h2
      omega
  · refine Eq.trans (b := (Memref.whole cc0_scratch0).view.read (Elt Ideal) f9 j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 0 ≤ (j 2).val ∧ (j 2).val < 0 + 128
      omega

/-- Tile column 1 of the ring's current slot. -/
theorem ring_1 (j : S31x320x1280.Idx) :
    (Memref.whole cc0_scratch0).view.read (Elt Ideal) ((Memref.whole cc0_scratch0).view.writes (Elt Ideal) f9 (runT.sl.H9_2 c i M2 f2 f10 f11 f15)) j
    = if (j 0).val = (5 * (i 0).val + (i 1).val) % 31 ∧ 128 ≤ (j 2).val ∧ (j 2).val < 256 then lN X W RT WD (j 1).val 1 ((j 2).val - 128)
      else (Memref.whole cc0_scratch0).view.read (Elt Ideal) ((Memref.whole cc0_scratch0).view.writes (Elt Ideal) f9 (runT.sl.H9_1 c i M2 f2 f10 f11 f15)) j := by
  rw [runT.sl.H9_2]
  have e432 : runT.sl.v432 c i f11 = runT.sl.v58 (F := Ideal) c i f11 := rfl
  refine writes_step (off' := ![(5 * (i 0).val + (i 1).val) % 31, 0, 128]) _ _ (k0_off6_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 128 + x2.val at h2
      rw [h1, h2, Nat.zero_add, Nat.add_sub_cancel_left]
      pointwise [runT.sl.v59, runT.sl.v98, runT.sl.v57, runT.sl.v53, runT.sl.cst, runT.sl.v56, runT.sl.v102, runT.sl.v104, runT.sl.cst_56, k0_pay47, k0_pay46, k0_pay43, k0_pay44, k0_pay45, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 128 + x2.val at h2
      omega
  · refine Eq.trans (b := (Memref.whole cc0_scratch0).view.read (Elt Ideal) ((Memref.whole cc0_scratch0).view.writes (Elt Ideal) f9 (runT.sl.H9_1 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 128 ≤ (j 2).val ∧ (j 2).val < 128 + 128
      omega

/-- Tile column 2 of the ring's current slot. -/
theorem ring_2 (j : S31x320x1280.Idx) :
    (Memref.whole cc0_scratch0).view.read (Elt Ideal) ((Memref.whole cc0_scratch0).view.writes (Elt Ideal) f9 (runT.sl.H9_3 c i M2 f2 f10 f11 f15)) j
    = if (j 0).val = (5 * (i 0).val + (i 1).val) % 31 ∧ 256 ≤ (j 2).val ∧ (j 2).val < 384 then lN X W RT WD (j 1).val 2 ((j 2).val - 256)
      else (Memref.whole cc0_scratch0).view.read (Elt Ideal) ((Memref.whole cc0_scratch0).view.writes (Elt Ideal) f9 (runT.sl.H9_2 c i M2 f2 f10 f11 f15)) j := by
  rw [runT.sl.H9_3]
  have e432 : runT.sl.v432 c i f11 = runT.sl.v58 (F := Ideal) c i f11 := rfl
  refine writes_step (off' := ![(5 * (i 0).val + (i 1).val) % 31, 0, 256]) _ _ (k0_off27_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 256 + x2.val at h2
      rw [h1, h2, Nat.zero_add, Nat.add_sub_cancel_left]
      pointwise [runT.sl.v431, runT.sl.v427, runT.sl.cst, runT.sl.v430, k0_pay99, k0_pay98, k0_pay97, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 256 + x2.val at h2
      omega
  · refine Eq.trans (b := (Memref.whole cc0_scratch0).view.read (Elt Ideal) ((Memref.whole cc0_scratch0).view.writes (Elt Ideal) f9 (runT.sl.H9_2 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 256 ≤ (j 2).val ∧ (j 2).val < 256 + 128
      omega

/-- Tile column 3 of the ring's current slot. -/
theorem ring_3 (j : S31x320x1280.Idx) :
    (Memref.whole cc0_scratch0).view.read (Elt Ideal) ((Memref.whole cc0_scratch0).view.writes (Elt Ideal) f9 (runT.sl.H9_4 c i M2 f2 f10 f11 f15)) j
    = if (j 0).val = (5 * (i 0).val + (i 1).val) % 31 ∧ 384 ≤ (j 2).val ∧ (j 2).val < 512 then lN X W RT WD (j 1).val 3 ((j 2).val - 384)
      else (Memref.whole cc0_scratch0).view.read (Elt Ideal) ((Memref.whole cc0_scratch0).view.writes (Elt Ideal) f9 (runT.sl.H9_3 c i M2 f2 f10 f11 f15)) j := by
  rw [runT.sl.H9_4]
  have e432 : runT.sl.v432 c i f11 = runT.sl.v58 (F := Ideal) c i f11 := rfl
  refine writes_step (off' := ![(5 * (i 0).val + (i 1).val) % 31, 0, 384]) _ _ (k0_off28_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 384 + x2.val at h2
      rw [h1, h2, Nat.zero_add, Nat.add_sub_cancel_left]
      pointwise [runT.sl.v431, runT.sl.v427, runT.sl.cst, runT.sl.v430, runT.sl.v433, k0_pay107, k0_pay106, k0_pay105, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 384 + x2.val at h2
      omega
  · refine Eq.trans (b := (Memref.whole cc0_scratch0).view.read (Elt Ideal) ((Memref.whole cc0_scratch0).view.writes (Elt Ideal) f9 (runT.sl.H9_3 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 384 ≤ (j 2).val ∧ (j 2).val < 384 + 128
      omega

/-- Tile column 4 of the ring's current slot. -/
theorem ring_4 (j : S31x320x1280.Idx) :
    (Memref.whole cc0_scratch0).view.read (Elt Ideal) ((Memref.whole cc0_scratch0).view.writes (Elt Ideal) f9 (runT.sl.H9_5 c i M2 f2 f10 f11 f15)) j
    = if (j 0).val = (5 * (i 0).val + (i 1).val) % 31 ∧ 512 ≤ (j 2).val ∧ (j 2).val < 640 then lN X W RT WD (j 1).val 4 ((j 2).val - 512)
      else (Memref.whole cc0_scratch0).view.read (Elt Ideal) ((Memref.whole cc0_scratch0).view.writes (Elt Ideal) f9 (runT.sl.H9_4 c i M2 f2 f10 f11 f15)) j := by
  rw [runT.sl.H9_5]
  have e432 : runT.sl.v432 c i f11 = runT.sl.v58 (F := Ideal) c i f11 := rfl
  refine writes_step (off' := ![(5 * (i 0).val + (i 1).val) % 31, 0, 512]) _ _ (k0_off29_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 512 + x2.val at h2
      rw [h1, h2, Nat.zero_add, Nat.add_sub_cancel_left]
      pointwise [runT.sl.v799, k0_pay164, k0_pay163, k0_pay162, k0_pay161, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 512 + x2.val at h2
      omega
  · refine Eq.trans (b := (Memref.whole cc0_scratch0).view.read (Elt Ideal) ((Memref.whole cc0_scratch0).view.writes (Elt Ideal) f9 (runT.sl.H9_4 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 512 ≤ (j 2).val ∧ (j 2).val < 512 + 128
      omega

/-- Tile column 5 of the ring's current slot. -/
theorem ring_5 (j : S31x320x1280.Idx) :
    (Memref.whole cc0_scratch0).view.read (Elt Ideal) ((Memref.whole cc0_scratch0).view.writes (Elt Ideal) f9 (runT.sl.H9_6 c i M2 f2 f10 f11 f15)) j
    = if (j 0).val = (5 * (i 0).val + (i 1).val) % 31 ∧ 640 ≤ (j 2).val ∧ (j 2).val < 768 then lN X W RT WD (j 1).val 5 ((j 2).val - 640)
      else (Memref.whole cc0_scratch0).view.read (Elt Ideal) ((Memref.whole cc0_scratch0).view.writes (Elt Ideal) f9 (runT.sl.H9_5 c i M2 f2 f10 f11 f15)) j := by
  rw [runT.sl.H9_6]
  have e432 : runT.sl.v432 c i f11 = runT.sl.v58 (F := Ideal) c i f11 := rfl
  refine writes_step (off' := ![(5 * (i 0).val + (i 1).val) % 31, 0, 640]) _ _ (k0_off30_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 640 + x2.val at h2
      rw [h1, h2, Nat.zero_add, Nat.add_sub_cancel_left]
      pointwise [runT.sl.v805, runT.sl.v799, runT.sl.v433, k0_pay171, k0_pay170, k0_pay169, k0_pay161, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 640 + x2.val at h2
      omega
  · refine Eq.trans (b := (Memref.whole cc0_scratch0).view.read (Elt Ideal) ((Memref.whole cc0_scratch0).view.writes (Elt Ideal) f9 (runT.sl.H9_5 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 640 ≤ (j 2).val ∧ (j 2).val < 640 + 128
      omega

/-- Tile column 6 of the ring's current slot. -/
theorem ring_6 (j : S31x320x1280.Idx) :
    (Memref.whole cc0_scratch0).view.read (Elt Ideal) ((Memref.whole cc0_scratch0).view.writes (Elt Ideal) f9 (runT.sl.H9_7 c i M2 f2 f10 f11 f15)) j
    = if (j 0).val = (5 * (i 0).val + (i 1).val) % 31 ∧ 768 ≤ (j 2).val ∧ (j 2).val < 896 then lN X W RT WD (j 1).val 6 ((j 2).val - 768)
      else (Memref.whole cc0_scratch0).view.read (Elt Ideal) ((Memref.whole cc0_scratch0).view.writes (Elt Ideal) f9 (runT.sl.H9_6 c i M2 f2 f10 f11 f15)) j := by
  rw [runT.sl.H9_7]
  have e432 : runT.sl.v432 c i f11 = runT.sl.v58 (F := Ideal) c i f11 := rfl
  refine writes_step (off' := ![(5 * (i 0).val + (i 1).val) % 31, 0, 768]) _ _ (k0_off31_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 768 + x2.val at h2
      rw [h1, h2, Nat.zero_add, Nat.add_sub_cancel_left]
      pointwise [runT.sl.v433, runT.sl.v1185, runT.sl.v1189, runT.sl.v1194, k0_pay235, k0_pay234, k0_pay233, k0_pay230, k0_pay229, k0_pay231, k0_pay232, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 768 + x2.val at h2
      omega
  · refine Eq.trans (b := (Memref.whole cc0_scratch0).view.read (Elt Ideal) ((Memref.whole cc0_scratch0).view.writes (Elt Ideal) f9 (runT.sl.H9_6 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 768 ≤ (j 2).val ∧ (j 2).val < 768 + 128
      omega

/-- Tile column 7 of the ring's current slot. -/
theorem ring_7 (j : S31x320x1280.Idx) :
    (Memref.whole cc0_scratch0).view.read (Elt Ideal) ((Memref.whole cc0_scratch0).view.writes (Elt Ideal) f9 (runT.sl.H9_8 c i M2 f2 f10 f11 f15)) j
    = if (j 0).val = (5 * (i 0).val + (i 1).val) % 31 ∧ 896 ≤ (j 2).val ∧ (j 2).val < 1024 then lN X W RT WD (j 1).val 7 ((j 2).val - 896)
      else (Memref.whole cc0_scratch0).view.read (Elt Ideal) ((Memref.whole cc0_scratch0).view.writes (Elt Ideal) f9 (runT.sl.H9_7 c i M2 f2 f10 f11 f15)) j := by
  rw [runT.sl.H9_8]
  have e432 : runT.sl.v432 c i f11 = runT.sl.v58 (F := Ideal) c i f11 := rfl
  refine writes_step (off' := ![(5 * (i 0).val + (i 1).val) % 31, 0, 896]) _ _ (k0_off32_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 896 + x2.val at h2
      rw [h1, h2, Nat.zero_add, Nat.add_sub_cancel_left]
      pointwise [runT.sl.v1237, runT.sl.v1179, runT.sl.v433, k0_pay241, k0_pay240, k0_pay239, k0_pay229, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 896 + x2.val at h2
      omega
  · refine Eq.trans (b := (Memref.whole cc0_scratch0).view.read (Elt Ideal) ((Memref.whole cc0_scratch0).view.writes (Elt Ideal) f9 (runT.sl.H9_7 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 896 ≤ (j 2).val ∧ (j 2).val < 896 + 128
      omega

/-- Tile column 8 of the ring's current slot. -/
theorem ring_8 (j : S31x320x1280.Idx) :
    (Memref.whole cc0_scratch0).view.read (Elt Ideal) ((Memref.whole cc0_scratch0).view.writes (Elt Ideal) f9 (runT.sl.H9_9 c i M2 f2 f10 f11 f15)) j
    = if (j 0).val = (5 * (i 0).val + (i 1).val) % 31 ∧ 1024 ≤ (j 2).val ∧ (j 2).val < 1152 then lN X W RT WD (j 1).val 8 ((j 2).val - 1024)
      else (Memref.whole cc0_scratch0).view.read (Elt Ideal) ((Memref.whole cc0_scratch0).view.writes (Elt Ideal) f9 (runT.sl.H9_8 c i M2 f2 f10 f11 f15)) j := by
  rw [runT.sl.H9_9]
  have e432 : runT.sl.v432 c i f11 = runT.sl.v58 (F := Ideal) c i f11 := rfl
  refine writes_step (off' := ![(5 * (i 0).val + (i 1).val) % 31, 0, 1024]) _ _ (k0_off33_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 1024 + x2.val at h2
      rw [h1, h2, Nat.zero_add, Nat.add_sub_cancel_left]
      pointwise [runT.sl.v59, runT.sl.v1559, runT.sl.v1553, runT.sl.v1549, runT.sl.cst, runT.sl.v1552, k0_pay295, k0_pay294, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 1024 + x2.val at h2
      omega
  · refine Eq.trans (b := (Memref.whole cc0_scratch0).view.read (Elt Ideal) ((Memref.whole cc0_scratch0).view.writes (Elt Ideal) f9 (runT.sl.H9_8 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 1024 ≤ (j 2).val ∧ (j 2).val < 1024 + 128
      omega

/-- Tile column 9 of the ring's current slot. -/
theorem ring_9 (j : S31x320x1280.Idx) :
    (Memref.whole cc0_scratch0).view.read (Elt Ideal) ((Memref.whole cc0_scratch0).view.writes (Elt Ideal) f9 (runT.sl.H9_10 c i M2 f2 f10 f11 f15)) j
    = if (j 0).val = (5 * (i 0).val + (i 1).val) % 31 ∧ 1152 ≤ (j 2).val ∧ (j 2).val < 1280 then lN X W RT WD (j 1).val 9 ((j 2).val - 1152)
      else (Memref.whole cc0_scratch0).view.read (Elt Ideal) ((Memref.whole cc0_scratch0).view.writes (Elt Ideal) f9 (runT.sl.H9_9 c i M2 f2 f10 f11 f15)) j := by
  rw [runT.sl.H9_10]
  have e432 : runT.sl.v432 c i f11 = runT.sl.v58 (F := Ideal) c i f11 := rfl
  refine writes_step (off' := ![(5 * (i 0).val + (i 1).val) % 31, 0, 1152]) _ _ (k0_off34_eq i) _ _ (fun x hx => ?_) (fun hn => ?_)
  · have h0 := hx 0
    have h1 := hx 1
    have h2 := hx 2
    idx_vars x
    rw [if_pos]
    · change (j 0).val = (5 * (i 0).val + (i 1).val) % 31 + x0.val at h0
      change (j 1).val = 0 + x1.val at h1
      change (j 2).val = 1152 + x2.val at h2
      rw [h1, h2, Nat.zero_add, Nat.add_sub_cancel_left]
      pointwise [runT.sl.v59, runT.sl.v1594, runT.sl.v1553, runT.sl.v1549, runT.sl.cst, runT.sl.v1552, runT.sl.v1598, runT.sl.v1600, runT.sl.cst_56, k0_pay303, k0_pay302, k0_pay299, k0_pay300, k0_pay301, e432, hWD, readAt_nat2 hX, readAt_nat2 hW, readAt_nat2 hRT, lN, zN, zero_add, Nat.reducePow, Nat.reduceMul]
      try simp only [← Nat.add_assoc, Nat.reduceAdd]
    · change (j 0).val = (5 * (i 0).val + (i 1).val) % 31 + x0.val at h0
      change (j 2).val = 1152 + x2.val at h2
      omega
  · refine Eq.trans (b := (Memref.whole cc0_scratch0).view.read (Elt Ideal) ((Memref.whole cc0_scratch0).view.writes (Elt Ideal) f9 (runT.sl.H9_9 c i M2 f2 f10 f11 f15)) j) rfl (if_neg ?_).symm
    rintro ⟨h0, h1, h2⟩
    refine hn fun a => ?_
    have := (j 1).isLt
    fin_cases a
    · change (5 * (i 0).val + (i 1).val) % 31 ≤ (j 0).val ∧ (j 0).val < (5 * (i 0).val + (i 1).val) % 31 + 1
      omega
    · change 0 ≤ (j 1).val ∧ (j 1).val < 0 + 320
      exact ⟨Nat.zero_le _, by simpa using this⟩
    · change 1152 ≤ (j 2).val ∧ (j 2).val < 1152 + 128
      omega

omit hW hX hRT hWD
/-- Running maxima over tile columns, two at a time. -/
def mxN (X W RT : ℕ → ℕ → EReal) (WD : ℕ → ℕ → BitVec 32) (MX : ℕ → ℕ → EReal) : ℕ → ℕ → ℕ → EReal
  | 0, p, l => MX p l
  | k + 1, p, l => max (max (mxN X W RT WD MX k p l) (lN X W RT WD p (2 * k) l)) (lN X W RT WD p (2 * k + 1) l)

include hW hX hRT hMX hWD

/-- The running maxima after tile columns below 2. -/
theorem max_1 (g : Bf (F := Ideal) c (Memref.whole cc0_scratch9)) (j : S320x128.Idx) :
    (Memref.whole cc0_scratch9).view.read (Elt Ideal) ((Memref.whole cc0_scratch9).view.writes (Elt Ideal) g (runT.sl.H18_1 c i M2 f2 f10 f11 f15 f18)) j
    = mxN X W RT WD MX 1 (j 0).val (j 1).val := by
  rw [runT.sl.H18_1]
  have e432 : runT.sl.v432 c i f11 = runT.sl.v58 (F := Ideal) c i f11 := rfl
  refine writes_step (s := S320x128) (off' := ![0, 0]) _ _ rfl _ _ (fun x hx => ?_) (fun hn => ?_)
  · have h0 : (j 0).val = 0 + (x 0).val := hx 0
    have h1 : (j 1).val = 0 + (x 1).val := hx 1
    rw [h0, h1]
    idx_vars x
    pointwise [runT.sl.v59, runT.sl.v81, runT.sl.v62, runT.sl.v63, runT.sl.v57, runT.sl.v53, runT.sl.cst, runT.sl.v56, runT.sl.v98, runT.sl.v102, runT.sl.v104, runT.sl.cst_56, k0_pay50, k0_pay46, k0_pay40, k0_pay38, k0_pay43, k0_pay44, k0_pay45, e432, hWD, View.readCov, readAt_nat2 hX, readAt_nat2 hW, readAt_nat2 hRT, readAt_nat2 hMX, mxN, lN, zN, zero_add, Nat.reducePow, Nat.reduceMul, Nat.reduceAdd]
    try simp only [← Nat.add_assoc, Nat.reduceAdd]
  · refine absurd (fun a => ?_) hn
    have h0 : (j 0).val < 320 := (j 0).isLt
    have h1 : (j 1).val < 128 := (j 1).isLt
    fin_cases a
    · change 0 ≤ (j 0).val ∧ (j 0).val < 0 + 320
      omega
    · change 0 ≤ (j 1).val ∧ (j 1).val < 0 + 128
      omega

/-- The running maxima after tile columns below 4. -/
theorem max_2 (g : Bf (F := Ideal) c (Memref.whole cc0_scratch9)) (j : S320x128.Idx) :
    (Memref.whole cc0_scratch9).view.read (Elt Ideal) ((Memref.whole cc0_scratch9).view.writes (Elt Ideal) g (runT.sl.H18_2 c i M2 f2 f10 f11 f15 f18)) j
    = mxN X W RT WD MX 2 (j 0).val (j 1).val := by
  rw [runT.sl.H18_2]
  have e432 : runT.sl.v432 c i f11 = runT.sl.v58 (F := Ideal) c i f11 := rfl
  have prev := max_1 c i M2 f2 f10 f11 f15 f18 X W RT MX WD hW hX hRT hMX hWD (Memref.whole cc0_scratch9).view.junk
  refine writes_step (s := S320x128) (off' := ![0, 0]) _ _ rfl _ _ (fun x hx => ?_) (fun hn => ?_)
  · have h0 : (j 0).val = 0 + (x 0).val := hx 0
    have h1 : (j 1).val = 0 + (x 1).val := hx 1
    rw [h0, h1]
    idx_vars x
    pointwise [runT.sl.v509, runT.sl.v431, runT.sl.v427, runT.sl.cst, runT.sl.v430, runT.sl.v433, runT.sl.v455, runT.sl.v436, k0_pay110, k0_pay106, k0_pay105, k0_pay100, k0_pay98, k0_pay97, e432, hWD, View.readCov, readAt_nat2 hX, readAt_nat2 hW, readAt_nat2 hRT, readAt_nat2 prev, mxN, lN, zN, zero_add, Nat.reducePow, Nat.reduceMul, Nat.reduceAdd]
    try simp only [← Nat.add_assoc, Nat.reduceAdd]
  · refine absurd (fun a => ?_) hn
    have h0 : (j 0).val < 320 := (j 0).isLt
    have h1 : (j 1).val < 128 := (j 1).isLt
    fin_cases a
    · change 0 ≤ (j 0).val ∧ (j 0).val < 0 + 320
      omega
    · change 0 ≤ (j 1).val ∧ (j 1).val < 0 + 128
      omega

/-- The running maxima after tile columns below 6. -/
theorem max_3 (g : Bf (F := Ideal) c (Memref.whole cc0_scratch9)) (j : S320x128.Idx) :
    (Memref.whole cc0_scratch9).view.read (Elt Ideal) ((Memref.whole cc0_scratch9).view.writes (Elt Ideal) g (runT.sl.H18_3 c i M2 f2 f10 f11 f15 f18)) j
    = mxN X W RT WD MX 3 (j 0).val (j 1).val := by
  rw [runT.sl.H18_3]
  have e432 : runT.sl.v432 c i f11 = runT.sl.v58 (F := Ideal) c i f11 := rfl
  have prev := max_2 c i M2 f2 f10 f11 f15 f18 X W RT MX WD hW hX hRT hMX hWD (Memref.whole cc0_scratch9).view.junk
  refine writes_step (s := S320x128) (off' := ![0, 0]) _ _ rfl _ _ (fun x hx => ?_) (fun hn => ?_)
  · have h0 : (j 0).val = 0 + (x 0).val := hx 0
    have h1 : (j 1).val = 0 + (x 1).val := hx 1
    rw [h0, h1]
    idx_vars x
    pointwise [runT.sl.v864, runT.sl.v805, runT.sl.v799, runT.sl.v433, runT.sl.v829, runT.sl.v810, k0_pay176, k0_pay172, k0_pay170, k0_pay169, k0_pay161, k0_pay165, k0_pay163, k0_pay162, e432, hWD, View.readCov, readAt_nat2 hX, readAt_nat2 hW, readAt_nat2 hRT, readAt_nat2 prev, mxN, lN, zN, zero_add, Nat.reducePow, Nat.reduceMul, Nat.reduceAdd]
    try simp only [← Nat.add_assoc, Nat.reduceAdd]
  · refine absurd (fun a => ?_) hn
    have h0 : (j 0).val < 320 := (j 0).isLt
    have h1 : (j 1).val < 128 := (j 1).isLt
    fin_cases a
    · change 0 ≤ (j 0).val ∧ (j 0).val < 0 + 320
      omega
    · change 0 ≤ (j 1).val ∧ (j 1).val < 0 + 128
      omega

/-- The running maxima after tile columns below 8. -/
theorem max_4 (g : Bf (F := Ideal) c (Memref.whole cc0_scratch9)) (j : S320x128.Idx) :
    (Memref.whole cc0_scratch9).view.read (Elt Ideal) ((Memref.whole cc0_scratch9).view.writes (Elt Ideal) g (runT.sl.H18_4 c i M2 f2 f10 f11 f15 f18)) j
    = mxN X W RT WD MX 4 (j 0).val (j 1).val := by
  rw [runT.sl.H18_4]
  have e432 : runT.sl.v432 c i f11 = runT.sl.v58 (F := Ideal) c i f11 := rfl
  have prev := max_3 c i M2 f2 f10 f11 f15 f18 X W RT MX WD hW hX hRT hMX hWD (Memref.whole cc0_scratch9).view.junk
  refine writes_step (s := S320x128) (off' := ![0, 0]) _ _ rfl _ _ (fun x hx => ?_) (fun hn => ?_)
  · have h0 : (j 0).val = 0 + (x 0).val := hx 0
    have h1 : (j 1).val = 0 + (x 1).val := hx 1
    rw [h0, h1]
    idx_vars x
    pointwise [runT.sl.v1257, runT.sl.v1238, runT.sl.v1203, runT.sl.v433, runT.sl.v1184, runT.sl.v1185, runT.sl.v1189, runT.sl.v1194, runT.sl.v1233, runT.sl.v1179, k0_pay236, k0_pay234, k0_pay233, k0_pay230, k0_pay229, k0_pay231, k0_pay232, k0_pay240, k0_pay239, e432, hWD, View.readCov, readAt_nat2 hX, readAt_nat2 hW, readAt_nat2 hRT, readAt_nat2 prev, mxN, lN, zN, zero_add, Nat.reducePow, Nat.reduceMul, Nat.reduceAdd]
    try simp only [← Nat.add_assoc, Nat.reduceAdd]
  · refine absurd (fun a => ?_) hn
    have h0 : (j 0).val < 320 := (j 0).isLt
    have h1 : (j 1).val < 128 := (j 1).isLt
    fin_cases a
    · change 0 ≤ (j 0).val ∧ (j 0).val < 0 + 320
      omega
    · change 0 ≤ (j 1).val ∧ (j 1).val < 0 + 128
      omega

/-- The running maxima after tile columns below 10. -/
theorem max_5 (g : Bf (F := Ideal) c (Memref.whole cc0_scratch9)) (j : S320x128.Idx) :
    (Memref.whole cc0_scratch9).view.read (Elt Ideal) ((Memref.whole cc0_scratch9).view.writes (Elt Ideal) g (runT.sl.H18_5 c i M2 f2 f10 f11 f15 f18)) j
    = mxN X W RT WD MX 5 (j 0).val (j 1).val := by
  rw [runT.sl.H18_5]
  have e432 : runT.sl.v432 c i f11 = runT.sl.v58 (F := Ideal) c i f11 := rfl
  have prev := max_4 c i M2 f2 f10 f11 f15 f18 X W RT MX WD hW hX hRT hMX hWD (Memref.whole cc0_scratch9).view.junk
  refine writes_step (s := S320x128) (off' := ![0, 0]) _ _ rfl _ _ (fun x hx => ?_) (fun hn => ?_)
  · have h0 : (j 0).val = 0 + (x 0).val := hx 0
    have h1 : (j 1).val = 0 + (x 1).val := hx 1
    rw [h0, h1]
    idx_vars x
    pointwise [runT.sl.v59, runT.sl.v1577, runT.sl.v1558, runT.sl.v1559, runT.sl.v1553, runT.sl.v1549, runT.sl.cst, runT.sl.v1552, runT.sl.v1594, runT.sl.v1598, runT.sl.v1600, runT.sl.cst_56, k0_pay306, k0_pay302, k0_pay296, k0_pay294, k0_pay299, k0_pay300, k0_pay301, e432, hWD, View.readCov, readAt_nat2 hX, readAt_nat2 hW, readAt_nat2 hRT, readAt_nat2 prev, mxN, lN, zN, zero_add, Nat.reducePow, Nat.reduceMul, Nat.reduceAdd]
    try simp only [← Nat.add_assoc, Nat.reduceAdd]
  · refine absurd (fun a => ?_) hn
    have h0 : (j 0).val < 320 := (j 0).isLt
    have h1 : (j 1).val < 128 := (j 1).isLt
    fin_cases a
    · change 0 ≤ (j 0).val ∧ (j 0).val < 0 + 320
      omega
    · change 0 ≤ (j 1).val ∧ (j 1).val < 0 + 128
      omega

end
end Cert.KernelIdeal.Hand

end
-- ==== Proof.TileA.lean ====
module

public import proofs.«01_k».proof.Proof.TileR

@[expose] public section

noncomputable section

namespace Cert.KernelIdeal.Hand

open Cert.KernelIdeal Cert.KernelIdeal.Gen
open Idealize.ShloMosaic Idealize.ShloMosaic.Tactic

/-- A load of 64 rows of a ring slot other than the current one. -/
theorem ld_ring {c : Dev nD} {g : Bf (F := Ideal) c (Memref.whole cc0_scratch0)} {R : ℕ → ℕ → ℕ → EReal} {s : ℕ}
    (hg : ∀ j : S31x320x1280.Idx, (j 0).val ≠ s → (Memref.whole cc0_scratch0).view.read (Elt Ideal) g j = R (j 0).val (j 1).val (j 2).val)
    {off : Fin 3 → ℕ} {a b d : ℕ} (ho : off = ![a, b, d]) (ha : a ≠ s) (inb : ∀ k : Fin 3, off k + S1x64x128.size k ≤ S31x320x1280.size k)
    (x : S1x64x128.Idx) :
    (Memref.whole cc0_scratch0).view.readAt (Elt Ideal) (Rect.unit (s := S31x320x1280) off S1x64x128.size inb).toLoadRect g x
      = R a (b + (x 1).val) (d + (x 2).val) := by
  subst ho
  have h0 : (x 0).val = 0 := by have h : (x 0).val < 1 := (x 0).isLt; omega
  rw [View.readAt_eq_ld]
  show (Memref.whole cc0_scratch0).view.read (Elt Ideal) g _ = _
  rw [hg]
  · show R (a + 1 * (x 0).val) (b + 1 * (x 1).val) (d + 1 * (x 2).val) = _
    simp only [h0, Nat.one_mul, Nat.mul_zero, Nat.add_zero]
  · show a + 1 * (x 0).val ≠ s
    rw [h0]; omega

section
variable (c : Dev nD) (i : grid0.Coords) (M2 : Memref sig .tc .vmem S1280x1024 .bf16)
  (f2 : Bf (F := Ideal) c M2) (f9 : Bf (F := Ideal) c (Memref.whole cc0_scratch0)) (f10 : Bf (F := Ideal) c (Memref.whole cc0_scratch1))
  (f11 : Bf (F := Ideal) c (Memref.whole cc0_scratch2)) (f15 : Bf (F := Ideal) c (Memref.whole cc0_scratch6))
  (X W RT : ℕ → ℕ → EReal) (WD : ℕ → ℕ → BitVec 32) (R : ℕ → ℕ → ℕ → EReal)
  (hW : ∀ j : S1280x1024.Idx, M2.view.read (Elt Ideal) f2 j = W (j 0).val (j 1).val)
  (hX : ∀ j : S320x1024.Idx, (Memref.whole cc0_scratch1).view.read (Elt Ideal) f10 j = X (j 0).val (j 1).val)
  (hRT : ∀ j : S320x128.Idx, (Memref.whole cc0_scratch6).view.read (Elt Ideal) f15 j = RT (j 0).val (j 1).val)
  (hWD : ∀ j : S320x128.Idx, runT.sl.v58 (F := Ideal) c i f11 j = WD (j 0).val (j 1).val)
  (hR : ∀ j : S31x320x1280.Idx, (Memref.whole cc0_scratch0).view.read (Elt Ideal) f9 j = R (j 0).val (j 1).val (j 2).val)

include hW hX hRT hWD hR

/-- Off the current slot, the ring after 2 tile columns is as it was. -/
theorem off_slot_2 (j : S31x320x1280.Idx) (h : (j 0).val ≠ (5 * (i 0).val + (i 1).val) % 31) :
    (Memref.whole cc0_scratch0).view.read (Elt Ideal) ((Memref.whole cc0_scratch0).view.writes (Elt Ideal) f9 (runT.sl.H9_2 c i M2 f2 f10 f11 f15)) j
      = R (j 0).val (j 1).val (j 2).val := by
  rw [ring_1 c i M2 f2 f9 f10 f11 f15 X W RT WD hW hX hRT hWD, if_neg fun hh => h hh.1,
    ring_0 c i M2 f2 f9 f10 f11 f15 X W RT WD hW hX hRT hWD, if_neg fun hh => h hh.1]
  exact hR j

/-- Off the current slot, the ring after 4 tile columns is as it was. -/
theorem off_slot_4 (j : S31x320x1280.Idx) (h : (j 0).val ≠ (5 * (i 0).val + (i 1).val) % 31) :
    (Memref.whole cc0_scratch0).view.read (Elt Ideal) ((Memref.whole cc0_scratch0).view.writes (Elt Ideal) f9 (runT.sl.H9_4 c i M2 f2 f10 f11 f15)) j
      = R (j 0).val (j 1).val (j 2).val := by
  rw [ring_3 c i M2 f2 f9 f10 f11 f15 X W RT WD hW hX hRT hWD, if_neg fun hh => h hh.1,
    ring_2 c i M2 f2 f9 f10 f11 f15 X W RT WD hW hX hRT hWD, if_neg fun hh => h hh.1]
  exact off_slot_2 c i M2 f2 f9 f10 f11 f15 X W RT WD R hW hX hRT hWD hR j h

/-- Off the current slot, the ring after 6 tile columns is as it was. -/
theorem off_slot_6 (j : S31x320x1280.Idx) (h : (j 0).val ≠ (5 * (i 0).val + (i 1).val) % 31) :
    (Memref.whole cc0_scratch0).view.read (Elt Ideal) ((Memref.whole cc0_scratch0).view.writes (Elt Ideal) f9 (runT.sl.H9_6 c i M2 f2 f10 f11 f15)) j
      = R (j 0).val (j 1).val (j 2).val := by
  rw [ring_5 c i M2 f2 f9 f10 f11 f15 X W RT WD hW hX hRT hWD, if_neg fun hh => h hh.1,
    ring_4 c i M2 f2 f9 f10 f11 f15 X W RT WD hW hX hRT hWD, if_neg fun hh => h hh.1]
  exact off_slot_4 c i M2 f2 f9 f10 f11 f15 X W RT WD R hW hX hRT hWD hR j h

/-- Off the current slot, the ring after 8 tile columns is as it was. -/
theorem off_slot_8 (j : S31x320x1280.Idx) (h : (j 0).val ≠ (5 * (i 0).val + (i 1).val) % 31) :
    (Memref.whole cc0_scratch0).view.read (Elt Ideal) ((Memref.whole cc0_scratch0).view.writes (Elt Ideal) f9 (runT.sl.H9_8 c i M2 f2 f10 f11 f15)) j
      = R (j 0).val (j 1).val (j 2).val := by
  rw [ring_7 c i M2 f2 f9 f10 f11 f15 X W RT WD hW hX hRT hWD, if_neg fun hh => h hh.1,
    ring_6 c i M2 f2 f9 f10 f11 f15 X W RT WD hW hX hRT hWD, if_neg fun hh => h hh.1]
  exact off_slot_6 c i M2 f2 f9 f10 f11 f15 X W RT WD R hW hX hRT hWD hR j h

/-- Off the current slot, the ring after 10 tile columns is as it was. -/
theorem off_slot_10 (j : S31x320x1280.Idx) (h : (j 0).val ≠ (5 * (i 0).val + (i 1).val) % 31) :
    (Memref.whole cc0_scratch0).view.read (Elt Ideal) ((Memref.whole cc0_scratch0).view.writes (Elt Ideal) f9 (runT.sl.H9_10 c i M2 f2 f10 f11 f15)) j
      = R (j 0).val (j 1).val (j 2).val := by
  rw [ring_9 c i M2 f2 f9 f10 f11 f15 X W RT WD hW hX hRT hWD, if_neg fun hh => h hh.1,
    ring_8 c i M2 f2 f9 f10 f11 f15 X W RT WD hW hX hRT hWD, if_neg fun hh => h hh.1]
  exact off_slot_8 c i M2 f2 f9 f10 f11 f15 X W RT WD R hW hX hRT hWD hR j h

end

/-- Sum of exponentials, kept sum and smallest distance over the first `n` of a row's values `D`, onto `a`. -/
def totN (D : ℕ → EReal) (a : EReal) : ℕ → EReal
  | 0 => a
  | n + 1 => totN D a n + FloatOps.exp2 (F := Ideal) (φ := .f32) (D n * (Named.named (F := Ideal) (φ := .f32) κ "log2e" 1069066811#32 : EReal))
def keptN (D : ℕ → EReal) (a : EReal) : ℕ → EReal
  | 0 => a
  | n + 1 => keptN D a n + if 0 ≤ D n then FloatOps.exp2 (F := Ideal) (φ := .f32) (D n * (Named.named (F := Ideal) (φ := .f32) κ "log2e" 1069066811#32 : EReal)) else 0
def marN (D : ℕ → EReal) (a : EReal) : ℕ → EReal
  | 0 => a
  | n + 1 => min (marN D a n) (FloatOps.absf (F := Ideal) (φ := .f32) (D n))

section
variable (c : Dev nD) (i : grid0.Coords) (M2 : Memref sig .tc .vmem S1280x1024 .bf16)
  (f2 : Bf (F := Ideal) c M2) (f9 : Bf (F := Ideal) c (Memref.whole cc0_scratch0)) (f10 : Bf (F := Ideal) c (Memref.whole cc0_scratch1))
  (f11 : Bf (F := Ideal) c (Memref.whole cc0_scratch2)) (f15 : Bf (F := Ideal) c (Memref.whole cc0_scratch6))
  (f19 : Bf (F := Ideal) c (Memref.whole cc0_scratch10)) (f20 : Bf (F := Ideal) c (Memref.whole cc0_scratch11))
  (X W RT : ℕ → ℕ → EReal) (WD : ℕ → ℕ → BitVec 32) (R A T : ℕ → ℕ → ℕ → EReal)
  (hW : ∀ j : S1280x1024.Idx, M2.view.read (Elt Ideal) f2 j = W (j 0).val (j 1).val)
  (hX : ∀ j : S320x1024.Idx, (Memref.whole cc0_scratch1).view.read (Elt Ideal) f10 j = X (j 0).val (j 1).val)
  (hRT : ∀ j : S320x128.Idx, (Memref.whole cc0_scratch6).view.read (Elt Ideal) f15 j = RT (j 0).val (j 1).val)
  (hWD : ∀ j : S320x128.Idx, runT.sl.v58 (F := Ideal) c i f11 j = WD (j 0).val (j 1).val)
  (hR : ∀ j : S31x320x1280.Idx, (Memref.whole cc0_scratch0).view.read (Elt Ideal) f9 j = R (j 0).val (j 1).val (j 2).val)
  (hA : ∀ j : S3x64x128.Idx, (Memref.whole cc0_scratch10).view.read (Elt Ideal) f19 j = A (j 0).val (j 1).val (j 2).val)
  (hT : ∀ j : S3x64x128.Idx, (Memref.whole cc0_scratch11).view.read (Elt Ideal) f20 j = T (j 0).val (j 1).val (j 2).val)

/-- Distances of row `g`, lane `l` in the slot `t` columns blocks ahead, the ten tile columns in turn. -/
def dN (R T : ℕ → ℕ → ℕ → EReal) (w ii t g l h : ℕ) : EReal :=
  R ((5 * w + 5 * ii + t + 130) % 31) (64 * (w % 5) + g) (128 * h + l) - T 0 g l

/-- The three accumulators after `t` slots. -/
def accN (R A T : ℕ → ℕ → ℕ → EReal) (w ii : ℕ) : ℕ → ℕ → ℕ → ℕ → EReal
  | 0, a, g, l => A a g l
  | t + 1, a, g, l =>
    if a = 0 then totN (dN R T w ii t g l) (accN R A T w ii t 0 g l) 10
    else if a = 1 then keptN (dN R T w ii t g l) (accN R A T w ii t 1 g l) 10
    else marN (dN R T w ii t g l) (accN R A T w ii t 2 g l) 10

include hW hX hRT hWD hR hA hT

set_option maxHeartbeats 2000000 in
/-- The accumulators after 1 slot. -/
theorem acc_1 (g : Bf (F := Ideal) c (Memref.whole cc0_scratch10)) (j : S3x64x128.Idx) :
    (Memref.whole cc0_scratch10).view.read (Elt Ideal) ((Memref.whole cc0_scratch10).view.writes (Elt Ideal) g (runT.sl.H19_3 c i M2 f2 f9 f10 f11 f15 f19 f20)) j
    = accN R A T (i 0).val (i 1).val 1 (j 0).val (j 1).val (j 2).val := by
  have hg := off_slot_2 c i M2 f2 f9 f10 f11 f15 X W RT WD R hW hX hRT hWD hR
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hs : (5 * (i 0).val + 5 * (i 1).val + 0 + 130) % 31 ≠ (5 * (i 0).val + (i 1).val) % 31 := by
    have := (i 1).isLt
    change (i 1).val < 5 at this
    omega
  have h0 : (j 0).val < 3 := (j 0).isLt
  have h1 : (j 1).val < 64 := (j 1).isLt
  have h2 : (j 2).val < 128 := (j 2).isLt
  simp only [runT.sl.H19_3]
  refine writes_step (s := S3x64x128) (off' := ![2, 0, 0]) _ _ rfl _ _ (fun x hx => ?_) (fun hn2 => ?_)
  · have e0 : (j 0).val = 2 + (x 0).val := hx 0
    have e1 : (j 1).val = 0 + (x 1).val := hx 1
    have e2 : (j 2).val = 0 + (x 2).val := hx 2
    have e3 : (x 0).val < 1 := (x 0).isLt
    rw [show (j 0).val = 2 by omega, e1, e2]
    idx_vars x
    pointwise [runT.sl.v143, runT.sl.v277, runT.sl.v229, runT.sl.v181, runT.sl.v184, runT.sl.v200, runT.sl.v216, runT.sl.v232, runT.sl.v248, runT.sl.v264, runT.sl.v280, runT.sl.v296, runT.sl.v275, runT.sl.v227, runT.sl.v179, runT.sl.v270, runT.sl.v222, runT.sl.v174, k0_pay51, k0_pay76, k0_pay68, k0_pay70, k0_pay72, k0_pay67, k0_pay59, k0_pay61, k0_pay63, k0_pay58, k0_pay52, k0_pay54, k0_pay75, k0_pay69, k0_pay71, k0_pay73, k0_pay66, k0_pay60, k0_pay62, k0_pay64, k0_pay57, k0_pay53, k0_pay55, k0_pay74, k0_pay65, k0_pay56, k0_pay83, k0_pay77, k0_pay79, k0_pay82, k0_pay78, k0_pay80, k0_pay81, View.readCov, ld_ring (c := c) (g := (View.whole cc0_scratch0).writes (Elt Ideal) f9 (runT.sl.H9_2 c i M2 f2 f10 f11 f15)) hg (show k0_off7 i 0#32 = ![(5 * (i 0).val + 5 * (i 1).val + 0 + 130) % 31, 64 * ((i 0).val % 5), 0] from Gen.k0_off7_eq i 0) hs, ld_ring (c := c) (g := (View.whole cc0_scratch0).writes (Elt Ideal) f9 (runT.sl.H9_2 c i M2 f2 f10 f11 f15)) hg (show k0_off8 i 0#32 = ![(5 * (i 0).val + 5 * (i 1).val + 0 + 130) % 31, 64 * ((i 0).val % 5), 128] from Gen.k0_off8_eq i 0) hs, ld_ring (c := c) (g := f9) hg0 (show k0_off9 i 0#32 = ![(5 * (i 0).val + 5 * (i 1).val + 0 + 130) % 31, 64 * ((i 0).val % 5), 256] from Gen.k0_off9_eq i 0) hs, ld_ring (c := c) (g := f9) hg0 (show k0_off10 i 0#32 = ![(5 * (i 0).val + 5 * (i 1).val + 0 + 130) % 31, 64 * ((i 0).val % 5), 384] from Gen.k0_off10_eq i 0) hs, ld_ring (c := c) (g := f9) hg0 (show k0_off11 i 0#32 = ![(5 * (i 0).val + 5 * (i 1).val + 0 + 130) % 31, 64 * ((i 0).val % 5), 512] from Gen.k0_off11_eq i 0) hs, ld_ring (c := c) (g := f9) hg0 (show k0_off12 i 0#32 = ![(5 * (i 0).val + 5 * (i 1).val + 0 + 130) % 31, 64 * ((i 0).val % 5), 640] from Gen.k0_off12_eq i 0) hs, ld_ring (c := c) (g := f9) hg0 (show k0_off13 i 0#32 = ![(5 * (i 0).val + 5 * (i 1).val + 0 + 130) % 31, 64 * ((i 0).val % 5), 768] from Gen.k0_off13_eq i 0) hs, ld_ring (c := c) (g := f9) hg0 (show k0_off14 i 0#32 = ![(5 * (i 0).val + 5 * (i 1).val + 0 + 130) % 31, 64 * ((i 0).val % 5), 896] from Gen.k0_off14_eq i 0) hs, ld_ring (c := c) (g := f9) hg0 (show k0_off15 i 0#32 = ![(5 * (i 0).val + 5 * (i 1).val + 0 + 130) % 31, 64 * ((i 0).val % 5), 1024] from Gen.k0_off15_eq i 0) hs, ld_ring (c := c) (g := f9) hg0 (show k0_off16 i 0#32 = ![(5 * (i 0).val + 5 * (i 1).val + 0 + 130) % 31, 64 * ((i 0).val % 5), 1152] from Gen.k0_off16_eq i 0) hs, readAt_nat3 hA, readAt_nat3 hT, accN, totN, keptN, marN, dN, zero_add, Nat.reduceMul, if_true, if_false, OfNat.ofNat_ne_zero, one_ne_zero, OfNat.ofNat_ne_one, add_zero]
  refine writes_step (s := S3x64x128) (off' := ![1, 0, 0]) _ _ rfl _ _ (fun x hx => ?_) (fun hn1 => ?_)
  · have e0 : (j 0).val = 1 + (x 0).val := hx 0
    have e1 : (j 1).val = 0 + (x 1).val := hx 1
    have e2 : (j 2).val = 0 + (x 2).val := hx 2
    have e3 : (x 0).val < 1 := (x 0).isLt
    rw [show (j 0).val = 1 by omega, e1, e2]
    idx_vars x
    pointwise [runT.sl.v143, runT.sl.v277, runT.sl.v229, runT.sl.v181, runT.sl.v184, runT.sl.v200, runT.sl.v216, runT.sl.v232, runT.sl.v248, runT.sl.v264, runT.sl.v280, runT.sl.v296, runT.sl.v275, runT.sl.v227, runT.sl.v179, runT.sl.v270, runT.sl.v222, runT.sl.v174, k0_pay51, k0_pay76, k0_pay68, k0_pay70, k0_pay72, k0_pay67, k0_pay59, k0_pay61, k0_pay63, k0_pay58, k0_pay52, k0_pay54, k0_pay75, k0_pay69, k0_pay71, k0_pay73, k0_pay66, k0_pay60, k0_pay62, k0_pay64, k0_pay57, k0_pay53, k0_pay55, k0_pay74, k0_pay65, k0_pay56, k0_pay83, k0_pay77, k0_pay79, k0_pay82, k0_pay78, k0_pay80, k0_pay81, View.readCov, ld_ring (c := c) (g := (View.whole cc0_scratch0).writes (Elt Ideal) f9 (runT.sl.H9_2 c i M2 f2 f10 f11 f15)) hg (show k0_off7 i 0#32 = ![(5 * (i 0).val + 5 * (i 1).val + 0 + 130) % 31, 64 * ((i 0).val % 5), 0] from Gen.k0_off7_eq i 0) hs, ld_ring (c := c) (g := (View.whole cc0_scratch0).writes (Elt Ideal) f9 (runT.sl.H9_2 c i M2 f2 f10 f11 f15)) hg (show k0_off8 i 0#32 = ![(5 * (i 0).val + 5 * (i 1).val + 0 + 130) % 31, 64 * ((i 0).val % 5), 128] from Gen.k0_off8_eq i 0) hs, ld_ring (c := c) (g := f9) hg0 (show k0_off9 i 0#32 = ![(5 * (i 0).val + 5 * (i 1).val + 0 + 130) % 31, 64 * ((i 0).val % 5), 256] from Gen.k0_off9_eq i 0) hs, ld_ring (c := c) (g := f9) hg0 (show k0_off10 i 0#32 = ![(5 * (i 0).val + 5 * (i 1).val + 0 + 130) % 31, 64 * ((i 0).val % 5), 384] from Gen.k0_off10_eq i 0) hs, ld_ring (c := c) (g := f9) hg0 (show k0_off11 i 0#32 = ![(5 * (i 0).val + 5 * (i 1).val + 0 + 130) % 31, 64 * ((i 0).val % 5), 512] from Gen.k0_off11_eq i 0) hs, ld_ring (c := c) (g := f9) hg0 (show k0_off12 i 0#32 = ![(5 * (i 0).val + 5 * (i 1).val + 0 + 130) % 31, 64 * ((i 0).val % 5), 640] from Gen.k0_off12_eq i 0) hs, ld_ring (c := c) (g := f9) hg0 (show k0_off13 i 0#32 = ![(5 * (i 0).val + 5 * (i 1).val + 0 + 130) % 31, 64 * ((i 0).val % 5), 768] from Gen.k0_off13_eq i 0) hs, ld_ring (c := c) (g := f9) hg0 (show k0_off14 i 0#32 = ![(5 * (i 0).val + 5 * (i 1).val + 0 + 130) % 31, 64 * ((i 0).val % 5), 896] from Gen.k0_off14_eq i 0) hs, ld_ring (c := c) (g := f9) hg0 (show k0_off15 i 0#32 = ![(5 * (i 0).val + 5 * (i 1).val + 0 + 130) % 31, 64 * ((i 0).val % 5), 1024] from Gen.k0_off15_eq i 0) hs, ld_ring (c := c) (g := f9) hg0 (show k0_off16 i 0#32 = ![(5 * (i 0).val + 5 * (i 1).val + 0 + 130) % 31, 64 * ((i 0).val % 5), 1152] from Gen.k0_off16_eq i 0) hs, readAt_nat3 hA, readAt_nat3 hT, accN, totN, keptN, marN, dN, zero_add, Nat.reduceMul, if_true, if_false, OfNat.ofNat_ne_zero, one_ne_zero, OfNat.ofNat_ne_one, add_zero]
  refine writes_step (s := S3x64x128) (off' := ![0, 0, 0]) _ _ rfl _ _ (fun x hx => ?_) (fun hn0 => ?_)
  · have e0 : (j 0).val = 0 + (x 0).val := hx 0
    have e1 : (j 1).val = 0 + (x 1).val := hx 1
    have e2 : (j 2).val = 0 + (x 2).val := hx 2
    have e3 : (x 0).val < 1 := (x 0).isLt
    rw [show (j 0).val = 0 by omega, e1, e2]
    idx_vars x
    pointwise [runT.sl.v143, runT.sl.v277, runT.sl.v229, runT.sl.v181, runT.sl.v184, runT.sl.v200, runT.sl.v216, runT.sl.v232, runT.sl.v248, runT.sl.v264, runT.sl.v280, runT.sl.v296, runT.sl.v275, runT.sl.v227, runT.sl.v179, runT.sl.v270, runT.sl.v222, runT.sl.v174, k0_pay51, k0_pay76, k0_pay68, k0_pay70, k0_pay72, k0_pay67, k0_pay59, k0_pay61, k0_pay63, k0_pay58, k0_pay52, k0_pay54, k0_pay75, k0_pay69, k0_pay71, k0_pay73, k0_pay66, k0_pay60, k0_pay62, k0_pay64, k0_pay57, k0_pay53, k0_pay55, k0_pay74, k0_pay65, k0_pay56, k0_pay83, k0_pay77, k0_pay79, k0_pay82, k0_pay78, k0_pay80, k0_pay81, View.readCov, ld_ring (c := c) (g := (View.whole cc0_scratch0).writes (Elt Ideal) f9 (runT.sl.H9_2 c i M2 f2 f10 f11 f15)) hg (show k0_off7 i 0#32 = ![(5 * (i 0).val + 5 * (i 1).val + 0 + 130) % 31, 64 * ((i 0).val % 5), 0] from Gen.k0_off7_eq i 0) hs, ld_ring (c := c) (g := (View.whole cc0_scratch0).writes (Elt Ideal) f9 (runT.sl.H9_2 c i M2 f2 f10 f11 f15)) hg (show k0_off8 i 0#32 = ![(5 * (i 0).val + 5 * (i 1).val + 0 + 130) % 31, 64 * ((i 0).val % 5), 128] from Gen.k0_off8_eq i 0) hs, ld_ring (c := c) (g := f9) hg0 (show k0_off9 i 0#32 = ![(5 * (i 0).val + 5 * (i 1).val + 0 + 130) % 31, 64 * ((i 0).val % 5), 256] from Gen.k0_off9_eq i 0) hs, ld_ring (c := c) (g := f9) hg0 (show k0_off10 i 0#32 = ![(5 * (i 0).val + 5 * (i 1).val + 0 + 130) % 31, 64 * ((i 0).val % 5), 384] from Gen.k0_off10_eq i 0) hs, ld_ring (c := c) (g := f9) hg0 (show k0_off11 i 0#32 = ![(5 * (i 0).val + 5 * (i 1).val + 0 + 130) % 31, 64 * ((i 0).val % 5), 512] from Gen.k0_off11_eq i 0) hs, ld_ring (c := c) (g := f9) hg0 (show k0_off12 i 0#32 = ![(5 * (i 0).val + 5 * (i 1).val + 0 + 130) % 31, 64 * ((i 0).val % 5), 640] from Gen.k0_off12_eq i 0) hs, ld_ring (c := c) (g := f9) hg0 (show k0_off13 i 0#32 = ![(5 * (i 0).val + 5 * (i 1).val + 0 + 130) % 31, 64 * ((i 0).val % 5), 768] from Gen.k0_off13_eq i 0) hs, ld_ring (c := c) (g := f9) hg0 (show k0_off14 i 0#32 = ![(5 * (i 0).val + 5 * (i 1).val + 0 + 130) % 31, 64 * ((i 0).val % 5), 896] from Gen.k0_off14_eq i 0) hs, ld_ring (c := c) (g := f9) hg0 (show k0_off15 i 0#32 = ![(5 * (i 0).val + 5 * (i 1).val + 0 + 130) % 31, 64 * ((i 0).val % 5), 1024] from Gen.k0_off15_eq i 0) hs, ld_ring (c := c) (g := f9) hg0 (show k0_off16 i 0#32 = ![(5 * (i 0).val + 5 * (i 1).val + 0 + 130) % 31, 64 * ((i 0).val % 5), 1152] from Gen.k0_off16_eq i 0) hs, readAt_nat3 hA, readAt_nat3 hT, accN, totN, keptN, marN, dN, zero_add, Nat.reduceMul, if_true, if_false, OfNat.ofNat_ne_zero, one_ne_zero, OfNat.ofNat_ne_one, add_zero]
  exfalso
  have d2 : (j 0).val ≠ 2 := fun e => hn2 fun a => by
    fin_cases a
    · change 2 ≤ (j 0).val ∧ (j 0).val < 2 + 1; omega
    · change 0 ≤ (j 1).val ∧ (j 1).val < 0 + 64; omega
    · change 0 ≤ (j 2).val ∧ (j 2).val < 0 + 128; omega
  have d1 : (j 0).val ≠ 1 := fun e => hn1 fun a => by
    fin_cases a
    · change 1 ≤ (j 0).val ∧ (j 0).val < 1 + 1; omega
    · change 0 ≤ (j 1).val ∧ (j 1).val < 0 + 64; omega
    · change 0 ≤ (j 2).val ∧ (j 2).val < 0 + 128; omega
  have d0 : (j 0).val ≠ 0 := fun e => hn0 fun a => by
    fin_cases a
    · change 0 ≤ (j 0).val ∧ (j 0).val < 0 + 1; omega
    · change 0 ≤ (j 1).val ∧ (j 1).val < 0 + 64; omega
    · change 0 ≤ (j 2).val ∧ (j 2).val < 0 + 128; omega
  omega

set_option maxHeartbeats 2000000 in
/-- The accumulators after 2 slots. -/
theorem acc_2 (g : Bf (F := Ideal) c (Memref.whole cc0_scratch10)) (j : S3x64x128.Idx) :
    (Memref.whole cc0_scratch10).view.read (Elt Ideal) ((Memref.whole cc0_scratch10).view.writes (Elt Ideal) g (runT.sl.H19_6 c i M2 f2 f9 f10 f11 f15 f19 f20)) j
    = accN R A T (i 0).val (i 1).val 2 (j 0).val (j 1).val (j 2).val := by
  have hg := off_slot_4 c i M2 f2 f9 f10 f11 f15 X W RT WD R hW hX hRT hWD hR
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hs : (5 * (i 0).val + 5 * (i 1).val + 1 + 130) % 31 ≠ (5 * (i 0).val + (i 1).val) % 31 := by
    have := (i 1).isLt
    change (i 1).val < 5 at this
    omega
  have prev := acc_1 c i M2 f2 f9 f10 f11 f15 f19 f20 X W RT WD R A T hW hX hRT hWD hR hA hT
  have h0 : (j 0).val < 3 := (j 0).isLt
  have h1 : (j 1).val < 64 := (j 1).isLt
  have h2 : (j 2).val < 128 := (j 2).isLt
  simp only [runT.sl.H19_6, runT.sl.H19_5, runT.sl.H19_4]
  refine writes_step (s := S3x64x128) (off' := ![2, 0, 0]) _ _ rfl _ _ (fun x hx => ?_) (fun hn2 => ?_)
  · have e0 : (j 0).val = 2 + (x 0).val := hx 0
    have e1 : (j 1).val = 0 + (x 1).val := hx 1
    have e2 : (j 2).val = 0 + (x 2).val := hx 2
    have e3 : (x 0).val < 1 := (x 0).isLt
    rw [show (j 0).val = 2 by omega, e1, e2]
    idx_vars x
    pointwise [runT.sl.v692, runT.sl.v683, runT.sl.v517, runT.sl.v635, runT.sl.v587, runT.sl.v539, runT.sl.v522, runT.sl.v544, runT.sl.v592, runT.sl.v590, runT.sl.v606, runT.sl.v622, runT.sl.v640, runT.sl.v638, runT.sl.v654, runT.sl.v670, runT.sl.v689, runT.sl.v681, runT.sl.v633, runT.sl.v585, runT.sl.v537, runT.sl.v520, runT.sl.v628, runT.sl.v580, runT.sl.v532, runT.sl.v518, k0_pay145, k0_pay140, k0_pay142, k0_pay111, k0_pay136, k0_pay130, k0_pay132, k0_pay126, k0_pay120, k0_pay122, k0_pay116, k0_pay112, k0_pay117, k0_pay127, k0_pay137, k0_pay144, k0_pay139, k0_pay141, k0_pay143, k0_pay138, k0_pay135, k0_pay129, k0_pay131, k0_pay133, k0_pay128, k0_pay125, k0_pay119, k0_pay121, k0_pay123, k0_pay118, k0_pay115, k0_pay113, k0_pay134, k0_pay124, k0_pay114, k0_pay146, View.readCov, ld_ring (c := c) (g := (View.whole cc0_scratch0).writes (Elt Ideal) f9 (runT.sl.H9_4 c i M2 f2 f10 f11 f15)) hg (show k0_off7 i 1#32 = ![(5 * (i 0).val + 5 * (i 1).val + 1 + 130) % 31, 64 * ((i 0).val % 5), 0] from Gen.k0_off7_eq i 1) hs, ld_ring (c := c) (g := (View.whole cc0_scratch0).writes (Elt Ideal) f9 (runT.sl.H9_4 c i M2 f2 f10 f11 f15)) hg (show k0_off8 i 1#32 = ![(5 * (i 0).val + 5 * (i 1).val + 1 + 130) % 31, 64 * ((i 0).val % 5), 128] from Gen.k0_off8_eq i 1) hs, ld_ring (c := c) (g := (View.whole cc0_scratch0).writes (Elt Ideal) f9 (runT.sl.H9_4 c i M2 f2 f10 f11 f15)) hg (show k0_off9 i 1#32 = ![(5 * (i 0).val + 5 * (i 1).val + 1 + 130) % 31, 64 * ((i 0).val % 5), 256] from Gen.k0_off9_eq i 1) hs, ld_ring (c := c) (g := (View.whole cc0_scratch0).writes (Elt Ideal) f9 (runT.sl.H9_4 c i M2 f2 f10 f11 f15)) hg (show k0_off10 i 1#32 = ![(5 * (i 0).val + 5 * (i 1).val + 1 + 130) % 31, 64 * ((i 0).val % 5), 384] from Gen.k0_off10_eq i 1) hs, ld_ring (c := c) (g := f9) hg0 (show k0_off11 i 1#32 = ![(5 * (i 0).val + 5 * (i 1).val + 1 + 130) % 31, 64 * ((i 0).val % 5), 512] from Gen.k0_off11_eq i 1) hs, ld_ring (c := c) (g := f9) hg0 (show k0_off12 i 1#32 = ![(5 * (i 0).val + 5 * (i 1).val + 1 + 130) % 31, 64 * ((i 0).val % 5), 640] from Gen.k0_off12_eq i 1) hs, ld_ring (c := c) (g := f9) hg0 (show k0_off13 i 1#32 = ![(5 * (i 0).val + 5 * (i 1).val + 1 + 130) % 31, 64 * ((i 0).val % 5), 768] from Gen.k0_off13_eq i 1) hs, ld_ring (c := c) (g := f9) hg0 (show k0_off14 i 1#32 = ![(5 * (i 0).val + 5 * (i 1).val + 1 + 130) % 31, 64 * ((i 0).val % 5), 896] from Gen.k0_off14_eq i 1) hs, ld_ring (c := c) (g := f9) hg0 (show k0_off15 i 1#32 = ![(5 * (i 0).val + 5 * (i 1).val + 1 + 130) % 31, 64 * ((i 0).val % 5), 1024] from Gen.k0_off15_eq i 1) hs, ld_ring (c := c) (g := f9) hg0 (show k0_off16 i 1#32 = ![(5 * (i 0).val + 5 * (i 1).val + 1 + 130) % 31, 64 * ((i 0).val % 5), 1152] from Gen.k0_off16_eq i 1) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![1, 0, 0]) _ _ rfl _ _ (fun x hx => ?_) (fun hn1 => ?_)
  · have e0 : (j 0).val = 1 + (x 0).val := hx 0
    have e1 : (j 1).val = 0 + (x 1).val := hx 1
    have e2 : (j 2).val = 0 + (x 2).val := hx 2
    have e3 : (x 0).val < 1 := (x 0).isLt
    rw [show (j 0).val = 1 by omega, e1, e2]
    idx_vars x
    pointwise [runT.sl.v692, runT.sl.v683, runT.sl.v517, runT.sl.v635, runT.sl.v587, runT.sl.v539, runT.sl.v522, runT.sl.v544, runT.sl.v592, runT.sl.v590, runT.sl.v606, runT.sl.v622, runT.sl.v640, runT.sl.v638, runT.sl.v654, runT.sl.v670, runT.sl.v689, runT.sl.v681, runT.sl.v633, runT.sl.v585, runT.sl.v537, runT.sl.v520, runT.sl.v628, runT.sl.v580, runT.sl.v532, runT.sl.v518, k0_pay145, k0_pay140, k0_pay142, k0_pay111, k0_pay136, k0_pay130, k0_pay132, k0_pay126, k0_pay120, k0_pay122, k0_pay116, k0_pay112, k0_pay117, k0_pay127, k0_pay137, k0_pay144, k0_pay139, k0_pay141, k0_pay143, k0_pay138, k0_pay135, k0_pay129, k0_pay131, k0_pay133, k0_pay128, k0_pay125, k0_pay119, k0_pay121, k0_pay123, k0_pay118, k0_pay115, k0_pay113, k0_pay134, k0_pay124, k0_pay114, k0_pay146, View.readCov, ld_ring (c := c) (g := (View.whole cc0_scratch0).writes (Elt Ideal) f9 (runT.sl.H9_4 c i M2 f2 f10 f11 f15)) hg (show k0_off7 i 1#32 = ![(5 * (i 0).val + 5 * (i 1).val + 1 + 130) % 31, 64 * ((i 0).val % 5), 0] from Gen.k0_off7_eq i 1) hs, ld_ring (c := c) (g := (View.whole cc0_scratch0).writes (Elt Ideal) f9 (runT.sl.H9_4 c i M2 f2 f10 f11 f15)) hg (show k0_off8 i 1#32 = ![(5 * (i 0).val + 5 * (i 1).val + 1 + 130) % 31, 64 * ((i 0).val % 5), 128] from Gen.k0_off8_eq i 1) hs, ld_ring (c := c) (g := (View.whole cc0_scratch0).writes (Elt Ideal) f9 (runT.sl.H9_4 c i M2 f2 f10 f11 f15)) hg (show k0_off9 i 1#32 = ![(5 * (i 0).val + 5 * (i 1).val + 1 + 130) % 31, 64 * ((i 0).val % 5), 256] from Gen.k0_off9_eq i 1) hs, ld_ring (c := c) (g := (View.whole cc0_scratch0).writes (Elt Ideal) f9 (runT.sl.H9_4 c i M2 f2 f10 f11 f15)) hg (show k0_off10 i 1#32 = ![(5 * (i 0).val + 5 * (i 1).val + 1 + 130) % 31, 64 * ((i 0).val % 5), 384] from Gen.k0_off10_eq i 1) hs, ld_ring (c := c) (g := f9) hg0 (show k0_off11 i 1#32 = ![(5 * (i 0).val + 5 * (i 1).val + 1 + 130) % 31, 64 * ((i 0).val % 5), 512] from Gen.k0_off11_eq i 1) hs, ld_ring (c := c) (g := f9) hg0 (show k0_off12 i 1#32 = ![(5 * (i 0).val + 5 * (i 1).val + 1 + 130) % 31, 64 * ((i 0).val % 5), 640] from Gen.k0_off12_eq i 1) hs, ld_ring (c := c) (g := f9) hg0 (show k0_off13 i 1#32 = ![(5 * (i 0).val + 5 * (i 1).val + 1 + 130) % 31, 64 * ((i 0).val % 5), 768] from Gen.k0_off13_eq i 1) hs, ld_ring (c := c) (g := f9) hg0 (show k0_off14 i 1#32 = ![(5 * (i 0).val + 5 * (i 1).val + 1 + 130) % 31, 64 * ((i 0).val % 5), 896] from Gen.k0_off14_eq i 1) hs, ld_ring (c := c) (g := f9) hg0 (show k0_off15 i 1#32 = ![(5 * (i 0).val + 5 * (i 1).val + 1 + 130) % 31, 64 * ((i 0).val % 5), 1024] from Gen.k0_off15_eq i 1) hs, ld_ring (c := c) (g := f9) hg0 (show k0_off16 i 1#32 = ![(5 * (i 0).val + 5 * (i 1).val + 1 + 130) % 31, 64 * ((i 0).val % 5), 1152] from Gen.k0_off16_eq i 1) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![0, 0, 0]) _ _ rfl _ _ (fun x hx => ?_) (fun hn0 => ?_)
  · have e0 : (j 0).val = 0 + (x 0).val := hx 0
    have e1 : (j 1).val = 0 + (x 1).val := hx 1
    have e2 : (j 2).val = 0 + (x 2).val := hx 2
    have e3 : (x 0).val < 1 := (x 0).isLt
    rw [show (j 0).val = 0 by omega, e1, e2]
    idx_vars x
    pointwise [runT.sl.v692, runT.sl.v683, runT.sl.v517, runT.sl.v635, runT.sl.v587, runT.sl.v539, runT.sl.v522, runT.sl.v544, runT.sl.v592, runT.sl.v590, runT.sl.v606, runT.sl.v622, runT.sl.v640, runT.sl.v638, runT.sl.v654, runT.sl.v670, runT.sl.v689, runT.sl.v681, runT.sl.v633, runT.sl.v585, runT.sl.v537, runT.sl.v520, runT.sl.v628, runT.sl.v580, runT.sl.v532, runT.sl.v518, k0_pay145, k0_pay140, k0_pay142, k0_pay111, k0_pay136, k0_pay130, k0_pay132, k0_pay126, k0_pay120, k0_pay122, k0_pay116, k0_pay112, k0_pay117, k0_pay127, k0_pay137, k0_pay144, k0_pay139, k0_pay141, k0_pay143, k0_pay138, k0_pay135, k0_pay129, k0_pay131, k0_pay133, k0_pay128, k0_pay125, k0_pay119, k0_pay121, k0_pay123, k0_pay118, k0_pay115, k0_pay113, k0_pay134, k0_pay124, k0_pay114, k0_pay146, View.readCov, ld_ring (c := c) (g := (View.whole cc0_scratch0).writes (Elt Ideal) f9 (runT.sl.H9_4 c i M2 f2 f10 f11 f15)) hg (show k0_off7 i 1#32 = ![(5 * (i 0).val + 5 * (i 1).val + 1 + 130) % 31, 64 * ((i 0).val % 5), 0] from Gen.k0_off7_eq i 1) hs, ld_ring (c := c) (g := (View.whole cc0_scratch0).writes (Elt Ideal) f9 (runT.sl.H9_4 c i M2 f2 f10 f11 f15)) hg (show k0_off8 i 1#32 = ![(5 * (i 0).val + 5 * (i 1).val + 1 + 130) % 31, 64 * ((i 0).val % 5), 128] from Gen.k0_off8_eq i 1) hs, ld_ring (c := c) (g := (View.whole cc0_scratch0).writes (Elt Ideal) f9 (runT.sl.H9_4 c i M2 f2 f10 f11 f15)) hg (show k0_off9 i 1#32 = ![(5 * (i 0).val + 5 * (i 1).val + 1 + 130) % 31, 64 * ((i 0).val % 5), 256] from Gen.k0_off9_eq i 1) hs, ld_ring (c := c) (g := (View.whole cc0_scratch0).writes (Elt Ideal) f9 (runT.sl.H9_4 c i M2 f2 f10 f11 f15)) hg (show k0_off10 i 1#32 = ![(5 * (i 0).val + 5 * (i 1).val + 1 + 130) % 31, 64 * ((i 0).val % 5), 384] from Gen.k0_off10_eq i 1) hs, ld_ring (c := c) (g := f9) hg0 (show k0_off11 i 1#32 = ![(5 * (i 0).val + 5 * (i 1).val + 1 + 130) % 31, 64 * ((i 0).val % 5), 512] from Gen.k0_off11_eq i 1) hs, ld_ring (c := c) (g := f9) hg0 (show k0_off12 i 1#32 = ![(5 * (i 0).val + 5 * (i 1).val + 1 + 130) % 31, 64 * ((i 0).val % 5), 640] from Gen.k0_off12_eq i 1) hs, ld_ring (c := c) (g := f9) hg0 (show k0_off13 i 1#32 = ![(5 * (i 0).val + 5 * (i 1).val + 1 + 130) % 31, 64 * ((i 0).val % 5), 768] from Gen.k0_off13_eq i 1) hs, ld_ring (c := c) (g := f9) hg0 (show k0_off14 i 1#32 = ![(5 * (i 0).val + 5 * (i 1).val + 1 + 130) % 31, 64 * ((i 0).val % 5), 896] from Gen.k0_off14_eq i 1) hs, ld_ring (c := c) (g := f9) hg0 (show k0_off15 i 1#32 = ![(5 * (i 0).val + 5 * (i 1).val + 1 + 130) % 31, 64 * ((i 0).val % 5), 1024] from Gen.k0_off15_eq i 1) hs, ld_ring (c := c) (g := f9) hg0 (show k0_off16 i 1#32 = ![(5 * (i 0).val + 5 * (i 1).val + 1 + 130) % 31, 64 * ((i 0).val % 5), 1152] from Gen.k0_off16_eq i 1) hs, readAt_nat3 (prev _), readAt_nat3 hT, accN, totN, keptN, marN, dN, zero_add, Nat.reduceMul, if_true, if_false, OfNat.ofNat_ne_zero, one_ne_zero, OfNat.ofNat_ne_one, add_zero]
  exfalso
  have d2 : (j 0).val ≠ 2 := fun e => hn2 fun a => by
    fin_cases a
    · change 2 ≤ (j 0).val ∧ (j 0).val < 2 + 1; omega
    · change 0 ≤ (j 1).val ∧ (j 1).val < 0 + 64; omega
    · change 0 ≤ (j 2).val ∧ (j 2).val < 0 + 128; omega
  have d1 : (j 0).val ≠ 1 := fun e => hn1 fun a => by
    fin_cases a
    · change 1 ≤ (j 0).val ∧ (j 0).val < 1 + 1; omega
    · change 0 ≤ (j 1).val ∧ (j 1).val < 0 + 64; omega
    · change 0 ≤ (j 2).val ∧ (j 2).val < 0 + 128; omega
  have d0 : (j 0).val ≠ 0 := fun e => hn0 fun a => by
    fin_cases a
    · change 0 ≤ (j 0).val ∧ (j 0).val < 0 + 1; omega
    · change 0 ≤ (j 1).val ∧ (j 1).val < 0 + 64; omega
    · change 0 ≤ (j 2).val ∧ (j 2).val < 0 + 128; omega
  omega

set_option maxHeartbeats 2000000 in
/-- The accumulators after 3 slots. -/
theorem acc_3 (g : Bf (F := Ideal) c (Memref.whole cc0_scratch10)) (j : S3x64x128.Idx) :
    (Memref.whole cc0_scratch10).view.read (Elt Ideal) ((Memref.whole cc0_scratch10).view.writes (Elt Ideal) g (runT.sl.H19_9 c i M2 f2 f9 f10 f11 f15 f19 f20)) j
    = accN R A T (i 0).val (i 1).val 3 (j 0).val (j 1).val (j 2).val := by
  have hg := off_slot_6 c i M2 f2 f9 f10 f11 f15 X W RT WD R hW hX hRT hWD hR
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hs : (5 * (i 0).val + 5 * (i 1).val + 2 + 130) % 31 ≠ (5 * (i 0).val + (i 1).val) % 31 := by
    have := (i 1).isLt
    change (i 1).val < 5 at this
    omega
  have prev := acc_2 c i M2 f2 f9 f10 f11 f15 f19 f20 X W RT WD R A T hW hX hRT hWD hR hA hT
  have h0 : (j 0).val < 3 := (j 0).isLt
  have h1 : (j 1).val < 64 := (j 1).isLt
  have h2 : (j 2).val < 128 := (j 2).isLt
  simp only [runT.sl.H19_9, runT.sl.H19_8, runT.sl.H19_7]
  refine writes_step (s := S3x64x128) (off' := ![2, 0, 0]) _ _ rfl _ _ (fun x hx => ?_) (fun hn2 => ?_)
  · have e0 : (j 0).val = 2 + (x 0).val := hx 0
    have e1 : (j 1).val = 0 + (x 1).val := hx 1
    have e2 : (j 2).val = 0 + (x 2).val := hx 2
    have e3 : (x 0).val < 1 := (x 0).isLt
    rw [show (j 0).val = 2 by omega, e1, e2]
    idx_vars x
    pointwise [runT.sl.v1066, runT.sl.v1057, runT.sl.v1041, runT.sl.v891, runT.sl.v993, runT.sl.v945, runT.sl.v897, runT.sl.v896, runT.sl.v902, runT.sl.v950, runT.sl.v998, runT.sl.v996, runT.sl.v1012, runT.sl.v1028, runT.sl.v1056, runT.sl.v1046, runT.sl.v1044, runT.sl.v1063, runT.sl.v1055, runT.sl.v1039, runT.sl.v991, runT.sl.v943, runT.sl.v895, runT.sl.v894, runT.sl.v905, runT.sl.v953, runT.sl.v1001, runT.sl.v1054, runT.sl.v1052, runT.sl.v1049, runT.sl.v331, runT.sl.cst_132, runT.sl.v1060, runT.sl.v1050, runT.sl.v1002, runT.sl.v954, runT.sl.v906, runT.sl.v892, k0_pay209, k0_pay204, k0_pay206, k0_pay177, k0_pay199, k0_pay194, k0_pay196, k0_pay189, k0_pay184, k0_pay186, k0_pay179, k0_pay180, k0_pay190, k0_pay200, k0_pay210, k0_pay208, k0_pay205, k0_pay207, k0_pay203, k0_pay198, k0_pay195, k0_pay197, k0_pay193, k0_pay188, k0_pay185, k0_pay187, k0_pay183, k0_pay178, k0_pay181, k0_pay191, k0_pay201, k0_pay213, k0_pay211, k0_pay212, k0_pay202, k0_pay192, k0_pay182, View.readCov, ld_ring (c := c) (g := (View.whole cc0_scratch0).writes (Elt Ideal) f9 (runT.sl.H9_6 c i M2 f2 f10 f11 f15)) hg (show k0_off7 i 2#32 = ![(5 * (i 0).val + 5 * (i 1).val + 2 + 130) % 31, 64 * ((i 0).val % 5), 0] from Gen.k0_off7_eq i 2) hs, ld_ring (c := c) (g := (View.whole cc0_scratch0).writes (Elt Ideal) f9 (runT.sl.H9_6 c i M2 f2 f10 f11 f15)) hg (show k0_off8 i 2#32 = ![(5 * (i 0).val + 5 * (i 1).val + 2 + 130) % 31, 64 * ((i 0).val % 5), 128] from Gen.k0_off8_eq i 2) hs, ld_ring (c := c) (g := (View.whole cc0_scratch0).writes (Elt Ideal) f9 (runT.sl.H9_6 c i M2 f2 f10 f11 f15)) hg (show k0_off9 i 2#32 = ![(5 * (i 0).val + 5 * (i 1).val + 2 + 130) % 31, 64 * ((i 0).val % 5), 256] from Gen.k0_off9_eq i 2) hs, ld_ring (c := c) (g := (View.whole cc0_scratch0).writes (Elt Ideal) f9 (runT.sl.H9_6 c i M2 f2 f10 f11 f15)) hg (show k0_off10 i 2#32 = ![(5 * (i 0).val + 5 * (i 1).val + 2 + 130) % 31, 64 * ((i 0).val % 5), 384] from Gen.k0_off10_eq i 2) hs, ld_ring (c := c) (g := (View.whole cc0_scratch0).writes (Elt Ideal) f9 (runT.sl.H9_6 c i M2 f2 f10 f11 f15)) hg (show k0_off11 i 2#32 = ![(5 * (i 0).val + 5 * (i 1).val + 2 + 130) % 31, 64 * ((i 0).val % 5), 512] from Gen.k0_off11_eq i 2) hs, ld_ring (c := c) (g := (View.whole cc0_scratch0).writes (Elt Ideal) f9 (runT.sl.H9_6 c i M2 f2 f10 f11 f15)) hg (show k0_off12 i 2#32 = ![(5 * (i 0).val + 5 * (i 1).val + 2 + 130) % 31, 64 * ((i 0).val % 5), 640] from Gen.k0_off12_eq i 2) hs, ld_ring (c := c) (g := f9) hg0 (show k0_off13 i 2#32 = ![(5 * (i 0).val + 5 * (i 1).val + 2 + 130) % 31, 64 * ((i 0).val % 5), 768] from Gen.k0_off13_eq i 2) hs, ld_ring (c := c) (g := f9) hg0 (show k0_off14 i 2#32 = ![(5 * (i 0).val + 5 * (i 1).val + 2 + 130) % 31, 64 * ((i 0).val % 5), 896] from Gen.k0_off14_eq i 2) hs, ld_ring (c := c) (g := f9) hg0 (show k0_off15 i 2#32 = ![(5 * (i 0).val + 5 * (i 1).val + 2 + 130) % 31, 64 * ((i 0).val % 5), 1024] from Gen.k0_off15_eq i 2) hs, ld_ring (c := c) (g := f9) hg0 (show k0_off16 i 2#32 = ![(5 * (i 0).val + 5 * (i 1).val + 2 + 130) % 31, 64 * ((i 0).val % 5), 1152] from Gen.k0_off16_eq i 2) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![1, 0, 0]) _ _ rfl _ _ (fun x hx => ?_) (fun hn1 => ?_)
  · have e0 : (j 0).val = 1 + (x 0).val := hx 0
    have e1 : (j 1).val = 0 + (x 1).val := hx 1
    have e2 : (j 2).val = 0 + (x 2).val := hx 2
    have e3 : (x 0).val < 1 := (x 0).isLt
    rw [show (j 0).val = 1 by omega, e1, e2]
    idx_vars x
    pointwise [runT.sl.v1066, runT.sl.v1057, runT.sl.v1041, runT.sl.v891, runT.sl.v993, runT.sl.v945, runT.sl.v897, runT.sl.v896, runT.sl.v902, runT.sl.v950, runT.sl.v998, runT.sl.v996, runT.sl.v1012, runT.sl.v1028, runT.sl.v1056, runT.sl.v1046, runT.sl.v1044, runT.sl.v1063, runT.sl.v1055, runT.sl.v1039, runT.sl.v991, runT.sl.v943, runT.sl.v895, runT.sl.v894, runT.sl.v905, runT.sl.v953, runT.sl.v1001, runT.sl.v1054, runT.sl.v1052, runT.sl.v1049, runT.sl.v331, runT.sl.cst_132, runT.sl.v1060, runT.sl.v1050, runT.sl.v1002, runT.sl.v954, runT.sl.v906, runT.sl.v892, k0_pay209, k0_pay204, k0_pay206, k0_pay177, k0_pay199, k0_pay194, k0_pay196, k0_pay189, k0_pay184, k0_pay186, k0_pay179, k0_pay180, k0_pay190, k0_pay200, k0_pay210, k0_pay208, k0_pay205, k0_pay207, k0_pay203, k0_pay198, k0_pay195, k0_pay197, k0_pay193, k0_pay188, k0_pay185, k0_pay187, k0_pay183, k0_pay178, k0_pay181, k0_pay191, k0_pay201, k0_pay213, k0_pay211, k0_pay212, k0_pay202, k0_pay192, k0_pay182, View.readCov, ld_ring (c := c) (g := (View.whole cc0_scratch0).writes (Elt Ideal) f9 (runT.sl.H9_6 c i M2 f2 f10 f11 f15)) hg (show k0_off7 i 2#32 = ![(5 * (i 0).val + 5 * (i 1).val + 2 + 130) % 31, 64 * ((i 0).val % 5), 0] from Gen.k0_off7_eq i 2) hs, ld_ring (c := c) (g := (View.whole cc0_scratch0).writes (Elt Ideal) f9 (runT.sl.H9_6 c i M2 f2 f10 f11 f15)) hg (show k0_off8 i 2#32 = ![(5 * (i 0).val + 5 * (i 1).val + 2 + 130) % 31, 64 * ((i 0).val % 5), 128] from Gen.k0_off8_eq i 2) hs, ld_ring (c := c) (g := (View.whole cc0_scratch0).writes (Elt Ideal) f9 (runT.sl.H9_6 c i M2 f2 f10 f11 f15)) hg (show k0_off9 i 2#32 = ![(5 * (i 0).val + 5 * (i 1).val + 2 + 130) % 31, 64 * ((i 0).val % 5), 256] from Gen.k0_off9_eq i 2) hs, ld_ring (c := c) (g := (View.whole cc0_scratch0).writes (Elt Ideal) f9 (runT.sl.H9_6 c i M2 f2 f10 f11 f15)) hg (show k0_off10 i 2#32 = ![(5 * (i 0).val + 5 * (i 1).val + 2 + 130) % 31, 64 * ((i 0).val % 5), 384] from Gen.k0_off10_eq i 2) hs, ld_ring (c := c) (g := (View.whole cc0_scratch0).writes (Elt Ideal) f9 (runT.sl.H9_6 c i M2 f2 f10 f11 f15)) hg (show k0_off11 i 2#32 = ![(5 * (i 0).val + 5 * (i 1).val + 2 + 130) % 31, 64 * ((i 0).val % 5), 512] from Gen.k0_off11_eq i 2) hs, ld_ring (c := c) (g := (View.whole cc0_scratch0).writes (Elt Ideal) f9 (runT.sl.H9_6 c i M2 f2 f10 f11 f15)) hg (show k0_off12 i 2#32 = ![(5 * (i 0).val + 5 * (i 1).val + 2 + 130) % 31, 64 * ((i 0).val % 5), 640] from Gen.k0_off12_eq i 2) hs, ld_ring (c := c) (g := f9) hg0 (show k0_off13 i 2#32 = ![(5 * (i 0).val + 5 * (i 1).val + 2 + 130) % 31, 64 * ((i 0).val % 5), 768] from Gen.k0_off13_eq i 2) hs, ld_ring (c := c) (g := f9) hg0 (show k0_off14 i 2#32 = ![(5 * (i 0).val + 5 * (i 1).val + 2 + 130) % 31, 64 * ((i 0).val % 5), 896] from Gen.k0_off14_eq i 2) hs, ld_ring (c := c) (g := f9) hg0 (show k0_off15 i 2#32 = ![(5 * (i 0).val + 5 * (i 1).val + 2 + 130) % 31, 64 * ((i 0).val % 5), 1024] from Gen.k0_off15_eq i 2) hs, ld_ring (c := c) (g := f9) hg0 (show k0_off16 i 2#32 = ![(5 * (i 0).val + 5 * (i 1).val + 2 + 130) % 31, 64 * ((i 0).val % 5), 1152] from Gen.k0_off16_eq i 2) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![0, 0, 0]) _ _ rfl _ _ (fun x hx => ?_) (fun hn0 => ?_)
  · have e0 : (j 0).val = 0 + (x 0).val := hx 0
    have e1 : (j 1).val = 0 + (x 1).val := hx 1
    have e2 : (j 2).val = 0 + (x 2).val := hx 2
    have e3 : (x 0).val < 1 := (x 0).isLt
    rw [show (j 0).val = 0 by omega, e1, e2]
    idx_vars x
    pointwise [runT.sl.v1066, runT.sl.v1057, runT.sl.v1041, runT.sl.v891, runT.sl.v993, runT.sl.v945, runT.sl.v897, runT.sl.v896, runT.sl.v902, runT.sl.v950, runT.sl.v998, runT.sl.v996, runT.sl.v1012, runT.sl.v1028, runT.sl.v1056, runT.sl.v1046, runT.sl.v1044, runT.sl.v1063, runT.sl.v1055, runT.sl.v1039, runT.sl.v991, runT.sl.v943, runT.sl.v895, runT.sl.v894, runT.sl.v905, runT.sl.v953, runT.sl.v1001, runT.sl.v1054, runT.sl.v1052, runT.sl.v1049, runT.sl.v331, runT.sl.cst_132, runT.sl.v1060, runT.sl.v1050, runT.sl.v1002, runT.sl.v954, runT.sl.v906, runT.sl.v892, k0_pay209, k0_pay204, k0_pay206, k0_pay177, k0_pay199, k0_pay194, k0_pay196, k0_pay189, k0_pay184, k0_pay186, k0_pay179, k0_pay180, k0_pay190, k0_pay200, k0_pay210, k0_pay208, k0_pay205, k0_pay207, k0_pay203, k0_pay198, k0_pay195, k0_pay197, k0_pay193, k0_pay188, k0_pay185, k0_pay187, k0_pay183, k0_pay178, k0_pay181, k0_pay191, k0_pay201, k0_pay213, k0_pay211, k0_pay212, k0_pay202, k0_pay192, k0_pay182, View.readCov, ld_ring (c := c) (g := (View.whole cc0_scratch0).writes (Elt Ideal) f9 (runT.sl.H9_6 c i M2 f2 f10 f11 f15)) hg (show k0_off7 i 2#32 = ![(5 * (i 0).val + 5 * (i 1).val + 2 + 130) % 31, 64 * ((i 0).val % 5), 0] from Gen.k0_off7_eq i 2) hs, ld_ring (c := c) (g := (View.whole cc0_scratch0).writes (Elt Ideal) f9 (runT.sl.H9_6 c i M2 f2 f10 f11 f15)) hg (show k0_off8 i 2#32 = ![(5 * (i 0).val + 5 * (i 1).val + 2 + 130) % 31, 64 * ((i 0).val % 5), 128] from Gen.k0_off8_eq i 2) hs, ld_ring (c := c) (g := (View.whole cc0_scratch0).writes (Elt Ideal) f9 (runT.sl.H9_6 c i M2 f2 f10 f11 f15)) hg (show k0_off9 i 2#32 = ![(5 * (i 0).val + 5 * (i 1).val + 2 + 130) % 31, 64 * ((i 0).val % 5), 256] from Gen.k0_off9_eq i 2) hs, ld_ring (c := c) (g := (View.whole cc0_scratch0).writes (Elt Ideal) f9 (runT.sl.H9_6 c i M2 f2 f10 f11 f15)) hg (show k0_off10 i 2#32 = ![(5 * (i 0).val + 5 * (i 1).val + 2 + 130) % 31, 64 * ((i 0).val % 5), 384] from Gen.k0_off10_eq i 2) hs, ld_ring (c := c) (g := (View.whole cc0_scratch0).writes (Elt Ideal) f9 (runT.sl.H9_6 c i M2 f2 f10 f11 f15)) hg (show k0_off11 i 2#32 = ![(5 * (i 0).val + 5 * (i 1).val + 2 + 130) % 31, 64 * ((i 0).val % 5), 512] from Gen.k0_off11_eq i 2) hs, ld_ring (c := c) (g := (View.whole cc0_scratch0).writes (Elt Ideal) f9 (runT.sl.H9_6 c i M2 f2 f10 f11 f15)) hg (show k0_off12 i 2#32 = ![(5 * (i 0).val + 5 * (i 1).val + 2 + 130) % 31, 64 * ((i 0).val % 5), 640] from Gen.k0_off12_eq i 2) hs, ld_ring (c := c) (g := f9) hg0 (show k0_off13 i 2#32 = ![(5 * (i 0).val + 5 * (i 1).val + 2 + 130) % 31, 64 * ((i 0).val % 5), 768] from Gen.k0_off13_eq i 2) hs, ld_ring (c := c) (g := f9) hg0 (show k0_off14 i 2#32 = ![(5 * (i 0).val + 5 * (i 1).val + 2 + 130) % 31, 64 * ((i 0).val % 5), 896] from Gen.k0_off14_eq i 2) hs, ld_ring (c := c) (g := f9) hg0 (show k0_off15 i 2#32 = ![(5 * (i 0).val + 5 * (i 1).val + 2 + 130) % 31, 64 * ((i 0).val % 5), 1024] from Gen.k0_off15_eq i 2) hs, ld_ring (c := c) (g := f9) hg0 (show k0_off16 i 2#32 = ![(5 * (i 0).val + 5 * (i 1).val + 2 + 130) % 31, 64 * ((i 0).val % 5), 1152] from Gen.k0_off16_eq i 2) hs, readAt_nat3 (prev _), readAt_nat3 hT, accN, totN, keptN, marN, dN, zero_add, Nat.reduceMul, if_true, if_false, OfNat.ofNat_ne_zero, one_ne_zero, OfNat.ofNat_ne_one, add_zero]
  exfalso
  have d2 : (j 0).val ≠ 2 := fun e => hn2 fun a => by
    fin_cases a
    · change 2 ≤ (j 0).val ∧ (j 0).val < 2 + 1; omega
    · change 0 ≤ (j 1).val ∧ (j 1).val < 0 + 64; omega
    · change 0 ≤ (j 2).val ∧ (j 2).val < 0 + 128; omega
  have d1 : (j 0).val ≠ 1 := fun e => hn1 fun a => by
    fin_cases a
    · change 1 ≤ (j 0).val ∧ (j 0).val < 1 + 1; omega
    · change 0 ≤ (j 1).val ∧ (j 1).val < 0 + 64; omega
    · change 0 ≤ (j 2).val ∧ (j 2).val < 0 + 128; omega
  have d0 : (j 0).val ≠ 0 := fun e => hn0 fun a => by
    fin_cases a
    · change 0 ≤ (j 0).val ∧ (j 0).val < 0 + 1; omega
    · change 0 ≤ (j 1).val ∧ (j 1).val < 0 + 64; omega
    · change 0 ≤ (j 2).val ∧ (j 2).val < 0 + 128; omega
  omega

set_option maxHeartbeats 2000000 in
/-- The accumulators after 4 slots. -/
theorem acc_4 (g : Bf (F := Ideal) c (Memref.whole cc0_scratch10)) (j : S3x64x128.Idx) :
    (Memref.whole cc0_scratch10).view.read (Elt Ideal) ((Memref.whole cc0_scratch10).view.writes (Elt Ideal) g (runT.sl.H19_12 c i M2 f2 f9 f10 f11 f15 f19 f20)) j
    = accN R A T (i 0).val (i 1).val 4 (j 0).val (j 1).val (j 2).val := by
  have hg := off_slot_8 c i M2 f2 f9 f10 f11 f15 X W RT WD R hW hX hRT hWD hR
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hs : (5 * (i 0).val + 5 * (i 1).val + 3 + 130) % 31 ≠ (5 * (i 0).val + (i 1).val) % 31 := by
    have := (i 1).isLt
    change (i 1).val < 5 at this
    omega
  have prev := acc_3 c i M2 f2 f9 f10 f11 f15 f19 f20 X W RT WD R A T hW hX hRT hWD hR hA hT
  have h0 : (j 0).val < 3 := (j 0).isLt
  have h1 : (j 1).val < 64 := (j 1).isLt
  have h2 : (j 2).val < 128 := (j 2).isLt
  simp only [runT.sl.H19_12]
  refine writes_step (s := S3x64x128) (off' := ![2, 0, 0]) _ _ rfl _ _ (fun x hx => ?_) (fun hn2 => ?_)
  · have e0 : (j 0).val = 2 + (x 0).val := hx 0
    have e1 : (j 1).val = 0 + (x 1).val := hx 1
    have e2 : (j 2).val = 0 + (x 2).val := hx 2
    have e3 : (x 0).val < 1 := (x 0).isLt
    rw [show (j 0).val = 2 by omega, e1, e2]
    idx_vars x
    pointwise [runT.sl.v1265, runT.sl.v1399, runT.sl.v1351, runT.sl.v1303, runT.sl.v1270, runT.sl.v1308, runT.sl.v1356, runT.sl.v1404, runT.sl.v1402, runT.sl.v1418, runT.sl.v1413, runT.sl.v1365, runT.sl.v1317, runT.sl.v1269, runT.sl.v1268, runT.sl.v1408, runT.sl.v1360, runT.sl.v1312, runT.sl.v1267, runT.sl.v1266, k0_pay270, k0_pay266, k0_pay268, k0_pay261, k0_pay257, k0_pay259, k0_pay252, k0_pay248, k0_pay250, k0_pay253, k0_pay262, k0_pay271, k0_pay274, k0_pay267, k0_pay269, k0_pay272, k0_pay265, k0_pay258, k0_pay260, k0_pay263, k0_pay256, k0_pay249, k0_pay251, k0_pay254, k0_pay273, k0_pay264, k0_pay255, k0_pay279, k0_pay275, k0_pay278, k0_pay276, k0_pay277, View.readCov, ld_ring (c := c) (g := (View.whole cc0_scratch0).writes (Elt Ideal) f9 (runT.sl.H9_8 c i M2 f2 f10 f11 f15)) hg (show k0_off7 i 3#32 = ![(5 * (i 0).val + 5 * (i 1).val + 3 + 130) % 31, 64 * ((i 0).val % 5), 0] from Gen.k0_off7_eq i 3) hs, ld_ring (c := c) (g := (View.whole cc0_scratch0).writes (Elt Ideal) f9 (runT.sl.H9_8 c i M2 f2 f10 f11 f15)) hg (show k0_off8 i 3#32 = ![(5 * (i 0).val + 5 * (i 1).val + 3 + 130) % 31, 64 * ((i 0).val % 5), 128] from Gen.k0_off8_eq i 3) hs, ld_ring (c := c) (g := (View.whole cc0_scratch0).writes (Elt Ideal) f9 (runT.sl.H9_8 c i M2 f2 f10 f11 f15)) hg (show k0_off9 i 3#32 = ![(5 * (i 0).val + 5 * (i 1).val + 3 + 130) % 31, 64 * ((i 0).val % 5), 256] from Gen.k0_off9_eq i 3) hs, ld_ring (c := c) (g := (View.whole cc0_scratch0).writes (Elt Ideal) f9 (runT.sl.H9_8 c i M2 f2 f10 f11 f15)) hg (show k0_off10 i 3#32 = ![(5 * (i 0).val + 5 * (i 1).val + 3 + 130) % 31, 64 * ((i 0).val % 5), 384] from Gen.k0_off10_eq i 3) hs, ld_ring (c := c) (g := (View.whole cc0_scratch0).writes (Elt Ideal) f9 (runT.sl.H9_8 c i M2 f2 f10 f11 f15)) hg (show k0_off11 i 3#32 = ![(5 * (i 0).val + 5 * (i 1).val + 3 + 130) % 31, 64 * ((i 0).val % 5), 512] from Gen.k0_off11_eq i 3) hs, ld_ring (c := c) (g := (View.whole cc0_scratch0).writes (Elt Ideal) f9 (runT.sl.H9_8 c i M2 f2 f10 f11 f15)) hg (show k0_off12 i 3#32 = ![(5 * (i 0).val + 5 * (i 1).val + 3 + 130) % 31, 64 * ((i 0).val % 5), 640] from Gen.k0_off12_eq i 3) hs, ld_ring (c := c) (g := (View.whole cc0_scratch0).writes (Elt Ideal) f9 (runT.sl.H9_8 c i M2 f2 f10 f11 f15)) hg (show k0_off13 i 3#32 = ![(5 * (i 0).val + 5 * (i 1).val + 3 + 130) % 31, 64 * ((i 0).val % 5), 768] from Gen.k0_off13_eq i 3) hs, ld_ring (c := c) (g := (View.whole cc0_scratch0).writes (Elt Ideal) f9 (runT.sl.H9_8 c i M2 f2 f10 f11 f15)) hg (show k0_off14 i 3#32 = ![(5 * (i 0).val + 5 * (i 1).val + 3 + 130) % 31, 64 * ((i 0).val % 5), 896] from Gen.k0_off14_eq i 3) hs, ld_ring (c := c) (g := f9) hg0 (show k0_off15 i 3#32 = ![(5 * (i 0).val + 5 * (i 1).val + 3 + 130) % 31, 64 * ((i 0).val % 5), 1024] from Gen.k0_off15_eq i 3) hs, ld_ring (c := c) (g := f9) hg0 (show k0_off16 i 3#32 = ![(5 * (i 0).val + 5 * (i 1).val + 3 + 130) % 31, 64 * ((i 0).val % 5), 1152] from Gen.k0_off16_eq i 3) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![1, 0, 0]) _ _ rfl _ _ (fun x hx => ?_) (fun hn1 => ?_)
  · have e0 : (j 0).val = 1 + (x 0).val := hx 0
    have e1 : (j 1).val = 0 + (x 1).val := hx 1
    have e2 : (j 2).val = 0 + (x 2).val := hx 2
    have e3 : (x 0).val < 1 := (x 0).isLt
    rw [show (j 0).val = 1 by omega, e1, e2]
    idx_vars x
    pointwise [runT.sl.v1265, runT.sl.v1399, runT.sl.v1351, runT.sl.v1303, runT.sl.v1270, runT.sl.v1308, runT.sl.v1356, runT.sl.v1404, runT.sl.v1402, runT.sl.v1418, runT.sl.v1413, runT.sl.v1365, runT.sl.v1317, runT.sl.v1269, runT.sl.v1268, runT.sl.v1408, runT.sl.v1360, runT.sl.v1312, runT.sl.v1267, runT.sl.v1266, k0_pay270, k0_pay266, k0_pay268, k0_pay261, k0_pay257, k0_pay259, k0_pay252, k0_pay248, k0_pay250, k0_pay253, k0_pay262, k0_pay271, k0_pay274, k0_pay267, k0_pay269, k0_pay272, k0_pay265, k0_pay258, k0_pay260, k0_pay263, k0_pay256, k0_pay249, k0_pay251, k0_pay254, k0_pay273, k0_pay264, k0_pay255, k0_pay279, k0_pay275, k0_pay278, k0_pay276, k0_pay277, View.readCov, ld_ring (c := c) (g := (View.whole cc0_scratch0).writes (Elt Ideal) f9 (runT.sl.H9_8 c i M2 f2 f10 f11 f15)) hg (show k0_off7 i 3#32 = ![(5 * (i 0).val + 5 * (i 1).val + 3 + 130) % 31, 64 * ((i 0).val % 5), 0] from Gen.k0_off7_eq i 3) hs, ld_ring (c := c) (g := (View.whole cc0_scratch0).writes (Elt Ideal) f9 (runT.sl.H9_8 c i M2 f2 f10 f11 f15)) hg (show k0_off8 i 3#32 = ![(5 * (i 0).val + 5 * (i 1).val + 3 + 130) % 31, 64 * ((i 0).val % 5), 128] from Gen.k0_off8_eq i 3) hs, ld_ring (c := c) (g := (View.whole cc0_scratch0).writes (Elt Ideal) f9 (runT.sl.H9_8 c i M2 f2 f10 f11 f15)) hg (show k0_off9 i 3#32 = ![(5 * (i 0).val + 5 * (i 1).val + 3 + 130) % 31, 64 * ((i 0).val % 5), 256] from Gen.k0_off9_eq i 3) hs, ld_ring (c := c) (g := (View.whole cc0_scratch0).writes (Elt Ideal) f9 (runT.sl.H9_8 c i M2 f2 f10 f11 f15)) hg (show k0_off10 i 3#32 = ![(5 * (i 0).val + 5 * (i 1).val + 3 + 130) % 31, 64 * ((i 0).val % 5), 384] from Gen.k0_off10_eq i 3) hs, ld_ring (c := c) (g := (View.whole cc0_scratch0).writes (Elt Ideal) f9 (runT.sl.H9_8 c i M2 f2 f10 f11 f15)) hg (show k0_off11 i 3#32 = ![(5 * (i 0).val + 5 * (i 1).val + 3 + 130) % 31, 64 * ((i 0).val % 5), 512] from Gen.k0_off11_eq i 3) hs, ld_ring (c := c) (g := (View.whole cc0_scratch0).writes (Elt Ideal) f9 (runT.sl.H9_8 c i M2 f2 f10 f11 f15)) hg (show k0_off12 i 3#32 = ![(5 * (i 0).val + 5 * (i 1).val + 3 + 130) % 31, 64 * ((i 0).val % 5), 640] from Gen.k0_off12_eq i 3) hs, ld_ring (c := c) (g := (View.whole cc0_scratch0).writes (Elt Ideal) f9 (runT.sl.H9_8 c i M2 f2 f10 f11 f15)) hg (show k0_off13 i 3#32 = ![(5 * (i 0).val + 5 * (i 1).val + 3 + 130) % 31, 64 * ((i 0).val % 5), 768] from Gen.k0_off13_eq i 3) hs, ld_ring (c := c) (g := (View.whole cc0_scratch0).writes (Elt Ideal) f9 (runT.sl.H9_8 c i M2 f2 f10 f11 f15)) hg (show k0_off14 i 3#32 = ![(5 * (i 0).val + 5 * (i 1).val + 3 + 130) % 31, 64 * ((i 0).val % 5), 896] from Gen.k0_off14_eq i 3) hs, ld_ring (c := c) (g := f9) hg0 (show k0_off15 i 3#32 = ![(5 * (i 0).val + 5 * (i 1).val + 3 + 130) % 31, 64 * ((i 0).val % 5), 1024] from Gen.k0_off15_eq i 3) hs, ld_ring (c := c) (g := f9) hg0 (show k0_off16 i 3#32 = ![(5 * (i 0).val + 5 * (i 1).val + 3 + 130) % 31, 64 * ((i 0).val % 5), 1152] from Gen.k0_off16_eq i 3) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![0, 0, 0]) _ _ rfl _ _ (fun x hx => ?_) (fun hn0 => ?_)
  · have e0 : (j 0).val = 0 + (x 0).val := hx 0
    have e1 : (j 1).val = 0 + (x 1).val := hx 1
    have e2 : (j 2).val = 0 + (x 2).val := hx 2
    have e3 : (x 0).val < 1 := (x 0).isLt
    rw [show (j 0).val = 0 by omega, e1, e2]
    idx_vars x
    pointwise [runT.sl.v1265, runT.sl.v1399, runT.sl.v1351, runT.sl.v1303, runT.sl.v1270, runT.sl.v1308, runT.sl.v1356, runT.sl.v1404, runT.sl.v1402, runT.sl.v1418, runT.sl.v1413, runT.sl.v1365, runT.sl.v1317, runT.sl.v1269, runT.sl.v1268, runT.sl.v1408, runT.sl.v1360, runT.sl.v1312, runT.sl.v1267, runT.sl.v1266, k0_pay270, k0_pay266, k0_pay268, k0_pay261, k0_pay257, k0_pay259, k0_pay252, k0_pay248, k0_pay250, k0_pay253, k0_pay262, k0_pay271, k0_pay274, k0_pay267, k0_pay269, k0_pay272, k0_pay265, k0_pay258, k0_pay260, k0_pay263, k0_pay256, k0_pay249, k0_pay251, k0_pay254, k0_pay273, k0_pay264, k0_pay255, k0_pay279, k0_pay275, k0_pay278, k0_pay276, k0_pay277, View.readCov, ld_ring (c := c) (g := (View.whole cc0_scratch0).writes (Elt Ideal) f9 (runT.sl.H9_8 c i M2 f2 f10 f11 f15)) hg (show k0_off7 i 3#32 = ![(5 * (i 0).val + 5 * (i 1).val + 3 + 130) % 31, 64 * ((i 0).val % 5), 0] from Gen.k0_off7_eq i 3) hs, ld_ring (c := c) (g := (View.whole cc0_scratch0).writes (Elt Ideal) f9 (runT.sl.H9_8 c i M2 f2 f10 f11 f15)) hg (show k0_off8 i 3#32 = ![(5 * (i 0).val + 5 * (i 1).val + 3 + 130) % 31, 64 * ((i 0).val % 5), 128] from Gen.k0_off8_eq i 3) hs, ld_ring (c := c) (g := (View.whole cc0_scratch0).writes (Elt Ideal) f9 (runT.sl.H9_8 c i M2 f2 f10 f11 f15)) hg (show k0_off9 i 3#32 = ![(5 * (i 0).val + 5 * (i 1).val + 3 + 130) % 31, 64 * ((i 0).val % 5), 256] from Gen.k0_off9_eq i 3) hs, ld_ring (c := c) (g := (View.whole cc0_scratch0).writes (Elt Ideal) f9 (runT.sl.H9_8 c i M2 f2 f10 f11 f15)) hg (show k0_off10 i 3#32 = ![(5 * (i 0).val + 5 * (i 1).val + 3 + 130) % 31, 64 * ((i 0).val % 5), 384] from Gen.k0_off10_eq i 3) hs, ld_ring (c := c) (g := (View.whole cc0_scratch0).writes (Elt Ideal) f9 (runT.sl.H9_8 c i M2 f2 f10 f11 f15)) hg (show k0_off11 i 3#32 = ![(5 * (i 0).val + 5 * (i 1).val + 3 + 130) % 31, 64 * ((i 0).val % 5), 512] from Gen.k0_off11_eq i 3) hs, ld_ring (c := c) (g := (View.whole cc0_scratch0).writes (Elt Ideal) f9 (runT.sl.H9_8 c i M2 f2 f10 f11 f15)) hg (show k0_off12 i 3#32 = ![(5 * (i 0).val + 5 * (i 1).val + 3 + 130) % 31, 64 * ((i 0).val % 5), 640] from Gen.k0_off12_eq i 3) hs, ld_ring (c := c) (g := (View.whole cc0_scratch0).writes (Elt Ideal) f9 (runT.sl.H9_8 c i M2 f2 f10 f11 f15)) hg (show k0_off13 i 3#32 = ![(5 * (i 0).val + 5 * (i 1).val + 3 + 130) % 31, 64 * ((i 0).val % 5), 768] from Gen.k0_off13_eq i 3) hs, ld_ring (c := c) (g := (View.whole cc0_scratch0).writes (Elt Ideal) f9 (runT.sl.H9_8 c i M2 f2 f10 f11 f15)) hg (show k0_off14 i 3#32 = ![(5 * (i 0).val + 5 * (i 1).val + 3 + 130) % 31, 64 * ((i 0).val % 5), 896] from Gen.k0_off14_eq i 3) hs, ld_ring (c := c) (g := f9) hg0 (show k0_off15 i 3#32 = ![(5 * (i 0).val + 5 * (i 1).val + 3 + 130) % 31, 64 * ((i 0).val % 5), 1024] from Gen.k0_off15_eq i 3) hs, ld_ring (c := c) (g := f9) hg0 (show k0_off16 i 3#32 = ![(5 * (i 0).val + 5 * (i 1).val + 3 + 130) % 31, 64 * ((i 0).val % 5), 1152] from Gen.k0_off16_eq i 3) hs, readAt_nat3 (prev _), readAt_nat3 hT, accN, totN, keptN, marN, dN, zero_add, Nat.reduceMul, if_true, if_false, OfNat.ofNat_ne_zero, one_ne_zero, OfNat.ofNat_ne_one, add_zero]
  exfalso
  have d2 : (j 0).val ≠ 2 := fun e => hn2 fun a => by
    fin_cases a
    · change 2 ≤ (j 0).val ∧ (j 0).val < 2 + 1; omega
    · change 0 ≤ (j 1).val ∧ (j 1).val < 0 + 64; omega
    · change 0 ≤ (j 2).val ∧ (j 2).val < 0 + 128; omega
  have d1 : (j 0).val ≠ 1 := fun e => hn1 fun a => by
    fin_cases a
    · change 1 ≤ (j 0).val ∧ (j 0).val < 1 + 1; omega
    · change 0 ≤ (j 1).val ∧ (j 1).val < 0 + 64; omega
    · change 0 ≤ (j 2).val ∧ (j 2).val < 0 + 128; omega
  have d0 : (j 0).val ≠ 0 := fun e => hn0 fun a => by
    fin_cases a
    · change 0 ≤ (j 0).val ∧ (j 0).val < 0 + 1; omega
    · change 0 ≤ (j 1).val ∧ (j 1).val < 0 + 64; omega
    · change 0 ≤ (j 2).val ∧ (j 2).val < 0 + 128; omega
  omega

set_option maxHeartbeats 2000000 in
/-- The accumulators after 5 slots. -/
theorem acc_5 (g : Bf (F := Ideal) c (Memref.whole cc0_scratch10)) (j : S3x64x128.Idx) :
    (Memref.whole cc0_scratch10).view.read (Elt Ideal) ((Memref.whole cc0_scratch10).view.writes (Elt Ideal) g (runT.sl.H19_15 c i M2 f2 f9 f10 f11 f15 f19 f20)) j
    = accN R A T (i 0).val (i 1).val 5 (j 0).val (j 1).val (j 2).val := by
  have hg := off_slot_10 c i M2 f2 f9 f10 f11 f15 X W RT WD R hW hX hRT hWD hR
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hs : (5 * (i 0).val + 5 * (i 1).val + 4 + 130) % 31 ≠ (5 * (i 0).val + (i 1).val) % 31 := by
    have := (i 1).isLt
    change (i 1).val < 5 at this
    omega
  have prev := acc_4 c i M2 f2 f9 f10 f11 f15 f19 f20 X W RT WD R A T hW hX hRT hWD hR hA hT
  have h0 : (j 0).val < 3 := (j 0).isLt
  have h1 : (j 1).val < 64 := (j 1).isLt
  have h2 : (j 2).val < 128 := (j 2).isLt
  simp only [runT.sl.H19_15]
  refine writes_step (s := S3x64x128) (off' := ![2, 0, 0]) _ _ rfl _ _ (fun x hx => ?_) (fun hn2 => ?_)
  · have e0 : (j 0).val = 2 + (x 0).val := hx 0
    have e1 : (j 1).val = 0 + (x 1).val := hx 1
    have e2 : (j 2).val = 0 + (x 2).val := hx 2
    have e3 : (x 0).val < 1 := (x 0).isLt
    rw [show (j 0).val = 2 by omega, e1, e2]
    idx_vars x
    pointwise [runT.sl.v1639, runT.sl.v1773, runT.sl.v1725, runT.sl.v1677, runT.sl.v1644, runT.sl.v1771, runT.sl.v1723, runT.sl.v1675, runT.sl.v1642, runT.sl.v1766, runT.sl.v1718, runT.sl.v1670, runT.sl.v1640, k0_pay307, k0_pay332, k0_pay324, k0_pay326, k0_pay328, k0_pay323, k0_pay315, k0_pay317, k0_pay319, k0_pay314, k0_pay308, k0_pay310, k0_pay331, k0_pay325, k0_pay327, k0_pay329, k0_pay322, k0_pay316, k0_pay318, k0_pay320, k0_pay313, k0_pay309, k0_pay311, k0_pay330, k0_pay321, k0_pay312, k0_pay339, k0_pay333, k0_pay335, k0_pay338, k0_pay334, k0_pay336, k0_pay337, View.readCov, ld_ring (c := c) (g := (View.whole cc0_scratch0).writes (Elt Ideal) f9 (runT.sl.H9_10 c i M2 f2 f10 f11 f15)) hg (show k0_off7 i 4#32 = ![(5 * (i 0).val + 5 * (i 1).val + 4 + 130) % 31, 64 * ((i 0).val % 5), 0] from Gen.k0_off7_eq i 4) hs, ld_ring (c := c) (g := (View.whole cc0_scratch0).writes (Elt Ideal) f9 (runT.sl.H9_10 c i M2 f2 f10 f11 f15)) hg (show k0_off8 i 4#32 = ![(5 * (i 0).val + 5 * (i 1).val + 4 + 130) % 31, 64 * ((i 0).val % 5), 128] from Gen.k0_off8_eq i 4) hs, ld_ring (c := c) (g := (View.whole cc0_scratch0).writes (Elt Ideal) f9 (runT.sl.H9_10 c i M2 f2 f10 f11 f15)) hg (show k0_off9 i 4#32 = ![(5 * (i 0).val + 5 * (i 1).val + 4 + 130) % 31, 64 * ((i 0).val % 5), 256] from Gen.k0_off9_eq i 4) hs, ld_ring (c := c) (g := (View.whole cc0_scratch0).writes (Elt Ideal) f9 (runT.sl.H9_10 c i M2 f2 f10 f11 f15)) hg (show k0_off10 i 4#32 = ![(5 * (i 0).val + 5 * (i 1).val + 4 + 130) % 31, 64 * ((i 0).val % 5), 384] from Gen.k0_off10_eq i 4) hs, ld_ring (c := c) (g := (View.whole cc0_scratch0).writes (Elt Ideal) f9 (runT.sl.H9_10 c i M2 f2 f10 f11 f15)) hg (show k0_off11 i 4#32 = ![(5 * (i 0).val + 5 * (i 1).val + 4 + 130) % 31, 64 * ((i 0).val % 5), 512] from Gen.k0_off11_eq i 4) hs, ld_ring (c := c) (g := (View.whole cc0_scratch0).writes (Elt Ideal) f9 (runT.sl.H9_10 c i M2 f2 f10 f11 f15)) hg (show k0_off12 i 4#32 = ![(5 * (i 0).val + 5 * (i 1).val + 4 + 130) % 31, 64 * ((i 0).val % 5), 640] from Gen.k0_off12_eq i 4) hs, ld_ring (c := c) (g := (View.whole cc0_scratch0).writes (Elt Ideal) f9 (runT.sl.H9_10 c i M2 f2 f10 f11 f15)) hg (show k0_off13 i 4#32 = ![(5 * (i 0).val + 5 * (i 1).val + 4 + 130) % 31, 64 * ((i 0).val % 5), 768] from Gen.k0_off13_eq i 4) hs, ld_ring (c := c) (g := (View.whole cc0_scratch0).writes (Elt Ideal) f9 (runT.sl.H9_10 c i M2 f2 f10 f11 f15)) hg (show k0_off14 i 4#32 = ![(5 * (i 0).val + 5 * (i 1).val + 4 + 130) % 31, 64 * ((i 0).val % 5), 896] from Gen.k0_off14_eq i 4) hs, ld_ring (c := c) (g := (View.whole cc0_scratch0).writes (Elt Ideal) f9 (runT.sl.H9_10 c i M2 f2 f10 f11 f15)) hg (show k0_off15 i 4#32 = ![(5 * (i 0).val + 5 * (i 1).val + 4 + 130) % 31, 64 * ((i 0).val % 5), 1024] from Gen.k0_off15_eq i 4) hs, ld_ring (c := c) (g := (View.whole cc0_scratch0).writes (Elt Ideal) f9 (runT.sl.H9_10 c i M2 f2 f10 f11 f15)) hg (show k0_off16 i 4#32 = ![(5 * (i 0).val + 5 * (i 1).val + 4 + 130) % 31, 64 * ((i 0).val % 5), 1152] from Gen.k0_off16_eq i 4) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![1, 0, 0]) _ _ rfl _ _ (fun x hx => ?_) (fun hn1 => ?_)
  · have e0 : (j 0).val = 1 + (x 0).val := hx 0
    have e1 : (j 1).val = 0 + (x 1).val := hx 1
    have e2 : (j 2).val = 0 + (x 2).val := hx 2
    have e3 : (x 0).val < 1 := (x 0).isLt
    rw [show (j 0).val = 1 by omega, e1, e2]
    idx_vars x
    pointwise [runT.sl.v1639, runT.sl.v1773, runT.sl.v1725, runT.sl.v1677, runT.sl.v1644, runT.sl.v1771, runT.sl.v1723, runT.sl.v1675, runT.sl.v1642, runT.sl.v1766, runT.sl.v1718, runT.sl.v1670, runT.sl.v1640, k0_pay307, k0_pay332, k0_pay324, k0_pay326, k0_pay328, k0_pay323, k0_pay315, k0_pay317, k0_pay319, k0_pay314, k0_pay308, k0_pay310, k0_pay331, k0_pay325, k0_pay327, k0_pay329, k0_pay322, k0_pay316, k0_pay318, k0_pay320, k0_pay313, k0_pay309, k0_pay311, k0_pay330, k0_pay321, k0_pay312, k0_pay339, k0_pay333, k0_pay335, k0_pay338, k0_pay334, k0_pay336, k0_pay337, View.readCov, ld_ring (c := c) (g := (View.whole cc0_scratch0).writes (Elt Ideal) f9 (runT.sl.H9_10 c i M2 f2 f10 f11 f15)) hg (show k0_off7 i 4#32 = ![(5 * (i 0).val + 5 * (i 1).val + 4 + 130) % 31, 64 * ((i 0).val % 5), 0] from Gen.k0_off7_eq i 4) hs, ld_ring (c := c) (g := (View.whole cc0_scratch0).writes (Elt Ideal) f9 (runT.sl.H9_10 c i M2 f2 f10 f11 f15)) hg (show k0_off8 i 4#32 = ![(5 * (i 0).val + 5 * (i 1).val + 4 + 130) % 31, 64 * ((i 0).val % 5), 128] from Gen.k0_off8_eq i 4) hs, ld_ring (c := c) (g := (View.whole cc0_scratch0).writes (Elt Ideal) f9 (runT.sl.H9_10 c i M2 f2 f10 f11 f15)) hg (show k0_off9 i 4#32 = ![(5 * (i 0).val + 5 * (i 1).val + 4 + 130) % 31, 64 * ((i 0).val % 5), 256] from Gen.k0_off9_eq i 4) hs, ld_ring (c := c) (g := (View.whole cc0_scratch0).writes (Elt Ideal) f9 (runT.sl.H9_10 c i M2 f2 f10 f11 f15)) hg (show k0_off10 i 4#32 = ![(5 * (i 0).val + 5 * (i 1).val + 4 + 130) % 31, 64 * ((i 0).val % 5), 384] from Gen.k0_off10_eq i 4) hs, ld_ring (c := c) (g := (View.whole cc0_scratch0).writes (Elt Ideal) f9 (runT.sl.H9_10 c i M2 f2 f10 f11 f15)) hg (show k0_off11 i 4#32 = ![(5 * (i 0).val + 5 * (i 1).val + 4 + 130) % 31, 64 * ((i 0).val % 5), 512] from Gen.k0_off11_eq i 4) hs, ld_ring (c := c) (g := (View.whole cc0_scratch0).writes (Elt Ideal) f9 (runT.sl.H9_10 c i M2 f2 f10 f11 f15)) hg (show k0_off12 i 4#32 = ![(5 * (i 0).val + 5 * (i 1).val + 4 + 130) % 31, 64 * ((i 0).val % 5), 640] from Gen.k0_off12_eq i 4) hs, ld_ring (c := c) (g := (View.whole cc0_scratch0).writes (Elt Ideal) f9 (runT.sl.H9_10 c i M2 f2 f10 f11 f15)) hg (show k0_off13 i 4#32 = ![(5 * (i 0).val + 5 * (i 1).val + 4 + 130) % 31, 64 * ((i 0).val % 5), 768] from Gen.k0_off13_eq i 4) hs, ld_ring (c := c) (g := (View.whole cc0_scratch0).writes (Elt Ideal) f9 (runT.sl.H9_10 c i M2 f2 f10 f11 f15)) hg (show k0_off14 i 4#32 = ![(5 * (i 0).val + 5 * (i 1).val + 4 + 130) % 31, 64 * ((i 0).val % 5), 896] from Gen.k0_off14_eq i 4) hs, ld_ring (c := c) (g := (View.whole cc0_scratch0).writes (Elt Ideal) f9 (runT.sl.H9_10 c i M2 f2 f10 f11 f15)) hg (show k0_off15 i 4#32 = ![(5 * (i 0).val + 5 * (i 1).val + 4 + 130) % 31, 64 * ((i 0).val % 5), 1024] from Gen.k0_off15_eq i 4) hs, ld_ring (c := c) (g := (View.whole cc0_scratch0).writes (Elt Ideal) f9 (runT.sl.H9_10 c i M2 f2 f10 f11 f15)) hg (show k0_off16 i 4#32 = ![(5 * (i 0).val + 5 * (i 1).val + 4 + 130) % 31, 64 * ((i 0).val % 5), 1152] from Gen.k0_off16_eq i 4) hs, readAt_nat3 (prev _), readAt_nat3 hT, accN, totN, keptN, marN, dN, zero_add, Nat.reduceMul, if_true, if_false, OfNat.ofNat_ne_zero, one_ne_zero, OfNat.ofNat_ne_one, add_zero]
  refine writes_step (s := S3x64x128) (off' := ![0, 0, 0]) _ _ rfl _ _ (fun x hx => ?_) (fun hn0 => ?_)
  · have e0 : (j 0).val = 0 + (x 0).val := hx 0
    have e1 : (j 1).val = 0 + (x 1).val := hx 1
    have e2 : (j 2).val = 0 + (x 2).val := hx 2
    have e3 : (x 0).val < 1 := (x 0).isLt
    rw [show (j 0).val = 0 by omega, e1, e2]
    idx_vars x
    pointwise [runT.sl.v1639, runT.sl.v1773, runT.sl.v1725, runT.sl.v1677, runT.sl.v1644, runT.sl.v1771, runT.sl.v1723, runT.sl.v1675, runT.sl.v1642, runT.sl.v1766, runT.sl.v1718, runT.sl.v1670, runT.sl.v1640, k0_pay307, k0_pay332, k0_pay324, k0_pay326, k0_pay328, k0_pay323, k0_pay315, k0_pay317, k0_pay319, k0_pay314, k0_pay308, k0_pay310, k0_pay331, k0_pay325, k0_pay327, k0_pay329, k0_pay322, k0_pay316, k0_pay318, k0_pay320, k0_pay313, k0_pay309, k0_pay311, k0_pay330, k0_pay321, k0_pay312, k0_pay339, k0_pay333, k0_pay335, k0_pay338, k0_pay334, k0_pay336, k0_pay337, View.readCov, ld_ring (c := c) (g := (View.whole cc0_scratch0).writes (Elt Ideal) f9 (runT.sl.H9_10 c i M2 f2 f10 f11 f15)) hg (show k0_off7 i 4#32 = ![(5 * (i 0).val + 5 * (i 1).val + 4 + 130) % 31, 64 * ((i 0).val % 5), 0] from Gen.k0_off7_eq i 4) hs, ld_ring (c := c) (g := (View.whole cc0_scratch0).writes (Elt Ideal) f9 (runT.sl.H9_10 c i M2 f2 f10 f11 f15)) hg (show k0_off8 i 4#32 = ![(5 * (i 0).val + 5 * (i 1).val + 4 + 130) % 31, 64 * ((i 0).val % 5), 128] from Gen.k0_off8_eq i 4) hs, ld_ring (c := c) (g := (View.whole cc0_scratch0).writes (Elt Ideal) f9 (runT.sl.H9_10 c i M2 f2 f10 f11 f15)) hg (show k0_off9 i 4#32 = ![(5 * (i 0).val + 5 * (i 1).val + 4 + 130) % 31, 64 * ((i 0).val % 5), 256] from Gen.k0_off9_eq i 4) hs, ld_ring (c := c) (g := (View.whole cc0_scratch0).writes (Elt Ideal) f9 (runT.sl.H9_10 c i M2 f2 f10 f11 f15)) hg (show k0_off10 i 4#32 = ![(5 * (i 0).val + 5 * (i 1).val + 4 + 130) % 31, 64 * ((i 0).val % 5), 384] from Gen.k0_off10_eq i 4) hs, ld_ring (c := c) (g := (View.whole cc0_scratch0).writes (Elt Ideal) f9 (runT.sl.H9_10 c i M2 f2 f10 f11 f15)) hg (show k0_off11 i 4#32 = ![(5 * (i 0).val + 5 * (i 1).val + 4 + 130) % 31, 64 * ((i 0).val % 5), 512] from Gen.k0_off11_eq i 4) hs, ld_ring (c := c) (g := (View.whole cc0_scratch0).writes (Elt Ideal) f9 (runT.sl.H9_10 c i M2 f2 f10 f11 f15)) hg (show k0_off12 i 4#32 = ![(5 * (i 0).val + 5 * (i 1).val + 4 + 130) % 31, 64 * ((i 0).val % 5), 640] from Gen.k0_off12_eq i 4) hs, ld_ring (c := c) (g := (View.whole cc0_scratch0).writes (Elt Ideal) f9 (runT.sl.H9_10 c i M2 f2 f10 f11 f15)) hg (show k0_off13 i 4#32 = ![(5 * (i 0).val + 5 * (i 1).val + 4 + 130) % 31, 64 * ((i 0).val % 5), 768] from Gen.k0_off13_eq i 4) hs, ld_ring (c := c) (g := (View.whole cc0_scratch0).writes (Elt Ideal) f9 (runT.sl.H9_10 c i M2 f2 f10 f11 f15)) hg (show k0_off14 i 4#32 = ![(5 * (i 0).val + 5 * (i 1).val + 4 + 130) % 31, 64 * ((i 0).val % 5), 896] from Gen.k0_off14_eq i 4) hs, ld_ring (c := c) (g := (View.whole cc0_scratch0).writes (Elt Ideal) f9 (runT.sl.H9_10 c i M2 f2 f10 f11 f15)) hg (show k0_off15 i 4#32 = ![(5 * (i 0).val + 5 * (i 1).val + 4 + 130) % 31, 64 * ((i 0).val % 5), 1024] from Gen.k0_off15_eq i 4) hs, ld_ring (c := c) (g := (View.whole cc0_scratch0).writes (Elt Ideal) f9 (runT.sl.H9_10 c i M2 f2 f10 f11 f15)) hg (show k0_off16 i 4#32 = ![(5 * (i 0).val + 5 * (i 1).val + 4 + 130) % 31, 64 * ((i 0).val % 5), 1152] from Gen.k0_off16_eq i 4) hs, readAt_nat3 (prev _), readAt_nat3 hT, accN, totN, keptN, marN, dN, zero_add, Nat.reduceMul, if_true, if_false, OfNat.ofNat_ne_zero, one_ne_zero, OfNat.ofNat_ne_one, add_zero]
  exfalso
  have d2 : (j 0).val ≠ 2 := fun e => hn2 fun a => by
    fin_cases a
    · change 2 ≤ (j 0).val ∧ (j 0).val < 2 + 1; omega
    · change 0 ≤ (j 1).val ∧ (j 1).val < 0 + 64; omega
    · change 0 ≤ (j 2).val ∧ (j 2).val < 0 + 128; omega
  have d1 : (j 0).val ≠ 1 := fun e => hn1 fun a => by
    fin_cases a
    · change 1 ≤ (j 0).val ∧ (j 0).val < 1 + 1; omega
    · change 0 ≤ (j 1).val ∧ (j 1).val < 0 + 64; omega
    · change 0 ≤ (j 2).val ∧ (j 2).val < 0 + 128; omega
  have d0 : (j 0).val ≠ 0 := fun e => hn0 fun a => by
    fin_cases a
    · change 0 ≤ (j 0).val ∧ (j 0).val < 0 + 1; omega
    · change 0 ≤ (j 1).val ∧ (j 1).val < 0 + 64; omega
    · change 0 ≤ (j 2).val ∧ (j 2).val < 0 + 128; omega
  omega

end
end Cert.KernelIdeal.Hand

end
-- ==== Proof.TileO.lean ====
module

public import proofs.«01_k».proof.Proof.TileA

@[expose] public section

noncomputable section

namespace Cert.KernelIdeal.Hand

open Cert.KernelIdeal Cert.KernelIdeal.Gen
open Idealize.ShloMosaic Idealize.ShloMosaic.Tactic

/-- Log-probability of row `g` at lane `l` of tile column `h` in the slot `t` blocks ahead, or 0 below the row's threshold. -/
def oN (R U : ℕ → ℕ → ℕ → EReal) (w ii g t h l : ℕ) : EReal :=
  if U 0 g l ≤ R ((5 * w + 5 * ii + t + 125) % 31) (64 * ((w + 4) % 5) + g) (128 * h + l) then
    R ((5 * w + 5 * ii + t + 125) % 31) (64 * ((w + 4) % 5) + g) (128 * h + l) - U 1 g l else 0

/-- The same by column of the output block. -/
def ocN (R U : ℕ → ℕ → ℕ → EReal) (w ii g q : ℕ) : EReal := oN R U w ii g (q / 1280) (q % 1280 / 128) (q % 128)

section
variable (c : Dev nD) (i : grid0.Coords) (M2 : Memref sig .tc .vmem S1280x1024 .bf16) (M6 : Memref sig .tc .vmem S64x6400 .bf16)
  (f2 : Bf (F := Ideal) c M2) (f6 : Bf (F := Ideal) c M6) (f9 : Bf (F := Ideal) c (Memref.whole cc0_scratch0)) (f10 : Bf (F := Ideal) c (Memref.whole cc0_scratch1))
  (f11 : Bf (F := Ideal) c (Memref.whole cc0_scratch2)) (f15 : Bf (F := Ideal) c (Memref.whole cc0_scratch6))
  (f21 : Bf (F := Ideal) c (Memref.whole cc0_scratch12))
  (X W RT : ℕ → ℕ → EReal) (WD : ℕ → ℕ → BitVec 32) (R U : ℕ → ℕ → ℕ → EReal)
  (hW : ∀ j : S1280x1024.Idx, M2.view.read (Elt Ideal) f2 j = W (j 0).val (j 1).val)
  (hX : ∀ j : S320x1024.Idx, (Memref.whole cc0_scratch1).view.read (Elt Ideal) f10 j = X (j 0).val (j 1).val)
  (hRT : ∀ j : S320x128.Idx, (Memref.whole cc0_scratch6).view.read (Elt Ideal) f15 j = RT (j 0).val (j 1).val)
  (hWD : ∀ j : S320x128.Idx, runT.sl.v58 (F := Ideal) c i f11 j = WD (j 0).val (j 1).val)
  (hR : ∀ j : S31x320x1280.Idx, (Memref.whole cc0_scratch0).view.read (Elt Ideal) f9 j = R (j 0).val (j 1).val (j 2).val)
  (hU : ∀ j : S2x64x128.Idx, (Memref.whole cc0_scratch12).view.read (Elt Ideal) f21 j = U (j 0).val (j 1).val (j 2).val)
include hW hX hRT hWD hR hU

set_option maxHeartbeats 2000000 in
/-- The first 3 column groups of the output block. -/
theorem out_3 (j : S64x6400.Idx) (hj : (j 1).val < 384) :
    M6.view.read (Elt Ideal) (M6.view.writes (Elt Ideal) f6 (runT.sl.H6_3 c i M2 f2 f9 f10 f11 f15 f21)) j = ocN R U (i 0).val (i 1).val (j 0).val (j 1).val := by
  simp only [runT.sl.H6_3]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg2 := off_slot_2 c i M2 f2 f9 f10 f11 f15 X W RT WD R hW hX hRT hWD hR
  have hs0 : (5 * (i 0).val + 5 * (i 1).val + 0 + 125) % 31 ≠ (5 * (i 0).val + (i 1).val) % 31 := by
    have := (i 1).isLt
    change (i 1).val < 5 at this
    omega
  refine writes_step (s := S64x6400) (off' := ![0, 256]) _ _ rfl _ _ (fun x hx => ?_) (fun hn2 => ?_)
  · have e0 : (j 0).val = 0 + (x 0).val := hx 0
    have e1 : (j 1).val = 256 + (x 1).val := hx 1
    rw [e0, e1]
    idx_vars x
    have x1b : x1.val < 128 := x1.isLt
    have q0 : (256 + x1.val) / 1280 = 0 := by omega
    have q1 : (256 + x1.val) % 1280 / 128 = 2 := by omega
    have q2 : (256 + x1.val) % 128 = x1.val := by omega
    simp only [ocN, q0, q1, q2]
    pointwise [runT.sl.v353, runT.sl.v352, runT.sl.v349, runT.sl.v348, runT.sl.v347, runT.sl.v322, runT.sl.v350, runT.sl.v324, runT.sl.v331, runT.sl.cst_132, ld_ring (c := c) (g := f9) hg0 (show k0_off19 i 0#32 = ![(5 * (i 0).val + 5 * (i 1).val + 0 + 125) % 31, 64 * (((i 0).val + 4) % 5), 256] from Gen.k0_off19_eq i 0) hs0, readAt_nat3 hU, oN, zero_add, Nat.reduceMul, add_zero]
  refine writes_step (s := S64x6400) (off' := ![0, 128]) _ _ rfl _ _ (fun x hx => ?_) (fun hn1 => ?_)
  · have e0 : (j 0).val = 0 + (x 0).val := hx 0
    have e1 : (j 1).val = 128 + (x 1).val := hx 1
    rw [e0, e1]
    idx_vars x
    have x1b : x1.val < 128 := x1.isLt
    have q0 : (128 + x1.val) / 1280 = 0 := by omega
    have q1 : (128 + x1.val) % 1280 / 128 = 1 := by omega
    have q2 : (128 + x1.val) % 128 = x1.val := by omega
    simp only [ocN, q0, q1, q2]
    pointwise [runT.sl.v343, runT.sl.v342, runT.sl.v339, runT.sl.v338, runT.sl.v322, runT.sl.v340, runT.sl.v324, runT.sl.v331, runT.sl.cst_132, ld_ring (c := c) (g := (View.whole cc0_scratch0).writes (Elt Ideal) f9 (runT.sl.H9_2 c i M2 f2 f10 f11 f15)) hg2 (show k0_off18 i 0#32 = ![(5 * (i 0).val + 5 * (i 1).val + 0 + 125) % 31, 64 * (((i 0).val + 4) % 5), 128] from Gen.k0_off18_eq i 0) hs0, readAt_nat3 hU, oN, zero_add, Nat.reduceMul, add_zero]
  refine writes_step (s := S64x6400) (off' := ![0, 0]) _ _ rfl _ _ (fun x hx => ?_) (fun hn0 => ?_)
  · have e0 : (j 0).val = 0 + (x 0).val := hx 0
    have e1 : (j 1).val = 0 + (x 1).val := hx 1
    rw [e0, e1]
    idx_vars x
    have x1b : x1.val < 128 := x1.isLt
    have q0 : (0 + x1.val) / 1280 = 0 := by omega
    have q1 : (0 + x1.val) % 1280 / 128 = 0 := by omega
    have q2 : (0 + x1.val) % 128 = x1.val := by omega
    simp only [ocN, q0, q1, q2]
    pointwise [runT.sl.v333, runT.sl.v332, runT.sl.v329, runT.sl.v328, runT.sl.v322, runT.sl.v330, runT.sl.v324, runT.sl.v331, runT.sl.cst_132, ld_ring (c := c) (g := (View.whole cc0_scratch0).writes (Elt Ideal) f9 (runT.sl.H9_2 c i M2 f2 f10 f11 f15)) hg2 (show k0_off17 i 0#32 = ![(5 * (i 0).val + 5 * (i 1).val + 0 + 125) % 31, 64 * (((i 0).val + 4) % 5), 0] from Gen.k0_off17_eq i 0) hs0, readAt_nat3 hU, oN, zero_add, Nat.reduceMul, add_zero]
  have d : ¬ ((256 ≤ (j 1).val ∧ (j 1).val < 384) ∨ (128 ≤ (j 1).val ∧ (j 1).val < 256) ∨ (0 ≤ (j 1).val ∧ (j 1).val < 128)) := by
    rintro (h | h | h)
    · refine hn2 fun a => ?_
      fin_cases a
      · change 0 ≤ (j 0).val ∧ (j 0).val < 0 + 64; omega
      · change 256 ≤ (j 1).val ∧ (j 1).val < 256 + 128; exact h
    · refine hn1 fun a => ?_
      fin_cases a
      · change 0 ≤ (j 0).val ∧ (j 0).val < 0 + 64; omega
      · change 128 ≤ (j 1).val ∧ (j 1).val < 128 + 128; exact h
    · refine hn0 fun a => ?_
      fin_cases a
      · change 0 ≤ (j 0).val ∧ (j 0).val < 0 + 64; omega
      · change 0 ≤ (j 1).val ∧ (j 1).val < 0 + 128; exact h
  omega

set_option maxHeartbeats 2000000 in
/-- The first 7 column groups of the output block. -/
theorem out_7 (j : S64x6400.Idx) (hj : (j 1).val < 896) :
    M6.view.read (Elt Ideal) (M6.view.writes (Elt Ideal) f6 (runT.sl.H6_7 c i M2 f2 f9 f10 f11 f15 f21)) j = ocN R U (i 0).val (i 1).val (j 0).val (j 1).val := by
  simp only [runT.sl.H6_7]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg2 := off_slot_2 c i M2 f2 f9 f10 f11 f15 X W RT WD R hW hX hRT hWD hR
  have hs0 : (5 * (i 0).val + 5 * (i 1).val + 0 + 125) % 31 ≠ (5 * (i 0).val + (i 1).val) % 31 := by
    have := (i 1).isLt
    change (i 1).val < 5 at this
    omega
  refine writes_step (s := S64x6400) (off' := ![0, 768]) _ _ rfl _ _ (fun x hx => ?_) (fun hn6 => ?_)
  · have e0 : (j 0).val = 0 + (x 0).val := hx 0
    have e1 : (j 1).val = 768 + (x 1).val := hx 1
    rw [e0, e1]
    idx_vars x
    have x1b : x1.val < 128 := x1.isLt
    have q0 : (768 + x1.val) / 1280 = 0 := by omega
    have q1 : (768 + x1.val) % 1280 / 128 = 6 := by omega
    have q2 : (768 + x1.val) % 128 = x1.val := by omega
    simp only [ocN, q0, q1, q2]
    pointwise [runT.sl.v393, runT.sl.v392, runT.sl.v389, runT.sl.v388, runT.sl.v387, runT.sl.v322, runT.sl.v390, runT.sl.v324, runT.sl.v331, runT.sl.cst_132, ld_ring (c := c) (g := f9) hg0 (show k0_off23 i 0#32 = ![(5 * (i 0).val + 5 * (i 1).val + 0 + 125) % 31, 64 * (((i 0).val + 4) % 5), 768] from Gen.k0_off23_eq i 0) hs0, readAt_nat3 hU, oN, zero_add, Nat.reduceMul, add_zero]
  refine writes_step (s := S64x6400) (off' := ![0, 640]) _ _ rfl _ _ (fun x hx => ?_) (fun hn5 => ?_)
  · have e0 : (j 0).val = 0 + (x 0).val := hx 0
    have e1 : (j 1).val = 640 + (x 1).val := hx 1
    rw [e0, e1]
    idx_vars x
    have x1b : x1.val < 128 := x1.isLt
    have q0 : (640 + x1.val) / 1280 = 0 := by omega
    have q1 : (640 + x1.val) % 1280 / 128 = 5 := by omega
    have q2 : (640 + x1.val) % 128 = x1.val := by omega
    simp only [ocN, q0, q1, q2]
    pointwise [runT.sl.v383, runT.sl.v382, runT.sl.v379, runT.sl.v378, runT.sl.v377, runT.sl.v322, runT.sl.v380, runT.sl.v324, runT.sl.v331, runT.sl.cst_132, ld_ring (c := c) (g := f9) hg0 (show k0_off22 i 0#32 = ![(5 * (i 0).val + 5 * (i 1).val + 0 + 125) % 31, 64 * (((i 0).val + 4) % 5), 640] from Gen.k0_off22_eq i 0) hs0, readAt_nat3 hU, oN, zero_add, Nat.reduceMul, add_zero]
  refine writes_step (s := S64x6400) (off' := ![0, 512]) _ _ rfl _ _ (fun x hx => ?_) (fun hn4 => ?_)
  · have e0 : (j 0).val = 0 + (x 0).val := hx 0
    have e1 : (j 1).val = 512 + (x 1).val := hx 1
    rw [e0, e1]
    idx_vars x
    have x1b : x1.val < 128 := x1.isLt
    have q0 : (512 + x1.val) / 1280 = 0 := by omega
    have q1 : (512 + x1.val) % 1280 / 128 = 4 := by omega
    have q2 : (512 + x1.val) % 128 = x1.val := by omega
    simp only [ocN, q0, q1, q2]
    pointwise [runT.sl.v373, runT.sl.v372, runT.sl.v369, runT.sl.v368, runT.sl.v367, runT.sl.v322, runT.sl.v370, runT.sl.v324, runT.sl.v331, runT.sl.cst_132, ld_ring (c := c) (g := f9) hg0 (show k0_off21 i 0#32 = ![(5 * (i 0).val + 5 * (i 1).val + 0 + 125) % 31, 64 * (((i 0).val + 4) % 5), 512] from Gen.k0_off21_eq i 0) hs0, readAt_nat3 hU, oN, zero_add, Nat.reduceMul, add_zero]
  refine writes_step (s := S64x6400) (off' := ![0, 384]) _ _ rfl _ _ (fun x hx => ?_) (fun hn3 => ?_)
  · have e0 : (j 0).val = 0 + (x 0).val := hx 0
    have e1 : (j 1).val = 384 + (x 1).val := hx 1
    rw [e0, e1]
    idx_vars x
    have x1b : x1.val < 128 := x1.isLt
    have q0 : (384 + x1.val) / 1280 = 0 := by omega
    have q1 : (384 + x1.val) % 1280 / 128 = 3 := by omega
    have q2 : (384 + x1.val) % 128 = x1.val := by omega
    simp only [ocN, q0, q1, q2]
    pointwise [runT.sl.v363, runT.sl.v362, runT.sl.v359, runT.sl.v358, runT.sl.v357, runT.sl.v322, runT.sl.v360, runT.sl.v324, runT.sl.v331, runT.sl.cst_132, ld_ring (c := c) (g := f9) hg0 (show k0_off20 i 0#32 = ![(5 * (i 0).val + 5 * (i 1).val + 0 + 125) % 31, 64 * (((i 0).val + 4) % 5), 384] from Gen.k0_off20_eq i 0) hs0, readAt_nat3 hU, oN, zero_add, Nat.reduceMul, add_zero]
  have d : ¬ ((768 ≤ (j 1).val ∧ (j 1).val < 896) ∨ (640 ≤ (j 1).val ∧ (j 1).val < 768) ∨ (512 ≤ (j 1).val ∧ (j 1).val < 640) ∨ (384 ≤ (j 1).val ∧ (j 1).val < 512)) := by
    rintro (h | h | h | h)
    · refine hn6 fun a => ?_
      fin_cases a
      · change 0 ≤ (j 0).val ∧ (j 0).val < 0 + 64; omega
      · change 768 ≤ (j 1).val ∧ (j 1).val < 768 + 128; exact h
    · refine hn5 fun a => ?_
      fin_cases a
      · change 0 ≤ (j 0).val ∧ (j 0).val < 0 + 64; omega
      · change 640 ≤ (j 1).val ∧ (j 1).val < 640 + 128; exact h
    · refine hn4 fun a => ?_
      fin_cases a
      · change 0 ≤ (j 0).val ∧ (j 0).val < 0 + 64; omega
      · change 512 ≤ (j 1).val ∧ (j 1).val < 512 + 128; exact h
    · refine hn3 fun a => ?_
      fin_cases a
      · change 0 ≤ (j 0).val ∧ (j 0).val < 0 + 64; omega
      · change 384 ≤ (j 1).val ∧ (j 1).val < 384 + 128; exact h
  exact out_3 c i M2 M6 f2 f6 f9 f10 f11 f15 f21 X W RT WD R U hW hX hRT hWD hR hU j (by omega)

set_option maxHeartbeats 2000000 in
/-- The first 10 column groups of the output block. -/
theorem out_10 (j : S64x6400.Idx) (hj : (j 1).val < 1280) :
    M6.view.read (Elt Ideal) (M6.view.writes (Elt Ideal) f6 (runT.sl.H6_10 c i M2 f2 f9 f10 f11 f15 f21)) j = ocN R U (i 0).val (i 1).val (j 0).val (j 1).val := by
  simp only [runT.sl.H6_10]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg2 := off_slot_2 c i M2 f2 f9 f10 f11 f15 X W RT WD R hW hX hRT hWD hR
  have hs0 : (5 * (i 0).val + 5 * (i 1).val + 0 + 125) % 31 ≠ (5 * (i 0).val + (i 1).val) % 31 := by
    have := (i 1).isLt
    change (i 1).val < 5 at this
    omega
  refine writes_step (s := S64x6400) (off' := ![0, 1152]) _ _ rfl _ _ (fun x hx => ?_) (fun hn9 => ?_)
  · have e0 : (j 0).val = 0 + (x 0).val := hx 0
    have e1 : (j 1).val = 1152 + (x 1).val := hx 1
    rw [e0, e1]
    idx_vars x
    have x1b : x1.val < 128 := x1.isLt
    have q0 : (1152 + x1.val) / 1280 = 0 := by omega
    have q1 : (1152 + x1.val) % 1280 / 128 = 9 := by omega
    have q2 : (1152 + x1.val) % 128 = x1.val := by omega
    simp only [ocN, q0, q1, q2]
    pointwise [runT.sl.v423, runT.sl.v422, runT.sl.v419, runT.sl.v418, runT.sl.v417, runT.sl.v322, runT.sl.v420, runT.sl.v324, runT.sl.v331, runT.sl.cst_132, ld_ring (c := c) (g := f9) hg0 (show k0_off26 i 0#32 = ![(5 * (i 0).val + 5 * (i 1).val + 0 + 125) % 31, 64 * (((i 0).val + 4) % 5), 1152] from Gen.k0_off26_eq i 0) hs0, readAt_nat3 hU, oN, zero_add, Nat.reduceMul, add_zero]
  refine writes_step (s := S64x6400) (off' := ![0, 1024]) _ _ rfl _ _ (fun x hx => ?_) (fun hn8 => ?_)
  · have e0 : (j 0).val = 0 + (x 0).val := hx 0
    have e1 : (j 1).val = 1024 + (x 1).val := hx 1
    rw [e0, e1]
    idx_vars x
    have x1b : x1.val < 128 := x1.isLt
    have q0 : (1024 + x1.val) / 1280 = 0 := by omega
    have q1 : (1024 + x1.val) % 1280 / 128 = 8 := by omega
    have q2 : (1024 + x1.val) % 128 = x1.val := by omega
    simp only [ocN, q0, q1, q2]
    pointwise [runT.sl.v413, runT.sl.v412, runT.sl.v409, runT.sl.v408, runT.sl.v407, runT.sl.v322, runT.sl.v410, runT.sl.v324, runT.sl.v331, runT.sl.cst_132, ld_ring (c := c) (g := f9) hg0 (show k0_off25 i 0#32 = ![(5 * (i 0).val + 5 * (i 1).val + 0 + 125) % 31, 64 * (((i 0).val + 4) % 5), 1024] from Gen.k0_off25_eq i 0) hs0, readAt_nat3 hU, oN, zero_add, Nat.reduceMul, add_zero]
  refine writes_step (s := S64x6400) (off' := ![0, 896]) _ _ rfl _ _ (fun x hx => ?_) (fun hn7 => ?_)
  · have e0 : (j 0).val = 0 + (x 0).val := hx 0
    have e1 : (j 1).val = 896 + (x 1).val := hx 1
    rw [e0, e1]
    idx_vars x
    have x1b : x1.val < 128 := x1.isLt
    have q0 : (896 + x1.val) / 1280 = 0 := by omega
    have q1 : (896 + x1.val) % 1280 / 128 = 7 := by omega
    have q2 : (896 + x1.val) % 128 = x1.val := by omega
    simp only [ocN, q0, q1, q2]
    pointwise [runT.sl.v403, runT.sl.v402, runT.sl.v399, runT.sl.v398, runT.sl.v, runT.sl.v322, runT.sl.v400, runT.sl.v324, runT.sl.v331, runT.sl.cst_132, ld_ring (c := c) (g := f9) hg0 (show k0_off24 i 0#32 = ![(5 * (i 0).val + 5 * (i 1).val + 0 + 125) % 31, 64 * (((i 0).val + 4) % 5), 896] from Gen.k0_off24_eq i 0) hs0, readAt_nat3 hU, oN, zero_add, Nat.reduceMul, add_zero]
  have d : ¬ ((1152 ≤ (j 1).val ∧ (j 1).val < 1280) ∨ (1024 ≤ (j 1).val ∧ (j 1).val < 1152) ∨ (896 ≤ (j 1).val ∧ (j 1).val < 1024)) := by
    rintro (h | h | h)
    · refine hn9 fun a => ?_
      fin_cases a
      · change 0 ≤ (j 0).val ∧ (j 0).val < 0 + 64; omega
      · change 1152 ≤ (j 1).val ∧ (j 1).val < 1152 + 128; exact h
    · refine hn8 fun a => ?_
      fin_cases a
      · change 0 ≤ (j 0).val ∧ (j 0).val < 0 + 64; omega
      · change 1024 ≤ (j 1).val ∧ (j 1).val < 1024 + 128; exact h
    · refine hn7 fun a => ?_
      fin_cases a
      · change 0 ≤ (j 0).val ∧ (j 0).val < 0 + 64; omega
      · change 896 ≤ (j 1).val ∧ (j 1).val < 896 + 128; exact h
  exact out_7 c i M2 M6 f2 f6 f9 f10 f11 f15 f21 X W RT WD R U hW hX hRT hWD hR hU j (by omega)

set_option maxHeartbeats 2000000 in
/-- The first 12 column groups of the output block. -/
theorem out_12 (j : S64x6400.Idx) (hj : (j 1).val < 1536) :
    M6.view.read (Elt Ideal) (M6.view.writes (Elt Ideal) f6 (runT.sl.H6_12 c i M2 f2 f9 f10 f11 f15 f21)) j = ocN R U (i 0).val (i 1).val (j 0).val (j 1).val := by
  simp only [runT.sl.H6_12]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg4 := off_slot_4 c i M2 f2 f9 f10 f11 f15 X W RT WD R hW hX hRT hWD hR
  have hs1 : (5 * (i 0).val + 5 * (i 1).val + 1 + 125) % 31 ≠ (5 * (i 0).val + (i 1).val) % 31 := by
    have := (i 1).isLt
    change (i 1).val < 5 at this
    omega
  refine writes_step (s := S64x6400) (off' := ![0, 1408]) _ _ rfl _ _ (fun x hx => ?_) (fun hn11 => ?_)
  · have e0 : (j 0).val = 0 + (x 0).val := hx 0
    have e1 : (j 1).val = 1408 + (x 1).val := hx 1
    rw [e0, e1]
    idx_vars x
    have x1b : x1.val < 128 := x1.isLt
    have q0 : (1408 + x1.val) / 1280 = 1 := by omega
    have q1 : (1408 + x1.val) % 1280 / 128 = 1 := by omega
    have q2 : (1408 + x1.val) % 128 = x1.val := by omega
    simp only [ocN, q0, q1, q2]
    pointwise [runT.sl.v717, runT.sl.v716, runT.sl.v713, runT.sl.v712, runT.sl.v322, runT.sl.v714, runT.sl.v324, runT.sl.v331, runT.sl.cst_132, ld_ring (c := c) (g := (View.whole cc0_scratch0).writes (Elt Ideal) f9 (runT.sl.H9_4 c i M2 f2 f10 f11 f15)) hg4 (show k0_off18 i 1#32 = ![(5 * (i 0).val + 5 * (i 1).val + 1 + 125) % 31, 64 * (((i 0).val + 4) % 5), 128] from Gen.k0_off18_eq i 1) hs1, readAt_nat3 hU, oN, zero_add, Nat.reduceMul, add_zero]
  refine writes_step (s := S64x6400) (off' := ![0, 1280]) _ _ rfl _ _ (fun x hx => ?_) (fun hn10 => ?_)
  · have e0 : (j 0).val = 0 + (x 0).val := hx 0
    have e1 : (j 1).val = 1280 + (x 1).val := hx 1
    rw [e0, e1]
    idx_vars x
    have x1b : x1.val < 128 := x1.isLt
    have q0 : (1280 + x1.val) / 1280 = 1 := by omega
    have q1 : (1280 + x1.val) % 1280 / 128 = 0 := by omega
    have q2 : (1280 + x1.val) % 128 = x1.val := by omega
    simp only [ocN, q0, q1, q2]
    pointwise [runT.sl.v707, runT.sl.v706, runT.sl.v703, runT.sl.v702, runT.sl.v322, runT.sl.v704, runT.sl.v324, runT.sl.v331, runT.sl.cst_132, ld_ring (c := c) (g := (View.whole cc0_scratch0).writes (Elt Ideal) f9 (runT.sl.H9_4 c i M2 f2 f10 f11 f15)) hg4 (show k0_off17 i 1#32 = ![(5 * (i 0).val + 5 * (i 1).val + 1 + 125) % 31, 64 * (((i 0).val + 4) % 5), 0] from Gen.k0_off17_eq i 1) hs1, readAt_nat3 hU, oN, zero_add, Nat.reduceMul, add_zero]
  have d : ¬ ((1408 ≤ (j 1).val ∧ (j 1).val < 1536) ∨ (1280 ≤ (j 1).val ∧ (j 1).val < 1408)) := by
    rintro (h | h)
    · refine hn11 fun a => ?_
      fin_cases a
      · change 0 ≤ (j 0).val ∧ (j 0).val < 0 + 64; omega
      · change 1408 ≤ (j 1).val ∧ (j 1).val < 1408 + 128; exact h
    · refine hn10 fun a => ?_
      fin_cases a
      · change 0 ≤ (j 0).val ∧ (j 0).val < 0 + 64; omega
      · change 1280 ≤ (j 1).val ∧ (j 1).val < 1280 + 128; exact h
  exact out_10 c i M2 M6 f2 f6 f9 f10 f11 f15 f21 X W RT WD R U hW hX hRT hWD hR hU j (by omega)

set_option maxHeartbeats 2000000 in
/-- The first 16 column groups of the output block. -/
theorem out_16 (j : S64x6400.Idx) (hj : (j 1).val < 2048) :
    M6.view.read (Elt Ideal) (M6.view.writes (Elt Ideal) f6 (runT.sl.H6_16 c i M2 f2 f9 f10 f11 f15 f21)) j = ocN R U (i 0).val (i 1).val (j 0).val (j 1).val := by
  simp only [runT.sl.H6_16]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg4 := off_slot_4 c i M2 f2 f9 f10 f11 f15 X W RT WD R hW hX hRT hWD hR
  have hs1 : (5 * (i 0).val + 5 * (i 1).val + 1 + 125) % 31 ≠ (5 * (i 0).val + (i 1).val) % 31 := by
    have := (i 1).isLt
    change (i 1).val < 5 at this
    omega
  refine writes_step (s := S64x6400) (off' := ![0, 1920]) _ _ rfl _ _ (fun x hx => ?_) (fun hn15 => ?_)
  · have e0 : (j 0).val = 0 + (x 0).val := hx 0
    have e1 : (j 1).val = 1920 + (x 1).val := hx 1
    rw [e0, e1]
    idx_vars x
    have x1b : x1.val < 128 := x1.isLt
    have q0 : (1920 + x1.val) / 1280 = 1 := by omega
    have q1 : (1920 + x1.val) % 1280 / 128 = 5 := by omega
    have q2 : (1920 + x1.val) % 128 = x1.val := by omega
    simp only [ocN, q0, q1, q2]
    pointwise [runT.sl.v757, runT.sl.v756, runT.sl.v753, runT.sl.v752, runT.sl.v751, runT.sl.v322, runT.sl.v754, runT.sl.v324, runT.sl.v331, runT.sl.cst_132, ld_ring (c := c) (g := f9) hg0 (show k0_off22 i 1#32 = ![(5 * (i 0).val + 5 * (i 1).val + 1 + 125) % 31, 64 * (((i 0).val + 4) % 5), 640] from Gen.k0_off22_eq i 1) hs1, readAt_nat3 hU, oN, zero_add, Nat.reduceMul, add_zero]
  refine writes_step (s := S64x6400) (off' := ![0, 1792]) _ _ rfl _ _ (fun x hx => ?_) (fun hn14 => ?_)
  · have e0 : (j 0).val = 0 + (x 0).val := hx 0
    have e1 : (j 1).val = 1792 + (x 1).val := hx 1
    rw [e0, e1]
    idx_vars x
    have x1b : x1.val < 128 := x1.isLt
    have q0 : (1792 + x1.val) / 1280 = 1 := by omega
    have q1 : (1792 + x1.val) % 1280 / 128 = 4 := by omega
    have q2 : (1792 + x1.val) % 128 = x1.val := by omega
    simp only [ocN, q0, q1, q2]
    pointwise [runT.sl.v747, runT.sl.v746, runT.sl.v743, runT.sl.v742, runT.sl.v741, runT.sl.v322, runT.sl.v744, runT.sl.v324, runT.sl.v331, runT.sl.cst_132, ld_ring (c := c) (g := f9) hg0 (show k0_off21 i 1#32 = ![(5 * (i 0).val + 5 * (i 1).val + 1 + 125) % 31, 64 * (((i 0).val + 4) % 5), 512] from Gen.k0_off21_eq i 1) hs1, readAt_nat3 hU, oN, zero_add, Nat.reduceMul, add_zero]
  refine writes_step (s := S64x6400) (off' := ![0, 1664]) _ _ rfl _ _ (fun x hx => ?_) (fun hn13 => ?_)
  · have e0 : (j 0).val = 0 + (x 0).val := hx 0
    have e1 : (j 1).val = 1664 + (x 1).val := hx 1
    rw [e0, e1]
    idx_vars x
    have x1b : x1.val < 128 := x1.isLt
    have q0 : (1664 + x1.val) / 1280 = 1 := by omega
    have q1 : (1664 + x1.val) % 1280 / 128 = 3 := by omega
    have q2 : (1664 + x1.val) % 128 = x1.val := by omega
    simp only [ocN, q0, q1, q2]
    pointwise [runT.sl.v737, runT.sl.v736, runT.sl.v733, runT.sl.v732, runT.sl.v322, runT.sl.v734, runT.sl.v324, runT.sl.v331, runT.sl.cst_132, ld_ring (c := c) (g := (View.whole cc0_scratch0).writes (Elt Ideal) f9 (runT.sl.H9_4 c i M2 f2 f10 f11 f15)) hg4 (show k0_off20 i 1#32 = ![(5 * (i 0).val + 5 * (i 1).val + 1 + 125) % 31, 64 * (((i 0).val + 4) % 5), 384] from Gen.k0_off20_eq i 1) hs1, readAt_nat3 hU, oN, zero_add, Nat.reduceMul, add_zero]
  refine writes_step (s := S64x6400) (off' := ![0, 1536]) _ _ rfl _ _ (fun x hx => ?_) (fun hn12 => ?_)
  · have e0 : (j 0).val = 0 + (x 0).val := hx 0
    have e1 : (j 1).val = 1536 + (x 1).val := hx 1
    rw [e0, e1]
    idx_vars x
    have x1b : x1.val < 128 := x1.isLt
    have q0 : (1536 + x1.val) / 1280 = 1 := by omega
    have q1 : (1536 + x1.val) % 1280 / 128 = 2 := by omega
    have q2 : (1536 + x1.val) % 128 = x1.val := by omega
    simp only [ocN, q0, q1, q2]
    pointwise [runT.sl.v727, runT.sl.v726, runT.sl.v723, runT.sl.v722, runT.sl.v721, runT.sl.v322, runT.sl.v724, runT.sl.v324, runT.sl.v331, runT.sl.cst_132, ld_ring (c := c) (g := (View.whole cc0_scratch0).writes (Elt Ideal) f9 (runT.sl.H9_4 c i M2 f2 f10 f11 f15)) hg4 (show k0_off19 i 1#32 = ![(5 * (i 0).val + 5 * (i 1).val + 1 + 125) % 31, 64 * (((i 0).val + 4) % 5), 256] from Gen.k0_off19_eq i 1) hs1, readAt_nat3 hU, oN, zero_add, Nat.reduceMul, add_zero]
  have d : ¬ ((1920 ≤ (j 1).val ∧ (j 1).val < 2048) ∨ (1792 ≤ (j 1).val ∧ (j 1).val < 1920) ∨ (1664 ≤ (j 1).val ∧ (j 1).val < 1792) ∨ (1536 ≤ (j 1).val ∧ (j 1).val < 1664)) := by
    rintro (h | h | h | h)
    · refine hn15 fun a => ?_
      fin_cases a
      · change 0 ≤ (j 0).val ∧ (j 0).val < 0 + 64; omega
      · change 1920 ≤ (j 1).val ∧ (j 1).val < 1920 + 128; exact h
    · refine hn14 fun a => ?_
      fin_cases a
      · change 0 ≤ (j 0).val ∧ (j 0).val < 0 + 64; omega
      · change 1792 ≤ (j 1).val ∧ (j 1).val < 1792 + 128; exact h
    · refine hn13 fun a => ?_
      fin_cases a
      · change 0 ≤ (j 0).val ∧ (j 0).val < 0 + 64; omega
      · change 1664 ≤ (j 1).val ∧ (j 1).val < 1664 + 128; exact h
    · refine hn12 fun a => ?_
      fin_cases a
      · change 0 ≤ (j 0).val ∧ (j 0).val < 0 + 64; omega
      · change 1536 ≤ (j 1).val ∧ (j 1).val < 1536 + 128; exact h
  exact out_12 c i M2 M6 f2 f6 f9 f10 f11 f15 f21 X W RT WD R U hW hX hRT hWD hR hU j (by omega)

set_option maxHeartbeats 2000000 in
/-- The first 20 column groups of the output block. -/
theorem out_20 (j : S64x6400.Idx) (hj : (j 1).val < 2560) :
    M6.view.read (Elt Ideal) (M6.view.writes (Elt Ideal) f6 (runT.sl.H6_20 c i M2 f2 f9 f10 f11 f15 f21)) j = ocN R U (i 0).val (i 1).val (j 0).val (j 1).val := by
  simp only [runT.sl.H6_20]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg4 := off_slot_4 c i M2 f2 f9 f10 f11 f15 X W RT WD R hW hX hRT hWD hR
  have hs1 : (5 * (i 0).val + 5 * (i 1).val + 1 + 125) % 31 ≠ (5 * (i 0).val + (i 1).val) % 31 := by
    have := (i 1).isLt
    change (i 1).val < 5 at this
    omega
  refine writes_step (s := S64x6400) (off' := ![0, 2432]) _ _ rfl _ _ (fun x hx => ?_) (fun hn19 => ?_)
  · have e0 : (j 0).val = 0 + (x 0).val := hx 0
    have e1 : (j 1).val = 2432 + (x 1).val := hx 1
    rw [e0, e1]
    idx_vars x
    have x1b : x1.val < 128 := x1.isLt
    have q0 : (2432 + x1.val) / 1280 = 1 := by omega
    have q1 : (2432 + x1.val) % 1280 / 128 = 9 := by omega
    have q2 : (2432 + x1.val) % 128 = x1.val := by omega
    simp only [ocN, q0, q1, q2]
    pointwise [runT.sl.v797, runT.sl.v796, runT.sl.v793, runT.sl.v792, runT.sl.v791, runT.sl.v322, runT.sl.v794, runT.sl.v324, runT.sl.v331, runT.sl.cst_132, ld_ring (c := c) (g := f9) hg0 (show k0_off26 i 1#32 = ![(5 * (i 0).val + 5 * (i 1).val + 1 + 125) % 31, 64 * (((i 0).val + 4) % 5), 1152] from Gen.k0_off26_eq i 1) hs1, readAt_nat3 hU, oN, zero_add, Nat.reduceMul, add_zero]
  refine writes_step (s := S64x6400) (off' := ![0, 2304]) _ _ rfl _ _ (fun x hx => ?_) (fun hn18 => ?_)
  · have e0 : (j 0).val = 0 + (x 0).val := hx 0
    have e1 : (j 1).val = 2304 + (x 1).val := hx 1
    rw [e0, e1]
    idx_vars x
    have x1b : x1.val < 128 := x1.isLt
    have q0 : (2304 + x1.val) / 1280 = 1 := by omega
    have q1 : (2304 + x1.val) % 1280 / 128 = 8 := by omega
    have q2 : (2304 + x1.val) % 128 = x1.val := by omega
    simp only [ocN, q0, q1, q2]
    pointwise [runT.sl.v787, runT.sl.v786, runT.sl.v783, runT.sl.v782, runT.sl.v781, runT.sl.v322, runT.sl.v784, runT.sl.v324, runT.sl.v331, runT.sl.cst_132, ld_ring (c := c) (g := f9) hg0 (show k0_off25 i 1#32 = ![(5 * (i 0).val + 5 * (i 1).val + 1 + 125) % 31, 64 * (((i 0).val + 4) % 5), 1024] from Gen.k0_off25_eq i 1) hs1, readAt_nat3 hU, oN, zero_add, Nat.reduceMul, add_zero]
  refine writes_step (s := S64x6400) (off' := ![0, 2176]) _ _ rfl _ _ (fun x hx => ?_) (fun hn17 => ?_)
  · have e0 : (j 0).val = 0 + (x 0).val := hx 0
    have e1 : (j 1).val = 2176 + (x 1).val := hx 1
    rw [e0, e1]
    idx_vars x
    have x1b : x1.val < 128 := x1.isLt
    have q0 : (2176 + x1.val) / 1280 = 1 := by omega
    have q1 : (2176 + x1.val) % 1280 / 128 = 7 := by omega
    have q2 : (2176 + x1.val) % 128 = x1.val := by omega
    simp only [ocN, q0, q1, q2]
    pointwise [runT.sl.v777, runT.sl.v776, runT.sl.v773, runT.sl.v772, runT.sl.v771, runT.sl.v322, runT.sl.v774, runT.sl.v324, runT.sl.v331, runT.sl.cst_132, ld_ring (c := c) (g := f9) hg0 (show k0_off24 i 1#32 = ![(5 * (i 0).val + 5 * (i 1).val + 1 + 125) % 31, 64 * (((i 0).val + 4) % 5), 896] from Gen.k0_off24_eq i 1) hs1, readAt_nat3 hU, oN, zero_add, Nat.reduceMul, add_zero]
  refine writes_step (s := S64x6400) (off' := ![0, 2048]) _ _ rfl _ _ (fun x hx => ?_) (fun hn16 => ?_)
  · have e0 : (j 0).val = 0 + (x 0).val := hx 0
    have e1 : (j 1).val = 2048 + (x 1).val := hx 1
    rw [e0, e1]
    idx_vars x
    have x1b : x1.val < 128 := x1.isLt
    have q0 : (2048 + x1.val) / 1280 = 1 := by omega
    have q1 : (2048 + x1.val) % 1280 / 128 = 6 := by omega
    have q2 : (2048 + x1.val) % 128 = x1.val := by omega
    simp only [ocN, q0, q1, q2]
    pointwise [runT.sl.v767, runT.sl.v766, runT.sl.v763, runT.sl.v762, runT.sl.v_1, runT.sl.v322, runT.sl.v764, runT.sl.v324, runT.sl.v331, runT.sl.cst_132, ld_ring (c := c) (g := f9) hg0 (show k0_off23 i 1#32 = ![(5 * (i 0).val + 5 * (i 1).val + 1 + 125) % 31, 64 * (((i 0).val + 4) % 5), 768] from Gen.k0_off23_eq i 1) hs1, readAt_nat3 hU, oN, zero_add, Nat.reduceMul, add_zero]
  have d : ¬ ((2432 ≤ (j 1).val ∧ (j 1).val < 2560) ∨ (2304 ≤ (j 1).val ∧ (j 1).val < 2432) ∨ (2176 ≤ (j 1).val ∧ (j 1).val < 2304) ∨ (2048 ≤ (j 1).val ∧ (j 1).val < 2176)) := by
    rintro (h | h | h | h)
    · refine hn19 fun a => ?_
      fin_cases a
      · change 0 ≤ (j 0).val ∧ (j 0).val < 0 + 64; omega
      · change 2432 ≤ (j 1).val ∧ (j 1).val < 2432 + 128; exact h
    · refine hn18 fun a => ?_
      fin_cases a
      · change 0 ≤ (j 0).val ∧ (j 0).val < 0 + 64; omega
      · change 2304 ≤ (j 1).val ∧ (j 1).val < 2304 + 128; exact h
    · refine hn17 fun a => ?_
      fin_cases a
      · change 0 ≤ (j 0).val ∧ (j 0).val < 0 + 64; omega
      · change 2176 ≤ (j 1).val ∧ (j 1).val < 2176 + 128; exact h
    · refine hn16 fun a => ?_
      fin_cases a
      · change 0 ≤ (j 0).val ∧ (j 0).val < 0 + 64; omega
      · change 2048 ≤ (j 1).val ∧ (j 1).val < 2048 + 128; exact h
  exact out_16 c i M2 M6 f2 f6 f9 f10 f11 f15 f21 X W RT WD R U hW hX hRT hWD hR hU j (by omega)

set_option maxHeartbeats 2000000 in
/-- The first 21 column groups of the output block. -/
theorem out_21 (j : S64x6400.Idx) (hj : (j 1).val < 2688) :
    M6.view.read (Elt Ideal) (M6.view.writes (Elt Ideal) f6 (runT.sl.H6_21 c i M2 f2 f9 f10 f11 f15 f21)) j = ocN R U (i 0).val (i 1).val (j 0).val (j 1).val := by
  simp only [runT.sl.H6_21]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg6 := off_slot_6 c i M2 f2 f9 f10 f11 f15 X W RT WD R hW hX hRT hWD hR
  have hs2 : (5 * (i 0).val + 5 * (i 1).val + 2 + 125) % 31 ≠ (5 * (i 0).val + (i 1).val) % 31 := by
    have := (i 1).isLt
    change (i 1).val < 5 at this
    omega
  refine writes_step (s := S64x6400) (off' := ![0, 2560]) _ _ rfl _ _ (fun x hx => ?_) (fun hn20 => ?_)
  · have e0 : (j 0).val = 0 + (x 0).val := hx 0
    have e1 : (j 1).val = 2560 + (x 1).val := hx 1
    rw [e0, e1]
    idx_vars x
    have x1b : x1.val < 128 := x1.isLt
    have q0 : (2560 + x1.val) / 1280 = 2 := by omega
    have q1 : (2560 + x1.val) % 1280 / 128 = 0 := by omega
    have q2 : (2560 + x1.val) % 128 = x1.val := by omega
    simp only [ocN, q0, q1, q2]
    pointwise [runT.sl.v1081, runT.sl.v1080, runT.sl.v1077, runT.sl.v1076, runT.sl.v322, runT.sl.v1078, runT.sl.v324, runT.sl.v331, runT.sl.cst_132, ld_ring (c := c) (g := (View.whole cc0_scratch0).writes (Elt Ideal) f9 (runT.sl.H9_6 c i M2 f2 f10 f11 f15)) hg6 (show k0_off17 i 2#32 = ![(5 * (i 0).val + 5 * (i 1).val + 2 + 125) % 31, 64 * (((i 0).val + 4) % 5), 0] from Gen.k0_off17_eq i 2) hs2, readAt_nat3 hU, oN, zero_add, Nat.reduceMul, add_zero]
  have d : ¬ ((2560 ≤ (j 1).val ∧ (j 1).val < 2688)) := by
    rintro (h)
    · refine hn20 fun a => ?_
      fin_cases a
      · change 0 ≤ (j 0).val ∧ (j 0).val < 0 + 64; omega
      · change 2560 ≤ (j 1).val ∧ (j 1).val < 2560 + 128; exact h
  exact out_20 c i M2 M6 f2 f6 f9 f10 f11 f15 f21 X W RT WD R U hW hX hRT hWD hR hU j (by omega)

set_option maxHeartbeats 2000000 in
/-- The first 25 column groups of the output block. -/
theorem out_25 (j : S64x6400.Idx) (hj : (j 1).val < 3200) :
    M6.view.read (Elt Ideal) (M6.view.writes (Elt Ideal) f6 (runT.sl.H6_25 c i M2 f2 f9 f10 f11 f15 f21)) j = ocN R U (i 0).val (i 1).val (j 0).val (j 1).val := by
  simp only [runT.sl.H6_25]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg6 := off_slot_6 c i M2 f2 f9 f10 f11 f15 X W RT WD R hW hX hRT hWD hR
  have hs2 : (5 * (i 0).val + 5 * (i 1).val + 2 + 125) % 31 ≠ (5 * (i 0).val + (i 1).val) % 31 := by
    have := (i 1).isLt
    change (i 1).val < 5 at this
    omega
  refine writes_step (s := S64x6400) (off' := ![0, 3072]) _ _ rfl _ _ (fun x hx => ?_) (fun hn24 => ?_)
  · have e0 : (j 0).val = 0 + (x 0).val := hx 0
    have e1 : (j 1).val = 3072 + (x 1).val := hx 1
    rw [e0, e1]
    idx_vars x
    have x1b : x1.val < 128 := x1.isLt
    have q0 : (3072 + x1.val) / 1280 = 2 := by omega
    have q1 : (3072 + x1.val) % 1280 / 128 = 4 := by omega
    have q2 : (3072 + x1.val) % 128 = x1.val := by omega
    simp only [ocN, q0, q1, q2]
    pointwise [runT.sl.v1121, runT.sl.v1120, runT.sl.v1117, runT.sl.v1116, runT.sl.v322, runT.sl.v1118, runT.sl.v324, runT.sl.v331, runT.sl.cst_132, ld_ring (c := c) (g := (View.whole cc0_scratch0).writes (Elt Ideal) f9 (runT.sl.H9_6 c i M2 f2 f10 f11 f15)) hg6 (show k0_off21 i 2#32 = ![(5 * (i 0).val + 5 * (i 1).val + 2 + 125) % 31, 64 * (((i 0).val + 4) % 5), 512] from Gen.k0_off21_eq i 2) hs2, readAt_nat3 hU, oN, zero_add, Nat.reduceMul, add_zero]
  refine writes_step (s := S64x6400) (off' := ![0, 2944]) _ _ rfl _ _ (fun x hx => ?_) (fun hn23 => ?_)
  · have e0 : (j 0).val = 0 + (x 0).val := hx 0
    have e1 : (j 1).val = 2944 + (x 1).val := hx 1
    rw [e0, e1]
    idx_vars x
    have x1b : x1.val < 128 := x1.isLt
    have q0 : (2944 + x1.val) / 1280 = 2 := by omega
    have q1 : (2944 + x1.val) % 1280 / 128 = 3 := by omega
    have q2 : (2944 + x1.val) % 128 = x1.val := by omega
    simp only [ocN, q0, q1, q2]
    pointwise [runT.sl.v1111, runT.sl.v1110, runT.sl.v1107, runT.sl.v1106, runT.sl.v322, runT.sl.v1108, runT.sl.v324, runT.sl.v331, runT.sl.cst_132, ld_ring (c := c) (g := (View.whole cc0_scratch0).writes (Elt Ideal) f9 (runT.sl.H9_6 c i M2 f2 f10 f11 f15)) hg6 (show k0_off20 i 2#32 = ![(5 * (i 0).val + 5 * (i 1).val + 2 + 125) % 31, 64 * (((i 0).val + 4) % 5), 384] from Gen.k0_off20_eq i 2) hs2, readAt_nat3 hU, oN, zero_add, Nat.reduceMul, add_zero]
  refine writes_step (s := S64x6400) (off' := ![0, 2816]) _ _ rfl _ _ (fun x hx => ?_) (fun hn22 => ?_)
  · have e0 : (j 0).val = 0 + (x 0).val := hx 0
    have e1 : (j 1).val = 2816 + (x 1).val := hx 1
    rw [e0, e1]
    idx_vars x
    have x1b : x1.val < 128 := x1.isLt
    have q0 : (2816 + x1.val) / 1280 = 2 := by omega
    have q1 : (2816 + x1.val) % 1280 / 128 = 2 := by omega
    have q2 : (2816 + x1.val) % 128 = x1.val := by omega
    simp only [ocN, q0, q1, q2]
    pointwise [runT.sl.v1101, runT.sl.v1100, runT.sl.v1097, runT.sl.v1096, runT.sl.v322, runT.sl.v1098, runT.sl.v324, runT.sl.v331, runT.sl.cst_132, ld_ring (c := c) (g := (View.whole cc0_scratch0).writes (Elt Ideal) f9 (runT.sl.H9_6 c i M2 f2 f10 f11 f15)) hg6 (show k0_off19 i 2#32 = ![(5 * (i 0).val + 5 * (i 1).val + 2 + 125) % 31, 64 * (((i 0).val + 4) % 5), 256] from Gen.k0_off19_eq i 2) hs2, readAt_nat3 hU, oN, zero_add, Nat.reduceMul, add_zero]
  refine writes_step (s := S64x6400) (off' := ![0, 2688]) _ _ rfl _ _ (fun x hx => ?_) (fun hn21 => ?_)
  · have e0 : (j 0).val = 0 + (x 0).val := hx 0
    have e1 : (j 1).val = 2688 + (x 1).val := hx 1
    rw [e0, e1]
    idx_vars x
    have x1b : x1.val < 128 := x1.isLt
    have q0 : (2688 + x1.val) / 1280 = 2 := by omega
    have q1 : (2688 + x1.val) % 1280 / 128 = 1 := by omega
    have q2 : (2688 + x1.val) % 128 = x1.val := by omega
    simp only [ocN, q0, q1, q2]
    pointwise [runT.sl.v1091, runT.sl.v1090, runT.sl.v1087, runT.sl.v1086, runT.sl.v1085, runT.sl.v322, runT.sl.v1088, runT.sl.v324, runT.sl.v331, runT.sl.cst_132, ld_ring (c := c) (g := (View.whole cc0_scratch0).writes (Elt Ideal) f9 (runT.sl.H9_6 c i M2 f2 f10 f11 f15)) hg6 (show k0_off18 i 2#32 = ![(5 * (i 0).val + 5 * (i 1).val + 2 + 125) % 31, 64 * (((i 0).val + 4) % 5), 128] from Gen.k0_off18_eq i 2) hs2, readAt_nat3 hU, oN, zero_add, Nat.reduceMul, add_zero]
  have d : ¬ ((3072 ≤ (j 1).val ∧ (j 1).val < 3200) ∨ (2944 ≤ (j 1).val ∧ (j 1).val < 3072) ∨ (2816 ≤ (j 1).val ∧ (j 1).val < 2944) ∨ (2688 ≤ (j 1).val ∧ (j 1).val < 2816)) := by
    rintro (h | h | h | h)
    · refine hn24 fun a => ?_
      fin_cases a
      · change 0 ≤ (j 0).val ∧ (j 0).val < 0 + 64; omega
      · change 3072 ≤ (j 1).val ∧ (j 1).val < 3072 + 128; exact h
    · refine hn23 fun a => ?_
      fin_cases a
      · change 0 ≤ (j 0).val ∧ (j 0).val < 0 + 64; omega
      · change 2944 ≤ (j 1).val ∧ (j 1).val < 2944 + 128; exact h
    · refine hn22 fun a => ?_
      fin_cases a
      · change 0 ≤ (j 0).val ∧ (j 0).val < 0 + 64; omega
      · change 2816 ≤ (j 1).val ∧ (j 1).val < 2816 + 128; exact h
    · refine hn21 fun a => ?_
      fin_cases a
      · change 0 ≤ (j 0).val ∧ (j 0).val < 0 + 64; omega
      · change 2688 ≤ (j 1).val ∧ (j 1).val < 2688 + 128; exact h
  exact out_21 c i M2 M6 f2 f6 f9 f10 f11 f15 f21 X W RT WD R U hW hX hRT hWD hR hU j (by omega)

set_option maxHeartbeats 2000000 in
/-- The first 29 column groups of the output block. -/
theorem out_29 (j : S64x6400.Idx) (hj : (j 1).val < 3712) :
    M6.view.read (Elt Ideal) (M6.view.writes (Elt Ideal) f6 (runT.sl.H6_29 c i M2 f2 f9 f10 f11 f15 f21)) j = ocN R U (i 0).val (i 1).val (j 0).val (j 1).val := by
  simp only [runT.sl.H6_29]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg6 := off_slot_6 c i M2 f2 f9 f10 f11 f15 X W RT WD R hW hX hRT hWD hR
  have hs2 : (5 * (i 0).val + 5 * (i 1).val + 2 + 125) % 31 ≠ (5 * (i 0).val + (i 1).val) % 31 := by
    have := (i 1).isLt
    change (i 1).val < 5 at this
    omega
  refine writes_step (s := S64x6400) (off' := ![0, 3584]) _ _ rfl _ _ (fun x hx => ?_) (fun hn28 => ?_)
  · have e0 : (j 0).val = 0 + (x 0).val := hx 0
    have e1 : (j 1).val = 3584 + (x 1).val := hx 1
    rw [e0, e1]
    idx_vars x
    have x1b : x1.val < 128 := x1.isLt
    have q0 : (3584 + x1.val) / 1280 = 2 := by omega
    have q1 : (3584 + x1.val) % 1280 / 128 = 8 := by omega
    have q2 : (3584 + x1.val) % 128 = x1.val := by omega
    simp only [ocN, q0, q1, q2]
    pointwise [runT.sl.v1161, runT.sl.v1160, runT.sl.v1157, runT.sl.v1156, runT.sl.v1155, runT.sl.v322, runT.sl.v1158, runT.sl.v324, runT.sl.v331, runT.sl.cst_132, ld_ring (c := c) (g := f9) hg0 (show k0_off25 i 2#32 = ![(5 * (i 0).val + 5 * (i 1).val + 2 + 125) % 31, 64 * (((i 0).val + 4) % 5), 1024] from Gen.k0_off25_eq i 2) hs2, readAt_nat3 hU, oN, zero_add, Nat.reduceMul, add_zero]
  refine writes_step (s := S64x6400) (off' := ![0, 3456]) _ _ rfl _ _ (fun x hx => ?_) (fun hn27 => ?_)
  · have e0 : (j 0).val = 0 + (x 0).val := hx 0
    have e1 : (j 1).val = 3456 + (x 1).val := hx 1
    rw [e0, e1]
    idx_vars x
    have x1b : x1.val < 128 := x1.isLt
    have q0 : (3456 + x1.val) / 1280 = 2 := by omega
    have q1 : (3456 + x1.val) % 1280 / 128 = 7 := by omega
    have q2 : (3456 + x1.val) % 128 = x1.val := by omega
    simp only [ocN, q0, q1, q2]
    pointwise [runT.sl.v1151, runT.sl.v1150, runT.sl.v1147, runT.sl.v1146, runT.sl.v1145, runT.sl.v322, runT.sl.v1148, runT.sl.v324, runT.sl.v331, runT.sl.cst_132, ld_ring (c := c) (g := f9) hg0 (show k0_off24 i 2#32 = ![(5 * (i 0).val + 5 * (i 1).val + 2 + 125) % 31, 64 * (((i 0).val + 4) % 5), 896] from Gen.k0_off24_eq i 2) hs2, readAt_nat3 hU, oN, zero_add, Nat.reduceMul, add_zero]
  refine writes_step (s := S64x6400) (off' := ![0, 3328]) _ _ rfl _ _ (fun x hx => ?_) (fun hn26 => ?_)
  · have e0 : (j 0).val = 0 + (x 0).val := hx 0
    have e1 : (j 1).val = 3328 + (x 1).val := hx 1
    rw [e0, e1]
    idx_vars x
    have x1b : x1.val < 128 := x1.isLt
    have q0 : (3328 + x1.val) / 1280 = 2 := by omega
    have q1 : (3328 + x1.val) % 1280 / 128 = 6 := by omega
    have q2 : (3328 + x1.val) % 128 = x1.val := by omega
    simp only [ocN, q0, q1, q2]
    pointwise [runT.sl.v1141, runT.sl.v1140, runT.sl.v1137, runT.sl.v1136, runT.sl.v1135, runT.sl.v322, runT.sl.v1138, runT.sl.v324, runT.sl.v331, runT.sl.cst_132, ld_ring (c := c) (g := f9) hg0 (show k0_off23 i 2#32 = ![(5 * (i 0).val + 5 * (i 1).val + 2 + 125) % 31, 64 * (((i 0).val + 4) % 5), 768] from Gen.k0_off23_eq i 2) hs2, readAt_nat3 hU, oN, zero_add, Nat.reduceMul, add_zero]
  refine writes_step (s := S64x6400) (off' := ![0, 3200]) _ _ rfl _ _ (fun x hx => ?_) (fun hn25 => ?_)
  · have e0 : (j 0).val = 0 + (x 0).val := hx 0
    have e1 : (j 1).val = 3200 + (x 1).val := hx 1
    rw [e0, e1]
    idx_vars x
    have x1b : x1.val < 128 := x1.isLt
    have q0 : (3200 + x1.val) / 1280 = 2 := by omega
    have q1 : (3200 + x1.val) % 1280 / 128 = 5 := by omega
    have q2 : (3200 + x1.val) % 128 = x1.val := by omega
    simp only [ocN, q0, q1, q2]
    pointwise [runT.sl.v1131, runT.sl.v1130, runT.sl.v1127, runT.sl.v1126, runT.sl.v1125, runT.sl.v322, runT.sl.v1128, runT.sl.v324, runT.sl.v331, runT.sl.cst_132, ld_ring (c := c) (g := (View.whole cc0_scratch0).writes (Elt Ideal) f9 (runT.sl.H9_6 c i M2 f2 f10 f11 f15)) hg6 (show k0_off22 i 2#32 = ![(5 * (i 0).val + 5 * (i 1).val + 2 + 125) % 31, 64 * (((i 0).val + 4) % 5), 640] from Gen.k0_off22_eq i 2) hs2, readAt_nat3 hU, oN, zero_add, Nat.reduceMul, add_zero]
  have d : ¬ ((3584 ≤ (j 1).val ∧ (j 1).val < 3712) ∨ (3456 ≤ (j 1).val ∧ (j 1).val < 3584) ∨ (3328 ≤ (j 1).val ∧ (j 1).val < 3456) ∨ (3200 ≤ (j 1).val ∧ (j 1).val < 3328)) := by
    rintro (h | h | h | h)
    · refine hn28 fun a => ?_
      fin_cases a
      · change 0 ≤ (j 0).val ∧ (j 0).val < 0 + 64; omega
      · change 3584 ≤ (j 1).val ∧ (j 1).val < 3584 + 128; exact h
    · refine hn27 fun a => ?_
      fin_cases a
      · change 0 ≤ (j 0).val ∧ (j 0).val < 0 + 64; omega
      · change 3456 ≤ (j 1).val ∧ (j 1).val < 3456 + 128; exact h
    · refine hn26 fun a => ?_
      fin_cases a
      · change 0 ≤ (j 0).val ∧ (j 0).val < 0 + 64; omega
      · change 3328 ≤ (j 1).val ∧ (j 1).val < 3328 + 128; exact h
    · refine hn25 fun a => ?_
      fin_cases a
      · change 0 ≤ (j 0).val ∧ (j 0).val < 0 + 64; omega
      · change 3200 ≤ (j 1).val ∧ (j 1).val < 3200 + 128; exact h
  exact out_25 c i M2 M6 f2 f6 f9 f10 f11 f15 f21 X W RT WD R U hW hX hRT hWD hR hU j (by omega)

set_option maxHeartbeats 2000000 in
/-- The first 30 column groups of the output block. -/
theorem out_30 (j : S64x6400.Idx) (hj : (j 1).val < 3840) :
    M6.view.read (Elt Ideal) (M6.view.writes (Elt Ideal) f6 (runT.sl.H6_30 c i M2 f2 f9 f10 f11 f15 f21)) j = ocN R U (i 0).val (i 1).val (j 0).val (j 1).val := by
  simp only [runT.sl.H6_30]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg6 := off_slot_6 c i M2 f2 f9 f10 f11 f15 X W RT WD R hW hX hRT hWD hR
  have hs2 : (5 * (i 0).val + 5 * (i 1).val + 2 + 125) % 31 ≠ (5 * (i 0).val + (i 1).val) % 31 := by
    have := (i 1).isLt
    change (i 1).val < 5 at this
    omega
  refine writes_step (s := S64x6400) (off' := ![0, 3712]) _ _ rfl _ _ (fun x hx => ?_) (fun hn29 => ?_)
  · have e0 : (j 0).val = 0 + (x 0).val := hx 0
    have e1 : (j 1).val = 3712 + (x 1).val := hx 1
    rw [e0, e1]
    idx_vars x
    have x1b : x1.val < 128 := x1.isLt
    have q0 : (3712 + x1.val) / 1280 = 2 := by omega
    have q1 : (3712 + x1.val) % 1280 / 128 = 9 := by omega
    have q2 : (3712 + x1.val) % 128 = x1.val := by omega
    simp only [ocN, q0, q1, q2]
    pointwise [runT.sl.v322, runT.sl.v324, runT.sl.v_2, k0_pay228, ld_ring (c := c) (g := f9) hg0 (show k0_off26 i 2#32 = ![(5 * (i 0).val + 5 * (i 1).val + 2 + 125) % 31, 64 * (((i 0).val + 4) % 5), 1152] from Gen.k0_off26_eq i 2) hs2, readAt_nat3 hU, oN, zero_add, Nat.reduceMul, add_zero]
  have d : ¬ ((3712 ≤ (j 1).val ∧ (j 1).val < 3840)) := by
    rintro (h)
    · refine hn29 fun a => ?_
      fin_cases a
      · change 0 ≤ (j 0).val ∧ (j 0).val < 0 + 64; omega
      · change 3712 ≤ (j 1).val ∧ (j 1).val < 3712 + 128; exact h
  exact out_29 c i M2 M6 f2 f6 f9 f10 f11 f15 f21 X W RT WD R U hW hX hRT hWD hR hU j (by omega)

set_option maxHeartbeats 2000000 in
/-- The first 34 column groups of the output block. -/
theorem out_34 (j : S64x6400.Idx) (hj : (j 1).val < 4352) :
    M6.view.read (Elt Ideal) (M6.view.writes (Elt Ideal) f6 (runT.sl.H6_34 c i M2 f2 f9 f10 f11 f15 f21)) j = ocN R U (i 0).val (i 1).val (j 0).val (j 1).val := by
  simp only [runT.sl.H6_34]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg8 := off_slot_8 c i M2 f2 f9 f10 f11 f15 X W RT WD R hW hX hRT hWD hR
  have hs3 : (5 * (i 0).val + 5 * (i 1).val + 3 + 125) % 31 ≠ (5 * (i 0).val + (i 1).val) % 31 := by
    have := (i 1).isLt
    change (i 1).val < 5 at this
    omega
  refine writes_step (s := S64x6400) (off' := ![0, 4224]) _ _ rfl _ _ (fun x hx => ?_) (fun hn33 => ?_)
  · have e0 : (j 0).val = 0 + (x 0).val := hx 0
    have e1 : (j 1).val = 4224 + (x 1).val := hx 1
    rw [e0, e1]
    idx_vars x
    have x1b : x1.val < 128 := x1.isLt
    have q0 : (4224 + x1.val) / 1280 = 3 := by omega
    have q1 : (4224 + x1.val) % 1280 / 128 = 3 := by omega
    have q2 : (4224 + x1.val) % 128 = x1.val := by omega
    simp only [ocN, q0, q1, q2]
    pointwise [runT.sl.v1485, runT.sl.v1484, runT.sl.v1481, runT.sl.v1480, runT.sl.v1444, runT.sl.v1482, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off20 i 3#32 = ![(5 * (i 0).val + 5 * (i 1).val + 3 + 125) % 31, 64 * (((i 0).val + 4) % 5), 384] from Gen.k0_off20_eq i 3) hs3, readAt_nat3 hU, oN, zero_add, Nat.reduceMul, add_zero]
  refine writes_step (s := S64x6400) (off' := ![0, 4096]) _ _ rfl _ _ (fun x hx => ?_) (fun hn32 => ?_)
  · have e0 : (j 0).val = 0 + (x 0).val := hx 0
    have e1 : (j 1).val = 4096 + (x 1).val := hx 1
    rw [e0, e1]
    idx_vars x
    have x1b : x1.val < 128 := x1.isLt
    have q0 : (4096 + x1.val) / 1280 = 3 := by omega
    have q1 : (4096 + x1.val) % 1280 / 128 = 2 := by omega
    have q2 : (4096 + x1.val) % 128 = x1.val := by omega
    simp only [ocN, q0, q1, q2]
    pointwise [runT.sl.v1475, runT.sl.v1474, runT.sl.v1471, runT.sl.v1470, runT.sl.v1444, runT.sl.v1472, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off19 i 3#32 = ![(5 * (i 0).val + 5 * (i 1).val + 3 + 125) % 31, 64 * (((i 0).val + 4) % 5), 256] from Gen.k0_off19_eq i 3) hs3, readAt_nat3 hU, oN, zero_add, Nat.reduceMul, add_zero]
  refine writes_step (s := S64x6400) (off' := ![0, 3968]) _ _ rfl _ _ (fun x hx => ?_) (fun hn31 => ?_)
  · have e0 : (j 0).val = 0 + (x 0).val := hx 0
    have e1 : (j 1).val = 3968 + (x 1).val := hx 1
    rw [e0, e1]
    idx_vars x
    have x1b : x1.val < 128 := x1.isLt
    have q0 : (3968 + x1.val) / 1280 = 3 := by omega
    have q1 : (3968 + x1.val) % 1280 / 128 = 1 := by omega
    have q2 : (3968 + x1.val) % 128 = x1.val := by omega
    simp only [ocN, q0, q1, q2]
    pointwise [runT.sl.v1465, runT.sl.v1464, runT.sl.v1461, runT.sl.v1460, runT.sl.v1444, runT.sl.v1462, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off18 i 3#32 = ![(5 * (i 0).val + 5 * (i 1).val + 3 + 125) % 31, 64 * (((i 0).val + 4) % 5), 128] from Gen.k0_off18_eq i 3) hs3, readAt_nat3 hU, oN, zero_add, Nat.reduceMul, add_zero]
  refine writes_step (s := S64x6400) (off' := ![0, 3840]) _ _ rfl _ _ (fun x hx => ?_) (fun hn30 => ?_)
  · have e0 : (j 0).val = 0 + (x 0).val := hx 0
    have e1 : (j 1).val = 3840 + (x 1).val := hx 1
    rw [e0, e1]
    idx_vars x
    have x1b : x1.val < 128 := x1.isLt
    have q0 : (3840 + x1.val) / 1280 = 3 := by omega
    have q1 : (3840 + x1.val) % 1280 / 128 = 0 := by omega
    have q2 : (3840 + x1.val) % 128 = x1.val := by omega
    simp only [ocN, q0, q1, q2]
    pointwise [runT.sl.v1455, runT.sl.v1454, runT.sl.v1451, runT.sl.v1450, runT.sl.v1449, runT.sl.v1444, runT.sl.v1452, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off17 i 3#32 = ![(5 * (i 0).val + 5 * (i 1).val + 3 + 125) % 31, 64 * (((i 0).val + 4) % 5), 0] from Gen.k0_off17_eq i 3) hs3, readAt_nat3 hU, oN, zero_add, Nat.reduceMul, add_zero]
  have d : ¬ ((4224 ≤ (j 1).val ∧ (j 1).val < 4352) ∨ (4096 ≤ (j 1).val ∧ (j 1).val < 4224) ∨ (3968 ≤ (j 1).val ∧ (j 1).val < 4096) ∨ (3840 ≤ (j 1).val ∧ (j 1).val < 3968)) := by
    rintro (h | h | h | h)
    · refine hn33 fun a => ?_
      fin_cases a
      · change 0 ≤ (j 0).val ∧ (j 0).val < 0 + 64; omega
      · change 4224 ≤ (j 1).val ∧ (j 1).val < 4224 + 128; exact h
    · refine hn32 fun a => ?_
      fin_cases a
      · change 0 ≤ (j 0).val ∧ (j 0).val < 0 + 64; omega
      · change 4096 ≤ (j 1).val ∧ (j 1).val < 4096 + 128; exact h
    · refine hn31 fun a => ?_
      fin_cases a
      · change 0 ≤ (j 0).val ∧ (j 0).val < 0 + 64; omega
      · change 3968 ≤ (j 1).val ∧ (j 1).val < 3968 + 128; exact h
    · refine hn30 fun a => ?_
      fin_cases a
      · change 0 ≤ (j 0).val ∧ (j 0).val < 0 + 64; omega
      · change 3840 ≤ (j 1).val ∧ (j 1).val < 3840 + 128; exact h
  exact out_30 c i M2 M6 f2 f6 f9 f10 f11 f15 f21 X W RT WD R U hW hX hRT hWD hR hU j (by omega)

set_option maxHeartbeats 2000000 in
/-- The first 38 column groups of the output block. -/
theorem out_38 (j : S64x6400.Idx) (hj : (j 1).val < 4864) :
    M6.view.read (Elt Ideal) (M6.view.writes (Elt Ideal) f6 (runT.sl.H6_38 c i M2 f2 f9 f10 f11 f15 f21)) j = ocN R U (i 0).val (i 1).val (j 0).val (j 1).val := by
  simp only [runT.sl.H6_38]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg8 := off_slot_8 c i M2 f2 f9 f10 f11 f15 X W RT WD R hW hX hRT hWD hR
  have hs3 : (5 * (i 0).val + 5 * (i 1).val + 3 + 125) % 31 ≠ (5 * (i 0).val + (i 1).val) % 31 := by
    have := (i 1).isLt
    change (i 1).val < 5 at this
    omega
  refine writes_step (s := S64x6400) (off' := ![0, 4736]) _ _ rfl _ _ (fun x hx => ?_) (fun hn37 => ?_)
  · have e0 : (j 0).val = 0 + (x 0).val := hx 0
    have e1 : (j 1).val = 4736 + (x 1).val := hx 1
    rw [e0, e1]
    idx_vars x
    have x1b : x1.val < 128 := x1.isLt
    have q0 : (4736 + x1.val) / 1280 = 3 := by omega
    have q1 : (4736 + x1.val) % 1280 / 128 = 7 := by omega
    have q2 : (4736 + x1.val) % 128 = x1.val := by omega
    simp only [ocN, q0, q1, q2]
    pointwise [runT.sl.v1525, runT.sl.v1524, runT.sl.v1521, runT.sl.v1520, runT.sl.v1444, runT.sl.v1522, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off24 i 3#32 = ![(5 * (i 0).val + 5 * (i 1).val + 3 + 125) % 31, 64 * (((i 0).val + 4) % 5), 896] from Gen.k0_off24_eq i 3) hs3, readAt_nat3 hU, oN, zero_add, Nat.reduceMul, add_zero]
  refine writes_step (s := S64x6400) (off' := ![0, 4608]) _ _ rfl _ _ (fun x hx => ?_) (fun hn36 => ?_)
  · have e0 : (j 0).val = 0 + (x 0).val := hx 0
    have e1 : (j 1).val = 4608 + (x 1).val := hx 1
    rw [e0, e1]
    idx_vars x
    have x1b : x1.val < 128 := x1.isLt
    have q0 : (4608 + x1.val) / 1280 = 3 := by omega
    have q1 : (4608 + x1.val) % 1280 / 128 = 6 := by omega
    have q2 : (4608 + x1.val) % 128 = x1.val := by omega
    simp only [ocN, q0, q1, q2]
    pointwise [runT.sl.v1515, runT.sl.v1514, runT.sl.v1511, runT.sl.v1510, runT.sl.v1444, runT.sl.v1512, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off23 i 3#32 = ![(5 * (i 0).val + 5 * (i 1).val + 3 + 125) % 31, 64 * (((i 0).val + 4) % 5), 768] from Gen.k0_off23_eq i 3) hs3, readAt_nat3 hU, oN, zero_add, Nat.reduceMul, add_zero]
  refine writes_step (s := S64x6400) (off' := ![0, 4480]) _ _ rfl _ _ (fun x hx => ?_) (fun hn35 => ?_)
  · have e0 : (j 0).val = 0 + (x 0).val := hx 0
    have e1 : (j 1).val = 4480 + (x 1).val := hx 1
    rw [e0, e1]
    idx_vars x
    have x1b : x1.val < 128 := x1.isLt
    have q0 : (4480 + x1.val) / 1280 = 3 := by omega
    have q1 : (4480 + x1.val) % 1280 / 128 = 5 := by omega
    have q2 : (4480 + x1.val) % 128 = x1.val := by omega
    simp only [ocN, q0, q1, q2]
    pointwise [runT.sl.v1505, runT.sl.v1504, runT.sl.v1501, runT.sl.v1500, runT.sl.v1444, runT.sl.v1502, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off22 i 3#32 = ![(5 * (i 0).val + 5 * (i 1).val + 3 + 125) % 31, 64 * (((i 0).val + 4) % 5), 640] from Gen.k0_off22_eq i 3) hs3, readAt_nat3 hU, oN, zero_add, Nat.reduceMul, add_zero]
  refine writes_step (s := S64x6400) (off' := ![0, 4352]) _ _ rfl _ _ (fun x hx => ?_) (fun hn34 => ?_)
  · have e0 : (j 0).val = 0 + (x 0).val := hx 0
    have e1 : (j 1).val = 4352 + (x 1).val := hx 1
    rw [e0, e1]
    idx_vars x
    have x1b : x1.val < 128 := x1.isLt
    have q0 : (4352 + x1.val) / 1280 = 3 := by omega
    have q1 : (4352 + x1.val) % 1280 / 128 = 4 := by omega
    have q2 : (4352 + x1.val) % 128 = x1.val := by omega
    simp only [ocN, q0, q1, q2]
    pointwise [runT.sl.v1495, runT.sl.v1494, runT.sl.v1491, runT.sl.v1490, runT.sl.v1489, runT.sl.v1444, runT.sl.v1492, runT.sl.v1446, runT.sl.v331, runT.sl.cst_132, k0_pay280, k0_pay281, ld_ring (c := c) (g := (View.whole cc0_scratch0).writes (Elt Ideal) f9 (runT.sl.H9_8 c i M2 f2 f10 f11 f15)) hg8 (show k0_off21 i 3#32 = ![(5 * (i 0).val + 5 * (i 1).val + 3 + 125) % 31, 64 * (((i 0).val + 4) % 5), 512] from Gen.k0_off21_eq i 3) hs3, readAt_nat3 hU, oN, zero_add, Nat.reduceMul, add_zero]
  have d : ¬ ((4736 ≤ (j 1).val ∧ (j 1).val < 4864) ∨ (4608 ≤ (j 1).val ∧ (j 1).val < 4736) ∨ (4480 ≤ (j 1).val ∧ (j 1).val < 4608) ∨ (4352 ≤ (j 1).val ∧ (j 1).val < 4480)) := by
    rintro (h | h | h | h)
    · refine hn37 fun a => ?_
      fin_cases a
      · change 0 ≤ (j 0).val ∧ (j 0).val < 0 + 64; omega
      · change 4736 ≤ (j 1).val ∧ (j 1).val < 4736 + 128; exact h
    · refine hn36 fun a => ?_
      fin_cases a
      · change 0 ≤ (j 0).val ∧ (j 0).val < 0 + 64; omega
      · change 4608 ≤ (j 1).val ∧ (j 1).val < 4608 + 128; exact h
    · refine hn35 fun a => ?_
      fin_cases a
      · change 0 ≤ (j 0).val ∧ (j 0).val < 0 + 64; omega
      · change 4480 ≤ (j 1).val ∧ (j 1).val < 4480 + 128; exact h
    · refine hn34 fun a => ?_
      fin_cases a
      · change 0 ≤ (j 0).val ∧ (j 0).val < 0 + 64; omega
      · change 4352 ≤ (j 1).val ∧ (j 1).val < 4352 + 128; exact h
  exact out_34 c i M2 M6 f2 f6 f9 f10 f11 f15 f21 X W RT WD R U hW hX hRT hWD hR hU j (by omega)

set_option maxHeartbeats 2000000 in
/-- The first 40 column groups of the output block. -/
theorem out_40 (j : S64x6400.Idx) (hj : (j 1).val < 5120) :
    M6.view.read (Elt Ideal) (M6.view.writes (Elt Ideal) f6 (runT.sl.H6_40 c i M2 f2 f9 f10 f11 f15 f21)) j = ocN R U (i 0).val (i 1).val (j 0).val (j 1).val := by
  simp only [runT.sl.H6_40]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg8 := off_slot_8 c i M2 f2 f9 f10 f11 f15 X W RT WD R hW hX hRT hWD hR
  have hs3 : (5 * (i 0).val + 5 * (i 1).val + 3 + 125) % 31 ≠ (5 * (i 0).val + (i 1).val) % 31 := by
    have := (i 1).isLt
    change (i 1).val < 5 at this
    omega
  refine writes_step (s := S64x6400) (off' := ![0, 4992]) _ _ rfl _ _ (fun x hx => ?_) (fun hn39 => ?_)
  · have e0 : (j 0).val = 0 + (x 0).val := hx 0
    have e1 : (j 1).val = 4992 + (x 1).val := hx 1
    rw [e0, e1]
    idx_vars x
    have x1b : x1.val < 128 := x1.isLt
    have q0 : (4992 + x1.val) / 1280 = 3 := by omega
    have q1 : (4992 + x1.val) % 1280 / 128 = 9 := by omega
    have q2 : (4992 + x1.val) % 128 = x1.val := by omega
    simp only [ocN, q0, q1, q2]
    pointwise [runT.sl.v1545, runT.sl.v1544, runT.sl.v1541, runT.sl.v1540, runT.sl.v1539, runT.sl.v1444, runT.sl.v1542, runT.sl.v1446, runT.sl.v331, runT.sl.cst_132, k0_pay280, k0_pay281, ld_ring (c := c) (g := f9) hg0 (show k0_off26 i 3#32 = ![(5 * (i 0).val + 5 * (i 1).val + 3 + 125) % 31, 64 * (((i 0).val + 4) % 5), 1152] from Gen.k0_off26_eq i 3) hs3, readAt_nat3 hU, oN, zero_add, Nat.reduceMul, add_zero]
  refine writes_step (s := S64x6400) (off' := ![0, 4864]) _ _ rfl _ _ (fun x hx => ?_) (fun hn38 => ?_)
  · have e0 : (j 0).val = 0 + (x 0).val := hx 0
    have e1 : (j 1).val = 4864 + (x 1).val := hx 1
    rw [e0, e1]
    idx_vars x
    have x1b : x1.val < 128 := x1.isLt
    have q0 : (4864 + x1.val) / 1280 = 3 := by omega
    have q1 : (4864 + x1.val) % 1280 / 128 = 8 := by omega
    have q2 : (4864 + x1.val) % 128 = x1.val := by omega
    simp only [ocN, q0, q1, q2]
    pointwise [runT.sl.v1535, runT.sl.v1534, runT.sl.v1531, runT.sl.v1530, runT.sl.v_3, runT.sl.v1444, runT.sl.v1532, runT.sl.v1446, runT.sl.v331, runT.sl.cst_132, k0_pay280, k0_pay281, ld_ring (c := c) (g := f9) hg0 (show k0_off25 i 3#32 = ![(5 * (i 0).val + 5 * (i 1).val + 3 + 125) % 31, 64 * (((i 0).val + 4) % 5), 1024] from Gen.k0_off25_eq i 3) hs3, readAt_nat3 hU, oN, zero_add, Nat.reduceMul, add_zero]
  have d : ¬ ((4992 ≤ (j 1).val ∧ (j 1).val < 5120) ∨ (4864 ≤ (j 1).val ∧ (j 1).val < 4992)) := by
    rintro (h | h)
    · refine hn39 fun a => ?_
      fin_cases a
      · change 0 ≤ (j 0).val ∧ (j 0).val < 0 + 64; omega
      · change 4992 ≤ (j 1).val ∧ (j 1).val < 4992 + 128; exact h
    · refine hn38 fun a => ?_
      fin_cases a
      · change 0 ≤ (j 0).val ∧ (j 0).val < 0 + 64; omega
      · change 4864 ≤ (j 1).val ∧ (j 1).val < 4864 + 128; exact h
  exact out_38 c i M2 M6 f2 f6 f9 f10 f11 f15 f21 X W RT WD R U hW hX hRT hWD hR hU j (by omega)

set_option maxHeartbeats 2000000 in
/-- The first 43 column groups of the output block. -/
theorem out_43 (j : S64x6400.Idx) (hj : (j 1).val < 5504) :
    M6.view.read (Elt Ideal) (M6.view.writes (Elt Ideal) f6 (runT.sl.H6_43 c i M2 f2 f9 f10 f11 f15 f21)) j = ocN R U (i 0).val (i 1).val (j 0).val (j 1).val := by
  simp only [runT.sl.H6_43]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg10 := off_slot_10 c i M2 f2 f9 f10 f11 f15 X W RT WD R hW hX hRT hWD hR
  have hs4 : (5 * (i 0).val + 5 * (i 1).val + 4 + 125) % 31 ≠ (5 * (i 0).val + (i 1).val) % 31 := by
    have := (i 1).isLt
    change (i 1).val < 5 at this
    omega
  refine writes_step (s := S64x6400) (off' := ![0, 5376]) _ _ rfl _ _ (fun x hx => ?_) (fun hn42 => ?_)
  · have e0 : (j 0).val = 0 + (x 0).val := hx 0
    have e1 : (j 1).val = 5376 + (x 1).val := hx 1
    rw [e0, e1]
    idx_vars x
    have x1b : x1.val < 128 := x1.isLt
    have q0 : (5376 + x1.val) / 1280 = 4 := by omega
    have q1 : (5376 + x1.val) % 1280 / 128 = 2 := by omega
    have q2 : (5376 + x1.val) % 128 = x1.val := by omega
    simp only [ocN, q0, q1, q2]
    pointwise [runT.sl.v1849, runT.sl.v1848, runT.sl.v1845, runT.sl.v1844, runT.sl.v322, runT.sl.v1846, runT.sl.v324, runT.sl.v331, runT.sl.cst_132, ld_ring (c := c) (g := (View.whole cc0_scratch0).writes (Elt Ideal) f9 (runT.sl.H9_10 c i M2 f2 f10 f11 f15)) hg10 (show k0_off19 i 4#32 = ![(5 * (i 0).val + 5 * (i 1).val + 4 + 125) % 31, 64 * (((i 0).val + 4) % 5), 256] from Gen.k0_off19_eq i 4) hs4, readAt_nat3 hU, oN, zero_add, Nat.reduceMul, add_zero]
  refine writes_step (s := S64x6400) (off' := ![0, 5248]) _ _ rfl _ _ (fun x hx => ?_) (fun hn41 => ?_)
  · have e0 : (j 0).val = 0 + (x 0).val := hx 0
    have e1 : (j 1).val = 5248 + (x 1).val := hx 1
    rw [e0, e1]
    idx_vars x
    have x1b : x1.val < 128 := x1.isLt
    have q0 : (5248 + x1.val) / 1280 = 4 := by omega
    have q1 : (5248 + x1.val) % 1280 / 128 = 1 := by omega
    have q2 : (5248 + x1.val) % 128 = x1.val := by omega
    simp only [ocN, q0, q1, q2]
    pointwise [runT.sl.v1839, runT.sl.v1838, runT.sl.v1835, runT.sl.v1834, runT.sl.v322, runT.sl.v1836, runT.sl.v324, runT.sl.v331, runT.sl.cst_132, ld_ring (c := c) (g := (View.whole cc0_scratch0).writes (Elt Ideal) f9 (runT.sl.H9_10 c i M2 f2 f10 f11 f15)) hg10 (show k0_off18 i 4#32 = ![(5 * (i 0).val + 5 * (i 1).val + 4 + 125) % 31, 64 * (((i 0).val + 4) % 5), 128] from Gen.k0_off18_eq i 4) hs4, readAt_nat3 hU, oN, zero_add, Nat.reduceMul, add_zero]
  refine writes_step (s := S64x6400) (off' := ![0, 5120]) _ _ rfl _ _ (fun x hx => ?_) (fun hn40 => ?_)
  · have e0 : (j 0).val = 0 + (x 0).val := hx 0
    have e1 : (j 1).val = 5120 + (x 1).val := hx 1
    rw [e0, e1]
    idx_vars x
    have x1b : x1.val < 128 := x1.isLt
    have q0 : (5120 + x1.val) / 1280 = 4 := by omega
    have q1 : (5120 + x1.val) % 1280 / 128 = 0 := by omega
    have q2 : (5120 + x1.val) % 128 = x1.val := by omega
    simp only [ocN, q0, q1, q2]
    pointwise [runT.sl.v1829, runT.sl.v1828, runT.sl.v1825, runT.sl.v1824, runT.sl.v322, runT.sl.v1826, runT.sl.v324, runT.sl.v331, runT.sl.cst_132, ld_ring (c := c) (g := (View.whole cc0_scratch0).writes (Elt Ideal) f9 (runT.sl.H9_10 c i M2 f2 f10 f11 f15)) hg10 (show k0_off17 i 4#32 = ![(5 * (i 0).val + 5 * (i 1).val + 4 + 125) % 31, 64 * (((i 0).val + 4) % 5), 0] from Gen.k0_off17_eq i 4) hs4, readAt_nat3 hU, oN, zero_add, Nat.reduceMul, add_zero]
  have d : ¬ ((5376 ≤ (j 1).val ∧ (j 1).val < 5504) ∨ (5248 ≤ (j 1).val ∧ (j 1).val < 5376) ∨ (5120 ≤ (j 1).val ∧ (j 1).val < 5248)) := by
    rintro (h | h | h)
    · refine hn42 fun a => ?_
      fin_cases a
      · change 0 ≤ (j 0).val ∧ (j 0).val < 0 + 64; omega
      · change 5376 ≤ (j 1).val ∧ (j 1).val < 5376 + 128; exact h
    · refine hn41 fun a => ?_
      fin_cases a
      · change 0 ≤ (j 0).val ∧ (j 0).val < 0 + 64; omega
      · change 5248 ≤ (j 1).val ∧ (j 1).val < 5248 + 128; exact h
    · refine hn40 fun a => ?_
      fin_cases a
      · change 0 ≤ (j 0).val ∧ (j 0).val < 0 + 64; omega
      · change 5120 ≤ (j 1).val ∧ (j 1).val < 5120 + 128; exact h
  exact out_40 c i M2 M6 f2 f6 f9 f10 f11 f15 f21 X W RT WD R U hW hX hRT hWD hR hU j (by omega)

set_option maxHeartbeats 2000000 in
/-- The first 50 column groups of the output block. -/
theorem out_50 (h2 : M2.IsWhole) (M3 : Memref sig .tc .vmem S64x1024 .bf16) (h3 : M3.IsWhole) (M4 : Memref sig .tc .vmem S9x64x128 .i32) (h4 : M4.IsWhole) (M5 : Memref sig .tc .vmem S64x128 .i32) (h5 : M5.IsWhole) (h6 : M6.IsWhole) (M7 : Memref sig .tc .vmem S64x128 .f32) (h7 : M7.IsWhole) (M8 : Memref sig .tc .vmem S64x128 .f32) (h8 : M8.IsWhole)
    (f3 : Bf (F := Ideal) c M3) (f4 : Bf (F := Ideal) c M4) (f5 : Bf (F := Ideal) c M5) (f7 : Bf (F := Ideal) c M7) (f8 : Bf (F := Ideal) c M8) (f12 : Bf (F := Ideal) c (Memref.whole cc0_scratch3)) (f13 : Bf (F := Ideal) c (Memref.whole cc0_scratch4)) (f14 : Bf (F := Ideal) c (Memref.whole cc0_scratch5)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11))
    (j : S64x6400.Idx) :
    M6.view.read (Elt Ideal) (runT c i M2 h2 M3 h3 M4 h4 M5 h5 M6 h6 M7 h7 M8 h8 f2 f3 f4 f5 f6 f7 f8 f9 f10 f11 f12 f13 f14 f15 f16 f17 f18 f19 f20 f21).1.1 j = ocN R U (i 0).val (i 1).val (j 0).val (j 1).val := by
  have hj : (j 1).val < 6400 := (j 1).isLt
  simp only [runT]
  have j0 : (j 0).val < 64 := (j 0).isLt
  have hg0 : ∀ j : S31x320x1280.Idx, (j 0).val ≠ (5 * (i 0).val + (i 1).val) % 31 → (Memref.whole cc0_scratch0).view.read (Elt Ideal) f9 j = R (j 0).val (j 1).val (j 2).val := fun j _ => hR j
  have hg10 := off_slot_10 c i M2 f2 f9 f10 f11 f15 X W RT WD R hW hX hRT hWD hR
  have hs4 : (5 * (i 0).val + 5 * (i 1).val + 4 + 125) % 31 ≠ (5 * (i 0).val + (i 1).val) % 31 := by
    have := (i 1).isLt
    change (i 1).val < 5 at this
    omega
  refine writes_step (s := S64x6400) (off' := ![0, 6272]) _ _ rfl _ _ (fun x hx => ?_) (fun hn49 => ?_)
  · have e0 : (j 0).val = 0 + (x 0).val := hx 0
    have e1 : (j 1).val = 6272 + (x 1).val := hx 1
    rw [e0, e1]
    idx_vars x
    have x1b : x1.val < 128 := x1.isLt
    have q0 : (6272 + x1.val) / 1280 = 4 := by omega
    have q1 : (6272 + x1.val) % 1280 / 128 = 9 := by omega
    have q2 : (6272 + x1.val) % 128 = x1.val := by omega
    simp only [ocN, q0, q1, q2]
    pointwise [runT.sl.v1919, runT.sl.v1918, runT.sl.v1915, runT.sl.v1914, runT.sl.v322, runT.sl.v1916, runT.sl.v324, runT.sl.v331, runT.sl.cst_132, ld_ring (c := c) (g := (View.whole cc0_scratch0).writes (Elt Ideal) f9 (runT.sl.H9_10 c i M2 f2 f10 f11 f15)) hg10 (show k0_off26 i 4#32 = ![(5 * (i 0).val + 5 * (i 1).val + 4 + 125) % 31, 64 * (((i 0).val + 4) % 5), 1152] from Gen.k0_off26_eq i 4) hs4, readAt_nat3 hU, oN, zero_add, Nat.reduceMul, add_zero]
  refine writes_step (s := S64x6400) (off' := ![0, 6144]) _ _ rfl _ _ (fun x hx => ?_) (fun hn48 => ?_)
  · have e0 : (j 0).val = 0 + (x 0).val := hx 0
    have e1 : (j 1).val = 6144 + (x 1).val := hx 1
    rw [e0, e1]
    idx_vars x
    have x1b : x1.val < 128 := x1.isLt
    have q0 : (6144 + x1.val) / 1280 = 4 := by omega
    have q1 : (6144 + x1.val) % 1280 / 128 = 8 := by omega
    have q2 : (6144 + x1.val) % 128 = x1.val := by omega
    simp only [ocN, q0, q1, q2]
    pointwise [runT.sl.v1909, runT.sl.v1908, runT.sl.v1905, runT.sl.v1904, runT.sl.v322, runT.sl.v1906, runT.sl.v324, runT.sl.v331, runT.sl.cst_132, ld_ring (c := c) (g := (View.whole cc0_scratch0).writes (Elt Ideal) f9 (runT.sl.H9_10 c i M2 f2 f10 f11 f15)) hg10 (show k0_off25 i 4#32 = ![(5 * (i 0).val + 5 * (i 1).val + 4 + 125) % 31, 64 * (((i 0).val + 4) % 5), 1024] from Gen.k0_off25_eq i 4) hs4, readAt_nat3 hU, oN, zero_add, Nat.reduceMul, add_zero]
  refine writes_step (s := S64x6400) (off' := ![0, 6016]) _ _ rfl _ _ (fun x hx => ?_) (fun hn47 => ?_)
  · have e0 : (j 0).val = 0 + (x 0).val := hx 0
    have e1 : (j 1).val = 6016 + (x 1).val := hx 1
    rw [e0, e1]
    idx_vars x
    have x1b : x1.val < 128 := x1.isLt
    have q0 : (6016 + x1.val) / 1280 = 4 := by omega
    have q1 : (6016 + x1.val) % 1280 / 128 = 7 := by omega
    have q2 : (6016 + x1.val) % 128 = x1.val := by omega
    simp only [ocN, q0, q1, q2]
    pointwise [runT.sl.v1899, runT.sl.v1898, runT.sl.v1895, runT.sl.v1894, runT.sl.v1893, runT.sl.v322, runT.sl.v1896, runT.sl.v324, runT.sl.v331, runT.sl.cst_132, ld_ring (c := c) (g := (View.whole cc0_scratch0).writes (Elt Ideal) f9 (runT.sl.H9_10 c i M2 f2 f10 f11 f15)) hg10 (show k0_off24 i 4#32 = ![(5 * (i 0).val + 5 * (i 1).val + 4 + 125) % 31, 64 * (((i 0).val + 4) % 5), 896] from Gen.k0_off24_eq i 4) hs4, readAt_nat3 hU, oN, zero_add, Nat.reduceMul, add_zero]
  refine writes_step (s := S64x6400) (off' := ![0, 5888]) _ _ rfl _ _ (fun x hx => ?_) (fun hn46 => ?_)
  · have e0 : (j 0).val = 0 + (x 0).val := hx 0
    have e1 : (j 1).val = 5888 + (x 1).val := hx 1
    rw [e0, e1]
    idx_vars x
    have x1b : x1.val < 128 := x1.isLt
    have q0 : (5888 + x1.val) / 1280 = 4 := by omega
    have q1 : (5888 + x1.val) % 1280 / 128 = 6 := by omega
    have q2 : (5888 + x1.val) % 128 = x1.val := by omega
    simp only [ocN, q0, q1, q2]
    pointwise [runT.sl.v1889, runT.sl.v1888, runT.sl.v1885, runT.sl.v1884, runT.sl.v322, runT.sl.v1886, runT.sl.v324, runT.sl.v331, runT.sl.cst_132, ld_ring (c := c) (g := (View.whole cc0_scratch0).writes (Elt Ideal) f9 (runT.sl.H9_10 c i M2 f2 f10 f11 f15)) hg10 (show k0_off23 i 4#32 = ![(5 * (i 0).val + 5 * (i 1).val + 4 + 125) % 31, 64 * (((i 0).val + 4) % 5), 768] from Gen.k0_off23_eq i 4) hs4, readAt_nat3 hU, oN, zero_add, Nat.reduceMul, add_zero]
  refine writes_step (s := S64x6400) (off' := ![0, 5760]) _ _ rfl _ _ (fun x hx => ?_) (fun hn45 => ?_)
  · have e0 : (j 0).val = 0 + (x 0).val := hx 0
    have e1 : (j 1).val = 5760 + (x 1).val := hx 1
    rw [e0, e1]
    idx_vars x
    have x1b : x1.val < 128 := x1.isLt
    have q0 : (5760 + x1.val) / 1280 = 4 := by omega
    have q1 : (5760 + x1.val) % 1280 / 128 = 5 := by omega
    have q2 : (5760 + x1.val) % 128 = x1.val := by omega
    simp only [ocN, q0, q1, q2]
    pointwise [runT.sl.v1879, runT.sl.v1878, runT.sl.v1875, runT.sl.v1874, runT.sl.v322, runT.sl.v1876, runT.sl.v324, runT.sl.v331, runT.sl.cst_132, ld_ring (c := c) (g := (View.whole cc0_scratch0).writes (Elt Ideal) f9 (runT.sl.H9_10 c i M2 f2 f10 f11 f15)) hg10 (show k0_off22 i 4#32 = ![(5 * (i 0).val + 5 * (i 1).val + 4 + 125) % 31, 64 * (((i 0).val + 4) % 5), 640] from Gen.k0_off22_eq i 4) hs4, readAt_nat3 hU, oN, zero_add, Nat.reduceMul, add_zero]
  refine writes_step (s := S64x6400) (off' := ![0, 5632]) _ _ rfl _ _ (fun x hx => ?_) (fun hn44 => ?_)
  · have e0 : (j 0).val = 0 + (x 0).val := hx 0
    have e1 : (j 1).val = 5632 + (x 1).val := hx 1
    rw [e0, e1]
    idx_vars x
    have x1b : x1.val < 128 := x1.isLt
    have q0 : (5632 + x1.val) / 1280 = 4 := by omega
    have q1 : (5632 + x1.val) % 1280 / 128 = 4 := by omega
    have q2 : (5632 + x1.val) % 128 = x1.val := by omega
    simp only [ocN, q0, q1, q2]
    pointwise [runT.sl.v1869, runT.sl.v1868, runT.sl.v1865, runT.sl.v1864, runT.sl.v322, runT.sl.v1866, runT.sl.v324, runT.sl.v331, runT.sl.cst_132, ld_ring (c := c) (g := (View.whole cc0_scratch0).writes (Elt Ideal) f9 (runT.sl.H9_10 c i M2 f2 f10 f11 f15)) hg10 (show k0_off21 i 4#32 = ![(5 * (i 0).val + 5 * (i 1).val + 4 + 125) % 31, 64 * (((i 0).val + 4) % 5), 512] from Gen.k0_off21_eq i 4) hs4, readAt_nat3 hU, oN, zero_add, Nat.reduceMul, add_zero]
  refine writes_step (s := S64x6400) (off' := ![0, 5504]) _ _ rfl _ _ (fun x hx => ?_) (fun hn43 => ?_)
  · have e0 : (j 0).val = 0 + (x 0).val := hx 0
    have e1 : (j 1).val = 5504 + (x 1).val := hx 1
    rw [e0, e1]
    idx_vars x
    have x1b : x1.val < 128 := x1.isLt
    have q0 : (5504 + x1.val) / 1280 = 4 := by omega
    have q1 : (5504 + x1.val) % 1280 / 128 = 3 := by omega
    have q2 : (5504 + x1.val) % 128 = x1.val := by omega
    simp only [ocN, q0, q1, q2]
    pointwise [runT.sl.v1859, runT.sl.v1858, runT.sl.v1855, runT.sl.v1854, runT.sl.v1853, runT.sl.v322, runT.sl.v1856, runT.sl.v324, runT.sl.v331, runT.sl.cst_132, ld_ring (c := c) (g := (View.whole cc0_scratch0).writes (Elt Ideal) f9 (runT.sl.H9_10 c i M2 f2 f10 f11 f15)) hg10 (show k0_off20 i 4#32 = ![(5 * (i 0).val + 5 * (i 1).val + 4 + 125) % 31, 64 * (((i 0).val + 4) % 5), 384] from Gen.k0_off20_eq i 4) hs4, readAt_nat3 hU, oN, zero_add, Nat.reduceMul, add_zero]
  have d : ¬ ((6272 ≤ (j 1).val ∧ (j 1).val < 6400) ∨ (6144 ≤ (j 1).val ∧ (j 1).val < 6272) ∨ (6016 ≤ (j 1).val ∧ (j 1).val < 6144) ∨ (5888 ≤ (j 1).val ∧ (j 1).val < 6016) ∨ (5760 ≤ (j 1).val ∧ (j 1).val < 5888) ∨ (5632 ≤ (j 1).val ∧ (j 1).val < 5760) ∨ (5504 ≤ (j 1).val ∧ (j 1).val < 5632)) := by
    rintro (h | h | h | h | h | h | h)
    · refine hn49 fun a => ?_
      fin_cases a
      · change 0 ≤ (j 0).val ∧ (j 0).val < 0 + 64; omega
      · change 6272 ≤ (j 1).val ∧ (j 1).val < 6272 + 128; exact h
    · refine hn48 fun a => ?_
      fin_cases a
      · change 0 ≤ (j 0).val ∧ (j 0).val < 0 + 64; omega
      · change 6144 ≤ (j 1).val ∧ (j 1).val < 6144 + 128; exact h
    · refine hn47 fun a => ?_
      fin_cases a
      · change 0 ≤ (j 0).val ∧ (j 0).val < 0 + 64; omega
      · change 6016 ≤ (j 1).val ∧ (j 1).val < 6016 + 128; exact h
    · refine hn46 fun a => ?_
      fin_cases a
      · change 0 ≤ (j 0).val ∧ (j 0).val < 0 + 64; omega
      · change 5888 ≤ (j 1).val ∧ (j 1).val < 5888 + 128; exact h
    · refine hn45 fun a => ?_
      fin_cases a
      · change 0 ≤ (j 0).val ∧ (j 0).val < 0 + 64; omega
      · change 5760 ≤ (j 1).val ∧ (j 1).val < 5760 + 128; exact h
    · refine hn44 fun a => ?_
      fin_cases a
      · change 0 ≤ (j 0).val ∧ (j 0).val < 0 + 64; omega
      · change 5632 ≤ (j 1).val ∧ (j 1).val < 5632 + 128; exact h
    · refine hn43 fun a => ?_
      fin_cases a
      · change 0 ≤ (j 0).val ∧ (j 0).val < 0 + 64; omega
      · change 5504 ≤ (j 1).val ∧ (j 1).val < 5504 + 128; exact h
  exact out_43 c i M2 M6 f2 f6 f9 f10 f11 f15 f21 X W RT WD R U hW hX hRT hWD hR hU j (by omega)

end
end Cert.KernelIdeal.Hand

end
-- ==== Proof.RunW.lean ====
module

public import proofs.«01_k».proof.Proof.Gen.KernelIdeal
public import proofs.«01_k».proof.Proof.Gen.KernelIdeal.Skeleton
public import proofs.«01_k».proof.Proof.SplitI
public import Idealize.ShloMosaic.Lib.Tactic
public import Idealize.ShloMosaic.Lib.Pipeline.Kit

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option sl_exec.resultNames true in
set_option maxHeartbeats 4000000 in
/-- Opening a window: what each buffer it stores into ends at, and the run that leaves it there. -/
def runW (c : Dev nD) (i : grid0.Coords) (hc : k0_cond1 i = 1#1)
    (M2 : Memref sig .tc .vmem S1280x1024 .bf16) (h2 : M2.IsWhole)
    (M3 : Memref sig .tc .vmem S64x1024 .bf16) (h3 : M3.IsWhole)
    (M4 : Memref sig .tc .vmem S9x64x128 .i32) (h4 : M4.IsWhole)
    (M5 : Memref sig .tc .vmem S64x128 .i32) (h5 : M5.IsWhole)
    (M6 : Memref sig .tc .vmem S64x6400 .bf16) (h6 : M6.IsWhole)
    (M7 : Memref sig .tc .vmem S64x128 .f32) (h7 : M7.IsWhole)
    (M8 : Memref sig .tc .vmem S64x128 .f32) (h8 : M8.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8)
    (f9 : Bf (F := F) c (Memref.whole cc0_scratch0)) (f10 : Bf (F := F) c (Memref.whole cc0_scratch1)) (f11 : Bf (F := F) c (Memref.whole cc0_scratch2)) (f12 : Bf (F := F) c (Memref.whole cc0_scratch3)) (f13 : Bf (F := F) c (Memref.whole cc0_scratch4)) (f14 : Bf (F := F) c (Memref.whole cc0_scratch5)) (f15 : Bf (F := F) c (Memref.whole cc0_scratch6)) (f16 : Bf (F := F) c (Memref.whole cc0_scratch7)) (f17 : Bf (F := F) c (Memref.whole cc0_scratch8)) (f18 : Bf (F := F) c (Memref.whole cc0_scratch9)) (f19 : Bf (F := F) c (Memref.whole cc0_scratch10)) (f20 : Bf (F := F) c (Memref.whole cc0_scratch11)) (f21 : Bf (F := F) c (Memref.whole cc0_scratch12)) :
    {L : Bf (F := F) c M7 × Bf (F := F) c M8 × Bf (F := F) c (Memref.whole cc0_scratch1) × Bf (F := F) c (Memref.whole cc0_scratch2) × Bf (F := F) c (Memref.whole cc0_scratch4) × Bf (F := F) c (Memref.whole cc0_scratch5) × Bf (F := F) c (Memref.whole cc0_scratch6) × Bf (F := F) c (Memref.whole cc0_scratch7) × Bf (F := F) c (Memref.whole cc0_scratch9) × Bf (F := F) c (Memref.whole cc0_scratch10) × Bf (F := F) c (Memref.whole cc0_scratch11) × Bf (F := F) c (Memref.whole cc0_scratch12) // ∀ (Q : PUnit → sProp 𝕄),
      iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21
        ∗ (iprop(pt c M2 f2 ∗ pt c M3 f3 ∗ pt c M4 f4 ∗ pt c M5 f5 ∗ pt c M6 f6 ∗ pt c M7 (L.1) ∗ pt c M8 (L.2.1) ∗ pt c (Memref.whole cc0_scratch0) f9 ∗ pt c (Memref.whole cc0_scratch1) (L.2.2.1) ∗ pt c (Memref.whole cc0_scratch2) (L.2.2.2.1) ∗ pt c (Memref.whole cc0_scratch3) f12 ∗ pt c (Memref.whole cc0_scratch4) (L.2.2.2.2.1) ∗ pt c (Memref.whole cc0_scratch5) (L.2.2.2.2.2.1) ∗ pt c (Memref.whole cc0_scratch6) (L.2.2.2.2.2.2.1) ∗ pt c (Memref.whole cc0_scratch7) (L.2.2.2.2.2.2.2.1) ∗ pt c (Memref.whole cc0_scratch8) f17 ∗ pt c (Memref.whole cc0_scratch9) (L.2.2.2.2.2.2.2.2.1) ∗ pt c (Memref.whole cc0_scratch10) (L.2.2.2.2.2.2.2.2.2.1) ∗ pt c (Memref.whole cc0_scratch11) (L.2.2.2.2.2.2.2.2.2.2.1) ∗ pt c (Memref.whole cc0_scratch12) (L.2.2.2.2.2.2.2.2.2.2.2)) -∗ Q ⟨⟩))
      ⊢ wp frame (wpE (defs₀ (F := F)) Variants.none c none) Set.univ
        (window i hc M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q} := by
  refine ⟨⟨?c7, ?c8, ?c10, ?c11, ?c13, ?c14, ?c15, ?c16, ?c18, ?c19, ?c20, ?c21⟩, fun Q => ?run⟩
  case run =>
  iintro ⟨H2, H3, H4, H5, H6, H7, H8, H9, H10, H11, H12, H13, H14, H15, H16, H17, H18, H19, H20, H21, Hk⟩
  unfold window
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Hand

end
-- ==== Proof.TileW.lean ====
module

public import proofs.«01_k».proof.Proof.RunW
public import proofs.«01_k».proof.Proof.TileZ

@[expose] public section

noncomputable section

namespace Cert.KernelIdeal.Hand

open Cert.KernelIdeal Cert.KernelIdeal.Gen
open Idealize.ShloMosaic Idealize.ShloMosaic.Tactic

/-- Whether row `p` of the scratch buffers belongs to lane `k`, the 64 rows from `64 k` on. -/
def inLane (k p : ℕ) : Prop := 64 * k ≤ p ∧ p < 64 * k + 64

instance (k p : ℕ) : Decidable (inLane k p) := inferInstanceAs (Decidable (_ ∧ _))

/-- Largest and smallest value, and sum, of 128 lanes. -/
def max128 (f : ℕ → EReal) : EReal := Finset.fold max (Ideal.ofBits .f32 4286578688#32) (fun l : Fin 128 => f l.val) Finset.univ
def min128 (f : ℕ → EReal) : EReal := Finset.fold min (Ideal.ofBits .f32 2139095040#32) (fun l : Fin 128 => f l.val) Finset.univ
def sum128 (f : ℕ → EReal) : EReal := ∑ l : Fin 128, f l.val

/-- The lane comparisons, decided. -/
theorem sel_lt40 {α : Type} (x : Fin 128) (a b : α) : Scalar.select (IntOp.cmpi .slt (BitVec.ofNat 32 x.val) 40#32) a b = if x.val < 40 then a else b := by
  have h : ∀ x : Fin 128, IntOp.cmpi .slt (BitVec.ofNat 32 x.val) 40#32 = if x.val < 40 then 1#1 else 0#1 := by decide
  rw [h]; split <;> rfl

theorem sel_eq0 {α : Type} (x : Fin 128) (a b : α) : Scalar.select (IntOp.cmpi .eq (BitVec.ofNat 32 x.val) 0#32) a b = if x.val = 0 then a else b := by
  have h : ∀ x : Fin 128, IntOp.cmpi .eq (BitVec.ofNat 32 x.val) 0#32 = if x.val = 0 then 1#1 else 0#1 := by decide
  rw [h]; split <;> rfl

theorem bits_inf : Ideal.ofBits .f32 2139095040#32 = ⊤ := by
  simp [Ideal.ofBits, Ideal.ieee]

theorem bits_ninf : Ideal.ofBits .f32 4286578688#32 = ⊥ := by
  simp [Ideal.ofBits, Ideal.ieee]

section
variable (c : Dev nD) (i : grid0.Coords) (hc : k0_cond1 i = 1#1)
  (M3 : Memref sig .tc .vmem S64x1024 .bf16) (M4 : Memref sig .tc .vmem S9x64x128 .i32) (M5 : Memref sig .tc .vmem S64x128 .i32)
  (f3 : Bf (F := Ideal) c M3) (f4 : Bf (F := Ideal) c M4) (f5 : Bf (F := Ideal) c M5)
  (f10 : Bf (F := Ideal) c (Memref.whole cc0_scratch1))
  (f11 : Bf (F := Ideal) c (Memref.whole cc0_scratch2))
  (f13 : Bf (F := Ideal) c (Memref.whole cc0_scratch4))
  (f14 : Bf (F := Ideal) c (Memref.whole cc0_scratch5))
  (f15 : Bf (F := Ideal) c (Memref.whole cc0_scratch6))
  (f16 : Bf (F := Ideal) c (Memref.whole cc0_scratch7))
  (f17 : Bf (F := Ideal) c (Memref.whole cc0_scratch8))
  (f18 : Bf (F := Ideal) c (Memref.whole cc0_scratch9))
  (f19 : Bf (F := Ideal) c (Memref.whole cc0_scratch10))
  (f20 : Bf (F := Ideal) c (Memref.whole cc0_scratch11))
  (f21 : Bf (F := Ideal) c (Memref.whole cc0_scratch12))
  (X : ℕ → ℕ → EReal) (MW : ℕ → ℕ → ℕ → BitVec 32) (LO TI : ℕ → ℕ → BitVec 32) (RT MP GZ MX : ℕ → ℕ → EReal) (A T U : ℕ → ℕ → ℕ → EReal)
  (Xb : ℕ → ℕ → EReal) (Mb : ℕ → ℕ → ℕ → BitVec 32) (Pb : ℕ → ℕ → BitVec 32)
  (hXb : ∀ j : S64x1024.Idx, M3.view.read (Elt Ideal) f3 j = Xb (j 0).val (j 1).val)
  (hMb : ∀ j : S9x64x128.Idx, M4.view.read (Elt Ideal) f4 j = Mb (j 0).val (j 1).val (j 2).val)
  (hPb : ∀ j : S64x128.Idx, M5.view.read (Elt Ideal) f5 j = Pb (j 0).val (j 1).val)
  (hX : ∀ j : S320x1024.Idx, (Memref.whole cc0_scratch1).view.read (Elt Ideal) f10 j = X (j 0).val (j 1).val)
  (hMW : ∀ j : S9x320x128.Idx, (Memref.whole cc0_scratch2).view.read (Elt Ideal) f11 j = MW (j 0).val (j 1).val (j 2).val)
  (hLO : ∀ j : S320x128.Idx, (Memref.whole cc0_scratch4).view.read (Elt Ideal) f13 j = LO (j 0).val (j 1).val)
  (hTI : ∀ j : S320x128.Idx, (Memref.whole cc0_scratch5).view.read (Elt Ideal) f14 j = TI (j 0).val (j 1).val)
  (hRT : ∀ j : S320x128.Idx, (Memref.whole cc0_scratch6).view.read (Elt Ideal) f15 j = RT (j 0).val (j 1).val)
  (hMP : ∀ j : S320x128.Idx, (Memref.whole cc0_scratch7).view.read (Elt Ideal) f16 j = MP (j 0).val (j 1).val)
  (hGZ : ∀ j : S320x128.Idx, (Memref.whole cc0_scratch8).view.read (Elt Ideal) f17 j = GZ (j 0).val (j 1).val)
  (hMX : ∀ j : S320x128.Idx, (Memref.whole cc0_scratch9).view.read (Elt Ideal) f18 j = MX (j 0).val (j 1).val)
  (hA : ∀ j : S3x64x128.Idx, (Memref.whole cc0_scratch10).view.read (Elt Ideal) f19 j = A (j 0).val (j 1).val (j 2).val)
  (hT : ∀ j : S3x64x128.Idx, (Memref.whole cc0_scratch11).view.read (Elt Ideal) f20 j = T (j 0).val (j 1).val (j 2).val)
  (hU : ∀ j : S2x64x128.Idx, (Memref.whole cc0_scratch12).view.read (Elt Ideal) f21 j = U (j 0).val (j 1).val (j 2).val)

include hX hXb in
set_option maxHeartbeats 2000000 in
/-- The lane takes the window's activations. -/
theorem win_X (j : S320x1024.Idx) :
    (Memref.whole cc0_scratch1).view.read (Elt Ideal) ((Memref.whole cc0_scratch1).view.writes (Elt Ideal) f10
      [⟨Rect.unit (k0_off2 i) S64x1024.size (k0_off2_inb i hc), runW.sl.v2057 c M3 f3⟩]) j
    = if inLane ((i 0).val % 5) (j 0).val then Xb ((j 0).val - 64 * ((i 0).val % 5)) (j 1).val else X (j 0).val (j 1).val := by
  have b0 : (j 0).val < 320 := (j 0).isLt
  have b1 : (j 1).val < 1024 := (j 1).isLt
  refine writes_step (s := S320x1024) (off' := ![64 * ((i 0).val % 5), 0]) _ _ (Gen.k0_off2_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2057, readAt_nat2 hXb, zero_add, Nat.add_sub_cancel_left]
  · rw [if_neg]
    · exact hX j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 1024; omega

include hMW hMb in
set_option maxHeartbeats 2000000 in
/-- The lane takes the window's words of seen bits. -/
theorem win_MW (j : S9x320x128.Idx) :
    (Memref.whole cc0_scratch2).view.read (Elt Ideal) ((Memref.whole cc0_scratch2).view.writes (Elt Ideal) f11
      [⟨Rect.unit (k0_off3 i) S9x64x128.size (k0_off3_inb i hc), runW.sl.v2062 c M4 f4⟩]) j
    = if inLane ((i 0).val % 5) (j 1).val then Mb (j 0).val ((j 1).val - 64 * ((i 0).val % 5)) (j 2).val else MW (j 0).val (j 1).val (j 2).val := by
  have b0 : (j 0).val < 9 := (j 0).isLt
  have b1 : (j 1).val < 320 := (j 1).isLt
  have b2 : (j 2).val < 128 := (j 2).isLt
  refine writes_step (s := S9x320x128) (off' := ![0, 64 * ((i 0).val % 5), 0]) _ _ (Gen.k0_off3_eq i) _ _ (fun x hx => ?_) (fun hn => ?_)
  · have e0 : (j 0).val = 0 + (x 0).val := hx 0
    have e1 : (j 1).val = 64 * ((i 0).val % 5) + (x 1).val := hx 1
    have e2 : (j 2).val = 0 + (x 2).val := hx 2
    have r : (x 1).val < 64 := (x 1).isLt
    have hin : inLane ((i 0).val % 5) (j 1).val := ⟨by omega, by omega⟩
    rw [if_pos hin]
    try rw [e0]
    try rw [e1]
    try rw [e2]
    idx_vars x
    pointwise [runW.sl.v2062, readAt_nat3 hMb, zero_add, Nat.add_sub_cancel_left]
  · rw [if_neg]
    · exact hMW j
    · rintro ⟨h1, h2⟩
      refine hn fun a => ?_
      fin_cases a
      · change 0 ≤ (j 0).val ∧ (j 0).val < 0 + 9; omega
      · change 64 * ((i 0).val % 5) ≤ (j 1).val ∧ (j 1).val < 64 * ((i 0).val % 5) + 64; omega
      · change 0 ≤ (j 2).val ∧ (j 2).val < 0 + 128; omega

include hLO hPb in
set_option maxHeartbeats 2000000 in
/-- The lane takes the lanes of the window's token columns. -/
theorem win_LO (j : S320x128.Idx) :
    (Memref.whole cc0_scratch4).view.read (Elt Ideal) ((Memref.whole cc0_scratch4).view.writes (Elt Ideal) f13
      [⟨Rect.unit (k0_off1 i) S64x128.size (k0_off1_inb i hc), runW.sl.v2069 c M5 f5⟩]) j
    = if inLane ((i 0).val % 5) (j 0).val then IntOp.andi (Pb ((j 0).val - 64 * ((i 0).val % 5)) (j 1).val) 127#32 else LO (j 0).val (j 1).val := by
  have b0 : (j 0).val < 320 := (j 0).isLt
  have b1 : (j 1).val < 128 := (j 1).isLt
  refine writes_step (s := S320x128) (off' := ![64 * ((i 0).val % 5), 0]) _ _ (Gen.k0_off1_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2069, runW.sl.v2065, runW.sl.v2064, readAt_nat2 hPb, zero_add, Nat.add_sub_cancel_left]
  · rw [if_neg]
    · exact hLO j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 128; omega

include hTI hPb in
set_option maxHeartbeats 2000000 in
/-- The lane takes the tile columns of the window's tokens. -/
theorem win_TI (j : S320x128.Idx) :
    (Memref.whole cc0_scratch5).view.read (Elt Ideal) ((Memref.whole cc0_scratch5).view.writes (Elt Ideal) f14
      [⟨Rect.unit (k0_off1 i) S64x128.size (k0_off1_inb i hc), runW.sl.v2079 c M5 f5⟩]) j
    = if inLane ((i 0).val % 5) (j 0).val then if (j 1).val < 40 then IntOp.shrsi .vector (Pb ((j 0).val - 64 * ((i 0).val % 5)) (j 1).val) 7#32 else 4294967295#32 else TI (j 0).val (j 1).val := by
  have b0 : (j 0).val < 320 := (j 0).isLt
  have b1 : (j 1).val < 128 := (j 1).isLt
  refine writes_step (s := S320x128) (off' := ![64 * ((i 0).val % 5), 0]) _ _ (Gen.k0_off1_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2079, runW.sl.v2075, runW.sl.v1964, runW.sl.v2070, runW.sl.v2073, runW.sl.v2063, runW.sl.v2072, runW.sl.v2074, readAt_nat2 hPb, sel_lt40, zero_add, Nat.add_sub_cancel_left]
  · rw [if_neg]
    · exact hTI j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 128; omega

include hRT hPb in
set_option maxHeartbeats 2000000 in
/-- The lane takes the reciprocal of the window's temperatures. -/
theorem win_RT (j : S320x128.Idx) :
    (Memref.whole cc0_scratch6).view.read (Elt Ideal) ((Memref.whole cc0_scratch6).view.writes (Elt Ideal) f15
      [⟨Rect.unit (k0_off1 i) S64x128.size (k0_off1_inb i hc), runW.sl.v2089 c M5 f5⟩]) j
    = if inLane ((i 0).val % 5) (j 0).val then Ideal.div 1 (Ideal.ofBits .f32 (Pb ((j 0).val - 64 * ((i 0).val % 5)) 126)) else RT (j 0).val (j 1).val := by
  have b0 : (j 0).val < 320 := (j 0).isLt
  have b1 : (j 1).val < 128 := (j 1).isLt
  refine writes_step (s := S320x128) (off' := ![64 * ((i 0).val % 5), 0]) _ _ (Gen.k0_off1_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2089, runW.sl.v2085, runW.sl.v2084, runW.sl.v2083, runW.sl.v2082, runW.sl.cst_858, runW.sl.v2081, runW.sl.v2080, runW.sl.v2063, readAt_nat2 hPb, zero_add, Nat.add_sub_cancel_left]
  · rw [if_neg]
    · exact hRT j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 128; omega

include hMP hPb in
set_option maxHeartbeats 2000000 in
/-- The lane takes the window's smallest kept probabilities. -/
theorem win_MP (j : S320x128.Idx) :
    (Memref.whole cc0_scratch7).view.read (Elt Ideal) ((Memref.whole cc0_scratch7).view.writes (Elt Ideal) f16
      [⟨Rect.unit (k0_off1 i) S64x128.size (k0_off1_inb i hc), runW.sl.v2097 c M5 f5⟩]) j
    = if inLane ((i 0).val % 5) (j 0).val then Ideal.ofBits .f32 (Pb ((j 0).val - 64 * ((i 0).val % 5)) 127) else MP (j 0).val (j 1).val := by
  have b0 : (j 0).val < 320 := (j 0).isLt
  have b1 : (j 1).val < 128 := (j 1).isLt
  refine writes_step (s := S320x128) (off' := ![64 * ((i 0).val % 5), 0]) _ _ (Gen.k0_off1_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2097, runW.sl.v2093, runW.sl.v2092, runW.sl.v2091, runW.sl.v2090, runW.sl.v2063, readAt_nat2 hPb, zero_add, Nat.add_sub_cancel_left]
  · rw [if_neg]
    · exact hMP j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 128; omega

include hMX in
set_option maxHeartbeats 2000000 in
/-- The lane's maxima start at minus infinity. -/
theorem win_MX (j : S320x128.Idx) :
    (Memref.whole cc0_scratch9).view.read (Elt Ideal) ((Memref.whole cc0_scratch9).view.writes (Elt Ideal) f18
      [⟨Rect.unit (k0_off1 i) S64x128.size (k0_off1_inb i hc), (runW.sl.v2052 : FVec Ideal S64x128 .f32)⟩]) j
    = if inLane ((i 0).val % 5) (j 0).val then ⊥ else MX (j 0).val (j 1).val := by
  have b0 : (j 0).val < 320 := (j 0).isLt
  have b1 : (j 1).val < 128 := (j 1).isLt
  refine writes_step (s := S320x128) (off' := ![64 * ((i 0).val % 5), 0]) _ _ (Gen.k0_off1_eq i) _ _ (fun x hx => ?_) (fun hn => ?_)
  · have e0 : (j 0).val = 64 * ((i 0).val % 5) + (x 0).val := hx 0
    have e1 : (j 1).val = 0 + (x 1).val := hx 1
    have r : (x 0).val < 64 := (x 0).isLt
    have hin : inLane ((i 0).val % 5) (j 0).val := ⟨by omega, by omega⟩
    rw [if_pos hin]
    try rw [e0]
    try rw [e1]
    idx_vars x
    pointwise [runW.sl.v2052, runW.sl.v2048, runW.sl.cst_843, bits_ninf, zero_add, Nat.add_sub_cancel_left]
  · rw [if_neg]
    · exact hMX j
    · rintro ⟨h1, h2⟩
      refine hn fun a => ?_
      fin_cases a
      · change 64 * ((i 0).val % 5) ≤ (j 0).val ∧ (j 0).val < 64 * ((i 0).val % 5) + 64; omega
      · change 0 ≤ (j 1).val ∧ (j 1).val < 0 + 128; omega

include hGZ in
set_option maxHeartbeats 2000000 in
/-- The token logits go out scaled by the control constant or its inverse. -/
theorem win_zs (M7 : Memref sig .tc .vmem S64x128 .f32) (f7 : Bf (F := Ideal) c M7) (j : S64x128.Idx) :
    M7.view.read (Elt Ideal) (M7.view.writes (Elt Ideal) f7 (runW.sl.H7_1 c i hc f17)) j
    = if 0 < GZ (64 * ((i 0).val % 5) + (j 0).val) (j 1).val
      then GZ (64 * ((i 0).val % 5) + (j 0).val) (j 1).val * (Named.named (F := Ideal) (φ := .f32) κ "inv_ctrl" 1061481551#32 : EReal)
      else GZ (64 * ((i 0).val % 5) + (j 0).val) (j 1).val * (Named.named (F := Ideal) (φ := .f32) κ "ctrl" 1067869798#32 : EReal) := by
  simp only [runW.sl.H7_1]
  have q0 : k0_off1 i 0 = 64 * ((i 0).val % 5) := by rw [Gen.k0_off1_eq]; rfl
  have q1 : k0_off1 i 1 = 0 := by rw [Gen.k0_off1_eq]; rfl
  refine writes_step (s := S64x128) (off' := ![0, 0]) _ _ rfl _ _ (fun x hx => ?_) (fun hn => ?_)
  · have e0 : (j 0).val = 0 + (x 0).val := hx 0
    have e1 : (j 1).val = 0 + (x 1).val := hx 1
    rw [e0, e1]
    idx_vars x
    pointwise [k0_pay22, readAt_nat2 hGZ, q0, q1, zero_add]
  · refine absurd (fun a => ?_) hn
    have b0 : (j 0).val < 64 := (j 0).isLt
    have b1 : (j 1).val < 128 := (j 1).isLt
    fin_cases a
    · change 0 ≤ (j 0).val ∧ (j 0).val < 0 + 64; omega
    · change 0 ≤ (j 1).val ∧ (j 1).val < 0 + 128; omega

include hA hT in
set_option maxHeartbeats 2000000 in
/-- The row statistics: the threshold in lane 0, the margin in the others. -/
theorem win_st (M8 : Memref sig .tc .vmem S64x128 .f32) (f8 : Bf (F := Ideal) c M8) (j : S64x128.Idx) :
    M8.view.read (Elt Ideal) (M8.view.writes (Elt Ideal) f8 (runW.sl.H8_1 c f19 f20)) j
    = if (j 1).val = 0 then
        T 2 (j 0).val 0 - FloatOps.log (F := Ideal) (φ := .f32) (Ideal.div (sum128 (A 0 (j 0).val))
          (FloatOps.exp2 (F := Ideal) (φ := .f32) ((T 1 (j 0).val 0 - T 0 (j 0).val 0) * (Named.named (F := Ideal) (φ := .f32) κ "log2e" 1069066811#32 : EReal))))
      else min128 (A 2 (j 0).val) := by
  simp only [runW.sl.H8_1]
  refine writes_step (s := S64x128) (off' := ![0, 0]) _ _ rfl _ _ (fun x hx => ?_) (fun hn => ?_)
  · have e0 : (j 0).val = 0 + (x 0).val := hx 0
    have e1 : (j 1).val = 0 + (x 1).val := hx 1
    rw [e0, e1]
    idx_vars x
    pointwise [runW.sl.v1969, runW.sl.v1964, runW.sl.v1965, runW.sl.v1963, runW.sl.v1928, runW.sl.v1962, runW.sl.v1961, runW.sl.v1960, runW.sl.v1959, runW.sl.v1932, runW.sl.v1947, runW.sl.v1968, runW.sl.v1967, runW.sl.v1940, k0_pay5, k0_pay6, k0_pay9, k0_pay4, k0_pay3, k0_pay7, readAt_nat3 hA, readAt_nat3 hT, zero_add, sum128, min128]
    rw [sel_eq0]
    split
    · rename_i h; rw [h]
    · rfl
  · refine absurd (fun a => ?_) hn
    have b0 : (j 0).val < 64 := (j 0).isLt
    have b1 : (j 1).val < 128 := (j 1).isLt
    fin_cases a
    · change 0 ≤ (j 0).val ∧ (j 0).val < 0 + 64; omega
    · change 0 ≤ (j 1).val ∧ (j 1).val < 0 + 128; omega

include hMX hMP in
set_option maxHeartbeats 2000000 in
/-- The bounds of the window whose scan ended: the value kept from, the maximum, the logarithm of the smallest kept probability. -/
theorem win_T (g : Bf (F := Ideal) c (Memref.whole cc0_scratch11)) (j : S3x64x128.Idx) :
    (Memref.whole cc0_scratch11).view.read (Elt Ideal) ((Memref.whole cc0_scratch11).view.writes (Elt Ideal) g (runW.sl.H20_3 c i hc f16 f18)) j
    = if (j 0).val = 0 then max128 (MX (64 * ((i 0).val % 5) + (j 1).val)) + FloatOps.log (F := Ideal) (φ := .f32) (MP (64 * ((i 0).val % 5) + (j 1).val) (j 2).val) else if (j 0).val = 1 then max128 (MX (64 * ((i 0).val % 5) + (j 1).val)) else FloatOps.log (F := Ideal) (φ := .f32) (MP (64 * ((i 0).val % 5) + (j 1).val) (j 2).val) := by
  have b0 : (j 0).val < 3 := (j 0).isLt
  have b1 : (j 1).val < 64 := (j 1).isLt
  have b2 : (j 2).val < 128 := (j 2).isLt
  have q0 : k0_off1 i 0 = 64 * ((i 0).val % 5) := by rw [Gen.k0_off1_eq]; rfl
  have q1 : k0_off1 i 1 = 0 := by rw [Gen.k0_off1_eq]; rfl
  simp only [runW.sl.H20_3]
  refine writes_step (s := S3x64x128) (off' := ![2, 0, 0]) _ _ rfl _ _ (fun x hx => ?_) (fun hn2 => ?_)
  · have x0 : (x 0).val < 1 := (x 0).isLt
    have e0 : (j 0).val = 2 := by have := hx 0; change (j 0).val = 2 + (x 0).val at this; omega
    have e1 : (j 1).val = 0 + (x 1).val := hx 1
    have e2 : (j 2).val = 0 + (x 2).val := hx 2
    try rw [e0]
    try rw [e1]
    try rw [e2]
    idx_vars x
    pointwise [runW.sl.v1979, k0_pay21, readAt_nat2 hMX, readAt_nat2 hMP, q0, q1, max128, zero_add, min_self, ite_self]
  refine writes_step (s := S3x64x128) (off' := ![1, 0, 0]) _ _ rfl _ _ (fun x hx => ?_) (fun hn1 => ?_)
  · have x0 : (x 0).val < 1 := (x 0).isLt
    have e0 : (j 0).val = 1 := by have := hx 0; change (j 0).val = 1 + (x 0).val at this; omega
    have e1 : (j 1).val = 0 + (x 1).val := hx 1
    have e2 : (j 2).val = 0 + (x 2).val := hx 2
    try rw [e0]
    try rw [e1]
    try rw [e2]
    idx_vars x
    pointwise [runW.sl.v1976, runW.sl.v1975, runW.sl.v1974, runW.sl.v1973, k0_pay20, readAt_nat2 hMX, readAt_nat2 hMP, q0, q1, max128, zero_add, min_self, ite_self]
  refine writes_step (s := S3x64x128) (off' := ![0, 0, 0]) _ _ rfl _ _ (fun x hx => ?_) (fun hn0 => ?_)
  · have x0 : (x 0).val < 1 := (x 0).isLt
    have e0 : (j 0).val = 0 := by have := hx 0; change (j 0).val = 0 + (x 0).val at this; omega
    have e1 : (j 1).val = 0 + (x 1).val := hx 1
    have e2 : (j 2).val = 0 + (x 2).val := hx 2
    try rw [e0]
    try rw [e1]
    try rw [e2]
    idx_vars x
    pointwise [runW.sl.v1976, runW.sl.v1975, runW.sl.v1974, runW.sl.v1973, runW.sl.v1979, runW.sl.v1980, runW.sl.v1998, runW.sl.v1984, runW.sl.v1982, runW.sl.v1981, runW.sl.v1953, runW.sl.cst_800, runW.sl.v1997, runW.sl.v1992, runW.sl.v1991, runW.sl.v1986, runW.sl.v1985, k0_pay19, readAt_nat2 hMX, readAt_nat2 hMP, q0, q1, max128, zero_add, min_self, ite_self]
  have d : ¬ ((j 0).val = 0 ∨ (j 0).val = 1 ∨ (j 0).val = 2) := by
    rintro (h | h | h)
    · refine hn0 fun a => ?_
      fin_cases a
      · change 0 ≤ (j 0).val ∧ (j 0).val < 0 + 1; omega
      · change 0 ≤ (j 1).val ∧ (j 1).val < 0 + 64; omega
      · change 0 ≤ (j 2).val ∧ (j 2).val < 0 + 128; omega
    · refine hn1 fun a => ?_
      fin_cases a
      · change 1 ≤ (j 0).val ∧ (j 0).val < 1 + 1; omega
      · change 0 ≤ (j 1).val ∧ (j 1).val < 0 + 64; omega
      · change 0 ≤ (j 2).val ∧ (j 2).val < 0 + 128; omega
    · refine hn2 fun a => ?_
      fin_cases a
      · change 2 ≤ (j 0).val ∧ (j 0).val < 2 + 1; omega
      · change 0 ≤ (j 1).val ∧ (j 1).val < 0 + 64; omega
      · change 0 ≤ (j 2).val ∧ (j 2).val < 0 + 128; omega
  omega

include hA hT in
set_option maxHeartbeats 2000000 in
/-- The kept bound, and the logarithm of the kept mass above the maximum. -/
theorem win_U (g : Bf (F := Ideal) c (Memref.whole cc0_scratch12)) (j : S2x64x128.Idx) :
    (Memref.whole cc0_scratch12).view.read (Elt Ideal) ((Memref.whole cc0_scratch12).view.writes (Elt Ideal) g (runW.sl.H21_2 c f19 f20)) j
    = if (j 0).val = 0 then T 0 (j 1).val (j 2).val else T 1 (j 1).val (j 2).val + if sum128 (A 1 (j 1).val) = FloatOps.exp2 (F := Ideal) (φ := .f32) ((T 1 (j 1).val (j 2).val - T 0 (j 1).val (j 2).val) * (Named.named (F := Ideal) (φ := .f32) κ "log2e" 1069066811#32 : EReal)) then 0 else FloatOps.log (F := Ideal) (φ := .f32) (Ideal.div (sum128 (A 1 (j 1).val)) (FloatOps.exp2 (F := Ideal) (φ := .f32) ((T 1 (j 1).val (j 2).val - T 0 (j 1).val (j 2).val) * (Named.named (F := Ideal) (φ := .f32) κ "log2e" 1069066811#32 : EReal)))) := by
  have b0 : (j 0).val < 2 := (j 0).isLt
  have b1 : (j 1).val < 64 := (j 1).isLt
  have b2 : (j 2).val < 128 := (j 2).isLt
  simp only [runW.sl.H21_2, runW.sl.H21_1]
  refine writes_step (s := S2x64x128) (off' := ![1, 0, 0]) _ _ rfl _ _ (fun x hx => ?_) (fun hn1 => ?_)
  · have x0 : (x 0).val < 1 := (x 0).isLt
    have e0 : (j 0).val = 1 := by have := hx 0; change (j 0).val = 1 + (x 0).val at this; omega
    have e1 : (j 1).val = 0 + (x 1).val := hx 1
    have e2 : (j 2).val = 0 + (x 2).val := hx 2
    try rw [e0]
    try rw [e1]
    try rw [e2]
    idx_vars x
    pointwise [runW.sl.v1958, runW.sl.v1955, runW.sl.v1926, runW.sl.v1954, runW.sl.v1950, runW.sl.v1953, runW.sl.cst_800, runW.sl.v1952, k0_pay4, k0_pay11, k0_pay10, k0_pay9, k0_pay3, k0_pay12, readAt_nat3 hA, readAt_nat3 hT, sum128, zero_add, min_self, ite_self]
  refine writes_step (s := S2x64x128) (off' := ![0, 0, 0]) _ _ rfl _ _ (fun x hx => ?_) (fun hn0 => ?_)
  · have x0 : (x 0).val < 1 := (x 0).isLt
    have e0 : (j 0).val = 0 := by have := hx 0; change (j 0).val = 0 + (x 0).val at this; omega
    have e1 : (j 1).val = 0 + (x 1).val := hx 1
    have e2 : (j 2).val = 0 + (x 2).val := hx 2
    try rw [e0]
    try rw [e1]
    try rw [e2]
    idx_vars x
    pointwise [k0_pay8, k0_pay3, readAt_nat3 hA, readAt_nat3 hT, sum128, zero_add, min_self, ite_self]
  have d : ¬ ((j 0).val = 0 ∨ (j 0).val = 1) := by
    rintro (h | h)
    · refine hn0 fun a => ?_
      fin_cases a
      · change 0 ≤ (j 0).val ∧ (j 0).val < 0 + 1; omega
      · change 0 ≤ (j 1).val ∧ (j 1).val < 0 + 64; omega
      · change 0 ≤ (j 2).val ∧ (j 2).val < 0 + 128; omega
    · refine hn1 fun a => ?_
      fin_cases a
      · change 1 ≤ (j 0).val ∧ (j 0).val < 1 + 1; omega
      · change 0 ≤ (j 1).val ∧ (j 1).val < 0 + 64; omega
      · change 0 ≤ (j 2).val ∧ (j 2).val < 0 + 128; omega
  omega

include hA in
set_option maxHeartbeats 2000000 in
/-- The accumulators start at 0, 0 and infinity. -/
theorem win_A (g : Bf (F := Ideal) c (Memref.whole cc0_scratch10)) (j : S3x64x128.Idx) :
    (Memref.whole cc0_scratch10).view.read (Elt Ideal) ((Memref.whole cc0_scratch10).view.writes (Elt Ideal) g [⟨Rect.unit ![2, 0, 0] S1x64x128.size inb_S3x64x128_S1x64x128_2_0_0, (runW.sl.v2047 : FVec Ideal S1x64x128 .f32)⟩, ⟨Rect.unit ![1, 0, 0] S1x64x128.size inb_S3x64x128_S1x64x128_1_0_0, (runW.sl.v2039 : FVec Ideal S1x64x128 .f32)⟩, ⟨Rect.unit ![0, 0, 0] S1x64x128.size inb_S3x64x128_S1x64x128_0_0_0, (runW.sl.v2039 : FVec Ideal S1x64x128 .f32)⟩]) j
    = if (j 0).val = 2 then (⊤ : EReal) else 0 := by
  have b0 : (j 0).val < 3 := (j 0).isLt
  have b1 : (j 1).val < 64 := (j 1).isLt
  have b2 : (j 2).val < 128 := (j 2).isLt
  refine writes_step (s := S3x64x128) (off' := ![2, 0, 0]) _ _ rfl _ _ (fun x hx => ?_) (fun hn2 => ?_)
  · have x0 : (x 0).val < 1 := (x 0).isLt
    have e0 : (j 0).val = 2 := by have := hx 0; change (j 0).val = 2 + (x 0).val at this; omega
    have e1 : (j 1).val = 0 + (x 1).val := hx 1
    have e2 : (j 2).val = 0 + (x 2).val := hx 2
    try rw [e0]
    try rw [e1]
    try rw [e2]
    idx_vars x
    pointwise [runW.sl.v2047, runW.sl.v2044, runW.sl.cst_839, bits_inf, zero_add, min_self, ite_self]
  refine writes_step (s := S3x64x128) (off' := ![1, 0, 0]) _ _ rfl _ _ (fun x hx => ?_) (fun hn1 => ?_)
  · have x0 : (x 0).val < 1 := (x 0).isLt
    have e0 : (j 0).val = 1 := by have := hx 0; change (j 0).val = 1 + (x 0).val at this; omega
    have e1 : (j 1).val = 0 + (x 1).val := hx 1
    have e2 : (j 2).val = 0 + (x 2).val := hx 2
    try rw [e0]
    try rw [e1]
    try rw [e2]
    idx_vars x
    pointwise [runW.sl.v2039, runW.sl.v1953, runW.sl.cst_800, bits_inf, zero_add, min_self, ite_self]
  refine writes_step (s := S3x64x128) (off' := ![0, 0, 0]) _ _ rfl _ _ (fun x hx => ?_) (fun hn0 => ?_)
  · have x0 : (x 0).val < 1 := (x 0).isLt
    have e0 : (j 0).val = 0 := by have := hx 0; change (j 0).val = 0 + (x 0).val at this; omega
    have e1 : (j 1).val = 0 + (x 1).val := hx 1
    have e2 : (j 2).val = 0 + (x 2).val := hx 2
    try rw [e0]
    try rw [e1]
    try rw [e2]
    idx_vars x
    pointwise [runW.sl.v2039, runW.sl.v1953, runW.sl.cst_800, bits_inf, zero_add, min_self, ite_self]
  have d : ¬ ((j 0).val = 0 ∨ (j 0).val = 1 ∨ (j 0).val = 2) := by
    rintro (h | h | h)
    · refine hn0 fun a => ?_
      fin_cases a
      · change 0 ≤ (j 0).val ∧ (j 0).val < 0 + 1; omega
      · change 0 ≤ (j 1).val ∧ (j 1).val < 0 + 64; omega
      · change 0 ≤ (j 2).val ∧ (j 2).val < 0 + 128; omega
    · refine hn1 fun a => ?_
      fin_cases a
      · change 1 ≤ (j 0).val ∧ (j 0).val < 1 + 1; omega
      · change 0 ≤ (j 1).val ∧ (j 1).val < 0 + 64; omega
      · change 0 ≤ (j 2).val ∧ (j 2).val < 0 + 128; omega
    · refine hn2 fun a => ?_
      fin_cases a
      · change 2 ≤ (j 0).val ∧ (j 0).val < 2 + 1; omega
      · change 0 ≤ (j 1).val ∧ (j 1).val < 0 + 64; omega
      · change 0 ≤ (j 2).val ∧ (j 2).val < 0 + 128; omega
  omega

end

end Cert.KernelIdeal.Hand

end
-- ==== Proof.State.lean ====
module

public import proofs.«01_k».proof.Proof.TileO
public import proofs.«01_k».proof.Proof.TileW

@[expose] public section

noncomputable section

namespace Cert.KernelIdeal.Hand

open Cert.KernelIdeal Cert.KernelIdeal.Gen
open Idealize.ShloMosaic Idealize.ShloMosaic.Tactic

/-- What the scratch buffers hold, at numbers in place of indices: the ring of scaled logits, the activations, the words of seen bits,
    the token columns (lane within a tile column, and tile column), the reciprocal temperatures, the smallest kept probabilities,
    the token logits, the running maxima, the accumulators, and the bounds of the two later phases. -/
structure ST where
  R : ℕ → ℕ → ℕ → EReal
  X : ℕ → ℕ → EReal
  MW : ℕ → ℕ → ℕ → BitVec 32
  LO : ℕ → ℕ → BitVec 32
  TI : ℕ → ℕ → BitVec 32
  RT : ℕ → ℕ → EReal
  MP : ℕ → ℕ → EReal
  GZ : ℕ → ℕ → EReal
  MX : ℕ → ℕ → EReal
  A : ℕ → ℕ → ℕ → EReal
  T : ℕ → ℕ → ℕ → EReal
  U : ℕ → ℕ → ℕ → EReal

/-- The buffers hold the state. -/
structure Holds (c : Dev nD) (f9 : Bf (F := Ideal) c (Memref.whole cc0_scratch0)) (f10 : Bf (F := Ideal) c (Memref.whole cc0_scratch1)) (f11 : Bf (F := Ideal) c (Memref.whole cc0_scratch2)) (f13 : Bf (F := Ideal) c (Memref.whole cc0_scratch4)) (f14 : Bf (F := Ideal) c (Memref.whole cc0_scratch5)) (f15 : Bf (F := Ideal) c (Memref.whole cc0_scratch6)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11)) (f21 : Bf (F := Ideal) c (Memref.whole cc0_scratch12)) (s : ST) : Prop where
  hR : ∀ j : S31x320x1280.Idx, (Memref.whole cc0_scratch0).view.read (Elt Ideal) f9 j = s.R (j 0).val (j 1).val (j 2).val
  hX : ∀ j : S320x1024.Idx, (Memref.whole cc0_scratch1).view.read (Elt Ideal) f10 j = s.X (j 0).val (j 1).val
  hMW : ∀ j : S9x320x128.Idx, (Memref.whole cc0_scratch2).view.read (Elt Ideal) f11 j = s.MW (j 0).val (j 1).val (j 2).val
  hLO : ∀ j : S320x128.Idx, (Memref.whole cc0_scratch4).view.read (Elt Ideal) f13 j = s.LO (j 0).val (j 1).val
  hTI : ∀ j : S320x128.Idx, (Memref.whole cc0_scratch5).view.read (Elt Ideal) f14 j = s.TI (j 0).val (j 1).val
  hRT : ∀ j : S320x128.Idx, (Memref.whole cc0_scratch6).view.read (Elt Ideal) f15 j = s.RT (j 0).val (j 1).val
  hMP : ∀ j : S320x128.Idx, (Memref.whole cc0_scratch7).view.read (Elt Ideal) f16 j = s.MP (j 0).val (j 1).val
  hGZ : ∀ j : S320x128.Idx, (Memref.whole cc0_scratch8).view.read (Elt Ideal) f17 j = s.GZ (j 0).val (j 1).val
  hMX : ∀ j : S320x128.Idx, (Memref.whole cc0_scratch9).view.read (Elt Ideal) f18 j = s.MX (j 0).val (j 1).val
  hA : ∀ j : S3x64x128.Idx, (Memref.whole cc0_scratch10).view.read (Elt Ideal) f19 j = s.A (j 0).val (j 1).val (j 2).val
  hT : ∀ j : S3x64x128.Idx, (Memref.whole cc0_scratch11).view.read (Elt Ideal) f20 j = s.T (j 0).val (j 1).val (j 2).val
  hU : ∀ j : S2x64x128.Idx, (Memref.whole cc0_scratch12).view.read (Elt Ideal) f21 j = s.U (j 0).val (j 1).val (j 2).val

/-- Any array is a function of its coordinates as numbers. -/
theorem nat2 {n : Fin 2 → ℕ} {α : Type} [Inhabited α] (g : (⟨2, n⟩ : Shape).Idx → α) :
    ∃ G : ℕ → ℕ → α, ∀ j, g j = G (j (0 : Fin 2)).val (j (1 : Fin 2)).val := by
  classical
  refine ⟨fun p q => if h : ∃ j : (⟨2, n⟩ : Shape).Idx, (j (0 : Fin 2)).val = p ∧ (j (1 : Fin 2)).val = q then g h.choose else default, fun j => ?_⟩
  have h : ∃ k : (⟨2, n⟩ : Shape).Idx, (k (0 : Fin 2)).val = (j (0 : Fin 2)).val ∧ (k (1 : Fin 2)).val = (j (1 : Fin 2)).val := ⟨j, rfl, rfl⟩
  show g j = dite _ _ _
  rw [dif_pos h]
  have e : h.choose = j := by
    funext a
    have := h.choose_spec
    match a with
    | ⟨0, _⟩ => exact Fin.ext this.1
    | ⟨1, _⟩ => exact Fin.ext this.2
  rw [e]

theorem nat3 {n : Fin 3 → ℕ} {α : Type} [Inhabited α] (g : (⟨3, n⟩ : Shape).Idx → α) :
    ∃ G : ℕ → ℕ → ℕ → α, ∀ j, g j = G (j (0 : Fin 3)).val (j (1 : Fin 3)).val (j (2 : Fin 3)).val := by
  classical
  refine ⟨fun p q r => if h : ∃ j : (⟨3, n⟩ : Shape).Idx, (j (0 : Fin 3)).val = p ∧ (j (1 : Fin 3)).val = q ∧ (j (2 : Fin 3)).val = r then g h.choose else default,
    fun j => ?_⟩
  have h : ∃ k : (⟨3, n⟩ : Shape).Idx, (k (0 : Fin 3)).val = (j (0 : Fin 3)).val ∧ (k (1 : Fin 3)).val = (j (1 : Fin 3)).val
      ∧ (k (2 : Fin 3)).val = (j (2 : Fin 3)).val := ⟨j, rfl, rfl, rfl⟩
  show g j = dite _ _ _
  rw [dif_pos h]
  have e : h.choose = j := by
    funext a
    have := h.choose_spec
    match a with
    | ⟨0, _⟩ => exact Fin.ext this.1
    | ⟨1, _⟩ => exact Fin.ext this.2.1
    | ⟨2, _⟩ => exact Fin.ext this.2.2
  rw [e]

/-- Whatever the buffers hold is some state. -/
theorem holds_any (c : Dev nD) (f9 : Bf (F := Ideal) c (Memref.whole cc0_scratch0)) (f10 : Bf (F := Ideal) c (Memref.whole cc0_scratch1)) (f11 : Bf (F := Ideal) c (Memref.whole cc0_scratch2)) (f13 : Bf (F := Ideal) c (Memref.whole cc0_scratch4)) (f14 : Bf (F := Ideal) c (Memref.whole cc0_scratch5)) (f15 : Bf (F := Ideal) c (Memref.whole cc0_scratch6)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11)) (f21 : Bf (F := Ideal) c (Memref.whole cc0_scratch12)) : ∃ s, Holds c f9 f10 f11 f13 f14 f15 f16 f17 f18 f19 f20 f21 s := by
  obtain ⟨gR, eR⟩ := nat3 (α := EReal) (fun j : S31x320x1280.Idx => (Memref.whole cc0_scratch0).view.read (Elt Ideal) f9 j)
  obtain ⟨gX, eX⟩ := nat2 (α := EReal) (fun j : S320x1024.Idx => (Memref.whole cc0_scratch1).view.read (Elt Ideal) f10 j)
  obtain ⟨gMW, eMW⟩ := nat3 (α := BitVec 32) (fun j : S9x320x128.Idx => (Memref.whole cc0_scratch2).view.read (Elt Ideal) f11 j)
  obtain ⟨gLO, eLO⟩ := nat2 (α := BitVec 32) (fun j : S320x128.Idx => (Memref.whole cc0_scratch4).view.read (Elt Ideal) f13 j)
  obtain ⟨gTI, eTI⟩ := nat2 (α := BitVec 32) (fun j : S320x128.Idx => (Memref.whole cc0_scratch5).view.read (Elt Ideal) f14 j)
  obtain ⟨gRT, eRT⟩ := nat2 (α := EReal) (fun j : S320x128.Idx => (Memref.whole cc0_scratch6).view.read (Elt Ideal) f15 j)
  obtain ⟨gMP, eMP⟩ := nat2 (α := EReal) (fun j : S320x128.Idx => (Memref.whole cc0_scratch7).view.read (Elt Ideal) f16 j)
  obtain ⟨gGZ, eGZ⟩ := nat2 (α := EReal) (fun j : S320x128.Idx => (Memref.whole cc0_scratch8).view.read (Elt Ideal) f17 j)
  obtain ⟨gMX, eMX⟩ := nat2 (α := EReal) (fun j : S320x128.Idx => (Memref.whole cc0_scratch9).view.read (Elt Ideal) f18 j)
  obtain ⟨gA, eA⟩ := nat3 (α := EReal) (fun j : S3x64x128.Idx => (Memref.whole cc0_scratch10).view.read (Elt Ideal) f19 j)
  obtain ⟨gT, eT⟩ := nat3 (α := EReal) (fun j : S3x64x128.Idx => (Memref.whole cc0_scratch11).view.read (Elt Ideal) f20 j)
  obtain ⟨gU, eU⟩ := nat3 (α := EReal) (fun j : S2x64x128.Idx => (Memref.whole cc0_scratch12).view.read (Elt Ideal) f21 j)
  exact ⟨⟨gR, gX, gMW, gLO, gTI, gRT, gMP, gGZ, gMX, gA, gT, gU⟩, ⟨eR, eX, eMW, eLO, eTI, eRT, eMP, eGZ, eMX, eA, eT, eU⟩⟩

/-- A row's token logit after the first `n` tile columns of the step: taken where the token lies in one of them. -/
def gzN (s : ST) (W : ℕ → ℕ → EReal) (v : ℕ) : ℕ → ℕ → ℕ → EReal
  | 0, p, q => s.GZ p q
  | n + 1, p, q => if s.TI p q = BitVec.ofNat 32 (10 * v + n) then zN s.X W p (128 * n + (s.LO p q).toNat) else gzN s W v n p q

/-- The state after a step's tile, `junk` where a token column is no lane. -/
def tileST (s : ST) (w ii : ℕ) (W junk : ℕ → ℕ → EReal) : ST :=
  { s with
    R := fun sl p q => if sl = (5 * w + ii) % 31 then lN s.X W s.RT (wdN s.MW (5 * (w % 5) + ii)) p (q / 128) (q % 128) else s.R sl p q
    GZ := fun p q => if (s.LO p q).toNat < 128 then gzN s W (5 * (w % 5) + ii) 10 p q else junk p q
    MX := mxN s.X W s.RT (wdN s.MW (5 * (w % 5) + ii)) s.MX 5
    A := accN s.R s.A s.T w ii 5 }

/-- The state after a window has opened. -/
def winST (s : ST) (w : ℕ) (Xb : ℕ → ℕ → EReal) (Mb : ℕ → ℕ → ℕ → BitVec 32) (Pb : ℕ → ℕ → BitVec 32) : ST :=
  { s with
    X := fun p d => if inLane (w % 5) p then Xb (p - 64 * (w % 5)) d else s.X p d
    MW := fun v p l => if inLane (w % 5) p then Mb v (p - 64 * (w % 5)) l else s.MW v p l
    LO := fun p l => if inLane (w % 5) p then IntOp.andi (Pb (p - 64 * (w % 5)) l) 127#32 else s.LO p l
    TI := fun p l => if inLane (w % 5) p then (if l < 40 then IntOp.shrsi .vector (Pb (p - 64 * (w % 5)) l) 7#32 else 4294967295#32) else s.TI p l
    RT := fun p l => if inLane (w % 5) p then Ideal.div 1 (Ideal.ofBits .f32 (Pb (p - 64 * (w % 5)) 126)) else s.RT p l
    MP := fun p l => if inLane (w % 5) p then Ideal.ofBits .f32 (Pb (p - 64 * (w % 5)) 127) else s.MP p l
    MX := fun p l => if inLane (w % 5) p then ⊥ else s.MX p l
    A := fun a _ _ => if a = 2 then ⊤ else 0
    T := fun a g l => if a = 0 then max128 (s.MX (64 * (w % 5) + g)) + FloatOps.log (F := Ideal) (φ := .f32) (s.MP (64 * (w % 5) + g) l)
      else if a = 1 then max128 (s.MX (64 * (w % 5) + g)) else FloatOps.log (F := Ideal) (φ := .f32) (s.MP (64 * (w % 5) + g) l)
    U := fun a g l => if a = 0 then s.T 0 g l else s.T 1 g l + if sum128 (s.A 1 g) = FloatOps.exp2 (F := Ideal) (φ := .f32) ((s.T 1 g l - s.T 0 g l) * (Named.named (F := Ideal) (φ := .f32) κ "log2e" 1069066811#32 : EReal)) then 0
      else FloatOps.log (F := Ideal) (φ := .f32) (Ideal.div (sum128 (s.A 1 g)) (FloatOps.exp2 (F := Ideal) (φ := .f32) ((s.T 1 g l - s.T 0 g l) * (Named.named (F := Ideal) (φ := .f32) κ "log2e" 1069066811#32 : EReal)))) }

/-- The token logits and the row statistics a window's opening sends out. -/
def zsF (s : ST) (w g l : ℕ) : EReal :=
  if 0 < s.GZ (64 * (w % 5) + g) l then s.GZ (64 * (w % 5) + g) l * (Named.named (F := Ideal) (φ := .f32) κ "inv_ctrl" 1061481551#32 : EReal)
  else s.GZ (64 * (w % 5) + g) l * (Named.named (F := Ideal) (φ := .f32) κ "ctrl" 1067869798#32 : EReal)
def stF (s : ST) (g l : ℕ) : EReal :=
  if l = 0 then s.T 2 g 0 - FloatOps.log (F := Ideal) (φ := .f32) (Ideal.div (sum128 (s.A 0 g))
    (FloatOps.exp2 (F := Ideal) (φ := .f32) ((s.T 1 g 0 - s.T 0 g 0) * (Named.named (F := Ideal) (φ := .f32) κ "log2e" 1069066811#32 : EReal))))
  else min128 (s.A 2 g)

/-- The tile number as the kernel counts it. -/
theorem v7_nat (i : grid0.Coords) (n : ℕ) : Scalar.addi (Scalar.muli (runT.sl.v7 i) 10#32) (BitVec.ofNat 32 n) = BitVec.ofNat 32 (10 * (5 * ((i 0).val % 5) + (i 1).val) + n) := by
  have h : ∀ (a : Fin 150) (b : Fin 5), Scalar.muli (runT.sl.v7 (Fin.cons a (Fin.cons b finZeroElim))) 10#32 = BitVec.ofNat 32 (10 * (5 * (a.val % 5) + b.val)) := by
    decide +kernel
  have e : i = (Fin.cons (i 0) (Fin.cons (i 1) finZeroElim) : grid0.Coords) := by
    funext a
    match a with
    | ⟨0, _⟩ => rfl
    | ⟨1, _⟩ => rfl
  have h' : Scalar.muli (runT.sl.v7 i) 10#32 = BitVec.ofNat 32 (10 * (5 * ((i 0).val % 5) + (i 1).val)) := by
    rw [e]; exact h (i 0) (i 1)
  rw [h', BitVec.ofNat_add]; rfl

section
variable (c : Dev nD) (i : grid0.Coords)
  (M2 : Memref sig .tc .vmem S1280x1024 .bf16) (h2 : M2.IsWhole)
  (M3 : Memref sig .tc .vmem S64x1024 .bf16) (h3 : M3.IsWhole)
  (M4 : Memref sig .tc .vmem S9x64x128 .i32) (h4 : M4.IsWhole)
  (M5 : Memref sig .tc .vmem S64x128 .i32) (h5 : M5.IsWhole)
  (M6 : Memref sig .tc .vmem S64x6400 .bf16) (h6 : M6.IsWhole)
  (M7 : Memref sig .tc .vmem S64x128 .f32) (h7 : M7.IsWhole)
  (M8 : Memref sig .tc .vmem S64x128 .f32) (h8 : M8.IsWhole)
  (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
  (f9 : Bf (F := Ideal) c (Memref.whole cc0_scratch0)) (f10 : Bf (F := Ideal) c (Memref.whole cc0_scratch1)) (f11 : Bf (F := Ideal) c (Memref.whole cc0_scratch2)) (f12 : Bf (F := Ideal) c (Memref.whole cc0_scratch3)) (f13 : Bf (F := Ideal) c (Memref.whole cc0_scratch4)) (f14 : Bf (F := Ideal) c (Memref.whole cc0_scratch5)) (f15 : Bf (F := Ideal) c (Memref.whole cc0_scratch6)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11)) (f21 : Bf (F := Ideal) c (Memref.whole cc0_scratch12))
  (s : ST) (W : ℕ → ℕ → EReal) (Xb : ℕ → ℕ → EReal) (Mb : ℕ → ℕ → ℕ → BitVec 32) (Pb : ℕ → ℕ → BitVec 32)
  (hs : Holds c f9 f10 f11 f13 f14 f15 f16 f17 f18 f19 f20 f21 s)
  (hW : ∀ j : S1280x1024.Idx, M2.view.read (Elt Ideal) f2 j = W (j 0).val (j 1).val)
  (hXb : ∀ j : S64x1024.Idx, M3.view.read (Elt Ideal) f3 j = Xb (j 0).val (j 1).val)
  (hMb : ∀ j : S9x64x128.Idx, M4.view.read (Elt Ideal) f4 j = Mb (j 0).val (j 1).val (j 2).val)
  (hPb : ∀ j : S64x128.Idx, M5.view.read (Elt Ideal) f5 j = Pb (j 0).val (j 1).val)

include hs hW in
set_option maxHeartbeats 2000000 in
/-- The tile's run leaves the stepped state, and the output block of the state it found. -/
theorem tile_holds : ∃ junk, Holds c ((runT c i M2 h2 M3 h3 M4 h4 M5 h5 M6 h6 M7 h7 M8 h8 f2 f3 f4 f5 f6 f7 f8 f9 f10 f11 f12 f13 f14 f15 f16 f17 f18 f19 f20 f21).1.2.1) f10 f11 f13 f14 f15 f16 ((runT c i M2 h2 M3 h3 M4 h4 M5 h5 M6 h6 M7 h7 M8 h8 f2 f3 f4 f5 f6 f7 f8 f9 f10 f11 f12 f13 f14 f15 f16 f17 f18 f19 f20 f21).1.2.2.2.1) ((runT c i M2 h2 M3 h3 M4 h4 M5 h5 M6 h6 M7 h7 M8 h8 f2 f3 f4 f5 f6 f7 f8 f9 f10 f11 f12 f13 f14 f15 f16 f17 f18 f19 f20 f21).1.2.2.2.2.1) ((runT c i M2 h2 M3 h3 M4 h4 M5 h5 M6 h6 M7 h7 M8 h8 f2 f3 f4 f5 f6 f7 f8 f9 f10 f11 f12 f13 f14 f15 f16 f17 f18 f19 f20 f21).1.2.2.2.2.2) f20 f21 (tileST s (i 0).val (i 1).val W junk) := by
  have hWD := word c i f11 s.MW hs.hMW
  obtain ⟨junk, hj⟩ := nat2 (α := EReal) (fun j : S320x128.Idx => (Memref.whole cc0_scratch8).view.read (Elt Ideal) (runT.sl.H17_w10 c i M2 f2 f10 f13 f14 f17) j)
  refine ⟨junk, ⟨fun j => ?_, hs.hX, hs.hMW, hs.hLO, hs.hTI, hs.hRT, hs.hMP, fun j => ?_, fun j => ?_, fun j => ?_, hs.hT, hs.hU⟩⟩
  · have q : (j 2).val < 1280 := (j 2).isLt
    have r0 := ring_0 c i M2 f2 f9 f10 f11 f15 s.X W s.RT _ hW hs.hX hs.hRT hWD j
    have r1 := ring_1 c i M2 f2 f9 f10 f11 f15 s.X W s.RT _ hW hs.hX hs.hRT hWD j
    have r2 := ring_2 c i M2 f2 f9 f10 f11 f15 s.X W s.RT _ hW hs.hX hs.hRT hWD j
    have r3 := ring_3 c i M2 f2 f9 f10 f11 f15 s.X W s.RT _ hW hs.hX hs.hRT hWD j
    have r4 := ring_4 c i M2 f2 f9 f10 f11 f15 s.X W s.RT _ hW hs.hX hs.hRT hWD j
    have r5 := ring_5 c i M2 f2 f9 f10 f11 f15 s.X W s.RT _ hW hs.hX hs.hRT hWD j
    have r6 := ring_6 c i M2 f2 f9 f10 f11 f15 s.X W s.RT _ hW hs.hX hs.hRT hWD j
    have r7 := ring_7 c i M2 f2 f9 f10 f11 f15 s.X W s.RT _ hW hs.hX hs.hRT hWD j
    have r8 := ring_8 c i M2 f2 f9 f10 f11 f15 s.X W s.RT _ hW hs.hX hs.hRT hWD j
    have r9 := ring_9 c i M2 f2 f9 f10 f11 f15 s.X W s.RT _ hW hs.hX hs.hRT hWD j
    simp only [runT, tileST]
    refine r9.trans ?_
    rw [r8, r7, r6, r5, r4, r3, r2, r1, r0, hs.hR j]
    by_cases h : (j 0).val = (5 * (i 0).val + (i 1).val) % 31
    · rw [if_pos h]
      have hc : (j 2).val / 128 = 0 ∨ (j 2).val / 128 = 1 ∨ (j 2).val / 128 = 2 ∨ (j 2).val / 128 = 3 ∨ (j 2).val / 128 = 4 ∨ (j 2).val / 128 = 5 ∨ (j 2).val / 128 = 6
          ∨ (j 2).val / 128 = 7 ∨ (j 2).val / 128 = 8 ∨ (j 2).val / 128 = 9 := by omega
      rcases hc with e | e | e | e | e | e | e | e | e | e
      · have e2 : (j 2).val % 128 = (j 2).val - 0 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_neg (show ¬ (_ ∧ 640 ≤ _ ∧ _) by omega), if_neg (show ¬ (_ ∧ 512 ≤ _ ∧ _) by omega), if_neg (show ¬ (_ ∧ 384 ≤ _ ∧ _) by omega), if_neg (show ¬ (_ ∧ 256 ≤ _ ∧ _) by omega), if_neg (show ¬ (_ ∧ 128 ≤ _ ∧ _) by omega), if_pos ⟨h, by omega, by omega⟩]
      · have e2 : (j 2).val % 128 = (j 2).val - 128 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_neg (show ¬ (_ ∧ 640 ≤ _ ∧ _) by omega), if_neg (show ¬ (_ ∧ 512 ≤ _ ∧ _) by omega), if_neg (show ¬ (_ ∧ 384 ≤ _ ∧ _) by omega), if_neg (show ¬ (_ ∧ 256 ≤ _ ∧ _) by omega), if_pos ⟨h, by omega, by omega⟩]
      · have e2 : (j 2).val % 128 = (j 2).val - 256 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_neg (show ¬ (_ ∧ 640 ≤ _ ∧ _) by omega), if_neg (show ¬ (_ ∧ 512 ≤ _ ∧ _) by omega), if_neg (show ¬ (_ ∧ 384 ≤ _ ∧ _) by omega), if_pos ⟨h, by omega, by omega⟩]
      · have e2 : (j 2).val % 128 = (j 2).val - 384 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_neg (show ¬ (_ ∧ 640 ≤ _ ∧ _) by omega), if_neg (show ¬ (_ ∧ 512 ≤ _ ∧ _) by omega), if_pos ⟨h, by omega, by omega⟩]
      · have e2 : (j 2).val % 128 = (j 2).val - 512 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_neg (show ¬ (_ ∧ 640 ≤ _ ∧ _) by omega), if_pos ⟨h, by omega, by omega⟩]
      · have e2 : (j 2).val % 128 = (j 2).val - 640 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_neg (show ¬ (_ ∧ 768 ≤ _ ∧ _) by omega), if_pos ⟨h, by omega, by omega⟩]
      · have e2 : (j 2).val % 128 = (j 2).val - 768 := by omega
        rw [e, e2, if_neg (show ¬ (_ ∧ 1152 ≤ _ ∧ _) by omega), if_neg (show ¬ (_ ∧ 1024 ≤ _ ∧ _) by omega), if_neg (show ¬ (_ ∧ 896 ≤ _ ∧ _) by omega), if_pos ⟨h, by omega, by omega⟩]
      · have e2 : (j 2).val % 128 = (j 2).val - 896 := by omega
        rw [e, e2, if_neg (show ¬ (_ ∧ 1152 ≤ _ ∧ _) by omega), if_neg (show ¬ (_ ∧ 1024 ≤ _ ∧ _) by omega), if_pos ⟨h, by omega, by omega⟩]
      · have e2 : (j 2).val % 128 = (j 2).val - 1024 := by omega
        rw [e, e2, if_neg (show ¬ (_ ∧ 1152 ≤ _ ∧ _) by omega), if_pos ⟨h, by omega, by omega⟩]
      · have e2 : (j 2).val % 128 = (j 2).val - 1152 := by omega
        rw [e, e2, if_pos ⟨h, by omega, by omega⟩]
    · rw [if_neg h, if_neg fun hh => h hh.1, if_neg fun hh => h hh.1, if_neg fun hh => h hh.1, if_neg fun hh => h hh.1, if_neg fun hh => h hh.1, if_neg fun hh => h hh.1, if_neg fun hh => h hh.1, if_neg fun hh => h hh.1, if_neg fun hh => h hh.1, if_neg fun hh => h hh.1]
  · simp only [runT, tileST]
    split
    · rename_i hlt
      have hlt' : (s.LO (j 0).val (j 1).val).toNat < 128 := hlt
      have g0 := gz_0 c i M2 f2 f10 f13 f14 f17 s.X W s.LO s.TI hW hs.hX hs.hLO hs.hTI j hlt'
      have g1 := gz_1 c i M2 f2 f10 f13 f14 f17 s.X W s.LO s.TI hW hs.hX hs.hLO hs.hTI j hlt'
      have g2 := gz_2 c i M2 f2 f10 f13 f14 f17 s.X W s.LO s.TI hW hs.hX hs.hLO hs.hTI j hlt'
      have g3 := gz_3 c i M2 f2 f10 f13 f14 f17 s.X W s.LO s.TI hW hs.hX hs.hLO hs.hTI j hlt'
      have g4 := gz_4 c i M2 f2 f10 f13 f14 f17 s.X W s.LO s.TI hW hs.hX hs.hLO hs.hTI j hlt'
      have g5 := gz_5 c i M2 f2 f10 f13 f14 f17 s.X W s.LO s.TI hW hs.hX hs.hLO hs.hTI j hlt'
      have g6 := gz_6 c i M2 f2 f10 f13 f14 f17 s.X W s.LO s.TI hW hs.hX hs.hLO hs.hTI j hlt'
      have g7 := gz_7 c i M2 f2 f10 f13 f14 f17 s.X W s.LO s.TI hW hs.hX hs.hLO hs.hTI j hlt'
      have g8 := gz_8 c i M2 f2 f10 f13 f14 f17 s.X W s.LO s.TI hW hs.hX hs.hLO hs.hTI j hlt'
      have g9 := gz_9 c i M2 f2 f10 f13 f14 f17 s.X W s.LO s.TI hW hs.hX hs.hLO hs.hTI j hlt'
      refine g9.trans ?_
      rw [g8, g7, g6, g5, g4, g3, g2, g1, g0, hs.hGZ j]
      simp only [gzN, show Scalar.addi (Scalar.muli (runT.sl.v7 i) 10#32) 0#32 = _ from v7_nat i 0, show Scalar.addi (Scalar.muli (runT.sl.v7 i) 10#32) 1#32 = _ from v7_nat i 1, show Scalar.addi (Scalar.muli (runT.sl.v7 i) 10#32) 2#32 = _ from v7_nat i 2, show Scalar.addi (Scalar.muli (runT.sl.v7 i) 10#32) 3#32 = _ from v7_nat i 3, show Scalar.addi (Scalar.muli (runT.sl.v7 i) 10#32) 4#32 = _ from v7_nat i 4, show Scalar.addi (Scalar.muli (runT.sl.v7 i) 10#32) 5#32 = _ from v7_nat i 5, show Scalar.addi (Scalar.muli (runT.sl.v7 i) 10#32) 6#32 = _ from v7_nat i 6, show Scalar.addi (Scalar.muli (runT.sl.v7 i) 10#32) 7#32 = _ from v7_nat i 7, show Scalar.addi (Scalar.muli (runT.sl.v7 i) 10#32) 8#32 = _ from v7_nat i 8, show Scalar.addi (Scalar.muli (runT.sl.v7 i) 10#32) 9#32 = _ from v7_nat i 9, Nat.reduceMul, Nat.mul_zero, Nat.mul_one]
    · exact hj j
  · simp only [runT]
    exact max_5 c i M2 f2 f10 f11 f15 f18 s.X W s.RT s.MX _ hW hs.hX hs.hRT hs.hMX hWD f18 j
  · simp only [runT]
    exact acc_5 c i M2 f2 f9 f10 f11 f15 f19 f20 s.X W s.RT _ s.R s.A s.T hW hs.hX hs.hRT hWD hs.hR hs.hA hs.hT f19 j

include hs hW in
theorem tile_out (j : S64x6400.Idx) :
    M6.view.read (Elt Ideal) (runT c i M2 h2 M3 h3 M4 h4 M5 h5 M6 h6 M7 h7 M8 h8 f2 f3 f4 f5 f6 f7 f8 f9 f10 f11 f12 f13 f14 f15 f16 f17 f18 f19 f20 f21).1.1 j = ocN s.R s.U (i 0).val (i 1).val (j 0).val (j 1).val :=
  out_50 c i M2 M6 f2 f6 f9 f10 f11 f15 f21 s.X W s.RT _ s.R s.U hW hs.hX hs.hRT (word c i f11 s.MW hs.hMW) hs.hR hs.hU h2 M3 h3 M4 h4 M5 h5 h6 M7 h7 M8 h8 f3 f4 f5 f7 f8 f12 f13 f14 f16 f17 f18 f19 f20 j

variable (hc : k0_cond1 i = 1#1)
include hs hXb hMb hPb in
set_option maxHeartbeats 2000000 in
/-- The window's run leaves the opened state, and the outputs of the state it found. -/
theorem win_holds : Holds c f9 ((runW c i hc M2 h2 M3 h3 M4 h4 M5 h5 M6 h6 M7 h7 M8 h8 f2 f3 f4 f5 f6 f7 f8 f9 f10 f11 f12 f13 f14 f15 f16 f17 f18 f19 f20 f21).1.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.2.2.1) f17 ((runW c i hc M2 h2 M3 h3 M4 h4 M5 h5 M6 h6 M7 h7 M8 h8 f2 f3 f4 f5 f6 f7 f8 f9 f10 f11 f12 f13 f14 f15 f16 f17 f18 f19 f20 f21).1.2.2.2.2.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.2.2.2.2.2.1) ((runW c i hc M2 h2 M3 h3 M4 h4 M5 h5 M6 h6 M7 h7 M8 h8 f2 f3 f4 f5 f6 f7 f8 f9 f10 f11 f12 f13 f14 f15 f16 f17 f18 f19 f20 f21).1.2.2.2.2.2.2.2.2.2.2.2) (winST s (i 0).val Xb Mb Pb) := by
  refine ⟨hs.hR, fun j => ?_, fun j => ?_, fun j => ?_, fun j => ?_, fun j => ?_, fun j => ?_, hs.hGZ, fun j => ?_, fun j => ?_, fun j => ?_, fun j => ?_⟩
  · simp only [runW, winST]
    exact win_X c i hc M3 f3 f10 s.X Xb hXb hs.hX j
  · simp only [runW, winST]
    exact win_MW c i hc M4 f4 f11 s.MW Mb hMb hs.hMW j
  · simp only [runW, winST]
    exact win_LO c i hc M5 f5 f13 s.LO Pb hPb hs.hLO j
  · simp only [runW, winST]
    exact win_TI c i hc M5 f5 f14 s.TI Pb hPb hs.hTI j
  · simp only [runW, winST]
    exact win_RT c i hc M5 f5 f15 s.RT Pb hPb hs.hRT j
  · simp only [runW, winST]
    exact win_MP c i hc M5 f5 f16 s.MP Pb hPb hs.hMP j
  · simp only [runW, winST]
    exact win_MX c i hc f18 s.MX hs.hMX j
  · simp only [runW, winST]
    exact win_A c f19 s.A hs.hA f19 j
  · simp only [runW, winST]
    exact win_T c i hc f16 f18 s.MP s.MX hs.hMP hs.hMX f20 j
  · simp only [runW, winST]
    exact win_U c f19 f20 s.A s.T hs.hA hs.hT f21 j

include hs in
theorem win_outz (j : S64x128.Idx) : M7.view.read (Elt Ideal) (runW c i hc M2 h2 M3 h3 M4 h4 M5 h5 M6 h6 M7 h7 M8 h8 f2 f3 f4 f5 f6 f7 f8 f9 f10 f11 f12 f13 f14 f15 f16 f17 f18 f19 f20 f21).1.1 j = zsF s (i 0).val (j 0).val (j 1).val := by
  simp only [runW]
  exact win_zs c i hc f17 s.GZ hs.hGZ M7 f7 j

include hs in
theorem win_outs (j : S64x128.Idx) : M8.view.read (Elt Ideal) (runW c i hc M2 h2 M3 h3 M4 h4 M5 h5 M6 h6 M7 h7 M8 h8 f2 f3 f4 f5 f6 f7 f8 f9 f10 f11 f12 f13 f14 f15 f16 f17 f18 f19 f20 f21).1.2.1 j = stF s (j 0).val (j 1).val := by
  simp only [runW]
  exact win_st c f19 f20 s.A s.T hs.hA hs.hT M8 f8 j

end
end Cert.KernelIdeal.Hand

end
-- ==== Proof.Body.lean ====
module

public import proofs.«01_k».proof.Proof.State
public import proofs.«01_k».proof.Proof.FrameI

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

section
variable (c : Dev nD) (i : grid0.Coords)
  (M2 : Memref sig .tc .vmem S1280x1024 .bf16) (h2 : M2.IsWhole)
  (M3 : Memref sig .tc .vmem S64x1024 .bf16) (h3 : M3.IsWhole)
  (M4 : Memref sig .tc .vmem S9x64x128 .i32) (h4 : M4.IsWhole)
  (M5 : Memref sig .tc .vmem S64x128 .i32) (h5 : M5.IsWhole)
  (M6 : Memref sig .tc .vmem S64x6400 .bf16) (h6 : M6.IsWhole)
  (M7 : Memref sig .tc .vmem S64x128 .f32) (h7 : M7.IsWhole)
  (M8 : Memref sig .tc .vmem S64x128 .f32) (h8 : M8.IsWhole)
  (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
  (f9 : Bf (F := Ideal) c (Memref.whole cc0_scratch0)) (f10 : Bf (F := Ideal) c (Memref.whole cc0_scratch1)) (f11 : Bf (F := Ideal) c (Memref.whole cc0_scratch2)) (f12 : Bf (F := Ideal) c (Memref.whole cc0_scratch3)) (f13 : Bf (F := Ideal) c (Memref.whole cc0_scratch4)) (f14 : Bf (F := Ideal) c (Memref.whole cc0_scratch5)) (f15 : Bf (F := Ideal) c (Memref.whole cc0_scratch6)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11)) (f21 : Bf (F := Ideal) c (Memref.whole cc0_scratch12))
  (s : ST)

/-- A tile's run, by what it leaves: the stepped state, and its output block. -/
theorem tile_ex (W : ℕ → ℕ → EReal) (hs : Holds c f9 f10 f11 f13 f14 f15 f16 f17 f18 f19 f20 f21 s)
    (hW : ∀ j : S1280x1024.Idx, M2.view.read (Elt Ideal) f2 j = W (j 0).val (j 1).val) :
    ∃ (g6 : Bf (F := Ideal) c M6) (g9 : Bf (F := Ideal) c (Memref.whole cc0_scratch0)) (g12 : Bf (F := Ideal) c (Memref.whole cc0_scratch3)) (g17 : Bf (F := Ideal) c (Memref.whole cc0_scratch8)) (g18 : Bf (F := Ideal) c (Memref.whole cc0_scratch9)) (g19 : Bf (F := Ideal) c (Memref.whole cc0_scratch10)) (junk : ℕ → ℕ → EReal),
      (∀ (Q : PUnit → sProp 𝕄), iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21 ∗ (iprop(pt c M2 f2 ∗ pt c M3 f3 ∗ pt c M4 f4 ∗ pt c M5 f5 ∗ pt c M6 g6 ∗ pt c M7 f7 ∗ pt c M8 f8 ∗ pt c (Memref.whole cc0_scratch0) g9 ∗ pt c (Memref.whole cc0_scratch1) f10 ∗ pt c (Memref.whole cc0_scratch2) f11 ∗ pt c (Memref.whole cc0_scratch3) g12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) g17 ∗ pt c (Memref.whole cc0_scratch9) g18 ∗ pt c (Memref.whole cc0_scratch10) g19 ∗ pt c (Memref.whole cc0_scratch11) f20 ∗ pt c (Memref.whole cc0_scratch12) f21) -∗ Q ⟨⟩))
        ⊢ wp frame (wpE (defs₀ (F := Ideal)) Variants.none c none) Set.univ (tile i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q)
      ∧ Holds c g9 f10 f11 f13 f14 f15 f16 g17 g18 g19 f20 f21 (tileST s (i 0).val (i 1).val W junk)
      ∧ ∀ j : S64x6400.Idx, M6.view.read (Elt Ideal) g6 j = ocN s.R s.U (i 0).val (i 1).val (j 0).val (j 1).val := by
  obtain ⟨junk, hj⟩ := tile_holds c i M2 h2 M3 h3 M4 h4 M5 h5 M6 h6 M7 h7 M8 h8 f2 f3 f4 f5 f6 f7 f8 f9 f10 f11 f12 f13 f14 f15 f16 f17 f18 f19 f20 f21 s W hs hW
  exact ⟨_, _, _, _, _, _, junk, (runT c i M2 h2 M3 h3 M4 h4 M5 h5 M6 h6 M7 h7 M8 h8 f2 f3 f4 f5 f6 f7 f8 f9 f10 f11 f12 f13 f14 f15 f16 f17 f18 f19 f20 f21).2, hj, tile_out c i M2 h2 M3 h3 M4 h4 M5 h5 M6 h6 M7 h7 M8 h8 f2 f3 f4 f5 f6 f7 f8 f9 f10 f11 f12 f13 f14 f15 f16 f17 f18 f19 f20 f21 s W hs hW⟩

/-- A window's opening, by what it leaves: the opened state, and the two small outputs. -/
theorem win_ex (hc : k0_cond1 i = 1#1) (Xb : ℕ → ℕ → EReal) (Mb : ℕ → ℕ → ℕ → BitVec 32) (Pb : ℕ → ℕ → BitVec 32) (hs : Holds c f9 f10 f11 f13 f14 f15 f16 f17 f18 f19 f20 f21 s)
    (hXb : ∀ j : S64x1024.Idx, M3.view.read (Elt Ideal) f3 j = Xb (j 0).val (j 1).val)
    (hMb : ∀ j : S9x64x128.Idx, M4.view.read (Elt Ideal) f4 j = Mb (j 0).val (j 1).val (j 2).val)
    (hPb : ∀ j : S64x128.Idx, M5.view.read (Elt Ideal) f5 j = Pb (j 0).val (j 1).val) :
    ∃ (g7 : Bf (F := Ideal) c M7) (g8 : Bf (F := Ideal) c M8) (g10 : Bf (F := Ideal) c (Memref.whole cc0_scratch1)) (g11 : Bf (F := Ideal) c (Memref.whole cc0_scratch2)) (g13 : Bf (F := Ideal) c (Memref.whole cc0_scratch4)) (g14 : Bf (F := Ideal) c (Memref.whole cc0_scratch5)) (g15 : Bf (F := Ideal) c (Memref.whole cc0_scratch6)) (g16 : Bf (F := Ideal) c (Memref.whole cc0_scratch7)) (g18 : Bf (F := Ideal) c (Memref.whole cc0_scratch9)) (g19 : Bf (F := Ideal) c (Memref.whole cc0_scratch10)) (g20 : Bf (F := Ideal) c (Memref.whole cc0_scratch11)) (g21 : Bf (F := Ideal) c (Memref.whole cc0_scratch12)),
      (∀ (Q : PUnit → sProp 𝕄), iprop(pt c M2 f2 ∗ pt c M3 f3 ∗ pt c M4 f4 ∗ pt c M5 f5 ∗ pt c M6 f6 ∗ pt c M7 f7 ∗ pt c M8 f8 ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21 ∗ (iprop(pt c M2 f2 ∗ pt c M3 f3 ∗ pt c M4 f4 ∗ pt c M5 f5 ∗ pt c M6 f6 ∗ pt c M7 g7 ∗ pt c M8 g8 ∗ pt c (Memref.whole cc0_scratch0) f9 ∗ pt c (Memref.whole cc0_scratch1) g10 ∗ pt c (Memref.whole cc0_scratch2) g11 ∗ pt c (Memref.whole cc0_scratch3) f12 ∗ pt c (Memref.whole cc0_scratch4) g13 ∗ pt c (Memref.whole cc0_scratch5) g14 ∗ pt c (Memref.whole cc0_scratch6) g15 ∗ pt c (Memref.whole cc0_scratch7) g16 ∗ pt c (Memref.whole cc0_scratch8) f17 ∗ pt c (Memref.whole cc0_scratch9) g18 ∗ pt c (Memref.whole cc0_scratch10) g19 ∗ pt c (Memref.whole cc0_scratch11) g20 ∗ pt c (Memref.whole cc0_scratch12) g21) -∗ Q ⟨⟩))
        ⊢ wp frame (wpE (defs₀ (F := Ideal)) Variants.none c none) Set.univ (window i hc M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)) Q)
      ∧ Holds c f9 g10 g11 g13 g14 g15 g16 f17 g18 g19 g20 g21 (winST s (i 0).val Xb Mb Pb)
      ∧ (∀ j : S64x128.Idx, M7.view.read (Elt Ideal) g7 j = zsF s (i 0).val (j 0).val (j 1).val)
      ∧ ∀ j : S64x128.Idx, M8.view.read (Elt Ideal) g8 j = stF s (j 0).val (j 1).val :=
  ⟨_, _, _, _, _, _, _, _, _, _, _, _, (runW c i hc M2 h2 M3 h3 M4 h4 M5 h5 M6 h6 M7 h7 M8 h8 f2 f3 f4 f5 f6 f7 f8 f9 f10 f11 f12 f13 f14 f15 f16 f17 f18 f19 f20 f21).2,
    win_holds c i M2 h2 M3 h3 M4 h4 M5 h5 M6 h6 M7 h7 M8 h8 f2 f3 f4 f5 f6 f7 f8 f9 f10 f11 f12 f13 f14 f15 f16 f17 f18 f19 f20 f21 s Xb Mb Pb hs hXb hMb hPb hc,
    win_outz c i M2 h2 M3 h3 M4 h4 M5 h5 M6 h6 M7 h7 M8 h8 f2 f3 f4 f5 f6 f7 f8 f9 f10 f11 f12 f13 f14 f15 f16 f17 f18 f19 f20 f21 s hs hc, win_outs c i M2 h2 M3 h3 M4 h4 M5 h5 M6 h6 M7 h7 M8 h8 f2 f3 f4 f5 f6 f7 f8 f9 f10 f11 f12 f13 f14 f15 f16 f17 f18 f19 f20 f21 s hs hc⟩
end

/-- The grid's point `t` is window `t / 5`, step `t % 5`; the window opens at step 0. -/
theorem point_coords : ∀ t : Fin cfg0.N, (grid0.coords t (0 : Fin 2)).val = t.val / 5 ∧ (grid0.coords t (1 : Fin 2)).val = t.val % 5
    ∧ (k0_cond1 (grid0.coords t) = 1#1 ↔ t.val % 5 = 0) := by decide +kernel

/-- What is said of a run: a state invariant before every point, and what the points put out. `Wb`, `Xb`, `Mb`, `Pb` are the blocks the
    points find. -/
structure Track (m : (ℓ : Loc nD τ sig) → Buf (Elt Ideal) ℓ) (c : Dev nD) where
  Inv : ℕ → ST → Prop
  OUT : ℕ → (ℕ → ℕ → EReal) → Prop
  ZS : ℕ → (ℕ → ℕ → EReal) → Prop
  STA : ℕ → (ℕ → ℕ → EReal) → Prop
  Wb : ℕ → ℕ → ℕ → EReal
  Xb : ℕ → ℕ → ℕ → EReal
  Mb : ℕ → ℕ → ℕ → ℕ → BitVec 32
  Pb : ℕ → ℕ → ℕ → BitVec 32
  hWb : ∀ (t : Fin cfg0.N) (j : S1280x1024.Idx), iblk m c 0 t j = Wb t.val (j 0).val (j 1).val
  hXb : ∀ (t : Fin cfg0.N) (j : S64x1024.Idx), iblk m c 1 t j = Xb t.val (j 0).val (j 1).val
  hMb : ∀ (t : Fin cfg0.N) (j : S9x64x128.Idx), iblk m c 2 t j = Mb t.val (j 0).val (j 1).val (j 2).val
  hPb : ∀ (t : Fin cfg0.N) (j : S64x128.Idx), iblk m c 3 t j = Pb t.val (j 0).val (j 1).val
  h0 : ∀ s, Inv 0 s
  hopen : ∀ t s junk, t < 750 → t % 5 = 0 → Inv t s → Inv (t + 1) (tileST (winST s (t / 5) (Xb t) (Mb t) (Pb t)) (t / 5) (t % 5) (Wb t) junk)
    ∧ OUT t (fun g q => ocN s.R (winST s (t / 5) (Xb t) (Mb t) (Pb t)).U (t / 5) (t % 5) g q) ∧ ZS t (zsF s (t / 5)) ∧ STA t (stF s)
  hstep : ∀ t s junk, t < 750 → t % 5 ≠ 0 → Inv t s → Inv (t + 1) (tileST s (t / 5) (t % 5) (Wb t) junk)
    ∧ OUT t (fun g q => ocN s.R s.U (t / 5) (t % 5) g q)

section
variable {m : (ℓ : Loc nD τ sig) → Buf (Elt Ideal) ℓ} {c : Dev nD} (K : Track m c)

/-- The scratch buffers between the points, at a state of the invariant. -/
def held (t : ℕ) : sProp 𝕄 :=
  iprop(∃ (s : ST) (f9 : Bf (F := Ideal) c (Memref.whole cc0_scratch0)) (f10 : Bf (F := Ideal) c (Memref.whole cc0_scratch1)) (f11 : Bf (F := Ideal) c (Memref.whole cc0_scratch2)) (f12 : Bf (F := Ideal) c (Memref.whole cc0_scratch3)) (f13 : Bf (F := Ideal) c (Memref.whole cc0_scratch4)) (f14 : Bf (F := Ideal) c (Memref.whole cc0_scratch5)) (f15 : Bf (F := Ideal) c (Memref.whole cc0_scratch6)) (f16 : Bf (F := Ideal) c (Memref.whole cc0_scratch7)) (f17 : Bf (F := Ideal) c (Memref.whole cc0_scratch8)) (f18 : Bf (F := Ideal) c (Memref.whole cc0_scratch9)) (f19 : Bf (F := Ideal) c (Memref.whole cc0_scratch10)) (f20 : Bf (F := Ideal) c (Memref.whole cc0_scratch11)) (f21 : Bf (F := Ideal) c (Memref.whole cc0_scratch12)),
    ⌜K.Inv t s ∧ Holds c f9 f10 f11 f13 f14 f15 f16 f17 f18 f19 f20 f21 s⌝ ∗ pt c (Memref.whole cc0_scratch0) f9 ∗ pt c (Memref.whole cc0_scratch1) f10 ∗ pt c (Memref.whole cc0_scratch2) f11 ∗ pt c (Memref.whole cc0_scratch3) f12 ∗ pt c (Memref.whole cc0_scratch4) f13 ∗ pt c (Memref.whole cc0_scratch5) f14 ∗ pt c (Memref.whole cc0_scratch6) f15 ∗ pt c (Memref.whole cc0_scratch7) f16 ∗ pt c (Memref.whole cc0_scratch8) f17 ∗ pt c (Memref.whole cc0_scratch9) f18 ∗ pt c (Memref.whole cc0_scratch10) f19 ∗ pt c (Memref.whole cc0_scratch11) f20 ∗ pt c (Memref.whole cc0_scratch12) f21)

/-- The relational proof data: an input's buffer stays, an output's buffer gets what `Track` says of the point. -/
def rd : RDat τ (Elt Ideal) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun _ X => ∃ F, K.OUT t.val F ∧ ∀ j : S64x6400.Idx, (X : S64x6400.Idx → EReal) j = F (j 0).val (j 1).val
    | 5 => fun Y X => if t.val % 5 = 0 then ∃ F, K.ZS t.val F ∧ ∀ j : S64x128.Idx, (X : S64x128.Idx → EReal) j = F (j 0).val (j 1).val else X = Y
    | 6 => fun Y X => if t.val % 5 = 0 then ∃ F, K.STA t.val F ∧ ∀ j : S64x128.Idx, (X : S64x128.Idx → EReal) j = F (j 0).val (j 1).val else X = Y
  Φ t := iprop(held K t.val ∗ ∃ r, prngReg c r)
  q _ := fullShare
  owed _ := 0

theorem rd_A (w : Fin cfg0.W) : (rd K).A w = V m c (Pipeline.arrRef spec0 w) := by dsimp only [rd]

theorem finds_0 (t : Fin cfg0.N) (Y) (h : (rd K).Finds 0 t Y) : Y = iblk m c 0 t := by
  obtain ⟨d, rfl⟩ := (rd K).finds_in_eq_fetched 0 rfl (fun _ _ _ => rfl) (fun _ _ _ h => h) t Y h
  unfold RDat.fetched RDat.blockOf iblk
  rw [rd_A]
  try rfl

theorem finds_1 (t : Fin cfg0.N) (Y) (h : (rd K).Finds 1 t Y) : Y = iblk m c 1 t := by
  obtain ⟨d, rfl⟩ := (rd K).finds_in_eq_fetched 1 rfl (fun _ _ _ => rfl) (fun _ _ _ h => h) t Y h
  unfold RDat.fetched RDat.blockOf iblk
  rw [rd_A]
  try rfl

theorem finds_2 (t : Fin cfg0.N) (Y) (h : (rd K).Finds 2 t Y) : Y = iblk m c 2 t := by
  obtain ⟨d, rfl⟩ := (rd K).finds_in_eq_fetched 2 rfl (fun _ _ _ => rfl) (fun _ _ _ h => h) t Y h
  unfold RDat.fetched RDat.blockOf iblk
  rw [rd_A]
  try rfl

theorem finds_3 (t : Fin cfg0.N) (Y) (h : (rd K).Finds 3 t Y) : Y = iblk m c 3 t := by
  obtain ⟨d, rfl⟩ := (rd K).finds_in_eq_fetched 3 rfl (fun _ _ _ => rfl) (fun _ _ _ h => h) t Y h
  unfold RDat.fetched RDat.blockOf iblk
  rw [rd_A]
  try rfl

set_option maxHeartbeats 4000000 in
/-- The body at a point. -/
theorem rd_body (t : Fin cfg0.N) (Y0 : S1280x1024.Idx → Elt Ideal .bf16) (Y1 : S64x1024.Idx → Elt Ideal .bf16) (Y2 : S9x64x128.Idx → Elt Ideal .i32) (Y3 : S64x128.Idx → Elt Ideal .i32) (Y4 : S64x6400.Idx → Elt Ideal .bf16) (Y5 : S64x128.Idx → Elt Ideal .f32) (Y6 : S64x128.Idx → Elt Ideal .f32)
    (hY0 : Y0 = iblk m c 0 t) (hY1 : Y1 = iblk m c 1 t) (hY2 : Y2 = iblk m c 2 t) (hY3 : Y3 = iblk m c 3 t) :
    iprop((held K t.val ∗ ∃ r, prngReg c r) ∗ (rd K).owesAt () t.castSucc ∗ owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6)
    ⊢ wp frame (wpE (defs₀ (F := Ideal)) Variants.none c none) Set.univ (bodyAt0 t) (fun _ =>
      iprop((held K (t.val + 1) ∗ ∃ r, prngReg c r) ∗ (rd K).owesAt () t.castSucc ∗ (∃ X, ⌜(rd K).after 0 t Y0 X⌝ ∗ owns (c : Thread nD τ) (ms0 t) fullShare X) ∗ (∃ X, ⌜(rd K).after 1 t Y1 X⌝ ∗ owns (c : Thread nD τ) (ms1 t) fullShare X) ∗ (∃ X, ⌜(rd K).after 2 t Y2 X⌝ ∗ owns (c : Thread nD τ) (ms2 t) fullShare X) ∗ (∃ X, ⌜(rd K).after 3 t Y3 X⌝ ∗ owns (c : Thread nD τ) (ms3 t) fullShare X) ∗ (∃ X, ⌜(rd K).after 4 t Y4 X⌝ ∗ owns (c : Thread nD τ) (ms4 t) fullShare X) ∗ (∃ X, ⌜(rd K).after 5 t Y5 X⌝ ∗ owns (c : Thread nD τ) (ms5 t) fullShare X) ∗ (∃ X, ⌜(rd K).after 6 t Y6 X⌝ ∗ owns (c : Thread nD τ) (ms6 t) fullShare X))) := by
  unfold held
  iintro ⟨⟨⟨%s, %f9, %f10, %f11, %f12, %f13, %f14, %f15, %f16, %f17, %f18, %f19, %f20, %f21, %hI, H9, H10, H11, H12, H13, H14, H15, H16, H17, H18, H19, H20, H21⟩, Hg⟩, HO, H2, H3, H4, H5, H6, H7, H8⟩
  ihave G2 := (pt_of_owns c (hs0 t) _) $$ H2
  ihave G3 := (pt_of_owns c (hs1 t) _) $$ H3
  ihave G4 := (pt_of_owns c (hs2 t) _) $$ H4
  ihave G5 := (pt_of_owns c (hs3 t) _) $$ H5
  ihave G6 := (pt_of_owns c (hs4 t) _) $$ H6
  ihave G7 := (pt_of_owns c (hs5 t) _) $$ H7
  ihave G8 := (pt_of_owns c (hs6 t) _) $$ H8
  obtain ⟨e0, e1, e2⟩ := point_coords t
  have hlt : t.val < 750 := lt_of_lt_of_eq t.isLt N_0
  by_cases h5 : t.val % 5 = 0
  · have hc := e2.mpr h5
    obtain ⟨g7, g8, g10, g11, g13, g14, g15, g16, g18, g19, g20, g21, hrun, hHold, hz, hst⟩ := win_ex c (grid0.coords t) (ms0 t) (hs0 t) (ms1 t) (hs1 t) (ms2 t) (hs2 t) (ms3 t) (hs3 t) (ms4 t) (hs4 t) (ms5 t) (hs5 t) (ms6 t) (hs6 t) ((hs0 t).unread Y0) ((hs1 t).unread Y1) ((hs2 t).unread Y2) ((hs3 t).unread Y3) ((hs4 t).unread Y4) ((hs5 t).unread Y5) ((hs6 t).unread Y6) f9 f10 f11 f12 f13 f14 f15 f16 f17 f18 f19 f20 f21 s hc (K.Xb t.val) (K.Mb t.val) (K.Pb t.val) hI.2
      (fun j => by rw [(hs1 t).read_unread, hY1]; exact K.hXb t j) (fun j => by rw [(hs2 t).read_unread, hY2]; exact K.hMb t j) (fun j => by rw [(hs3 t).read_unread, hY3]; exact K.hPb t j)
    obtain ⟨k6, k9, k12, k17, k18, k19, junk, hrun', hHold', ho⟩ := tile_ex c (grid0.coords t) (ms0 t) (hs0 t) (ms1 t) (hs1 t) (ms2 t) (hs2 t) (ms3 t) (hs3 t) (ms4 t) (hs4 t) (ms5 t) (hs5 t) (ms6 t) (hs6 t) ((hs0 t).unread Y0) ((hs1 t).unread Y1) ((hs2 t).unread Y2) ((hs3 t).unread Y3) ((hs4 t).unread Y4) g7 g8 f9 g10 g11 f12 g13 g14 g15 g16 f17 g18 g19 g20 g21 _ (K.Wb t.val) hHold (fun j => by rw [(hs0 t).read_unread, hY0]; exact K.hWb t j)
    rw [e0, e1] at hHold' ho
    rw [e0] at hz
    obtain ⟨hInv', hOUT, hZS, hSTA⟩ := K.hopen t.val s junk hlt h5 hI.1
    have hO6 : (rd K).after 4 t Y4 ((ms4 t).view.read (Elt Ideal) k6) := ⟨_, hOUT, ho⟩
    have hO7 : (rd K).after 5 t Y5 ((ms5 t).view.read (Elt Ideal) g7) := by
      show (if t.val % 5 = 0 then _ else _ : Prop)
      rw [if_pos h5]; exact ⟨_, hZS, hz⟩
    have hO8 : (rd K).after 6 t Y6 ((ms6 t).view.read (Elt Ideal) g8) := by
      show (if t.val % 5 = 0 then _ else _ : Prop)
      rw [if_pos h5]; exact ⟨_, hSTA, hst⟩
    unfold bodyAt0
    rw [head_pos (h := hc), wp_bind]
    iapply (hrun _)
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iintro ⟨H2, H3, H4, H5, H6, H7, H8, H9, H10, H11, H12, H13, H14, H15, H16, H17, H18, H19, H20, H21⟩
    iapply (hrun' _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iintro ⟨H2, H3, H4, H5, H6, H7, H8, H9, H10, H11, H12, H13, H14, H15, H16, H17, H18, H19, H20, H21⟩
    isplitl [Hg H9 H10 H11 H12 H13 H14 H15 H16 H17 H18 H19 H20 H21]
    · isplitr [Hg]; swap; · iexact Hg
      iexists _; iexists _; iexists _; iexists _; iexists _; iexists _; iexists _; iexists _; iexists _; iexists _; iexists _; iexists _; iexists _; iexists _
      isplitr; · ipureintro; exact ⟨hInv', hHold'⟩
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [HO]; · iexact HO
    isplitl [H2]; · iexists _; isplitr; swap; · iapply (owns_of_pt c (hs0 t) _); iexact H2
                    ipureintro; exact (hs0 t).read_unread _
    isplitl [H3]; · iexists _; isplitr; swap; · iapply (owns_of_pt c (hs1 t) _); iexact H3
                    ipureintro; exact (hs1 t).read_unread _
    isplitl [H4]; · iexists _; isplitr; swap; · iapply (owns_of_pt c (hs2 t) _); iexact H4
                    ipureintro; exact (hs2 t).read_unread _
    isplitl [H5]; · iexists _; isplitr; swap; · iapply (owns_of_pt c (hs3 t) _); iexact H5
                    ipureintro; exact (hs3 t).read_unread _
    isplitl [H6]; · iexists _; isplitr; swap; · iapply (owns_of_pt c (hs4 t) _); iexact H6
                    ipureintro; exact hO6
    isplitl [H7]; · iexists _; isplitr; swap; · iapply (owns_of_pt c (hs5 t) _); iexact H7
                    ipureintro; exact hO7
    iexists _; isplitr; swap; · iapply (owns_of_pt c (hs6 t) _); iexact H8
    ipureintro; exact hO8
  · have hc : ¬ k0_cond1 (grid0.coords t) = 1#1 := fun h => h5 (e2.mp h)
    obtain ⟨k6, k9, k12, k17, k18, k19, junk, hrun', hHold', ho⟩ := tile_ex c (grid0.coords t) (ms0 t) (hs0 t) (ms1 t) (hs1 t) (ms2 t) (hs2 t) (ms3 t) (hs3 t) (ms4 t) (hs4 t) (ms5 t) (hs5 t) (ms6 t) (hs6 t) ((hs0 t).unread Y0) ((hs1 t).unread Y1) ((hs2 t).unread Y2) ((hs3 t).unread Y3) ((hs4 t).unread Y4) ((hs5 t).unread Y5) ((hs6 t).unread Y6) f9 f10 f11 f12 f13 f14 f15 f16 f17 f18 f19 f20 f21 s (K.Wb t.val) hI.2 (fun j => by rw [(hs0 t).read_unread, hY0]; exact K.hWb t j)
    rw [e0, e1] at hHold' ho
    obtain ⟨hInv', hOUT⟩ := K.hstep t.val s junk hlt h5 hI.1
    have hO6 : (rd K).after 4 t Y4 ((ms4 t).view.read (Elt Ideal) k6) := ⟨_, hOUT, ho⟩
    have hO7 : (rd K).after 5 t Y5 ((ms5 t).view.read (Elt Ideal) ((hs5 t).unread Y5)) := by
      show (if t.val % 5 = 0 then _ else _ : Prop)
      rw [if_neg h5]; exact (hs5 t).read_unread _
    have hO8 : (rd K).after 6 t Y6 ((ms6 t).view.read (Elt Ideal) ((hs6 t).unread Y6)) := by
      show (if t.val % 5 = 0 then _ else _ : Prop)
      rw [if_neg h5]; exact (hs6 t).read_unread _
    unfold bodyAt0
    rw [head_neg (h := hc)]
    iapply (hrun' _)
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iintro ⟨H2, H3, H4, H5, H6, H7, H8, H9, H10, H11, H12, H13, H14, H15, H16, H17, H18, H19, H20, H21⟩
    isplitl [Hg H9 H10 H11 H12 H13 H14 H15 H16 H17 H18 H19 H20 H21]
    · isplitr [Hg]; swap; · iexact Hg
      iexists _; iexists _; iexists _; iexists _; iexists _; iexists _; iexists _; iexists _; iexists _; iexists _; iexists _; iexists _; iexists _; iexists _
      isplitr; · ipureintro; exact ⟨hInv', hHold'⟩
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    isplitl [HO]; · iexact HO
    isplitl [H2]; · iexists _; isplitr; swap; · iapply (owns_of_pt c (hs0 t) _); iexact H2
                    ipureintro; exact (hs0 t).read_unread _
    isplitl [H3]; · iexists _; isplitr; swap; · iapply (owns_of_pt c (hs1 t) _); iexact H3
                    ipureintro; exact (hs1 t).read_unread _
    isplitl [H4]; · iexists _; isplitr; swap; · iapply (owns_of_pt c (hs2 t) _); iexact H4
                    ipureintro; exact (hs2 t).read_unread _
    isplitl [H5]; · iexists _; isplitr; swap; · iapply (owns_of_pt c (hs3 t) _); iexact H5
                    ipureintro; exact (hs3 t).read_unread _
    isplitl [H6]; · iexists _; isplitr; swap; · iapply (owns_of_pt c (hs4 t) _); iexact H6
                    ipureintro; exact hO6
    isplitl [H7]; · iexists _; isplitr; swap; · iapply (owns_of_pt c (hs5 t) _); iexact H7
                    ipureintro; exact hO7
    iexists _; isplitr; swap; · iapply (owns_of_pt c (hs6 t) _); iexact H8
    ipureintro; exact hO8

theorem rd_obligation : (rd K).BodyObligation (defs₀ (F := Ideal)) Variants.none () Set.univ := fun t Y hY => by
  rw [bigSep_W0, bigSep_W0, defs₀_row]
  exact triple_restated (rd_body K t (Y 0) (Y 1) (Y 2) (Y 3) (Y 4) (Y 5) (Y 6) (finds_0 K t _ (hY 0)) (finds_1 K t _ (hY 1)) (finds_2 K t _ (hY 2)) (finds_3 K t _ (hY 3)))
    rfl .rfl fun _ => .rfl

theorem rd_in : Pipeline.ΦA spec0 c ⊢ (rd K).Φ 0 := by
  show _ ⊢ iprop(held K 0 ∗ ∃ r, prngReg c r)
  unfold Pipeline.ΦA held
  rw [scopedRest0_eq]
  iintro ⟨⟨⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hg⟩
  obtain ⟨s, hs⟩ := holds_any c f9 f10 f11 f13 f14 f15 f16 f17 f18 f19 f20 f21
  isplitr [Hg]; swap; · iexact Hg
  iexists s; iexists f9; iexists f10; iexists f11; iexists f12; iexists f13; iexists f14; iexists f15; iexists f16; iexists f17; iexists f18; iexists f19; iexists f20; iexists f21
  isplitr; · ipureintro; exact ⟨K.h0 s, hs⟩
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem rd_out : (rd K).Φ (Fin.last cfg0.N) ⊢ Pipeline.ΦA spec0 c := by
  show iprop(held K _ ∗ ∃ r, prngReg c r) ⊢ _
  unfold Pipeline.ΦA held
  rw [scopedRest0_eq]
  iintro ⟨⟨%s, %f9, %f10, %f11, %f12, %f13, %f14, %f15, %f16, %f17, %f18, %f19, %f20, %f21, %hI, H9, H10, H11, H12, H13, H14, H15, H16, H17, H18, H19, H20, H21⟩, Hg⟩
  isplitr [Hg]; swap; · iexact Hg
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21
end

variable {m : (ℓ : Loc nD τ sig) → Buf (Elt Ideal) ℓ} (ρ : Dev nD → PrngReg) (K : (c : Dev nD) → Track m c)

set_option backward.isDefEq.respectTransparency.types false in
/-- Every weakly fair execution of @main ends, the arrays at what the points put out. -/
theorem run_track :
    θ_run defs (onTc (τ := τ) (main (F := Ideal))) (s₀ m ρ)
      (fun r => RDat.FramePost (cfgs 0) (fun c => rd (K c)) (V m) r ∧ r.2.sem = fun _ => 0) :=
  RDat.θ_run_frame_track (Q' := _) cfgs (0 : Fin 1) launch0 defs₀ Variants.none (fun c => rd (K c)) m ρ main
    (hbody := fun c => rd_obligation (K c)) (hshare := fun c w => by unfold RDat.share; split <;> rfl)
    (howed := fun _ _ => rfl) (V := V m) (hmain := hmain m Variants.none) (hA := fun c w => rd_A (K c) w)
    (hin := fun c => rd_in (K c)) (hout := fun c => rd_out (K c))

end Cert.KernelIdeal.Hand

end
-- ==== Proof.Inv.lean ====
module

public import proofs.«01_k».proof.Proof.State

@[expose] public section

noncomputable section

namespace Cert.KernelIdeal.Hand

open Cert.KernelIdeal Cert.KernelIdeal.Gen
open Idealize.ShloMosaic Idealize.ShloMosaic.Tactic

/-! ## A row's values depend on the row alone -/

theorem zN_congr {X X' W : ℕ → ℕ → EReal} {p g : ℕ} (q : ℕ) (hX : ∀ d, X p d = X' g d) : zN X W p q = zN X' W g q := by
  unfold zN; simp only [hX]

theorem lN_congr {X X' W RT RT' : ℕ → ℕ → EReal} {WD WD' : ℕ → ℕ → BitVec 32} {p g : ℕ} (t l : ℕ) (hX : ∀ d, X p d = X' g d)
    (hR : RT p l = RT' g l) (hW : WD p l = WD' g l) : lN X W RT WD p t l = lN X' W RT' WD' g t l := by
  unfold lN; rw [zN_congr _ hX, hR, hW]

theorem mxN_congr {X X' W RT RT' MX MX' : ℕ → ℕ → EReal} {WD WD' : ℕ → ℕ → BitVec 32} {p g : ℕ} (l : ℕ) (hX : ∀ d, X p d = X' g d)
    (hR : RT p l = RT' g l) (hW : WD p l = WD' g l) (hM : MX p l = MX' g l) (k : ℕ) :
    mxN X W RT WD MX k p l = mxN X' W RT' WD' MX' k g l := by
  induction k with
  | zero => exact hM
  | succ k ih => unfold mxN; rw [ih, lN_congr _ _ hX hR hW, lN_congr _ _ hX hR hW]

theorem wdN_congr {M M' : ℕ → ℕ → ℕ → BitVec 32} {p g l : ℕ} (v : ℕ) (h : ∀ u, M u p l = M' u g l) : wdN M v p l = wdN M' v g l := by
  unfold wdN; rw [h]

theorem lane_new {k g : ℕ} (h : g < 64) : inLane k (64 * k + g) := ⟨by omega, by omega⟩
theorem lane_old {k k' g : ℕ} (h : g < 64) (hk : k ≠ k') : ¬ inLane k (64 * k' + g) := by
  unfold inLane; omega

/-- A token's logit after the step: taken where its tile column is one of the step's. -/
theorem gzN_hit (s : ST) (W : ℕ → ℕ → EReal) (v p q col : ℕ) (hv : v < 25) (h : s.TI p q = BitVec.ofNat 32 (10 * v + col)) :
    ∀ n, n ≤ 10 → col < n → gzN s W v n p q = zN s.X W p (128 * col + (s.LO p q).toNat) := by
  intro n
  induction n with
  | zero => intro _ h; omega
  | succ n ih =>
    intro hn hc
    unfold gzN
    by_cases e : col = n
    · subst e; rw [if_pos h]
    · rw [if_neg (fun e' => e ?_), ih (by omega) (by omega)]
      have := congrArg BitVec.toNat (h.symm.trans e')
      simp only [BitVec.toNat_ofNat] at this
      omega

/-- And untouched where it is none of them. -/
theorem gzN_miss (s : ST) (W : ℕ → ℕ → EReal) (v p q : ℕ) : ∀ n, (∀ col, col < n → s.TI p q ≠ BitVec.ofNat 32 (10 * v + col)) → gzN s W v n p q = s.GZ p q := by
  intro n
  induction n with
  | zero => intro _; rfl
  | succ n ih => intro h; unfold gzN; rw [if_neg (h n (by omega)), ih fun col hc => h col (by omega)]

/-! ## A window's values -/

variable (XW WT : ℕ → ℕ → ℕ → EReal) (MB : ℕ → ℕ → ℕ → ℕ → BitVec 32) (PW : ℕ → ℕ → ℕ → BitVec 32)

/-- Reciprocal temperature, scaled logit and running maximum of row `g` of window `W`. -/
def rtW (W g : ℕ) : EReal := Ideal.div 1 (Ideal.ofBits .f32 (PW W g 126))
def lW (W g v q : ℕ) : EReal := lN (XW W) (WT v) (fun g _ => rtW PW W g) (wdN (MB W) v) g (q / 128) (q % 128)
def mxS (W g : ℕ) : ℕ → ℕ → EReal
  | 0, _ => ⊥
  | n + 1, l => mxN (XW W) (WT ((5 * W + n) % 25)) (fun g _ => rtW PW W g) (wdN (MB W) ((5 * W + n) % 25)) (fun _ l => mxS W g n l) 5 g l

/-- The row's maximum, the logarithm of its smallest kept probability, and its threshold. -/
def mxW (W g : ℕ) : EReal := max128 (mxS XW WT MB PW W g 25)
def lmpW (W g : ℕ) : EReal := FloatOps.log (F := Ideal) (φ := .f32) (Ideal.ofBits .f32 (PW W g 127))
def tauW (W g : ℕ) : EReal := mxW XW WT MB PW W g + lmpW PW W g
def dW (W g v h l : ℕ) : EReal := lW XW WT MB PW W g v (128 * h + l) - tauW XW WT MB PW W g

/-- The accumulators after `k` tiles. -/
def accS (W g a l : ℕ) : ℕ → EReal
  | 0 => if a = 2 then ⊤ else 0
  | k + 1 =>
    if a = 0 then totN (fun h => dW XW WT MB PW W g ((5 * W + k) % 25) h l) (accS W g a l k) 10
    else if a = 1 then keptN (fun h => dW XW WT MB PW W g ((5 * W + k) % 25) h l) (accS W g a l k) 10
    else marN (fun h => dW XW WT MB PW W g ((5 * W + k) % 25) h l) (accS W g a l k) 10

/-- The top term, the logarithm of the kept sum, and the outputs. -/
def topW (W g : ℕ) : EReal := FloatOps.exp2 (F := Ideal) (φ := .f32) ((mxW XW WT MB PW W g - tauW XW WT MB PW W g) * (Named.named (F := Ideal) (φ := .f32) κ "log2e" 1069066811#32 : EReal))
def lseW (W g : ℕ) : EReal := mxW XW WT MB PW W g + if sum128 (fun l => accS XW WT MB PW W g 1 l 25) = topW XW WT MB PW W g then 0
  else FloatOps.log (F := Ideal) (φ := .f32) (Ideal.div (sum128 (fun l => accS XW WT MB PW W g 1 l 25)) (topW XW WT MB PW W g))
def outW (W g v q : ℕ) : EReal := if tauW XW WT MB PW W g ≤ lW XW WT MB PW W g v q then lW XW WT MB PW W g v q - lseW XW WT MB PW W g else 0
def stW (W g l : ℕ) : EReal :=
  if l = 0 then lmpW PW W g - FloatOps.log (F := Ideal) (φ := .f32) (Ideal.div (sum128 (fun l => accS XW WT MB PW W g 0 l 25)) (topW XW WT MB PW W g))
  else min128 (fun l => accS XW WT MB PW W g 2 l 25)
def penW (z : EReal) : EReal :=
  if 0 < z then z * (Named.named (F := Ideal) (φ := .f32) κ "inv_ctrl" 1061481551#32 : EReal) else z * (Named.named (F := Ideal) (φ := .f32) κ "ctrl" 1067869798#32 : EReal)

/-! ## The invariant -/

/-- The state before step `s`, the windows opened being those before time `e`: `e = s` before the step's opening, `e = s + 1` after it. -/
structure Sta (e s : ℕ) (st : ST) : Prop where
  X : ∀ W g d, 5 * W < e → e ≤ 5 * W + 25 → g < 64 → st.X (64 * (W % 5) + g) d = XW W g d
  MW : ∀ W g v l, 5 * W < e → e ≤ 5 * W + 25 → g < 64 → st.MW v (64 * (W % 5) + g) l = MB W v g l
  LO : ∀ W g l, 5 * W < e → e ≤ 5 * W + 25 → g < 64 → st.LO (64 * (W % 5) + g) l = IntOp.andi (PW W g l) 127#32
  TI : ∀ W g l, 5 * W < e → e ≤ 5 * W + 25 → g < 64 → l < 40 → st.TI (64 * (W % 5) + g) l = IntOp.shrsi .vector (PW W g l) 7#32
  RT : ∀ W g l, 5 * W < e → e ≤ 5 * W + 25 → g < 64 → st.RT (64 * (W % 5) + g) l = rtW PW W g
  MP : ∀ W g l, 5 * W < e → e ≤ 5 * W + 25 → g < 64 → st.MP (64 * (W % 5) + g) l = Ideal.ofBits .f32 (PW W g 127)
  MX : ∀ W g l, 5 * W < e → e ≤ 5 * W + 25 → g < 64 → st.MX (64 * (W % 5) + g) l = mxS XW WT MB PW W g (s - 5 * W) l
  GZ : ∀ W g j, 5 * W < e → e ≤ 5 * W + 25 → g < 64 → j < 40 → ∀ n col, n < s - 5 * W → col < 10 →
    IntOp.shrsi .vector (PW W g j) 7#32 = BitVec.ofNat 32 (10 * ((5 * W + n) % 25) + col) →
    st.GZ (64 * (W % 5) + g) j = zN (XW W) (WT ((5 * W + n) % 25)) g (128 * col + (IntOp.andi (PW W g j) 127#32).toNat)
  R : ∀ W g u q, 5 * W ≤ u → u < 5 * W + 25 → u < s → s ≤ u + 31 → g < 64 → st.R (u % 31) (64 * (W % 5) + g) q = lW XW WT MB PW W g (u % 25) q
  T0 : ∀ W g l, 5 * W + 25 < e → e ≤ 5 * W + 30 → g < 64 → st.T 0 g l = tauW XW WT MB PW W g
  T1 : ∀ W g l, 5 * W + 25 < e → e ≤ 5 * W + 30 → g < 64 → st.T 1 g l = mxW XW WT MB PW W g
  T2 : ∀ W g l, 5 * W + 25 < e → e ≤ 5 * W + 30 → g < 64 → st.T 2 g l = lmpW PW W g
  A : ∀ W g a l, 5 * W + 25 < e → e ≤ 5 * W + 30 → g < 64 → a < 3 → st.A a g l = accS XW WT MB PW W g a l (5 * (s - (5 * W + 25)))
  U0 : ∀ W g l, 5 * W + 30 < e → e ≤ 5 * W + 35 → g < 64 → st.U 0 g l = tauW XW WT MB PW W g
  U1 : ∀ W g l, 5 * W + 30 < e → e ≤ 5 * W + 35 → g < 64 → st.U 1 g l = lseW XW WT MB PW W g

variable {XW WT MB PW}

/-- At the start nothing is said. -/
theorem sta_zero (st : ST) : Sta XW WT MB PW 0 0 st := by
  constructor <;> intros <;> omega

/-- A step that opens no window. -/
theorem sta_stay {s : ℕ} {st : ST} (h : Sta XW WT MB PW s s st) (h5 : s % 5 ≠ 0) : Sta XW WT MB PW (s + 1) s st := by
  constructor
  · intro W g d a b c; exact h.X W g d (by omega) (by omega) c
  · intro W g v l a b c; exact h.MW W g v l (by omega) (by omega) c
  · intro W g l a b c; exact h.LO W g l (by omega) (by omega) c
  · intro W g l a b c d; exact h.TI W g l (by omega) (by omega) c d
  · intro W g l a b c; exact h.RT W g l (by omega) (by omega) c
  · intro W g l a b c; exact h.MP W g l (by omega) (by omega) c
  · intro W g l a b c; exact h.MX W g l (by omega) (by omega) c
  · intro W g j a b c d; exact h.GZ W g j (by omega) (by omega) c d
  · exact h.R
  · intro W g l a b c; exact h.T0 W g l (by omega) (by omega) c
  · intro W g l a b c; exact h.T1 W g l (by omega) (by omega) c
  · intro W g l a b c; exact h.T2 W g l (by omega) (by omega) c
  · intro W g x l a b c d; exact h.A W g x l (by omega) (by omega) c d
  · intro W g l a b c; exact h.U0 W g l (by omega) (by omega) c
  · intro W g l a b c; exact h.U1 W g l (by omega) (by omega) c

/-- A step that opens window `w`. -/
theorem sta_open {w : ℕ} {st : ST} (h : Sta XW WT MB PW (5 * w) (5 * w) st) : Sta XW WT MB PW (5 * w + 1) (5 * w) (winST st w (XW w) (MB w) (PW w)) := by
  have key : ∀ (W : ℕ), 5 * W < 5 * w + 1 → 5 * w + 1 ≤ 5 * W + 25 → W ≠ w → w % 5 ≠ W % 5 := fun W a b c => by omega
  constructor
  · intro W g d a b c
    by_cases e : W = w
    · subst e; simp only [winST]; rw [if_pos (lane_new c), Nat.add_sub_cancel_left]
    · simp only [winST]; rw [if_neg (lane_old c (key W a b e))]; exact h.X W g d (by omega) (by omega) c
  · intro W g v l a b c
    by_cases e : W = w
    · subst e; simp only [winST]; rw [if_pos (lane_new c), Nat.add_sub_cancel_left]
    · simp only [winST]; rw [if_neg (lane_old c (key W a b e))]; exact h.MW W g v l (by omega) (by omega) c
  · intro W g l a b c
    by_cases e : W = w
    · subst e; simp only [winST]; rw [if_pos (lane_new c), Nat.add_sub_cancel_left]
    · simp only [winST]; rw [if_neg (lane_old c (key W a b e))]; exact h.LO W g l (by omega) (by omega) c
  · intro W g l a b c d
    by_cases e : W = w
    · subst e; simp only [winST]; rw [if_pos (lane_new c), Nat.add_sub_cancel_left, if_pos d]
    · simp only [winST]; rw [if_neg (lane_old c (key W a b e))]; exact h.TI W g l (by omega) (by omega) c d
  · intro W g l a b c
    by_cases e : W = w
    · subst e; simp only [winST]; rw [if_pos (lane_new c), Nat.add_sub_cancel_left]; rfl
    · simp only [winST]; rw [if_neg (lane_old c (key W a b e))]; exact h.RT W g l (by omega) (by omega) c
  · intro W g l a b c
    by_cases e : W = w
    · subst e; simp only [winST]; rw [if_pos (lane_new c), Nat.add_sub_cancel_left]
    · simp only [winST]; rw [if_neg (lane_old c (key W a b e))]; exact h.MP W g l (by omega) (by omega) c
  · intro W g l a b c
    by_cases e : W = w
    · subst e; simp only [winST]; rw [if_pos (lane_new c), Nat.sub_self]; rfl
    · simp only [winST]; rw [if_neg (lane_old c (key W a b e))]; exact h.MX W g l (by omega) (by omega) c
  · intro W g j a b c d n col hn
    by_cases e : W = w
    · subst e; omega
    · exact h.GZ W g j (by omega) (by omega) c d n col hn
  · exact h.R
  · intro W g l a b c
    obtain rfl : w = W + 5 := by omega
    have hm : (W + 5) % 5 = W % 5 := by omega
    show max128 (st.MX (64 * ((W + 5) % 5) + g)) + FloatOps.log (F := Ideal) (φ := .f32) (st.MP (64 * ((W + 5) % 5) + g) l) = _
    rw [hm, h.MP W g l (by omega) (by omega) c, show st.MX (64 * (W % 5) + g) = mxS XW WT MB PW W g 25 from funext fun l => by
      rw [h.MX W g l (by omega) (by omega) c, show 5 * (W + 5) - 5 * W = 25 by omega]]
    rfl
  · intro W g l a b c
    obtain rfl : w = W + 5 := by omega
    have hm : (W + 5) % 5 = W % 5 := by omega
    show max128 (st.MX (64 * ((W + 5) % 5) + g)) = _
    rw [hm, show st.MX (64 * (W % 5) + g) = mxS XW WT MB PW W g 25 from funext fun l => by
      rw [h.MX W g l (by omega) (by omega) c, show 5 * (W + 5) - 5 * W = 25 by omega]]
    rfl
  · intro W g l a b c
    obtain rfl : w = W + 5 := by omega
    have hm : (W + 5) % 5 = W % 5 := by omega
    show FloatOps.log (F := Ideal) (φ := .f32) (st.MP (64 * ((W + 5) % 5) + g) l) = _
    rw [hm, h.MP W g l (by omega) (by omega) c]
    rfl
  · intro W g x l a b c d
    rw [show 5 * (5 * w - (5 * W + 25)) = 0 by omega]; rfl
  · intro W g l a b c
    exact h.T0 W g l (by omega) (by omega) c
  · intro W g l a b c
    show st.T 1 g l + (if sum128 (st.A 1 g) = FloatOps.exp2 (F := Ideal) (φ := .f32) ((st.T 1 g l - st.T 0 g l) * (Named.named (F := Ideal) (φ := .f32) κ "log2e" 1069066811#32 : EReal)) then 0
      else FloatOps.log (F := Ideal) (φ := .f32) (Ideal.div (sum128 (st.A 1 g)) (FloatOps.exp2 (F := Ideal) (φ := .f32) ((st.T 1 g l - st.T 0 g l) * (Named.named (F := Ideal) (φ := .f32) κ "log2e" 1069066811#32 : EReal))))) = _
    rw [h.T0 W g l (by omega) (by omega) c, h.T1 W g l (by omega) (by omega) c,
      show st.A 1 g = fun l => accS XW WT MB PW W g 1 l 25 from funext fun l => by
        rw [h.A W g 1 l (by omega) (by omega) c (by omega), show 5 * (5 * w - (5 * W + 25)) = 25 by omega]]
    rfl

/-- The step's tile. -/
theorem sta_tile {s : ℕ} {st : ST} (junk : ℕ → ℕ → EReal) (h : Sta XW WT MB PW (s + 1) s st) :
    Sta XW WT MB PW (s + 1) (s + 1) (tileST st (s / 5) (s % 5) (WT (s % 25)) junk) := by
  have hv : 5 * (s / 5 % 5) + s % 5 = s % 25 := by omega
  have hs : 5 * (s / 5) + s % 5 = s := by omega
  constructor
  · exact h.X
  · exact h.MW
  · exact h.LO
  · exact h.TI
  · exact h.RT
  · exact h.MP
  · intro W g l a b c
    show mxN st.X (WT (s % 25)) st.RT (wdN st.MW (5 * (s / 5 % 5) + s % 5)) st.MX 5 _ l = _
    rw [hv, show s + 1 - 5 * W = (s - 5 * W) + 1 by omega]
    show _ = mxN (XW W) (WT ((5 * W + (s - 5 * W)) % 25)) (fun g _ => rtW PW W g) (wdN (MB W) ((5 * W + (s - 5 * W)) % 25)) (fun _ l => mxS XW WT MB PW W g (s - 5 * W) l) 5 g l
    rw [show 5 * W + (s - 5 * W) = s by omega]
    exact mxN_congr l (fun d => h.X W g d a b c) (h.RT W g l a b c) (wdN_congr _ fun u => h.MW W g u l a b c) (h.MX W g l a b c) 5
  · intro W g j a b c d n col hn hc hT
    have hl : (st.LO (64 * (W % 5) + g) j).toNat < 128 := by
      rw [h.LO W g j a b c]; simp only [IntOp.andi, BitVec.toNat_and, BitVec.toNat_ofNat]
      exact lt_of_le_of_lt Nat.and_le_right (by norm_num)
    show (if (st.LO (64 * (W % 5) + g) j).toNat < 128 then gzN st (WT (s % 25)) (5 * (s / 5 % 5) + s % 5) 10 (64 * (W % 5) + g) j else _) = _
    rw [if_pos hl, hv]
    by_cases e : n = s - 5 * W
    · have e' : 5 * W + n = s := by omega
      rw [e'] at hT ⊢
      rw [gzN_hit st _ (s % 25) _ _ col (by omega) ((h.TI W g j a b c d).trans hT) 10 (le_refl _) hc, h.LO W g j a b c]
      exact zN_congr _ fun d => h.X W g d a b c
    · rw [gzN_miss]
      · exact h.GZ W g j a b c d n col (by omega) hc hT
      · intro col' hc' e'
        have := congrArg BitVec.toNat ((h.TI W g j a b c d).symm.trans e')
        rw [hT] at this
        simp only [BitVec.toNat_ofNat] at this
        have b1 : 10 * ((5 * W + n) % 25) + col < 2 ^ 32 := by omega
        have b2 : 10 * (s % 25) + col' < 2 ^ 32 := by omega
        rw [Nat.mod_eq_of_lt b1, Nat.mod_eq_of_lt b2] at this
        have h2 : (5 * W + n) % 25 = s % 25 := by omega
        clear hT this e' b1 b2
        omega
  · intro W g u q a b c d e
    show (if u % 31 = (5 * (s / 5) + s % 5) % 31 then lN st.X (WT (s % 25)) st.RT (wdN st.MW (5 * (s / 5 % 5) + s % 5)) (64 * (W % 5) + g) (q / 128) (q % 128) else st.R (u % 31) (64 * (W % 5) + g) q) = _
    rw [hs, hv]
    by_cases k : u = s
    · subst k
      rw [if_pos rfl]
      exact lN_congr _ _ (fun d => h.X W g d (by omega) (by omega) e) (h.RT W g _ (by omega) (by omega) e) (wdN_congr _ fun v => h.MW W g v _ (by omega) (by omega) e)
    · rw [if_neg (by omega)]
      exact h.R W g u q a b (by omega) (by omega) e
  · exact h.T0
  · exact h.T1
  · exact h.T2
  · intro W g x l a b c d
    have hD : ∀ t, t < 5 → dN st.R st.T (s / 5) (s % 5) t g l = fun k => dW XW WT MB PW W g ((5 * W + (5 * (s - (5 * W + 25)) + t)) % 25) k l := fun t ht => funext fun k => by
      have e1 : 5 * (s / 5) + 5 * (s % 5) + t + 130 = (5 * W + (5 * (s - (5 * W + 25)) + t)) + 31 * 5 := by omega
      have e2 : s / 5 % 5 = W % 5 := by omega
      unfold dN dW
      rw [h.T0 W g l a b c, e1, e2, Nat.add_mul_mod_self_left, h.R W g _ _ (by omega) (by omega) (by omega) (by omega) c]
    have hA : ∀ t, t ≤ 5 → ∀ x, x < 3 → accN st.R st.A st.T (s / 5) (s % 5) t x g l = accS XW WT MB PW W g x l (5 * (s - (5 * W + 25)) + t) := by
      intro t
      induction t with
      | zero => intro _ x hx; exact h.A W g x l a b c hx
      | succ t ih =>
        intro ht x hx
        unfold accN
        rw [hD t (by omega), ih (by omega) 0 (by omega), ih (by omega) 1 (by omega), ih (by omega) 2 (by omega)]
        match x, hx with
        | 0, _ => rfl
        | 1, _ => rfl
        | 2, _ => rfl
    show accN st.R st.A st.T (s / 5) (s % 5) 5 x g l = _
    rw [hA 5 (le_refl _) x d, show 5 * (s + 1 - (5 * W + 25)) = 5 * (s - (5 * W + 25)) + 5 by omega]
  · exact h.U0
  · exact h.U1

/-- The output block of a step. -/
theorem sta_out {s W : ℕ} {st st' : ST} (h : Sta XW WT MB PW (s + 1) s st) (hR : st'.R = st.R) (a : 5 * W + 30 < s + 1) (b : s + 1 ≤ 5 * W + 35) (g q : ℕ) (hg : g < 64) (hq : q < 6400) :
    ocN st'.R st.U (s / 5) (s % 5) g q = outW XW WT MB PW W g (5 * ((W + s % 5) % 5) + q / 1280) (q % 1280) := by
  have e1 : 5 * (s / 5) + 5 * (s % 5) + q / 1280 + 125 = (5 * W + (5 * (s - (5 * W + 30)) + q / 1280)) + 31 * 5 := by omega
  have e2 : (s / 5 + 4) % 5 = W % 5 := by omega
  have e3 : (5 * W + (5 * (s - (5 * W + 30)) + q / 1280)) % 25 = 5 * ((W + s % 5) % 5) + q / 1280 := by omega
  have e4 : 128 * (q % 1280 / 128) + q % 128 = q % 1280 := by omega
  unfold ocN oN outW
  rw [hR, h.U0 W g _ a b hg, h.U1 W g _ a b hg, e1, e2, e4, Nat.add_mul_mod_self_left, h.R W g _ _ (by omega) (by omega) (by omega) (by omega) hg, e3]

/-- The token logits a window's opening sends out. -/
theorem sta_zs {w W : ℕ} {st : ST} (h : Sta XW WT MB PW (5 * w) (5 * w) st) (e : w = W + 5) (g j col v : ℕ) (hg : g < 64) (hj : j < 40) (hv : v < 25) (hc : col < 10)
    (hT : IntOp.shrsi .vector (PW W g j) 7#32 = BitVec.ofNat 32 (10 * v + col)) :
    zsF st w g j = penW (zN (XW W) (WT v) g (128 * col + (IntOp.andi (PW W g j) 127#32).toNat)) := by
  subst e
  have e1 : (5 * W + ((v + 20 * W) % 25)) % 25 = v := by omega
  have := h.GZ W g j (by omega) (by omega) hg hj ((v + 20 * W) % 25) col (by omega) hc (by rw [e1]; exact hT)
  unfold zsF penW
  rw [show (W + 5) % 5 = W % 5 by omega, this, e1]

/-- The row statistics a window's opening sends out. -/
theorem sta_st {w W : ℕ} {st : ST} (h : Sta XW WT MB PW (5 * w) (5 * w) st) (e : w = W + 6) (g l : ℕ) (hg : g < 64) : stF st g l = stW XW WT MB PW W g l := by
  subst e
  have hA : ∀ a, a < 3 → st.A a g = fun l => accS XW WT MB PW W g a l 25 := fun a ha => funext fun l => by
    rw [h.A W g a l (by omega) (by omega) hg ha, show 5 * (5 * (W + 6) - (5 * W + 25)) = 25 by omega]
  unfold stF
  rw [h.T0 W g 0 (by omega) (by omega) hg, h.T1 W g 0 (by omega) (by omega) hg, h.T2 W g 0 (by omega) (by omega) hg, hA 0 (by omega), hA 2 (by omega)]
  rfl

end Cert.KernelIdeal.Hand

end
-- ==== Proof.Read.lean ====
module

public import proofs.«01_k».proof.Proof.Body
public import proofs.«01_k».proof.Proof.Inv
public import Idealize.ShloMosaic.Lib.Pipeline.ValueKit.Geometry
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (RDat Dat)

/-! ## Which block a point reads and writes -/

theorem ix_0 : ∀ t : Fin cfg0.N, win0_0.index t = ![t.val % 25, 0] := by decide +kernel
theorem ix_1 : ∀ t : Fin cfg0.N, win0_1.index t = ![min (t.val / 5) 143, 0] := by decide +kernel
theorem ix_2 : ∀ t : Fin cfg0.N, win0_2.index t = ![0, min (t.val / 5) 143, 0] := by decide +kernel
theorem ix_3 : ∀ t : Fin cfg0.N, win0_3.index t = ![min (t.val / 5) 143, 0] := by decide +kernel

theorem fl_4 : ∀ t : Fin cfg0.N, win0_4.flush t = true → 30 ≤ t.val ∧ win0_4.index t = ![t.val / 5 - 6, (t.val / 5 + 4 + t.val % 5) % 5] := by decide +kernel
theorem fl_5 : ∀ t : Fin cfg0.N, win0_5.flush t = true → t.val % 5 = 4 ∧ 29 ≤ t.val ∧ win0_5.index t = ![min (t.val / 5 - 5) 143, 0] := by decide +kernel
theorem fl_6 : ∀ t : Fin cfg0.N, win0_6.flush t = true → t.val % 5 = 4 ∧ 34 ≤ t.val ∧ win0_6.index t = ![t.val / 5 - 6, 0] := by decide +kernel
/-- The small results' buffers go on from point to point inside a window. -/
theorem fl_56 : ∀ t : Fin cfg0.N, t.val % 5 ≠ 4 → win0_5.flush t = false ∧ win0_6.flush t = false := by decide +kernel

theorem fe_56 : ∀ t : Fin cfg0.N, win0_5.fetch t = false ∧ win0_6.fetch t = false := by decide +kernel

/-! ## The arguments as functions of numbers, and what is said of the run -/

section
variable (G0 G1 : ℕ → ℕ → EReal) (G2 : ℕ → ℕ → ℕ → BitVec 32) (G3 : ℕ → ℕ → BitVec 32)

/-- The weight's tile `v`, a window's block of the activations, of the mask words, of the parameters. -/
def wt (v p k : ℕ) : EReal := G0 (1280 * v + p) k
def xw (W g d : ℕ) : EReal := G1 (64 * min W 143 + g) d
def mb (W v g l : ℕ) : BitVec 32 := G2 v (64 * min W 143 + g) l
def pw (W g l : ℕ) : BitVec 32 := G3 (64 * min W 143 + g) l

/-- A token's id, found in vocabulary tile `v` at column `128 * col + lane`, in the window's zs. -/
def zsSaid (W : ℕ) (F : ℕ → ℕ → EReal) : Prop :=
  ∀ g j col v, g < 64 → j < 40 → v < 25 → col < 10 → IntOp.shrsi .vector (pw G3 W g j) 7#32 = BitVec.ofNat 32 (10 * v + col) →
    F g j = penW (zN (xw G1 W) (wt G0 v) g (128 * col + (IntOp.andi (pw G3 W g j) 127#32).toNat))

variable {m : (ℓ : Loc nD τ sig) → Buf (Elt Ideal) ℓ} {c : Dev nD}

/-- The arguments are these functions of their coordinates. -/
structure Args (m : (ℓ : Loc nD τ sig) → Buf (Elt Ideal) ℓ) (c : Dev nD) : Prop where
  h0 : ∀ j : S32000x1024.Idx, (m ((c : Thread nD τ).loc main_arg0) : S32000x1024.Idx → EReal) j = G0 (j 0).val (j 1).val
  h1 : ∀ j : S9216x1024.Idx, (m ((c : Thread nD τ).loc main_arg1) : S9216x1024.Idx → EReal) j = G1 (j 0).val (j 1).val
  h2 : ∀ j : S9x9216x128.Idx, (m ((c : Thread nD τ).loc main_arg2) : S9x9216x128.Idx → BitVec 32) j = G2 (j 0).val (j 1).val (j 2).val
  h3 : ∀ j : S9216x128.Idx, (m ((c : Thread nD τ).loc main_arg3) : S9216x128.Idx → BitVec 32) j = G3 (j 0).val (j 1).val

variable {G0 G1 G2 G3}

theorem blk_0 (A : Args G0 G1 G2 G3 m c) (t : Fin cfg0.N) (j : S1280x1024.Idx) : iblk m c 0 t j = wt G0 (t.val % 25) (j 0).val (j 1).val := by
  refine (A.h0 ((win0_0.blk t).view.emb j)).trans ?_
  have e0 : (((win0_0.blk t).view.emb j) 0 : ℕ) = 1280 * (t.val % 25) + (j 0).val := by blk_simp [ix_0]; omega
  have e1 : (((win0_0.blk t).view.emb j) 1 : ℕ) = (j 1).val := by blk_simp [ix_0]
  unfold wt
  rw [← e0, ← e1]

theorem blk_1 (A : Args G0 G1 G2 G3 m c) (t : Fin cfg0.N) (j : S64x1024.Idx) : iblk m c 1 t j = xw G1 (t.val / 5) (j 0).val (j 1).val := by
  refine (A.h1 ((win0_1.blk t).view.emb j)).trans ?_
  have e0 : (((win0_1.blk t).view.emb j) 0 : ℕ) = 64 * min (t.val / 5) 143 + (j 0).val := by blk_simp [ix_1]; omega
  have e1 : (((win0_1.blk t).view.emb j) 1 : ℕ) = (j 1).val := by blk_simp [ix_1]
  unfold xw
  rw [← e0, ← e1]

theorem blk_2 (A : Args G0 G1 G2 G3 m c) (t : Fin cfg0.N) (j : S9x64x128.Idx) : iblk m c 2 t j = mb G2 (t.val / 5) (j 0).val (j 1).val (j 2).val := by
  refine (A.h2 ((win0_2.blk t).view.emb j)).trans ?_
  have e0 : (((win0_2.blk t).view.emb j) 0 : ℕ) = (j 0).val := by blk_simp [ix_2]
  have e1 : (((win0_2.blk t).view.emb j) 1 : ℕ) = 64 * min (t.val / 5) 143 + (j 1).val := by blk_simp [ix_2]; omega
  have e2 : (((win0_2.blk t).view.emb j) 2 : ℕ) = (j 2).val := by blk_simp [ix_2]
  unfold mb
  rw [← e0, ← e1, ← e2]

theorem blk_3 (A : Args G0 G1 G2 G3 m c) (t : Fin cfg0.N) (j : S64x128.Idx) : iblk m c 3 t j = pw G3 (t.val / 5) (j 0).val (j 1).val := by
  refine (A.h3 ((win0_3.blk t).view.emb j)).trans ?_
  have e0 : (((win0_3.blk t).view.emb j) 0 : ℕ) = 64 * min (t.val / 5) 143 + (j 0).val := by blk_simp [ix_3]; omega
  have e1 : (((win0_3.blk t).view.emb j) 1 : ℕ) = (j 1).val := by blk_simp [ix_3]
  unfold pw
  rw [← e0, ← e1]

/-- What is said of the run from these arguments. -/
def track (A : Args G0 G1 G2 G3 m c) : Track m c where
  Inv t s := Sta (xw G1) (wt G0) (mb G2) (pw G3) t t s
  OUT t F := ∀ W, t / 5 = W + 6 → ∀ g q, g < 64 → q < 6400 → F g q = outW (xw G1) (wt G0) (mb G2) (pw G3) W g (5 * ((W + t % 5) % 5) + q / 1280) (q % 1280)
  ZS t F := ∀ W, t / 5 = W + 5 → zsSaid G0 G1 G3 W F
  STA t F := ∀ W, t / 5 = W + 6 → ∀ g l, g < 64 → F g l = stW (xw G1) (wt G0) (mb G2) (pw G3) W g l
  Wb t := wt G0 (t % 25)
  Xb t := xw G1 (t / 5)
  Mb t := mb G2 (t / 5)
  Pb t := pw G3 (t / 5)
  hWb := blk_0 A
  hXb := blk_1 A
  hMb := blk_2 A
  hPb := blk_3 A
  h0 := sta_zero
  hopen t s junk ht h5 hI := by
    have e : t = 5 * (t / 5) := by omega
    have hI' : Sta (xw G1) (wt G0) (mb G2) (pw G3) (5 * (t / 5)) (5 * (t / 5)) s := by rw [← e]; exact hI
    have ho : Sta (xw G1) (wt G0) (mb G2) (pw G3) (t + 1) t (winST s (t / 5) (xw G1 (t / 5)) (mb G2 (t / 5)) (pw G3 (t / 5))) := by
      have := sta_open hI'
      rw [← e] at this; exact this
    refine ⟨sta_tile junk ho, fun W hW g q hg hq => sta_out ho rfl (by omega) (by omega) g q hg hq, fun W hW g j col v hg hj hv hc hT => ?_, fun W hW g l hg => ?_⟩
    · exact sta_zs hI' hW g j col v hg hj hv hc hT
    · exact sta_st hI' hW g l hg
  hstep t s junk ht h5 hI := by
    have ho := sta_stay hI h5
    exact ⟨sta_tile junk ho, fun W hW g q hg hq => sta_out ho rfl (by omega) (by omega) g q hg hq⟩

/-! ## The small results' buffers between their write and their write-back -/

theorem leaves_5 (A : Args G0 G1 G2 G3 m c) : ∀ (n : ℕ) (t : Fin cfg0.N) (X : S64x128.Idx → EReal), t.val % 5 = n → (rd (track A)).Leaves 5 t X →
    ∃ F, (∀ W, t.val / 5 = W + 5 → zsSaid G0 G1 G3 W F) ∧ ∀ j : S64x128.Idx, X j = F (j 0).val (j 1).val := by
  intro n
  induction n with
  | zero =>
    rintro t X ht ⟨Y, -, h⟩
    have h' : (if t.val % 5 = 0 then ∃ F, (track A).ZS t.val F ∧ ∀ j : S64x128.Idx, (X : S64x128.Idx → EReal) j = F (j 0).val (j 1).val else X = Y : Prop) := h
    rw [if_pos ht] at h'
    exact h'
  | succ n ih =>
    rintro t X ht ⟨Y, hY, h⟩
    have h' : (if t.val % 5 = 0 then ∃ F, (track A).ZS t.val F ∧ ∀ j : S64x128.Idx, (X : S64x128.Idx → EReal) j = F (j 0).val (j 1).val else X = Y : Prop) := h
    rw [if_neg (by omega)] at h'
    have h0 : t.val ≠ 0 := by omega
    have hlt : t.val - 1 < cfg0.N := Nat.lt_of_le_of_lt (Nat.sub_le _ _) t.isLt
    have hF := ((rd (track A)).finds_of_pos (w := 5) (fe_56 t).1 h0 Y).mp hY
    have hfl := (fl_56 ⟨t.val - 1, hlt⟩ (by show (t.val - 1) % 5 ≠ 4; omega)).1
    have hL : (rd (track A)).Leaves 5 ⟨t.val - 1, hlt⟩ Y := hF.resolve_left (fun e => Bool.false_ne_true (hfl.symm.trans e))
    obtain ⟨F, hF1, hF2⟩ := ih ⟨t.val - 1, hlt⟩ Y (by show (t.val - 1) % 5 = n; omega) hL
    refine ⟨F, fun W hW => hF1 W (by show (t.val - 1) / 5 = W + 5; omega), fun j => ?_⟩
    rw [h']; exact hF2 j

theorem leaves_6 (A : Args G0 G1 G2 G3 m c) : ∀ (n : ℕ) (t : Fin cfg0.N) (X : S64x128.Idx → EReal), t.val % 5 = n → (rd (track A)).Leaves 6 t X →
    ∃ F : ℕ → ℕ → EReal, (∀ W, t.val / 5 = W + 6 → ∀ g l, g < 64 → F g l = stW (xw G1) (wt G0) (mb G2) (pw G3) W g l) ∧ ∀ j : S64x128.Idx, X j = F (j 0).val (j 1).val := by
  intro n
  induction n with
  | zero =>
    rintro t X ht ⟨Y, -, h⟩
    have h' : (if t.val % 5 = 0 then ∃ F, (track A).STA t.val F ∧ ∀ j : S64x128.Idx, (X : S64x128.Idx → EReal) j = F (j 0).val (j 1).val else X = Y : Prop) := h
    rw [if_pos ht] at h'
    exact h'
  | succ n ih =>
    rintro t X ht ⟨Y, hY, h⟩
    have h' : (if t.val % 5 = 0 then ∃ F, (track A).STA t.val F ∧ ∀ j : S64x128.Idx, (X : S64x128.Idx → EReal) j = F (j 0).val (j 1).val else X = Y : Prop) := h
    rw [if_neg (by omega)] at h'
    have h0 : t.val ≠ 0 := by omega
    have hlt : t.val - 1 < cfg0.N := Nat.lt_of_le_of_lt (Nat.sub_le _ _) t.isLt
    have hF := ((rd (track A)).finds_of_pos (w := 6) (fe_56 t).2 h0 Y).mp hY
    have hfl := (fl_56 ⟨t.val - 1, hlt⟩ (by show (t.val - 1) % 5 ≠ 4; omega)).2
    have hL : (rd (track A)).Leaves 6 ⟨t.val - 1, hlt⟩ Y := hF.resolve_left (fun e => Bool.false_ne_true (hfl.symm.trans e))
    obtain ⟨F, hF1, hF2⟩ := ih ⟨t.val - 1, hlt⟩ Y (by show (t.val - 1) % 5 = n; omega) hL
    refine ⟨F, fun W hW => hF1 W (by show (t.val - 1) / 5 = W + 6; omega), fun j => ?_⟩
    rw [h']; exact hF2 j

/-! ## The three results -/

variable {r : PUnit × MemSt nD τ sig (Elt Ideal)} {K : (c : Dev nD) → Track m c}

/-- What a result array holds at an index, from what the points leave. -/
theorem read_4 (A : Args G0 G1 G2 G3 m c) (hK : K c = track A) (h : RDat.FramePost (cfgs 0) (fun c => rd (K c)) (V m) r) (i : S9216x32000.Idx) :
    (r.2.mem ((c : Thread nD τ).loc main_v0_0) : S9216x32000.Idx → EReal) i
      = outW (xw G1) (wt G0) (mb G2) (pw G3) ((i 0).val / 64) ((i 0).val % 64) ((i 1).val / 1280) ((i 1).val % 1280) := by
  obtain ⟨after, hL, hA⟩ := h.exists_exact c
  have e := congrFun (hA 4) i
  refine Eq.trans e ?_
  refine Dat.arrAt_forall_of_covers ((rd (K c)).withAfter after) 4
    (fun i v => (v : EReal) = outW (xw G1) (wt G0) (mb G2) (pw G3) ((i 0).val / 64) ((i 0).val % 64) ((i 1).val / 1280) ((i 1).val % 1280)) (by decide +kernel) (fun t hf y => ?_) i
  have hl := hL 4 t hf
  obtain ⟨hge, hix⟩ := fl_4 t hf
  rw [hK] at hl
  obtain ⟨Y, -, F, hF, hX⟩ := hl
  have hN : t.val < 750 := lt_of_lt_of_eq t.isLt N_0
  have y0 : (y 0).val < 64 := (y 0).isLt
  have y1 : (y 1).val < 6400 := (y 1).isLt
  have e0 : (((win0_4.blk t).view.emb y) 0 : ℕ) = 64 * (t.val / 5 - 6) + (y 0).val := by blk_simp [hix]; omega
  have e1 : (((win0_4.blk t).view.emb y) 1 : ℕ) = 6400 * ((t.val / 5 + 4 + t.val % 5) % 5) + (y 1).val := by blk_simp [hix]; omega
  have hv := hF (t.val / 5 - 6) (by omega) (y 0).val (y 1).val y0 y1
  refine ((hX y).trans hv).trans ?_
  show _ = outW (xw G1) (wt G0) (mb G2) (pw G3) ((((win0_4.blk t).view.emb y) 0).val / 64) ((((win0_4.blk t).view.emb y) 0).val % 64) ((((win0_4.blk t).view.emb y) 1).val / 1280) ((((win0_4.blk t).view.emb y) 1).val % 1280)
  rw [e0, e1]
  congr 1 <;> omega

theorem read_5 (A : Args G0 G1 G2 G3 m c) (hK : K c = track A) (h : RDat.FramePost (cfgs 0) (fun c => rd (K c)) (V m) r) (i : S9216x128.Idx)
    (col v : ℕ) (hj : (i 1).val < 40) (hv : v < 25) (hc : col < 10) (hT : IntOp.shrsi .vector (pw G3 ((i 0).val / 64) ((i 0).val % 64) (i 1).val) 7#32 = BitVec.ofNat 32 (10 * v + col)) :
    (r.2.mem ((c : Thread nD τ).loc main_v0_1) : S9216x128.Idx → EReal) i
      = penW (zN (xw G1 ((i 0).val / 64)) (wt G0 v) ((i 0).val % 64) (128 * col + (IntOp.andi (pw G3 ((i 0).val / 64) ((i 0).val % 64) (i 1).val) 127#32).toNat)) := by
  obtain ⟨after, hL, hA⟩ := h.exists_exact c
  have e := congrFun (hA 5) i
  refine Eq.trans e ?_
  revert hT hj
  refine Dat.arrAt_forall_of_covers ((rd (K c)).withAfter after) 5
    (fun i x => (i 1).val < 40 → IntOp.shrsi .vector (pw G3 ((i 0).val / 64) ((i 0).val % 64) (i 1).val) 7#32 = BitVec.ofNat 32 (10 * v + col) →
      (x : EReal) = penW (zN (xw G1 ((i 0).val / 64)) (wt G0 v) ((i 0).val % 64) (128 * col + (IntOp.andi (pw G3 ((i 0).val / 64) ((i 0).val % 64) (i 1).val) 127#32).toNat)))
    (by decide +kernel) (fun t hf y => ?_) i
  have hl := hL 5 t hf
  obtain ⟨h4, hge, hix⟩ := fl_5 t hf
  rw [hK] at hl
  obtain ⟨F, hF, hX⟩ := leaves_5 A 4 t _ h4 hl
  have hN : t.val < 750 := lt_of_lt_of_eq t.isLt N_0
  have y0 : (y 0).val < 64 := (y 0).isLt
  have e0 : (((win0_5.blk t).view.emb y) 0 : ℕ) = 64 * min (t.val / 5 - 5) 143 + (y 0).val := by blk_simp [hix]; omega
  have e1 : (((win0_5.blk t).view.emb y) 1 : ℕ) = (y 1).val := by blk_simp [hix]
  have eW : ∀ l, pw G3 ((64 * min (t.val / 5 - 5) 143 + (y 0).val) / 64) ((64 * min (t.val / 5 - 5) 143 + (y 0).val) % 64) l = pw G3 (t.val / 5 - 5) (y 0).val l := fun l => by
    unfold pw; congr 1; omega
  have eX : xw G1 ((64 * min (t.val / 5 - 5) 143 + (y 0).val) / 64) = xw G1 (t.val / 5 - 5) := by
    funext g d; unfold xw; congr 1; omega
  have eg : (64 * min (t.val / 5 - 5) 143 + (y 0).val) % 64 = (y 0).val := by omega
  show (((win0_5.blk t).view.emb y) 1).val < 40 → IntOp.shrsi .vector (pw G3 ((((win0_5.blk t).view.emb y) 0).val / 64) ((((win0_5.blk t).view.emb y) 0).val % 64) (((win0_5.blk t).view.emb y) 1).val) 7#32 = BitVec.ofNat 32 (10 * v + col) →
      _ = penW (zN (xw G1 ((((win0_5.blk t).view.emb y) 0).val / 64)) (wt G0 v) ((((win0_5.blk t).view.emb y) 0).val % 64) (128 * col + (IntOp.andi (pw G3 ((((win0_5.blk t).view.emb y) 0).val / 64) ((((win0_5.blk t).view.emb y) 0).val % 64) (((win0_5.blk t).view.emb y) 1).val) 127#32).toNat))
  rw [e0, e1, eW, eX, eg]
  intro hj hT
  exact (hX y).trans (hF (t.val / 5 - 5) (by omega) (y 0).val (y 1).val col v y0 hj hv hc hT)

theorem read_6 (A : Args G0 G1 G2 G3 m c) (hK : K c = track A) (h : RDat.FramePost (cfgs 0) (fun c => rd (K c)) (V m) r) (i : S9216x128.Idx) :
    (r.2.mem ((c : Thread nD τ).loc main_v0_2) : S9216x128.Idx → EReal) i
      = stW (xw G1) (wt G0) (mb G2) (pw G3) ((i 0).val / 64) ((i 0).val % 64) (i 1).val := by
  obtain ⟨after, hL, hA⟩ := h.exists_exact c
  have e := congrFun (hA 6) i
  refine Eq.trans e ?_
  refine Dat.arrAt_forall_of_covers ((rd (K c)).withAfter after) 6
    (fun i x => (x : EReal) = stW (xw G1) (wt G0) (mb G2) (pw G3) ((i 0).val / 64) ((i 0).val % 64) (i 1).val) (by decide +kernel) (fun t hf y => ?_) i
  have hl := hL 6 t hf
  obtain ⟨h4, hge, hix⟩ := fl_6 t hf
  rw [hK] at hl
  obtain ⟨F, hF, hX⟩ := leaves_6 A 4 t _ h4 hl
  have hN : t.val < 750 := lt_of_lt_of_eq t.isLt N_0
  have y0 : (y 0).val < 64 := (y 0).isLt
  have e0 : (((win0_6.blk t).view.emb y) 0 : ℕ) = 64 * (t.val / 5 - 6) + (y 0).val := by blk_simp [hix]; omega
  have e1 : (((win0_6.blk t).view.emb y) 1 : ℕ) = (y 1).val := by blk_simp [hix]
  show _ = stW (xw G1) (wt G0) (mb G2) (pw G3) ((((win0_6.blk t).view.emb y) 0).val / 64) ((((win0_6.blk t).view.emb y) 0).val % 64) (((win0_6.blk t).view.emb y) 1).val
  rw [e0, e1, show (64 * (t.val / 5 - 6) + (y 0).val) / 64 = t.val / 5 - 6 by omega, show (64 * (t.val / 5 - 6) + (y 0).val) % 64 = (y 0).val by omega]
  exact (hX y).trans (hF (t.val / 5 - 6) (by omega) (y 0).val (y 1).val y0)

end

end Cert.KernelIdeal.Hand

end
-- ==== Proof.Alg.lean ====
module

public import proofs.«01_k».proof.Proof.Inv

@[expose] public section

noncomputable section

namespace Cert.KernelIdeal.Hand

open Cert.KernelIdeal Cert.KernelIdeal.Gen
open Idealize.ShloMosaic Idealize.ShloMosaic.Tactic

/-! ## The named constants -/

theorem log2e_val : (Named.named (F := Ideal) (φ := .f32) κ "log2e" 1069066811#32 : EReal) = (((Real.log 2)⁻¹ : ℝ) : EReal) :=
  IdealRules.named_const.ideal_named_scalar _ _ _ _ rfl
theorem ctrl_val : (Named.named (F := Ideal) (φ := .f32) κ "ctrl" 1067869798#32 : EReal) = ((5452595 / 4194304 : ℝ) : EReal) :=
  IdealRules.named_const.ideal_named_scalar _ _ _ _ rfl
theorem inv_ctrl_val : (Named.named (F := Ideal) (φ := .f32) κ "inv_ctrl" 1061481551#32 : EReal) = ((4194304 / 5452595 : ℝ) : EReal) :=
  IdealRules.named_const.ideal_named_scalar _ _ _ _ rfl
theorem bits13 : Ideal.ofBits .f32 0x3FA66666#32 = ((5452595 / 4194304 : ℝ) : EReal) := by
  simp [Ideal.ofBits, Ideal.ieee, -EReal.coe_mul]; norm_num

/-- A product with the reciprocal is the quotient. -/
theorem inv_ctrl_div (z : EReal) : z * (Named.named (F := Ideal) (φ := .f32) κ "inv_ctrl" 1061481551#32 : EReal) = Ideal.div z (Ideal.ofBits .f32 0x3FA66666#32) := by
  rw [inv_ctrl_val, bits13, Ideal.div_coe (by norm_num)]
  norm_num
theorem ctrl_bits : (Named.named (F := Ideal) (φ := .f32) κ "ctrl" 1067869798#32 : EReal) = Ideal.ofBits .f32 0x3FA66666#32 := by
  rw [ctrl_val, bits13]

theorem penW_eq (z : EReal) : penW z = if 0 < z then Ideal.div z (Ideal.ofBits .f32 0x3FA66666#32) else z * Ideal.ofBits .f32 0x3FA66666#32 := by
  unfold penW; rw [inv_ctrl_div, ctrl_bits]

/-- The base-2 exponential of a real scaled by the reciprocal of the logarithm of 2 is its exponential. -/
theorem exp2_scaled (d : ℝ) : FloatOps.exp2 (F := Ideal) (φ := .f32) ((d : EReal) * (Named.named (F := Ideal) (φ := .f32) κ "log2e" 1069066811#32 : EReal)) = ((Real.exp d : ℝ) : EReal) := by
  rw [log2e_val, ← EReal.coe_mul]
  show ((Real.rpow 2 (d * (Real.log 2)⁻¹) : ℝ) : EReal) = _
  congr 1
  show (2 : ℝ) ^ (d * (Real.log 2)⁻¹) = _
  rw [Real.rpow_def_of_pos (by norm_num)]
  congr 1
  have : Real.log 2 ≠ 0 := (Real.log_pos (by norm_num)).ne'
  field_simp

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Folds over the tiles, whatever their order -/

theorem mxN_le {X W RT : ℕ → ℕ → EReal} {WD : ℕ → ℕ → BitVec 32} {MX : ℕ → ℕ → EReal} (p l : ℕ) (y : EReal) (k : ℕ) :
    mxN X W RT WD MX k p l ≤ y ↔ MX p l ≤ y ∧ ∀ t, t < 2 * k → lN X W RT WD p t l ≤ y := by
  induction k with
  | zero => simp [mxN]
  | succ k ih =>
    unfold mxN
    rw [max_le_iff, max_le_iff, ih]
    constructor
    · rintro ⟨⟨⟨a, b⟩, c⟩, d⟩
      refine ⟨a, fun t ht => ?_⟩
      rcases (by omega : t < 2 * k ∨ t = 2 * k ∨ t = 2 * k + 1) with h | rfl | rfl
      · exact b t h
      · exact c
      · exact d
    · rintro ⟨a, b⟩
      exact ⟨⟨⟨a, fun t ht => b t (by omega)⟩, b _ (by omega)⟩, b _ (by omega)⟩

variable (XW WT : ℕ → ℕ → ℕ → EReal) (MB : ℕ → ℕ → ℕ → ℕ → BitVec 32) (PW : ℕ → ℕ → ℕ → BitVec 32)

theorem lW_at (W g v t l : ℕ) (hl : l < 128) :
    lW XW WT MB PW W g v (128 * t + l) = lN (XW W) (WT v) (fun g _ => rtW PW W g) (wdN (MB W) v) g t l := by
  unfold lW
  have a : (128 * t + l) / 128 = t := by omega
  have b : (128 * t + l) % 128 = l := by omega
  rw [a, b]

theorem mxS_le (W g n l : ℕ) (hl : l < 128) (y : EReal) :
    mxS XW WT MB PW W g n l ≤ y ↔ ∀ k, k < n → ∀ t, t < 10 → lW XW WT MB PW W g ((5 * W + k) % 25) (128 * t + l) ≤ y := by
  induction n with
  | zero => simp [mxS]
  | succ n ih =>
    unfold mxS
    rw [mxN_le, ih]
    constructor
    · rintro ⟨a, b⟩ k hk t ht
      rcases (by omega : k < n ∨ k = n) with h | rfl
      · exact a k h t ht
      · rw [lW_at _ _ _ _ _ _ _ _ _ hl]; exact b t (by omega)
    · intro h
      refine ⟨fun k hk t ht => h k (by omega) t ht, fun t ht => ?_⟩
      rw [← lW_at _ _ _ _ _ _ _ _ _ hl]; exact h n (by omega) t (by omega)

theorem totN_sum (D : ℕ → EReal) (a : EReal) (n : ℕ) : totN D a n = a + ∑ h ∈ Finset.range n, FloatOps.exp2 (F := Ideal) (φ := .f32) (D h * (Named.named (F := Ideal) (φ := .f32) κ "log2e" 1069066811#32 : EReal)) := by
  induction n with
  | zero => simp [totN]
  | succ n ih => unfold totN; rw [ih, Finset.sum_range_succ, add_assoc]
theorem keptN_sum (D : ℕ → EReal) (a : EReal) (n : ℕ) : keptN D a n = a + ∑ h ∈ Finset.range n, if 0 ≤ D h then FloatOps.exp2 (F := Ideal) (φ := .f32) (D h * (Named.named (F := Ideal) (φ := .f32) κ "log2e" 1069066811#32 : EReal)) else 0 := by
  induction n with
  | zero => simp [keptN]
  | succ n ih => unfold keptN; rw [ih, Finset.sum_range_succ, add_assoc]
theorem le_marN (D : ℕ → EReal) (a y : EReal) (n : ℕ) : y ≤ marN D a n ↔ y ≤ a ∧ ∀ h, h < n → y ≤ FloatOps.absf (F := Ideal) (φ := .f32) (D h) := by
  induction n with
  | zero => simp [marN]
  | succ n ih =>
    unfold marN
    rw [le_min_iff, ih]
    constructor
    · rintro ⟨⟨a, b⟩, c⟩
      refine ⟨a, fun h hh => ?_⟩
      rcases (by omega : h < n ∨ h = n) with h' | rfl
      · exact b h h'
      · exact c
    · rintro ⟨a, b⟩
      exact ⟨⟨a, fun h hh => b h (by omega)⟩, b n (by omega)⟩

theorem acc0_sum (W g l n : ℕ) : accS XW WT MB PW W g 0 l n = ∑ k ∈ Finset.range n, ∑ h ∈ Finset.range 10,
    FloatOps.exp2 (F := Ideal) (φ := .f32) (dW XW WT MB PW W g ((5 * W + k) % 25) h l * (Named.named (F := Ideal) (φ := .f32) κ "log2e" 1069066811#32 : EReal)) := by
  induction n with
  | zero => simp [accS]
  | succ n ih => rw [Finset.sum_range_succ, ← ih, ← totN_sum]; rfl
theorem acc1_sum (W g l n : ℕ) : accS XW WT MB PW W g 1 l n = ∑ k ∈ Finset.range n, ∑ h ∈ Finset.range 10,
    if 0 ≤ dW XW WT MB PW W g ((5 * W + k) % 25) h l then FloatOps.exp2 (F := Ideal) (φ := .f32) (dW XW WT MB PW W g ((5 * W + k) % 25) h l * (Named.named (F := Ideal) (φ := .f32) κ "log2e" 1069066811#32 : EReal)) else 0 := by
  induction n with
  | zero => simp [accS]
  | succ n ih => rw [Finset.sum_range_succ, ← ih, ← keptN_sum]; rfl
theorem le_acc2 (W g l n : ℕ) (y : EReal) : y ≤ accS XW WT MB PW W g 2 l n ↔ ∀ k, k < n → ∀ h, h < 10 → y ≤ FloatOps.absf (F := Ideal) (φ := .f32) (dW XW WT MB PW W g ((5 * W + k) % 25) h l) := by
  induction n with
  | zero => simp [accS]
  | succ n ih =>
    have e : accS XW WT MB PW W g 2 l (n + 1) = marN (fun h => dW XW WT MB PW W g ((5 * W + n) % 25) h l) (accS XW WT MB PW W g 2 l n) 10 := rfl
    rw [e, le_marN, ih]
    constructor
    · rintro ⟨a, b⟩ k hk h hh
      rcases (by omega : k < n ∨ k = n) with h' | rfl
      · exact a k h' h hh
      · exact b h hh
    · intro a
      exact ⟨fun k hk h hh => a k (by omega) h hh, fun h hh => a n (by omega) h hh⟩

/-- A statement over the tiles in a window's order is one over the columns. -/
theorem forall_cols (P : ℕ → Prop) (W : ℕ) :
    (∀ l, l < 128 → ∀ k, k < 25 → ∀ t, t < 10 → P (1280 * ((5 * W + k) % 25) + (128 * t + l))) ↔ ∀ q, q < 32000 → P q := by
  constructor
  · intro h q hq
    have := h (q % 128) (by omega) ((q / 1280 + 20 * W) % 25) (by omega) (q / 128 % 10) (by omega)
    have e : 1280 * ((5 * W + (q / 1280 + 20 * W) % 25) % 25) + (128 * (q / 128 % 10) + q % 128) = q := by omega
    rwa [e] at this
  · intro h l hl k hk t ht
    exact h _ (by omega)

/-- A sum over the tiles in a window's order is one over the columns. -/
theorem sum_cols (f : ℕ → EReal) (W : ℕ) (n : ℕ) (hn : n = 32000) :
    sum128 (fun l => ∑ k ∈ Finset.range 25, ∑ t ∈ Finset.range 10, f (1280 * ((5 * W + k) % 25) + (128 * t + l))) = ∑ q : Fin n, f q.val := by
  unfold sum128
  rw [Fin.sum_univ_eq_sum_range (fun l => ∑ k ∈ Finset.range 25, ∑ t ∈ Finset.range 10, f (1280 * ((5 * W + k) % 25) + (128 * t + l))) 128,
    Fin.sum_univ_eq_sum_range f n]
  simp only [← Finset.sum_product']
  refine Finset.sum_nbij' (fun x => 1280 * ((5 * W + x.2.1) % 25) + (128 * x.2.2 + x.1)) (fun q => (q % 128, (q / 1280 + 20 * W) % 25, q / 128 % 10)) ?_ ?_ ?_ ?_ ?_
  · rintro ⟨l, k, t⟩ h
    simp only [Finset.mem_product, Finset.mem_range] at h ⊢
    omega
  · intro q h
    simp only [Finset.mem_product, Finset.mem_range] at h ⊢
    omega
  · rintro ⟨l, k, t⟩ h
    simp only [Finset.mem_product, Finset.mem_range] at h
    simp only [Prod.mk.injEq]
    omega
  · intro q h
    simp only [Finset.mem_range] at h
    dsimp only
    omega
  · rintro ⟨l, k, t⟩ h
    rfl

/-! ## A row whose scaled logits are real -/

section Row
variable {W g : ℕ} {ℓ : ℕ → ℝ} {lam : ℝ} (n : ℕ) (hn : n = 32000)
  (hL : ∀ v q, v < 25 → q < 1280 → lW XW WT MB PW W g v q = (ℓ (1280 * v + q) : EReal))
  (hlam : lmpW PW W g = (lam : EReal))
  {mu : ℝ} (hmu : (∀ q, q < 32000 → ℓ q ≤ mu) ∧ ∃ q, q < 32000 ∧ ℓ q = mu)

include hmu in
theorem top_unique {x : EReal} (h : ∀ y, x ≤ y ↔ ∀ q, q < 32000 → (ℓ q : EReal) ≤ y) : x = (mu : EReal) := by
  obtain ⟨h1, q, hq, e⟩ := hmu
  refine le_antisymm ((h _).2 fun q hq => by exact_mod_cast h1 q hq) ?_
  rw [← e]
  exact (h x).1 le_rfl q hq

include hL hmu in
theorem mxW_row : mxW XW WT MB PW W g = (mu : EReal) := by
  refine top_unique hmu fun y => ?_
  unfold mxW max128
  rw [bits_ninf, Finset.fold_max_le]
  rw [← forall_cols (fun q => (ℓ q : EReal) ≤ y) W]
  constructor
  · rintro ⟨-, h⟩ l hl k hk t ht
    have := (mxS_le XW WT MB PW W g 25 l hl y).1 (h ⟨l, hl⟩ (Finset.mem_univ _)) k hk t ht
    rwa [hL _ _ (by omega) (by omega)] at this
  · intro h
    refine ⟨bot_le, fun l _ => (mxS_le XW WT MB PW W g 25 l.val l.isLt y).2 fun k hk t ht => ?_⟩
    rw [hL _ _ (by omega) (by omega)]
    exact h l.val l.isLt k hk t ht

include hn hmu in
theorem mxR_row : (Finset.univ.fold max (Ideal.ofBits .f32 0xFF800000#32) fun q : Fin n => (ℓ q.val : EReal)) = (mu : EReal) := by
  refine top_unique hmu fun y => ?_
  have e := bits_ninf
  rw [e, Finset.fold_max_le]
  constructor
  · rintro ⟨-, h⟩ q hq
    exact h ⟨q, by omega⟩ (Finset.mem_univ _)
  · intro h
    exact ⟨bot_le, fun q _ => h q.val (by have := q.isLt; omega)⟩

include hL hlam hmu in
theorem tauW_row : tauW XW WT MB PW W g = ((mu + lam : ℝ) : EReal) := by
  unfold tauW; rw [mxW_row XW WT MB PW hL hmu, hlam, EReal.coe_add]

include hL hlam hmu in
theorem dW_row {v h l : ℕ} (hv : v < 25) (hh : h < 10) (hl : l < 128) : dW XW WT MB PW W g v h l = ((ℓ (1280 * v + (128 * h + l)) - (mu + lam) : ℝ) : EReal) := by
  unfold dW; rw [tauW_row XW WT MB PW hL hlam hmu, hL v _ hv (by omega), EReal.coe_sub]

include hL hlam hmu in
theorem topW_row : topW XW WT MB PW W g = ((Real.exp (-lam) : ℝ) : EReal) := by
  unfold topW
  rw [tauW_row XW WT MB PW hL hlam hmu, mxW_row XW WT MB PW hL hmu, ← EReal.coe_sub, exp2_scaled]
  congr 2; ring

include hn hL hlam hmu in
theorem tot_row : sum128 (fun l => accS XW WT MB PW W g 0 l 25) = ((∑ q : Fin n, Real.exp (ℓ q.val - (mu + lam)) : ℝ) : EReal) := by
  rw [coe_sum', ← sum_cols (fun q => ((Real.exp (ℓ q - (mu + lam)) : ℝ) : EReal)) W n hn]
  unfold sum128
  refine Finset.sum_congr rfl fun l _ => ?_
  dsimp only
  rw [acc0_sum]
  refine Finset.sum_congr rfl fun k hk => Finset.sum_congr rfl fun h hh => ?_
  rw [dW_row XW WT MB PW hL hlam hmu (by omega) (Finset.mem_range.1 hh) l.isLt, exp2_scaled]

include hn hL hlam hmu in
theorem kept_row : sum128 (fun l => accS XW WT MB PW W g 1 l 25) = ((∑ q : Fin n, (if mu + lam ≤ ℓ q.val then Real.exp (ℓ q.val - (mu + lam)) else 0) : ℝ) : EReal) := by
  rw [coe_sum', ← sum_cols (fun q => (((if mu + lam ≤ ℓ q then Real.exp (ℓ q - (mu + lam)) else 0) : ℝ) : EReal)) W n hn]
  unfold sum128
  refine Finset.sum_congr rfl fun l _ => ?_
  dsimp only
  rw [acc1_sum]
  refine Finset.sum_congr rfl fun k hk => Finset.sum_congr rfl fun h hh => ?_
  rw [dW_row XW WT MB PW hL hlam hmu (by omega) (Finset.mem_range.1 hh) l.isLt, exp2_scaled]
  have e : (0 : EReal) ≤ ((ℓ (1280 * ((5 * W + k) % 25) + (128 * h + l.val)) - (mu + lam) : ℝ) : EReal) ↔ mu + lam ≤ ℓ (1280 * ((5 * W + k) % 25) + (128 * h + l.val)) := by
    rw [← EReal.coe_zero, EReal.coe_le_coe_iff, sub_nonneg]
  by_cases c : mu + lam ≤ ℓ (1280 * ((5 * W + k) % 25) + (128 * h + l.val))
  · rw [if_pos (e.2 c), if_pos c]
  · rw [if_neg (fun h => c (e.1 h)), if_neg c, EReal.coe_zero]

/-- A sum relative to the threshold over the top term is the sum relative to the maximum. -/
theorem rel_sum (n : ℕ) (f : Fin n → ℝ) (mu lam : ℝ) (P : Fin n → Prop) [DecidablePred P] :
    Ideal.div ((∑ q, (if P q then Real.exp (f q - (mu + lam)) else 0) : ℝ) : EReal) ((Real.exp (-lam) : ℝ) : EReal) = ((∑ q, (if P q then Real.exp (f q - mu) else 0) : ℝ) : EReal) := by
  rw [Ideal.div_coe (Real.exp_ne_zero _), ← EReal.coe_mul, Finset.sum_mul]
  congr 1
  refine Finset.sum_congr rfl fun q _ => ?_
  split
  · rw [one_div, ← Real.exp_neg, ← Real.exp_add]; congr 1; ring
  · rw [zero_mul]

theorem keep_iff (a mu lam : ℝ) : (0 : EReal) ≤ (a : EReal) - (mu : EReal) - (lam : EReal) ↔ mu + lam ≤ a := by
  rw [← EReal.coe_sub, ← EReal.coe_sub, ← EReal.coe_zero, EReal.coe_le_coe_iff]
  constructor <;> intro h <;> linarith

theorem ref_kept (n : ℕ) (f : Fin n → ℝ) (mu lam : ℝ) :
    (∑ q, if (0 : EReal) ≤ (f q : EReal) - (mu : EReal) - (lam : EReal) then Ideal.exp ((f q : EReal) - (mu : EReal)) else 0) = ((∑ q, (if mu + lam ≤ f q then Real.exp (f q - mu) else 0) : ℝ) : EReal) := by
  rw [coe_sum']
  refine Finset.sum_congr rfl fun q _ => ?_
  by_cases c : mu + lam ≤ f q
  · rw [if_pos ((keep_iff _ _ _).2 c), if_pos c, ← EReal.coe_sub]; rfl
  · rw [if_neg (fun h => c ((keep_iff _ _ _).1 h)), if_neg c, EReal.coe_zero]

theorem ref_tot (n : ℕ) (f : Fin n → ℝ) (mu : ℝ) :
    (∑ q, Ideal.exp ((f q : EReal) - (mu : EReal))) = ((∑ q, Real.exp (f q - mu) : ℝ) : EReal) := by
  rw [coe_sum']
  refine Finset.sum_congr rfl fun q _ => ?_
  rw [← EReal.coe_sub]; rfl

include hn hL hlam hmu in
theorem lseW_row : lseW XW WT MB PW W g = (mu : EReal) + Ideal.log (∑ q : Fin n, if (0 : EReal) ≤ (ℓ q.val : EReal) - (mu : EReal) - (lam : EReal) then Ideal.exp ((ℓ q.val : EReal) - (mu : EReal)) else 0) := by
  unfold lseW
  rw [mxW_row XW WT MB PW hL hmu, kept_row XW WT MB PW n hn hL hlam hmu, topW_row XW WT MB PW hL hlam hmu, ref_kept n (fun q => ℓ q.val) mu lam,
    rel_sum n (fun q => ℓ q.val) mu lam (fun q => mu + lam ≤ ℓ q.val)]
  congr 1
  split
  · rename_i h
    have e := rel_sum n (fun q => ℓ q.val) mu lam (fun q => mu + lam ≤ ℓ q.val)
    rw [h, Ideal.div_coe (Real.exp_ne_zero _), ← EReal.coe_mul, mul_one_div_cancel (Real.exp_ne_zero _)] at e
    rw [← e]
    rw [Ideal.log_coe, if_neg (by norm_num), Real.log_one, EReal.coe_zero]
  · rfl

include hn hL hlam hmu in
/-- A result of the row: the reference's expression of it. -/
theorem out_row {v q : ℕ} (hv : v < 25) (hq : q < 1280) : outW XW WT MB PW W g v q =
    if (0 : EReal) ≤ (ℓ (1280 * v + q) : EReal) - (mu : EReal) - (lam : EReal) then
      (ℓ (1280 * v + q) : EReal) - ((mu : EReal) + Ideal.log (∑ q : Fin n, if (0 : EReal) ≤ (ℓ q.val : EReal) - (mu : EReal) - (lam : EReal) then Ideal.exp ((ℓ q.val : EReal) - (mu : EReal)) else 0))
    else 0 := by
  unfold outW
  rw [lseW_row XW WT MB PW n hn hL hlam hmu, tauW_row XW WT MB PW hL hlam hmu, hL v q hv hq]
  by_cases c : mu + lam ≤ ℓ (1280 * v + q)
  · rw [if_pos ((keep_iff _ _ _).2 c), if_pos (EReal.coe_le_coe_iff.2 c)]
  · rw [if_neg (fun h => c ((keep_iff _ _ _).1 h)), if_neg (fun h => c (EReal.coe_le_coe_iff.1 h))]

include hn hL hlam hmu in
/-- The row's threshold. -/
theorem st0_row : stW XW WT MB PW W g 0 = (mu : EReal) - ((mu : EReal) + Ideal.log (∑ q : Fin n, Ideal.exp ((ℓ q.val : EReal) - (mu : EReal)))) + (lam : EReal) := by
  unfold stW
  rw [if_pos rfl, hlam, tot_row XW WT MB PW n hn hL hlam hmu, topW_row XW WT MB PW hL hlam hmu, ref_tot n (fun q => ℓ q.val) mu]
  have e := rel_sum n (fun q => ℓ q.val) mu lam (fun _ => True)
  simp only [if_true] at e
  rw [e]
  have pos : 0 < ∑ q : Fin n, Real.exp (ℓ q.val - mu) :=
    Finset.sum_pos (fun q _ => Real.exp_pos _) ⟨⟨0, by omega⟩, Finset.mem_univ _⟩
  generalize (∑ q : Fin n, Real.exp (ℓ q.val - mu)) = S at pos
  show (lam : EReal) - Ideal.log (S : EReal) = _
  rw [Ideal.log_coe, if_neg (not_le.2 pos), ← EReal.coe_add, ← EReal.coe_sub, ← EReal.coe_sub, ← EReal.coe_add]
  congr 1; ring

include hn hL hlam hmu in
/-- The row's distance from its threshold. -/
theorem st_row {l : ℕ} (h : l ≠ 0) : stW XW WT MB PW W g l =
    Finset.univ.fold min (Ideal.ofBits .f32 0x7F800000#32) fun q : Fin n => FloatOps.absf (F := Ideal) (φ := .f32) ((ℓ q.val : EReal) - (mu : EReal) - (lam : EReal)) := by
  unfold stW
  rw [if_neg h]
  refine eq_of_forall_le_iff fun y => ?_
  unfold min128
  rw [Finset.le_fold_min, Finset.le_fold_min]
  have key := forall_cols (fun q => y ≤ FloatOps.absf (F := Ideal) (φ := .f32) ((ℓ q : EReal) - (mu : EReal) - (lam : EReal))) W
  have de : ∀ q, (ℓ q : EReal) - (mu : EReal) - (lam : EReal) = ((ℓ q - (mu + lam) : ℝ) : EReal) := fun q => by
    rw [← EReal.coe_sub, ← EReal.coe_sub]; congr 1; ring
  refine and_congr_right fun _ => Iff.trans ?_ (key.trans ?_)
  · constructor
    · intro h l hl k hk t ht
      have := (le_acc2 XW WT MB PW W g l 25 y).1 (h ⟨l, hl⟩ (Finset.mem_univ _)) k hk t ht
      rw [de]
      rwa [dW_row XW WT MB PW hL hlam hmu (by omega) ht hl] at this
    · intro h l _
      refine (le_acc2 XW WT MB PW W g l.val 25 y).2 fun k hk t ht => ?_
      have := h l.val l.isLt k hk t ht
      rw [de] at this
      rwa [dW_row XW WT MB PW hL hlam hmu (by omega) ht l.isLt]
  · exact ⟨fun h q _ => h q.val (by have := q.isLt; omega), fun h q hq => h ⟨q, by omega⟩ (Finset.mem_univ _)⟩

end Row

end Cert.KernelIdeal.Hand

end
-- ==== Proof.Top.lean ====
module

public import proofs.«01_k».proof.Proof.Alg

@[expose] public section

noncomputable section

namespace Cert.KernelIdeal.Hand

open Cert.KernelIdeal Cert.KernelIdeal.Gen
open Idealize.ShloMosaic Idealize.ShloMosaic.Tactic

/-! ## A row whose smallest kept probability is infinite: nothing is kept -/

variable (XW WT : ℕ → ℕ → ℕ → EReal) (MB : ℕ → ℕ → ℕ → ℕ → BitVec 32) (PW : ℕ → ℕ → ℕ → BitVec 32)

theorem exp2_bot : FloatOps.exp2 (F := Ideal) (φ := .f32) ((⊥ : EReal) * (Named.named (F := Ideal) (φ := .f32) κ "log2e" 1069066811#32 : EReal)) = (0 : EReal) := by
  rw [log2e_val, EReal.bot_mul_coe_of_pos (inv_pos.2 (Real.log_pos (by norm_num)))]
  rfl

theorem sub_top (a : ℝ) : (a : EReal) - ⊤ = ⊥ := by
  rw [sub_eq_add_neg, EReal.neg_top, EReal.add_bot]

theorem below (a mu : ℝ) : (a : EReal) - (mu : EReal) - ⊤ = ⊥ := by
  rw [← EReal.coe_sub, sub_top]

section
variable {W g : ℕ} {ℓ : ℕ → ℝ} (n : ℕ) (hn : n = 32000)
  (hL : ∀ v q, v < 25 → q < 1280 → lW XW WT MB PW W g v q = (ℓ (1280 * v + q) : EReal))
  (hlam : lmpW PW W g = ⊤)
  {mu : ℝ} (hmu : (∀ q, q < 32000 → ℓ q ≤ mu) ∧ ∃ q, q < 32000 ∧ ℓ q = mu)

include hL hlam hmu in
theorem tauW_top : tauW XW WT MB PW W g = ⊤ := by
  unfold tauW; rw [mxW_row XW WT MB PW hL hmu, hlam, EReal.coe_add_top]

include hL hlam hmu in
theorem dW_top {v h l : ℕ} (hv : v < 25) (hh : h < 10) (hl : l < 128) : dW XW WT MB PW W g v h l = ⊥ := by
  unfold dW; rw [tauW_top XW WT MB PW hL hlam hmu, hL v _ hv (by omega), sub_top]

include hL hlam hmu in
theorem topW_top : topW XW WT MB PW W g = 0 := by
  unfold topW
  rw [tauW_top XW WT MB PW hL hlam hmu, mxW_row XW WT MB PW hL hmu, sub_top, exp2_bot]

include hL hlam hmu in
theorem tot_top : sum128 (fun l => accS XW WT MB PW W g 0 l 25) = 0 := by
  unfold sum128
  refine Finset.sum_eq_zero fun l _ => ?_
  dsimp only
  rw [acc0_sum]
  refine Finset.sum_eq_zero fun k hk => Finset.sum_eq_zero fun h hh => ?_
  rw [dW_top XW WT MB PW hL hlam hmu (by omega) (Finset.mem_range.1 hh) l.isLt, exp2_bot]

include hL hlam hmu in
/-- A result of the row: the reference's expression of it. -/
theorem out_top (B : EReal) {v q : ℕ} (hv : v < 25) (hq : q < 1280) : outW XW WT MB PW W g v q =
    if (0 : EReal) ≤ (ℓ (1280 * v + q) : EReal) - (mu : EReal) - ⊤ then (ℓ (1280 * v + q) : EReal) - B else 0 := by
  unfold outW
  rw [tauW_top XW WT MB PW hL hlam hmu, hL v q hv hq, below, if_neg (not_le.2 (EReal.coe_lt_top _)), if_neg (not_le.2 EReal.bot_lt_zero)]

include hn hL hlam hmu in
/-- The row's threshold. -/
theorem st0_top : stW XW WT MB PW W g 0 = (mu : EReal) - ((mu : EReal) + Ideal.log (∑ q : Fin n, Ideal.exp ((ℓ q.val : EReal) - (mu : EReal)))) + ⊤ := by
  unfold stW
  rw [if_pos rfl, hlam, tot_top XW WT MB PW hL hlam hmu, topW_top XW WT MB PW hL hlam hmu, ref_tot n (fun q => ℓ q.val) mu]
  have pos : 0 < ∑ q : Fin n, Real.exp (ℓ q.val - mu) :=
    Finset.sum_pos (fun q _ => Real.exp_pos _) ⟨⟨0, by omega⟩, Finset.mem_univ _⟩
  generalize (∑ q : Fin n, Real.exp (ℓ q.val - mu)) = S at pos
  have d : Ideal.div (0 : EReal) 0 = ⊥ := by unfold Ideal.div; rw [if_pos rfl, if_neg (lt_irrefl _)]
  rw [d]
  show (⊤ : EReal) - (⊥ : EReal) = _
  rw [Ideal.log_coe, if_neg (not_le.2 pos), ← EReal.coe_add, ← EReal.coe_sub, EReal.coe_add_top, sub_eq_add_neg, EReal.neg_bot, EReal.top_add_top]

include hL hlam hmu in
/-- The row's distance from its threshold. -/
theorem st_top (hn : n = 32000) {l : ℕ} (h : l ≠ 0) : stW XW WT MB PW W g l =
    Finset.univ.fold min (Ideal.ofBits .f32 0x7F800000#32) fun q : Fin n => FloatOps.absf (F := Ideal) (φ := .f32) ((ℓ q.val : EReal) - (mu : EReal) - ⊤) := by
  unfold stW
  rw [if_neg h]
  refine eq_of_forall_le_iff fun y => ?_
  unfold min128
  rw [Finset.le_fold_min, Finset.le_fold_min]
  have key := forall_cols (fun q => y ≤ FloatOps.absf (F := Ideal) (φ := .f32) ((ℓ q : EReal) - (mu : EReal) - ⊤)) W
  refine and_congr_right fun _ => Iff.trans ?_ (key.trans ?_)
  · constructor
    · intro h l hl k hk t ht
      have := (le_acc2 XW WT MB PW W g l 25 y).1 (h ⟨l, hl⟩ (Finset.mem_univ _)) k hk t ht
      rw [below]
      rwa [dW_top XW WT MB PW hL hlam hmu (by omega) ht hl] at this
    · intro h l _
      refine (le_acc2 XW WT MB PW W g l.val 25 y).2 fun k hk t ht => ?_
      have := h l.val l.isLt k hk t ht
      rw [below] at this
      rwa [dW_top XW WT MB PW hL hlam hmu (by omega) ht l.isLt]
  · exact ⟨fun h q _ => h q.val (by have := q.isLt; omega), fun h q hq => h ⟨q, by omega⟩ (Finset.mem_univ _)⟩

end

end Cert.KernelIdeal.Hand

end
-- ==== Proof.RefZ.lean ====
module

public import proofs.«01_k».proof.Proof.Gen.ReferenceIdeal.Run
public import Idealize.ShloMosaic.Lib.Tactic
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-! ## The reference's arrays, one definition per line of its text -/

variable (a0 : FVec Ideal S32000x1024 .bf16) (a1 : FVec Ideal S9216x1024 .bf16) (a2 : IVec S9x9216x128 32) (a3 : IVec S9216x128 32)

/-- The logits before the penalty. -/
def vZ : FVec Ideal S9216x32000 .f32 :=
  subf (Host.dotGeneral dot_S9216x512_S32000x512_S9216x32000_1_1_0_0_n_n none (extractStridedSlice S9216x512 ![0, 0] a1 slices_S9216x1024_S9216x512_0_0) (extractStridedSlice S32000x512 ![0, 0] a0 slices_S32000x1024_S32000x512_0_0)) (Host.dotGeneral dot_S9216x512_S32000x512_S9216x32000_1_1_0_0_n_n none (extractStridedSlice S9216x512 ![0, 512] a1 slices_S9216x1024_S9216x512_0_512) (extractStridedSlice S32000x512 ![0, 512] a0 slices_S32000x1024_S32000x512_0_512))

/-- The penalty on every logit. -/
def vPen : FVec Ideal S9216x32000 .f32 :=
  select (cmpf .ogt (vZ a0 a1) (broadcastInDim S9216x32000 ![] bcast_S_S9216x32000 (constant S_ .f32 0x00000000#32))) (Host.divf (vZ a0 a1) (broadcastInDim S9216x32000 ![] bcast_S_S9216x32000 (constant S_ .f32 0x3FA66666#32))) (mulf (vZ a0 a1) (broadcastInDim S9216x32000 ![] bcast_S_S9216x32000 (constant S_ .f32 0x3FA66666#32)))

/-- Which tokens a row has seen. -/
def vSeen : IVec S9216x32000 1 :=
  extractStridedSlice S9216x32000 ![0, 0] (shapeCast S9216x34560 (cmpi .ne (andi (Host.shrsi (broadcastInDim S9216x9x30x128 ![0, 1, 2, 3] bcast_S9216x9x1x128_S9216x9x30x128_0_1_2_3 (broadcastInDim S9216x9x1x128 ![0, 1, 3] bcast_S9216x9x128_S9216x9x1x128_0_1_3 (transpose S9216x9x128 [1, 0, 2] a2 transposes_S9x9216x128_S9216x9x128_1_0_2))) (broadcastInDim S9216x9x30x128 ![0, 1, 2, 3] bcast_S1x1x30x1_S9216x9x30x128_0_1_2_3 (broadcastInDim S1x1x30x1 ![2] bcast_S30_S1x1x30x1_2 (iotaInDim S30 32 0)))) (broadcastInDim S9216x9x30x128 ![] bcast_S_S9216x9x30x128 (constantI S_ 32 1#32))) (broadcastInDim S9216x9x30x128 ![] bcast_S_S9216x9x30x128 (constantI S_ 32 0#32))) shapeCasts_S9216x9x30x128_S9216x34560) slices_S9216x34560_S9216x32000_0_0

/-- The tokens asked for, padded to the lanes. -/
def vZs : FVec Ideal S9216x128 .f32 :=
  pad S9216x128 ![0, 0] ![0, 88] ![0, 0] (Host.gather gather_S9216x32000_S9216x40x1_S9216x40_n_1_0_0_1_2_11 (vPen a0 a1) (shapeCast S9216x40x1 (select (cmpi .slt (extractStridedSlice S9216x40 ![0, 0] a3 slices_S9216x128_S9216x40_0_0) (broadcastInDim S9216x40 ![] bcast_S_S9216x40 (constantI S_ 32 0#32))) (addi (extractStridedSlice S9216x40 ![0, 0] a3 slices_S9216x128_S9216x40_0_0) (broadcastInDim S9216x40 ![] bcast_S_S9216x40 (constantI S_ 32 32000#32))) (extractStridedSlice S9216x40 ![0, 0] a3 slices_S9216x128_S9216x40_0_0)) shapeCasts_S9216x40_S9216x40x1)) (sitofp .f32 (constantI S_ 32 0#32)) pads_S9216x40_S9216x128_000_0880 h_S_

/-- The logits over the temperature. -/
def vL : FVec Ideal S9216x32000 .f32 :=
  Host.divf (select (vSeen a2) (vPen a0 a1) (vZ a0 a1)) (broadcastInDim S9216x32000 ![0, 1] bcast_S9216x1_S9216x32000_0_1 (broadcastInDim S9216x1 ![0] bcast_S9216_S9216x1_0 (bitcastToFloat .f32 (shapeCast S9216 (extractStridedSlice S9216x1 ![0, 126] a3 slices_S9216x128_S9216x1_0_126) shapeCasts_S9216x1_S9216))))

/-- The logarithm of the smallest kept probability. -/
def vLmp : FVec Ideal S9216x1 .f32 :=
  broadcastInDim S9216x1 ![0] bcast_S9216_S9216x1_0 (Host.log (bitcastToFloat .f32 (shapeCast S9216 (extractStridedSlice S9216x1 ![0, 127] a3 slices_S9216x128_S9216x1_0_127) shapeCasts_S9216x1_S9216)))

variable (L : FVec Ideal S9216x32000 .f32) (p : FVec Ideal S9216x1 .f32)

def vMx : FVec Ideal S9216x1 .f32 :=
  broadcastInDim S9216x1 ![0] bcast_S9216_S9216x1_0 (Host.reduce FloatOps.maximumf L (constant S_ .f32 0xFF800000#32) reducesTo_S9216x32000_S9216_d1 h_S_)
def vEx : FVec Ideal S9216x32000 .f32 := Host.exp (subf L (broadcastInDim S9216x32000 ![0, 1] bcast_S9216x1_S9216x32000_0_1 (vMx L)))
/-- The row maximum plus the logarithm of a row's sum. -/
def vLse (E : FVec Ideal S9216x32000 .f32) : FVec Ideal S9216x1 .f32 :=
  addf (vMx L) (Host.log (broadcastInDim S9216x1 ![0] bcast_S9216_S9216x1_0 (Host.reduceAdd E (constant S_ .f32 0x00000000#32) reducesTo_S9216x32000_S9216_d1 h_S_)))
def vThr : FVec Ideal S9216x1 .f32 := addf (subf (vMx L) (vLse L (vEx L))) p
def vD : FVec Ideal S9216x32000 .f32 :=
  subf (subf L (broadcastInDim S9216x32000 ![0, 1] bcast_S9216x1_S9216x32000_0_1 (vMx L))) (broadcastInDim S9216x32000 ![0, 1] bcast_S9216x1_S9216x32000_0_1 p)
def vKeep : IVec S9216x32000 1 := cmpf .oge (vD L p) (broadcastInDim S9216x32000 ![] bcast_S_S9216x32000 (constant S_ .f32 0x00000000#32))
def vOut : FVec Ideal S9216x32000 .bf16 :=
  truncf .bf16 (select (vKeep L p) (subf L (broadcastInDim S9216x32000 ![0, 1] bcast_S9216x1_S9216x32000_0_1 (vLse L (select (vKeep L p) (vEx L) (broadcastInDim S9216x32000 ![] bcast_S_S9216x32000 (constant S_ .f32 0x00000000#32)))))) (broadcastInDim S9216x32000 ![] bcast_S_S9216x32000 (constant S_ .f32 0x00000000#32))) bitsLt_bf16_f32
def vSt : FVec Ideal S9216x128 .f32 :=
  select (cmpi .eq (iotaInDim S9216x128 32 1) (broadcastInDim S9216x128 ![] bcast_S_S9216x128 (constantI S_ 32 0#32))) (broadcastInDim S9216x128 ![0, 1] bcast_S9216x1_S9216x128_0_1 (vThr L p)) (broadcastInDim S9216x128 ![0, 1] bcast_S9216x1_S9216x128_0_1 (broadcastInDim S9216x1 ![0] bcast_S9216_S9216x1_0 (Host.reduce FloatOps.minimumf (Host.absf (vD L p)) (constant S_ .f32 0x7F800000#32) reducesTo_S9216x32000_S9216_d1 h_S_)))

/-! ## The run's results are these arrays -/

variable (m : (ℓ : Loc nD τ sig) → Buf (Elt Ideal) ℓ) (c : Dev nD)

/-- The arguments a device starts from. -/
abbrev b0 : FVec Ideal S32000x1024 .bf16 := m ((c.tc : Thread nD τ).loc main_arg0)
abbrev b1 : FVec Ideal S9216x1024 .bf16 := m ((c.tc : Thread nD τ).loc main_arg1)
abbrev b2 : IVec S9x9216x128 32 := m ((c.tc : Thread nD τ).loc main_arg2)
abbrev b3 : IVec S9216x128 32 := m ((c.tc : Thread nD τ).loc main_arg3)

set_option maxRecDepth 8192 in
set_option maxHeartbeats 4000000 in
theorem run_arrays (ρ : Dev nD → PrngReg) :
    θ_run defs (onTc (τ := τ) (main (F := Ideal))) ⟨m, fun _ => 0, ρ⟩ fun r => ∀ c : Dev nD,
      r.2.mem ((c.tc : Thread nD τ).loc main_v66) = vOut (vL (b0 m c) (b1 m c) (b2 m c) (b3 m c)) (vLmp (b3 m c))
      ∧ r.2.mem ((c.tc : Thread nD τ).loc main_v74) = vZs (b0 m c) (b1 m c) (b3 m c)
      ∧ r.2.mem ((c.tc : Thread nD τ).loc main_v73) = vSt (vL (b0 m c) (b1 m c) (b2 m c) (b3 m c)) (vLmp (b3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (Value.run m ρ)

end Cert.ReferenceIdeal.Hand

end
-- ==== Proof.RefP.lean ====
module

public import proofs.«01_k».proof.Proof.RefZ
public import Idealize.ShloMosaic.Lib.ValueIdx

@[expose] public section

noncomputable section

namespace Cert.ReferenceIdeal.Hand

open Cert.ReferenceIdeal Cert.ReferenceIdeal.Gen
open Idealize.ShloMosaic Idealize.ShloMosaic.TcCoe Idealize.ShloMosaic.Tactic

variable (a0 : FVec Ideal S32000x1024 .bf16) (a1 : FVec Ideal S9216x1024 .bf16) (a2 : IVec S9x9216x128 32) (a3 : IVec S9216x128 32)

/-- The first logits: the product over the first half of the features minus the product over the second. -/
theorem vZ_at (r : Fin 9216) (q : Fin 32000) : vZ a0 a1 (ix2 r q) =
    (∑ k : Fin 512, a1 (ix2 r ⟨k.val, by omega⟩) * a0 (ix2 q ⟨k.val, by omega⟩)) - ∑ k : Fin 512, a1 (ix2 r ⟨512 + k.val, by omega⟩) * a0 (ix2 q ⟨512 + k.val, by omega⟩) := by
  unfold vZ
  pointwise

theorem vPen_at (j : S9216x32000.Idx) : vPen a0 a1 j = if 0 < vZ a0 a1 j then Ideal.div (vZ a0 a1 j) (Ideal.ofBits .f32 0x3FA66666#32) else vZ a0 a1 j * Ideal.ofBits .f32 0x3FA66666#32 := by
  unfold vPen
  generalize vZ a0 a1 = z
  pointwise

theorem vSeen_at (r : Fin 9216) (q : Fin 32000) : vSeen a2 (ix2 r q) =
    IntOp.cmpi .ne (IntOp.andi (IntOp.shrsi .host (a2 (ix3 (⟨q.val / 3840, by omega⟩ : Fin 9) r (⟨q.val % 128, by omega⟩ : Fin 128))) (BitVec.ofNat 32 (q.val / 128 % 30))) 1#32) 0#32 := by
  unfold vSeen
  pointwise

theorem vL_at (r : Fin 9216) (q : Fin 32000) : vL a0 a1 a2 a3 (ix2 r q) =
    Ideal.div (Scalar.select (vSeen a2 (ix2 r q)) (vPen a0 a1 (ix2 r q)) (vZ a0 a1 (ix2 r q))) (Ideal.ofBits .f32 (a3 (ix2 r (126 : Fin 128)))) := by
  unfold vL
  generalize vZ a0 a1 = z
  generalize vPen a0 a1 = zp
  generalize vSeen a2 = s
  pointwise

theorem vLmp_at (r : Fin 9216) (u : Fin 1) : vLmp a3 (ix2 r u) = Ideal.log (Ideal.ofBits .f32 (a3 (ix2 r (127 : Fin 128)))) := by
  unfold vLmp
  pointwise

variable (L : FVec Ideal S9216x32000 .f32) (p : FVec Ideal S9216x1 .f32)

theorem vMx_at (r : Fin 9216) (u : Fin 1) : vMx L (ix2 r u) = Finset.univ.fold max (Ideal.ofBits .f32 0xFF800000#32) fun q : Fin 32000 => L (ix2 r q) := by
  unfold vMx
  pointwise

/-- A row's sum. -/
theorem vSum_at (E : FVec Ideal S9216x32000 .f32) (r : Fin 9216) :
    Host.reduceAdd E (constant S_ .f32 0x00000000#32) reducesTo_S9216x32000_S9216_d1 h_S_ (ix1 r) = ∑ q : Fin 32000, E (ix2 r q) := by
  have h : S9216x32000.Reduces [1] S9216 := by decide
  refine (Ideal.hostReduceAdd_single reducesTo_S9216x32000_S9216_d1 h E (Ideal.ofBits .f32 0x00000000#32) (ix1 r)).trans ?_
  rw [Ideal.ofBits_zero_f32, zero_add]
  refine Finset.sum_congr rfl fun k _ => congrArg E ?_
  funext a
  refine Fin.ext ?_
  match a with
  | ⟨0, _⟩ => rfl
  | ⟨1, _⟩ => rfl

/-- A row's maximum plus the logarithm of its sum, the sums being any array. -/
def vLseOf (mx : FVec Ideal S9216x1 .f32) (S : FVec Ideal S9216 .f32) : FVec Ideal S9216x1 .f32 :=
  addf mx (Host.log (broadcastInDim S9216x1 ![0] bcast_S9216_S9216x1_0 S))

theorem vLseOf_at (mx : FVec Ideal S9216x1 .f32) (S : FVec Ideal S9216 .f32) (r : Fin 9216) (u : Fin 1) :
    vLseOf mx S (ix2 r u) = mx (ix2 r u) + Ideal.log (S (ix1 r)) := by
  unfold vLseOf
  pointwise

theorem vLse_at (E : FVec Ideal S9216x32000 .f32) (r : Fin 9216) (u : Fin 1) : vLse L E (ix2 r u) = vMx L (ix2 r u) + Ideal.log (∑ q : Fin 32000, E (ix2 r q)) :=
  (vLseOf_at (vMx L) (Host.reduceAdd E (constant S_ .f32 0x00000000#32) reducesTo_S9216x32000_S9216_d1 h_S_) r u).trans
    (congrArg (fun s => vMx L (ix2 r u) + Ideal.log s) (vSum_at E r))

theorem vD_at (r : Fin 9216) (q : Fin 32000) : vD L p (ix2 r q) = L (ix2 r q) - vMx L (ix2 r 0) - p (ix2 r 0) := by
  unfold vD
  generalize vMx L = mx
  pointwise

theorem vEx_at (r : Fin 9216) (q : Fin 32000) : vEx L (ix2 r q) = Ideal.exp (L (ix2 r q) - vMx L (ix2 r 0)) := by
  unfold vEx
  generalize vMx L = mx
  pointwise

theorem vKept_at (r : Fin 9216) (q : Fin 32000) :
    select (vKeep L p) (vEx L) (broadcastInDim S9216x32000 ![] bcast_S_S9216x32000 (constant S_ .f32 0x00000000#32)) (ix2 r q) =
      if 0 ≤ vD L p (ix2 r q) then vEx L (ix2 r q) else 0 := by
  unfold vKeep
  generalize vD L p = d
  generalize vEx L = e
  pointwise

/-- The kept terms of a row. -/
def vKept : FVec Ideal S9216x32000 .f32 := select (vKeep L p) (vEx L) (broadcastInDim S9216x32000 ![] bcast_S_S9216x32000 (constant S_ .f32 0x00000000#32))

/-- The results, the normaliser being any array. -/
def vOutOf (w : FVec Ideal S9216x1 .f32) : FVec Ideal S9216x32000 .bf16 :=
  truncf .bf16 (select (vKeep L p) (subf L (broadcastInDim S9216x32000 ![0, 1] bcast_S9216x1_S9216x32000_0_1 w)) (broadcastInDim S9216x32000 ![] bcast_S_S9216x32000 (constant S_ .f32 0x00000000#32))) bitsLt_bf16_f32

theorem vOutOf_at (w : FVec Ideal S9216x1 .f32) (r : Fin 9216) (q : Fin 32000) : vOutOf L p w (ix2 r q) =
    if 0 ≤ vD L p (ix2 r q) then L (ix2 r q) - w (ix2 r 0) else 0 := by
  unfold vOutOf vKeep
  generalize vD L p = d
  pointwise

theorem vOut_at (r : Fin 9216) (q : Fin 32000) : vOut L p (ix2 r q) =
    if 0 ≤ vD L p (ix2 r q) then L (ix2 r q) - vLse L (vKept L p) (ix2 r 0) else 0 :=
  vOutOf_at L p (vLse L (vKept L p)) r q

def vThrOf (mx w : FVec Ideal S9216x1 .f32) : FVec Ideal S9216x1 .f32 := addf (subf mx w) p

theorem vThrOf_at (mx w : FVec Ideal S9216x1 .f32) (r : Fin 9216) (u : Fin 1) : vThrOf p mx w (ix2 r u) = mx (ix2 r u) - w (ix2 r u) + p (ix2 r u) := by
  unfold vThrOf
  pointwise

theorem vThr_at (r : Fin 9216) (u : Fin 1) : vThr L p (ix2 r u) = vMx L (ix2 r u) - vLse L (vEx L) (ix2 r u) + p (ix2 r u) :=
  vThrOf_at p (vMx L) (vLse L (vEx L)) r u

theorem vSt_at (r : Fin 9216) (l : Fin 128) : vSt L p (ix2 r l) =
    Scalar.select (IntOp.cmpi .eq (BitVec.ofNat 32 l.val) 0#32) (vThr L p (ix2 r 0))
      (Finset.univ.fold min (Ideal.ofBits .f32 0x7F800000#32) fun q : Fin 32000 => FloatOps.absf (F := Ideal) (φ := .f32) (vD L p (ix2 r q))) := by
  unfold vSt
  generalize vThr L p = w
  generalize vD L p = d
  pointwise

/-- An index in range is read as it stands: not negative, and inside the row. -/
theorem word_in {w : BitVec 32} (v : Fin 32000) (hv : w = BitVec.ofNat 32 v.val) :
    min (Scalar.select (IntOp.cmpi .slt w 0#32) (IntOp.addi w 32000#32) w).toInt.toNat 31999 = v.val := by
  have h0 : IntOp.cmpi .slt w 0#32 = 0#1 := by
    subst hv
    have : (BitVec.ofNat 32 v.val).toInt = v.val := by
      rw [BitVec.toInt_eq_toNat_of_lt (by simp only [BitVec.toNat_ofNat]; omega), BitVec.toNat_ofNat]; omega
    have h : ¬ ((v.val : ℤ) < 0) := by omega
    simp only [IntOp.cmpi, BitVec.slt, this]
    simp [h]
  rw [h0]
  subst hv
  have : (BitVec.ofNat 32 v.val).toInt = v.val := by
    rw [BitVec.toInt_eq_toNat_of_lt (by simp only [BitVec.toNat_ofNat]; omega), BitVec.toNat_ofNat]; omega
  simp [Scalar.select, this]
  omega

theorem gather_at (z : FVec Ideal S9216x32000 .f32) (idx : IVec S9216x40x1 32) (r : Fin 9216) (l : Fin 40) (v : Fin 32000)
    (hv : min (idx (ix3 r l (0 : Fin 1))).toInt.toNat 31999 = v.val) :
    Host.gather gather_S9216x32000_S9216x40x1_S9216x40_n_1_0_0_1_2_11 z idx (ix2 r l) = z (ix2 r v) := by
  unfold Host.gather
  congr 1
  funext a
  refine Fin.ext ?_
  show gather_S9216x32000_S9216x40x1_S9216x40_n_1_0_0_1_2_11.start (ix2 r l) idx a + gather_S9216x32000_S9216x40x1_S9216x40_n_1_0_0_1_2_11.batchCoord (ix2 r l) a + gather_S9216x32000_S9216x40x1_S9216x40_n_1_0_0_1_2_11.offCoord (ix2 r l) a = _
  match a with
  | ⟨0, _⟩ =>
    rw [GatherDims.start_batching _ _ _ _ (List.mem_singleton.mpr rfl), GatherDims.offCoord_eq_zero _ _ _ (fun h => ((GatherDims.mem_sKept _ _).mp h).2 (List.mem_singleton.mpr rfl))]
    simp only [Nat.add_zero, Nat.zero_add]
    rfl
  | ⟨1, h1⟩ =>
    rw [GatherDims.batchCoord_eq_zero _ _ _ (fun h => absurd (List.mem_singleton.mp h) (by simp)), GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ gather_S9216x32000_S9216x40x1_S9216x40_n_1_0_0_1_2_11.startIndexMap from List.mem_singleton.mpr rfl)]
    have hsi : gather_S9216x32000_S9216x40x1_S9216x40_n_1_0_0_1_2_11.siIdx (ix2 r l) ⟨List.idxOf (⟨1, h1⟩ : Fin 2) gather_S9216x32000_S9216x40x1_S9216x40_n_1_0_0_1_2_11.startIndexMap,
        List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    exact hv

/-- The padded array of tokens asked for, where a token stands. -/
theorem vZs_at (r : Fin 9216) (l : Fin 128) (hl : l.val < 40) (v : Fin 32000) (hv : a3 (ix2 r l) = BitVec.ofNat 32 v.val) :
    vZs a0 a1 a3 (ix2 r l) = vPen a0 a1 (ix2 r v) := by
  unfold vZs
  generalize vPen a0 a1 = z
  generalize hidx : (shapeCast S9216x40x1 (select (cmpi .slt (extractStridedSlice S9216x40 ![0, 0] a3 slices_S9216x128_S9216x40_0_0) (broadcastInDim S9216x40 ![] bcast_S_S9216x40 (constantI S_ 32 0#32))) (addi (extractStridedSlice S9216x40 ![0, 0] a3 slices_S9216x128_S9216x40_0_0) (broadcastInDim S9216x40 ![] bcast_S_S9216x40 (constantI S_ 32 32000#32))) (extractStridedSlice S9216x40 ![0, 0] a3 slices_S9216x128_S9216x40_0_0)) shapeCasts_S9216x40_S9216x40x1) = idx
  have hi : idx (ix3 r (⟨l.val, hl⟩ : Fin 40) (0 : Fin 1)) = Scalar.select (IntOp.cmpi .slt (a3 (ix2 r l)) 0#32) (IntOp.addi (a3 (ix2 r l)) 32000#32) (a3 (ix2 r l)) := by
    subst hidx
    pointwise
  have hg := gather_at z idx r ⟨l.val, hl⟩ v (by rw [hi]; exact word_in v hv)
  revert hg
  generalize Host.gather gather_S9216x32000_S9216x40x1_S9216x40_n_1_0_0_1_2_11 z idx = G
  intro hg
  pointwise [hl, dif_pos]
  exact hg

end Cert.ReferenceIdeal.Hand

end
-- ==== Proof.Row.lean ====
module

public import proofs.«01_k».proof.Proof.Read
public import proofs.«01_k».proof.Proof.Top
public import proofs.«01_k».proof.Proof.RefP

@[expose] public section

noncomputable section

namespace Cert.Row

open Idealize.ShloMosaic Idealize.ShloMosaic.Tactic
open Cert.KernelIdeal.Hand
open Cert.ReferenceIdeal.Hand (vZ vPen vSeen vZs vL vLmp vMx vEx vLse vThr vD vKeep vOut vSt vKept vZ_at vPen_at vSeen_at vL_at vLmp_at vMx_at vLse_at vD_at vEx_at vKept_at vOut_at vThr_at vSt_at vZs_at)

abbrev S0 : Shape := ⟨2, ![32000, 1024]⟩
abbrev S1 : Shape := ⟨2, ![9216, 1024]⟩
abbrev S2 : Shape := ⟨3, ![9, 9216, 128]⟩
abbrev S3 : Shape := ⟨2, ![9216, 128]⟩

/-! ## Words -/

theorem two_pow_word {t : ℕ} (ht : t < 32) : BitVec.ofNat 32 (2 ^ t) = BitVec.twoPow 32 t := by
  apply BitVec.eq_of_toNat_eq
  rw [BitVec.toNat_twoPow, BitVec.toNat_ofNat]

theorem bit_ne (x : BitVec 32) (t : ℕ) (ht : t < 32) : IntOp.cmpi .ne (IntOp.andi x (BitVec.twoPow 32 t)) 0#32 = BitVec.ofBool (x.getLsbD t) := by
  show BitVec.ofBool (x &&& BitVec.twoPow 32 t != 0#32) = _
  rw [BitVec.and_twoPow]
  cases x.getLsbD t with
  | false => rfl
  | true =>
    have : BitVec.twoPow 32 t ≠ 0#32 := fun h => by
      have := congrArg BitVec.toNat h
      rw [BitVec.toNat_twoPow, Nat.mod_eq_of_lt (Nat.pow_lt_pow_right (by norm_num) ht)] at this
      exact absurd this (by simp)
    show BitVec.ofBool (BitVec.twoPow 32 t != 0#32) = 1#1
    rw [bne_iff_ne.2 this]; rfl

/-- The kernel's test of bit `s + t` of a mask word, two shifts deep, and the reference's. -/
theorem seen_word (x : BitVec 32) (s t : ℕ) (h : s + t < 32) :
    IntOp.cmpi .ne (IntOp.andi (IntOp.shrsi .vector x (BitVec.ofNat 32 s)) (BitVec.ofNat 32 (2 ^ t))) 0#32
      = IntOp.cmpi .ne (IntOp.andi (IntOp.shrsi .host x (BitVec.ofNat 32 (s + t))) 1#32) 0#32 := by
  rw [two_pow_word (by omega), show (1#32 : BitVec 32) = BitVec.twoPow 32 0 from by decide, bit_ne _ _ (by omega), bit_ne _ _ (by omega)]
  have n1 : (BitVec.ofNat 32 s).toNat = s := by rw [BitVec.toNat_ofNat]; omega
  have n2 : (BitVec.ofNat 32 (s + t)).toNat = s + t := by rw [BitVec.toNat_ofNat]; omega
  unfold IntOp.shrsi
  rw [if_pos (by omega), if_pos (by omega)]
  unfold BitVec.sshiftRight'
  rw [n1, n2, BitVec.getLsbD_sshiftRight, BitVec.getLsbD_sshiftRight, if_pos h, if_pos (by omega)]
  have a : ¬ 32 ≤ t := by omega
  simp [a]

theorem id_hi (n : ℕ) (h : n < 32000) : IntOp.shrsi .vector (BitVec.ofNat 32 n) 7#32 = BitVec.ofNat 32 (n / 128) := by
  unfold IntOp.shrsi
  rw [if_pos (by decide)]
  unfold BitVec.sshiftRight'
  have hm : (BitVec.ofNat 32 n).msb = false := by
    rw [BitVec.msb_eq_false_iff_two_mul_lt, BitVec.toNat_ofNat]; omega
  rw [BitVec.sshiftRight_eq_of_msb_false hm]
  apply BitVec.eq_of_toNat_eq
  rw [BitVec.toNat_ushiftRight, Nat.shiftRight_eq_div_pow, BitVec.toNat_ofNat, BitVec.toNat_ofNat]
  show n % 2 ^ 32 / 2 ^ 7 = n / 128 % 2 ^ 32
  omega

theorem id_lo (n : ℕ) (h : n < 32000) : (IntOp.andi (BitVec.ofNat 32 n) 127#32).toNat = n % 128 := by
  show (BitVec.ofNat 32 n &&& 127#32).toNat = _
  rw [BitVec.toNat_and, BitVec.toNat_ofNat, Nat.mod_eq_of_lt (by omega)]
  exact Nat.and_two_pow_sub_one_eq_mod n 7

theorem word_nat (w : BitVec 32) (h0 : 0 ≤ w.toInt) (h1 : w.toInt < 32000) : w.toNat < 32000 ∧ w = BitVec.ofNat 32 w.toNat := by
  refine ⟨?_, by simp⟩
  rw [BitVec.toInt_eq_toNat_cond] at h0 h1
  have := w.isLt
  split at h0 <;> omega

/-! ## The arguments at a row -/

section
variable {G0 G1 : ℕ → ℕ → EReal} {G2 : ℕ → ℕ → ℕ → BitVec 32} {G3 : ℕ → ℕ → BitVec 32}
  {a0 : FVec Ideal S0 .bf16} {a1 : FVec Ideal S1 .bf16} {a2 : IVec S2 32} {a3 : IVec S3 32}

theorem w_at (h0 : ∀ j : S0.Idx, a0 j = G0 (j 0).val (j 1).val) (v q d : ℕ) (hq : 1280 * v + q < 32000) (hd : d < 1024) :
    wt G0 v q d = a0 (ix2 (⟨1280 * v + q, hq⟩ : Fin 32000) (⟨d, hd⟩ : Fin 1024)) :=
  (h0 (ix2 (⟨1280 * v + q, hq⟩ : Fin 32000) (⟨d, hd⟩ : Fin 1024))).symm
theorem x_at (h1 : ∀ j : S1.Idx, a1 j = G1 (j 0).val (j 1).val) (r : Fin 9216) (d : ℕ) (hd : d < 1024) :
    xw G1 (r.val / 64) (r.val % 64) d = a1 (ix2 r (⟨d, hd⟩ : Fin 1024)) := by
  refine Eq.trans ?_ (h1 _).symm
  show G1 (64 * min (r.val / 64) 143 + r.val % 64) d = G1 r.val d
  congr 1; omega
theorem m_at (h2 : ∀ j : S2.Idx, a2 j = G2 (j 0).val (j 1).val (j 2).val) (r : Fin 9216) (v : Fin 9) (l : Fin 128) :
    mb G2 (r.val / 64) v.val (r.val % 64) l.val = a2 (ix3 v r l) := by
  refine Eq.trans ?_ (h2 _).symm
  show G2 v.val (64 * min (r.val / 64) 143 + r.val % 64) l.val = G2 v.val r.val l.val
  congr 1; omega
theorem p_at (h3 : ∀ j : S3.Idx, a3 j = G3 (j 0).val (j 1).val) (r : Fin 9216) (l : Fin 128) :
    pw G3 (r.val / 64) (r.val % 64) l.val = a3 (ix2 r l) := by
  refine Eq.trans ?_ (h3 _).symm
  show G3 (64 * min (r.val / 64) 143 + r.val % 64) l.val = G3 r.val l.val
  congr 1; omega

theorem z_at (h0 : ∀ j : S0.Idx, a0 j = G0 (j 0).val (j 1).val) (h1 : ∀ j : S1.Idx, a1 j = G1 (j 0).val (j 1).val)
    (r : Fin 9216) (v q : ℕ) (hq : 1280 * v + q < 32000) :
    zN (xw G1 (r.val / 64)) (wt G0 v) (r.val % 64) q = vZ a0 a1 (ix2 r (⟨1280 * v + q, hq⟩ : Fin 32000)) := by
  rw [vZ_at]
  unfold zN
  refine congrArg₂ (fun x y : EReal => x - y) (Finset.sum_congr rfl fun k _ => ?_) (Finset.sum_congr rfl fun k _ => ?_)
  · rw [x_at h1 r k.val (by omega), w_at h0 v q k.val hq (by omega)]
  · rw [x_at h1 r (512 + k.val) (by omega), w_at h0 v q (512 + k.val) hq (by omega)]

/-- The kernel's logits are the reference's. -/
theorem logit_at (h0 : ∀ j : S0.Idx, a0 j = G0 (j 0).val (j 1).val) (h1 : ∀ j : S1.Idx, a1 j = G1 (j 0).val (j 1).val)
    (h2 : ∀ j : S2.Idx, a2 j = G2 (j 0).val (j 1).val (j 2).val) (h3 : ∀ j : S3.Idx, a3 j = G3 (j 0).val (j 1).val)
    (r : Fin 9216) (v q : ℕ) (hv : v < 25) (hq : q < 1280) (hT : Ideal.ofBits .f32 (a3 (ix2 r (126 : Fin 128))) ≠ 0) :
    lW (xw G1) (wt G0) (mb G2) (pw G3) (r.val / 64) (r.val % 64) v q = vL a0 a1 a2 a3 (ix2 r (⟨1280 * v + q, by omega⟩ : Fin 32000)) := by
  have hz := z_at h0 h1 r v q (by omega)
  have ht := p_at h3 r (126 : Fin 128)
  have hs : IntOp.cmpi .ne (IntOp.andi (wdN (mb G2 (r.val / 64)) v (r.val % 64) (q % 128)) (BitVec.ofNat 32 (2 ^ (q / 128)))) 0#32
      = vSeen a2 (ix2 r (⟨1280 * v + q, by omega⟩ : Fin 32000)) := by
    rw [vSeen_at]
    unfold wdN
    have hm := m_at h2 r (⟨v / 3, by omega⟩ : Fin 9) (⟨q % 128, by omega⟩ : Fin 128)
    rw [seen_word _ _ _ (by omega)]
    have i1 : (1280 * v + q) / 3840 = v / 3 := by omega
    have i2 : (1280 * v + q) % 128 = q % 128 := by omega
    have i3 : (1280 * v + q) / 128 % 30 = 10 * (v % 3) + q / 128 := by omega
    simp only [i1, i2, i3]
    rw [← hm]
  rw [vL_at, ← hs, vPen_at]
  generalize hzz : vZ a0 a1 (ix2 r (⟨1280 * v + q, by omega⟩ : Fin 32000)) = z at hz
  unfold lW lN rtW
  rw [show 128 * (q / 128) + q % 128 = q by omega, hz]
  generalize IntOp.cmpi .ne (IntOp.andi (wdN (mb G2 (r.val / 64)) v (r.val % 64) (q % 128)) (BitVec.ofNat 32 (2 ^ (q / 128)))) 0#32 = s
  have ht' : pw G3 (r.val / 64) (r.val % 64) 126 = a3 (ix2 r (126 : Fin 128)) := ht
  dsimp only
  rw [ht']
  generalize Ideal.ofBits .f32 (a3 (ix2 r (126 : Fin 128))) = T at hT
  unfold Ideal.div
  rw [if_neg hT, if_neg hT, one_mul]
  refine congrArg (fun x : EReal => x * T⁻¹) ?_
  unfold Scalar.select
  split
  · split
    · rename_i hp
      refine (inv_ctrl_div z).trans ?_
      unfold Ideal.div
      rw [if_pos hp]
    · rw [ctrl_bits]
  · exact mul_one z

theorem lmp_at (h3 : ∀ j : S3.Idx, a3 j = G3 (j 0).val (j 1).val) (r : Fin 9216) (hy : 0 < Ideal.ofBits .f32 (a3 (ix2 r (127 : Fin 128)))) :
    ∃ lam : EReal, lmpW (pw G3) (r.val / 64) (r.val % 64) = lam ∧ vLmp a3 (ix2 r (0 : Fin 1)) = lam ∧ (lam = ⊤ ∨ ∃ y : ℝ, lam = (y : EReal)) := by
  refine ⟨Ideal.log (Ideal.ofBits .f32 (a3 (ix2 r (127 : Fin 128)))), ?_, vLmp_at a3 r 0, ?_⟩
  · unfold lmpW
    have : pw G3 (r.val / 64) (r.val % 64) 127 = a3 (ix2 r (127 : Fin 128)) := p_at h3 r (127 : Fin 128)
    rw [this]
    rfl
  · generalize Ideal.ofBits .f32 (a3 (ix2 r (127 : Fin 128))) = x at hy
    induction x using EReal.rec with
    | bot => exact absurd hy (not_lt.2 bot_le)
    | top => exact Or.inl rfl
    | coe y => exact Or.inr ⟨Real.log y, by rw [Ideal.log_coe, if_neg (not_le.2 (EReal.coe_pos.1 hy))]⟩

end

/-! ## On real arguments the logits are reals -/

section
variable {a0 : FVec Ideal S0 .bf16} {a1 : FVec Ideal S1 .bf16} (a2 : IVec S2 32) (a3 : IVec S3 32)

theorem real_sum {n : ℕ} {f : Fin n → EReal} (h : ∀ k, ∃ y : ℝ, f k = (y : EReal)) : ∃ y : ℝ, ∑ k, f k = (y : EReal) := by
  choose g hg using h
  exact ⟨∑ k, g k, by rw [coe_sum']; exact Finset.sum_congr rfl fun k _ => hg k⟩

theorem real_mul {x y : EReal} (hx : ∃ a : ℝ, x = (a : EReal)) (hy : ∃ a : ℝ, y = (a : EReal)) : ∃ a : ℝ, x * y = (a : EReal) := by
  obtain ⟨a, rfl⟩ := hx; obtain ⟨b, rfl⟩ := hy; exact ⟨a * b, (EReal.coe_mul _ _).symm⟩

theorem real_inv {x : EReal} : ∃ a : ℝ, x⁻¹ = (a : EReal) := by
  induction x using EReal.rec with
  | bot => exact ⟨0, by simp⟩
  | top => exact ⟨0, by simp⟩
  | coe y => exact ⟨y⁻¹, (EReal.coe_inv y).symm⟩

theorem real_z (h0 : ∀ i, ∃ y : ℝ, a0 i = (y : EReal)) (h1 : ∀ i, ∃ y : ℝ, a1 i = (y : EReal)) (r : Fin 9216) (q : Fin 32000) :
    ∃ y : ℝ, vZ a0 a1 (ix2 r q) = (y : EReal) := by
  rw [vZ_at]
  obtain ⟨x, hx⟩ := real_sum (f := fun k : Fin 512 => a1 (ix2 r (⟨k.val, by omega⟩ : Fin 1024)) * a0 (ix2 q (⟨k.val, by omega⟩ : Fin 1024))) fun k => real_mul (h1 _) (h0 _)
  obtain ⟨y, hy⟩ := real_sum (f := fun k : Fin 512 => a1 (ix2 r (⟨512 + k.val, by omega⟩ : Fin 1024)) * a0 (ix2 q (⟨512 + k.val, by omega⟩ : Fin 1024))) fun k => real_mul (h1 _) (h0 _)
  exact ⟨x - y, (congrArg₂ (fun x y : EReal => x - y) hx hy).trans (EReal.coe_sub _ _).symm⟩

theorem real_l (h0 : ∀ i, ∃ y : ℝ, a0 i = (y : EReal)) (h1 : ∀ i, ∃ y : ℝ, a1 i = (y : EReal)) (r : Fin 9216) (q : Fin 32000)
    (hT : Ideal.ofBits .f32 (a3 (ix2 r (126 : Fin 128))) ≠ 0) :
    ∃ y : ℝ, vL a0 a1 a2 a3 (ix2 r q) = (y : EReal) := by
  rw [vL_at, vPen_at]
  have hz := real_z h0 h1 r q
  generalize vZ a0 a1 (ix2 r q) = z at hz
  generalize Ideal.ofBits .f32 (a3 (ix2 r (126 : Fin 128))) = T at hT
  generalize vSeen a2 (ix2 r q) = s
  rw [Ideal.div, if_neg hT]
  refine real_mul ?_ real_inv
  unfold Scalar.select
  split
  · split
    · rw [bits13, Ideal.div_coe (by norm_num)]; exact real_mul hz ⟨_, rfl⟩
    · rw [bits13]; exact real_mul hz ⟨_, rfl⟩
  · exact hz
end

end Cert.Row

end
-- ==== Proof.Equal.lean ====
module

public import proofs.«01_k».proof.Proof.Row

@[expose] public section

noncomputable section

namespace Cert.Row

open Idealize.ShloMosaic Idealize.ShloMosaic.Tactic
open Cert.KernelIdeal.Hand
open Cert.ReferenceIdeal.Hand (vZ vPen vSeen vZs vL vLmp vMx vEx vLse vThr vD vKeep vOut vSt vKept vZ_at vPen_at vSeen_at vL_at vLmp_at vMx_at vLse_at vD_at vEx_at vKept_at vOut_at vThr_at vSt_at vZs_at)

/-! ## The reference's row, its logits real -/

section
variable (L : FVec Ideal (⟨2, ![9216, 32000]⟩ : Shape) .f32) (p : FVec Ideal (⟨2, ![9216, 1]⟩ : Shape) .f32) (r : Fin 9216) {ℓ : ℕ → ℝ} {mu : ℝ} {lam : EReal}
  (hL : ∀ q : Fin 32000, L (ix2 r q) = (ℓ q.val : EReal)) (hp : p (ix2 r (0 : Fin 1)) = lam)
  (hmu : (∀ q, q < 32000 → ℓ q ≤ mu) ∧ ∃ q, q < 32000 ∧ ℓ q = mu)

include hL hmu in
theorem mx_r : vMx L (ix2 r (0 : Fin 1)) = (mu : EReal) :=
  (vMx_at L r 0).trans ((congrArg (fun f => Finset.univ.fold max (Ideal.ofBits .f32 0xFF800000#32) f) (funext hL)).trans (mxR_row 32000 rfl hmu))

include hL hp hmu in
theorem d_r (q : Fin 32000) : vD L p (ix2 r q) = (ℓ q.val : EReal) - (mu : EReal) - lam := by
  rw [vD_at, hL, mx_r L r hL hmu, hp]

include hL hmu in
theorem ex_r (q : Fin 32000) : vEx L (ix2 r q) = Ideal.exp ((ℓ q.val : EReal) - (mu : EReal)) := by
  rw [vEx_at, hL, mx_r L r hL hmu]

include hL hp hmu in
theorem kept_r (q : Fin 32000) : vKept L p (ix2 r q) = if (0 : EReal) ≤ (ℓ q.val : EReal) - (mu : EReal) - lam then Ideal.exp ((ℓ q.val : EReal) - (mu : EReal)) else 0 := by
  refine (vKept_at L p r q).trans ?_
  rw [d_r L p r hL hp hmu, ex_r L r hL hmu]

include hL hp hmu in
theorem lse_r : vLse L (vKept L p) (ix2 r (0 : Fin 1)) = (mu : EReal) + Ideal.log (∑ q : Fin 32000, if (0 : EReal) ≤ (ℓ q.val : EReal) - (mu : EReal) - lam then Ideal.exp ((ℓ q.val : EReal) - (mu : EReal)) else 0) :=
  (vLse_at L (vKept L p) r 0).trans (congrArg₂ (fun x y : EReal => x + Ideal.log y) (mx_r L r hL hmu) (Finset.sum_congr rfl fun q _ => kept_r L p r hL hp hmu q))

include hL hmu in
theorem lseAll_r : vLse L (vEx L) (ix2 r (0 : Fin 1)) = (mu : EReal) + Ideal.log (∑ q : Fin 32000, Ideal.exp ((ℓ q.val : EReal) - (mu : EReal))) :=
  (vLse_at L (vEx L) r 0).trans (congrArg₂ (fun x y : EReal => x + Ideal.log y) (mx_r L r hL hmu) (Finset.sum_congr rfl fun q _ => ex_r L r hL hmu q))

include hL hp hmu in
theorem out_r (q : Fin 32000) {B : EReal} (hB : vLse L (vKept L p) (ix2 r (0 : Fin 1)) = B) :
    vOut L p (ix2 r q) = if (0 : EReal) ≤ (ℓ q.val : EReal) - (mu : EReal) - lam then (ℓ q.val : EReal) - B else 0 := by
  refine (vOut_at L p r q).trans ?_
  rw [d_r L p r hL hp hmu, hL, hB]

include hL hp hmu in
theorem thr_r {B : EReal} (hB : vLse L (vEx L) (ix2 r (0 : Fin 1)) = B) : vThr L p (ix2 r (0 : Fin 1)) = (mu : EReal) - B + lam := by
  refine (vThr_at L p r 0).trans ?_
  rw [mx_r L r hL hmu, hp, hB]

include hL hp hmu in
theorem mar_r : (Finset.univ.fold min (Ideal.ofBits .f32 0x7F800000#32) fun q : Fin 32000 => FloatOps.absf (F := Ideal) (φ := .f32) (vD L p (ix2 r q)))
    = Finset.univ.fold min (Ideal.ofBits .f32 0x7F800000#32) fun q : Fin 32000 => FloatOps.absf (F := Ideal) (φ := .f32) ((ℓ q.val : EReal) - (mu : EReal) - lam) :=
  congrArg (fun f : Fin 32000 → EReal => Finset.univ.fold min (Ideal.ofBits .f32 0x7F800000#32) f)
    (funext fun q => congrArg (FloatOps.absf (F := Ideal) (φ := .f32)) (d_r L p r hL hp hmu q))

theorem lane_zero (l : Fin 128) : IntOp.cmpi .eq (BitVec.ofNat 32 l.val) 0#32 = if l.val = 0 then 1#1 else 0#1 := by
  revert l; decide

theorem st_r {l : Fin 128} {A B : EReal} (hA : vThr L p (ix2 r (0 : Fin 1)) = A)
    (hB : (Finset.univ.fold min (Ideal.ofBits .f32 0x7F800000#32) fun q : Fin 32000 => FloatOps.absf (F := Ideal) (φ := .f32) (vD L p (ix2 r q))) = B) :
    vSt L p (ix2 r l) = if l.val = 0 then A else B := by
  refine (vSt_at L p r l).trans ?_
  rw [lane_zero, hA]
  unfold Scalar.select
  by_cases h : l.val = 0
  · rw [if_pos h, if_pos h]
    exact if_pos rfl
  · rw [if_neg h, if_neg h]
    exact (if_neg (by decide)).trans hB
end

/-! ## The three results -/

section
variable {G0 G1 : ℕ → ℕ → EReal} {G2 : ℕ → ℕ → ℕ → BitVec 32} {G3 : ℕ → ℕ → BitVec 32}
  {a0 : FVec Ideal S0 .bf16} {a1 : FVec Ideal S1 .bf16} {a2 : IVec S2 32} {a3 : IVec S3 32}
  (h0 : ∀ j : S0.Idx, a0 j = G0 (j 0).val (j 1).val) (h1 : ∀ j : S1.Idx, a1 j = G1 (j 0).val (j 1).val)
  (h2 : ∀ j : S2.Idx, a2 j = G2 (j 0).val (j 1).val (j 2).val) (h3 : ∀ j : S3.Idx, a3 j = G3 (j 0).val (j 1).val)

/-- What the precondition says of the arguments. -/
structure Ok (a0 : FVec Ideal S0 .bf16) (a1 : FVec Ideal S1 .bf16) (a3 : IVec S3 32) : Prop where
  r0 : ∀ i, ∃ y : ℝ, a0 i = (y : EReal)
  r1 : ∀ i, ∃ y : ℝ, a1 i = (y : EReal)
  ids : ∀ (r : Fin 9216) (l : Fin 40), 0 ≤ (a3 (ix2 r (⟨l.val, by omega⟩ : Fin 128))).toInt ∧ (a3 (ix2 r (⟨l.val, by omega⟩ : Fin 128))).toInt < 32000
  tmp : ∀ r : Fin 9216, Ideal.ofBits .f32 (a3 (ix2 r (126 : Fin 128))) ≠ 0
  mnp : ∀ r : Fin 9216, 0 < Ideal.ofBits .f32 (a3 (ix2 r (127 : Fin 128)))

variable (ok : Ok a0 a1 a3)

include h0 h1 h2 h3 ok in
/-- A row's logits as reals, with their maximum and the logarithm of its smallest kept probability, a real or infinite. -/
theorem row_reals (r : Fin 9216) : ∃ (ℓ : ℕ → ℝ) (mu : ℝ) (lam : EReal),
    (∀ q : Fin 32000, vL a0 a1 a2 a3 (ix2 r q) = (ℓ q.val : EReal)) ∧ vLmp a3 (ix2 r (0 : Fin 1)) = lam
    ∧ ((∀ q, q < 32000 → ℓ q ≤ mu) ∧ ∃ q, q < 32000 ∧ ℓ q = mu)
    ∧ (∀ v q, v < 25 → q < 1280 → lW (xw G1) (wt G0) (mb G2) (pw G3) (r.val / 64) (r.val % 64) v q = (ℓ (1280 * v + q) : EReal))
    ∧ lmpW (pw G3) (r.val / 64) (r.val % 64) = lam ∧ (lam = ⊤ ∨ ∃ y : ℝ, lam = (y : EReal)) := by
  choose f hf using fun q : Fin 32000 => real_l a2 a3 ok.r0 ok.r1 r q (ok.tmp r)
  obtain ⟨lam, k1, k2, k3⟩ := lmp_at h3 r (ok.mnp r)
  let ℓ : ℕ → ℝ := fun n => if h : n < 32000 then f ⟨n, h⟩ else 0
  have hℓ : ∀ n (h : n < 32000), ℓ n = f ⟨n, h⟩ := fun n h => dif_pos h
  obtain ⟨k, hk, hmax⟩ := Finset.exists_max_image (Finset.range 32000) ℓ ⟨0, Finset.mem_range.2 (by norm_num)⟩
  refine ⟨ℓ, ℓ k, lam, fun q => by rw [hf q, hℓ q.val q.isLt], k2, ⟨fun q hq => hmax q (Finset.mem_range.2 hq), k, Finset.mem_range.1 hk, rfl⟩, fun v q hv hq => ?_, k1, k3⟩
  rw [logit_at h0 h1 h2 h3 r v q hv hq (ok.tmp r), hf, hℓ _ (by omega)]

include h0 h1 h2 h3 ok in
/-- The log-probabilities. -/
theorem out_eq (r : Fin 9216) (q : Fin 32000) :
    outW (xw G1) (wt G0) (mb G2) (pw G3) (r.val / 64) (r.val % 64) (q.val / 1280) (q.val % 1280) = vOut (vL a0 a1 a2 a3) (vLmp a3) (ix2 r q) := by
  obtain ⟨ℓ, mu, lam, hV, hp, hmu, hW, hl, hk⟩ := row_reals h0 h1 h2 h3 ok r
  have eq : 1280 * (q.val / 1280) + q.val % 1280 = q.val := by omega
  rcases hk with rfl | ⟨y, rfl⟩
  · have e := out_top (xw G1) (wt G0) (mb G2) (pw G3) hW hl hmu (vLse (vL a0 a1 a2 a3) (vKept (vL a0 a1 a2 a3) (vLmp a3)) (ix2 r (0 : Fin 1))) (v := q.val / 1280) (q := q.val % 1280) (by omega) (by omega)
    rw [eq] at e
    exact e.trans (out_r _ _ r hV hp hmu q rfl).symm
  · have e := out_row (xw G1) (wt G0) (mb G2) (pw G3) 32000 rfl hW hl hmu (v := q.val / 1280) (q := q.val % 1280) (by omega) (by omega)
    rw [eq] at e
    exact e.trans (out_r _ _ r hV hp hmu q (lse_r _ _ r hV hp hmu)).symm

include h0 h1 h2 h3 ok in
/-- The row's threshold and its smallest margin. -/
theorem st_eq (r : Fin 9216) (l : Fin 128) :
    stW (xw G1) (wt G0) (mb G2) (pw G3) (r.val / 64) (r.val % 64) l.val = vSt (vL a0 a1 a2 a3) (vLmp a3) (ix2 r l) := by
  obtain ⟨ℓ, mu, lam, hV, hp, hmu, hW, hl, hk⟩ := row_reals h0 h1 h2 h3 ok r
  refine Eq.trans ?_ (st_r _ _ r (thr_r _ _ r hV hp hmu (lseAll_r _ r hV hmu)) (mar_r _ _ r hV hp hmu)).symm
  by_cases h : l.val = 0
  · rw [if_pos h, h]
    rcases hk with rfl | ⟨y, rfl⟩
    · exact st0_top (xw G1) (wt G0) (mb G2) (pw G3) 32000 rfl hW hl hmu
    · exact st0_row (xw G1) (wt G0) (mb G2) (pw G3) 32000 rfl hW hl hmu
  · rw [if_neg h]
    rcases hk with rfl | ⟨y, rfl⟩
    · exact st_top (xw G1) (wt G0) (mb G2) (pw G3) 32000 hW hl hmu rfl h
    · exact st_row (xw G1) (wt G0) (mb G2) (pw G3) 32000 rfl hW hl hmu h

include h3 ok in
/-- A token's id is a vocabulary index. -/
theorem id_at (r : Fin 9216) (l : Fin 128) (hl : l.val < 40) : ∃ v : Fin 32000, a3 (ix2 r l) = BitVec.ofNat 32 v.val := by
  obtain ⟨u, v⟩ := ok.ids r ⟨l.val, hl⟩
  obtain ⟨a, b⟩ := word_nat _ u v
  exact ⟨⟨_, a⟩, b⟩

include h0 h1 h3 in
/-- The logits of the tokens asked for. -/
theorem zs_eq (r : Fin 9216) (l : Fin 128) (hl : l.val < 40) (n : Fin 32000) (hn : a3 (ix2 r l) = BitVec.ofNat 32 n.val) :
    IntOp.shrsi .vector (pw G3 (r.val / 64) (r.val % 64) l.val) 7#32 = BitVec.ofNat 32 (10 * (n.val / 1280) + n.val / 128 % 10)
    ∧ penW (zN (xw G1 (r.val / 64)) (wt G0 (n.val / 1280)) (r.val % 64) (128 * (n.val / 128 % 10) + (IntOp.andi (pw G3 (r.val / 64) (r.val % 64) l.val) 127#32).toNat))
      = vZs a0 a1 a3 (ix2 r l) := by
  have hpw := p_at h3 r l
  rw [hpw, hn, id_hi _ n.isLt, id_lo _ n.isLt]
  refine ⟨congrArg (BitVec.ofNat 32) (by omega), ?_⟩
  rw [vZs_at a0 a1 a3 r l hl n hn, penW_eq, vPen_at, z_at h0 h1 r (n.val / 1280) _ (by omega)]
  have e : (⟨1280 * (n.val / 1280) + (128 * (n.val / 128 % 10) + n.val % 128), by omega⟩ : Fin 32000) = n := Fin.ext (by show 1280 * (n.val / 1280) + (128 * (n.val / 128 % 10) + n.val % 128) = n.val; omega)
  rw [e]

end

end Cert.Row

end
-- ==== Proof.Pre.lean ====
module

public import proofs.«01_k».proof.Defs
public import proofs.«01_k».proof.Proof.RefP
public import Idealize.ShloMosaic.Lib.ReduceAll
public import Idealize.ShloMosaic.Lib.Affine

@[expose] public section

noncomputable section

/-! ## The two predicates' shape facts -/

namespace Cert.Pre_inputs_ok

open Idealize.ShloMosaic

theorem facts : Facts where
  slices_S9216x128_S9216x40_0_0 := by decide
  slices_S9216x128_S9216x1_0_126 := by decide
  shapeCasts_S9216x1_S9216 := by decide
  slices_S9216x128_S9216x1_0_127 := by decide
  bcast_S_S32000x1024 := by decide
  reducesTo_S32000x1024_S_d0_1 := by decide
  h_S_ := by decide
  bcast_S_S9216x1024 := by decide
  reducesTo_S9216x1024_S_d0_1 := by decide
  bcast_S_S9216x40 := by decide
  reducesTo_S9216x40_S_d0_1 := by decide
  bcast_S_S9216 := by decide
  reducesTo_S9216_S_d0 := by decide

end Cert.Pre_inputs_ok

namespace Cert.On_written

open Idealize.ShloMosaic

theorem facts : Facts where
  bcast_S_S9216x32000 := by decide
  bcast_S_S9216x128 := by decide

/-- The mask of the second result selects lanes below 40. -/
theorem lane_of_written [Facts] (a0 : FVec Ideal S32000x1024 .bf16) (a1 : FVec Ideal S9216x1024 .bf16) (a2 : IVec S9x9216x128 32) (a3 : IVec S9216x128 32)
    (i : S9216x128.Idx) (h : (fn (F := Ideal) a0 a1 a2 a3).2.1 i = 1#1) : (i 1).val < 40 := by
  have h' : IntOp.cmpi .slt (BitVec.ofNat 32 (i 1).val) 40#32 = 1#1 := h
  have hi : (i 1).val < 128 := (i 1).isLt
  rw [IntOp.cmpi_slt, BitVec.toInt_eq_toNat_of_lt (by simp only [BitVec.toNat_ofNat]; omega), BitVec.toNat_ofNat] at h'
  have : (40#32 : BitVec 32).toInt = 40 := by decide
  omega

end Cert.On_written

namespace Cert.Pre_inputs_ok

open Idealize.ShloMosaic

theorem bf16_inf : Ideal.ofBits .bf16 0x7F80#16 = ⊤ := by
  simp [Ideal.ofBits, Ideal.ieee]
theorem f32_inf : Ideal.ofBits .f32 0x7F800000#32 = ⊤ := by
  simp [Ideal.ofBits, Ideal.ieee]

/-- A value whose magnitude is below infinity is a real. -/
theorem real_of_abs {x : EReal} (h : Ideal.cmp .olt (max x (-x)) (Ideal.ofBits .bf16 0x7F80#16) = 1#1) : ∃ y : ℝ, x = (y : EReal) := by
  rw [bf16_inf] at h
  induction x with
  | bot => simp [Ideal.cmp] at h
  | top => simp [Ideal.cmp] at h
  | coe y => exact ⟨y, rfl⟩

variable [Facts] (a0 : FVec Ideal S32000x1024 .bf16) (a1 : FVec Ideal S9216x1024 .bf16) (a2 : IVec S9x9216x128 32) (a3 : IVec S9216x128 32)

/-- What the precondition says of the arguments. -/
theorem decode (h : fn (F := Ideal) a0 a1 a2 a3 = fun _ => 1#1) :
    (∀ i, ∃ y : ℝ, a0 i = (y : EReal)) ∧ (∀ i, ∃ y : ℝ, a1 i = (y : EReal))
    ∧ (∀ (r : Fin 9216) (l : Fin 40), 0 ≤ (a3 (ix2 r (⟨l.val, by omega⟩ : Fin 128))).toInt ∧ (a3 (ix2 r (⟨l.val, by omega⟩ : Fin 128))).toInt < 32000)
    ∧ (∀ r : Fin 9216, Ideal.ofBits .f32 (a3 (ix2 r (126 : Fin 128))) ≠ 0)
    ∧ (∀ r : Fin 9216, 0 < Ideal.ofBits .f32 (a3 (ix2 r (127 : Fin 128)))) := by
  let j : S_.Idx := fun a => a.elim0
  have e := congrFun h j
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have f1 := fun i => Host.reduce_andi_all _ _ _ _ j e1 i
  have f2 := fun i => Host.reduce_andi_all _ _ _ _ j e2 i
  have f3 := fun i => Host.reduce_andi_all _ _ _ _ j e3 i
  have f4 := fun i => Host.reduce_andi_all _ _ _ _ j e4 i
  have f5 := fun i => Host.reduce_andi_all _ _ _ _ j e5 i
  have mp : ∀ r : Fin 9216, (bitcastToFloat .f32 (shapeCast S9216 (extractStridedSlice S9216x1 ![0, 127] a3 Facts.slices_S9216x128_S9216x1_0_127) Facts.shapeCasts_S9216x1_S9216) : FVec Ideal S9216 .f32) (ix1 r)
      = Ideal.ofBits .f32 (a3 (ix2 r (127 : Fin 128))) := fun r => by pointwise
  have tp : ∀ r : Fin 9216, (bitcastToFloat .f32 (shapeCast S9216 (extractStridedSlice S9216x1 ![0, 126] a3 Facts.slices_S9216x128_S9216x1_0_126) Facts.shapeCasts_S9216x1_S9216) : FVec Ideal S9216 .f32) (ix1 r)
      = Ideal.ofBits .f32 (a3 (ix2 r (126 : Fin 128))) := fun r => by pointwise
  have ids : ∀ (r : Fin 9216) (l : Fin 40), extractStridedSlice S9216x40 ![0, 0] a3 Facts.slices_S9216x128_S9216x40_0_0 (ix2 r l) = a3 (ix2 r (⟨l.val, by omega⟩ : Fin 128)) := fun r l => by pointwise
  refine ⟨fun i => real_of_abs (f1 i), fun i => real_of_abs (f2 i), fun r l => ?_, fun r => ?_, fun r => ?_⟩
  · obtain ⟨u, v⟩ := IntOp.andi_eq_one.1 (f3 (ix2 r l))
    have u' : IntOp.cmpi .sge (extractStridedSlice S9216x40 ![0, 0] a3 Facts.slices_S9216x128_S9216x40_0_0 (ix2 r l)) 0#32 = 1#1 := u
    have v' : IntOp.cmpi .slt (extractStridedSlice S9216x40 ![0, 0] a3 Facts.slices_S9216x128_S9216x40_0_0 (ix2 r l)) 32000#32 = 1#1 := v
    rw [ids, IntOp.cmpi_sge] at u'
    rw [ids, IntOp.cmpi_slt] at v'
    exact ⟨u', v'⟩
  · have u : Ideal.cmp .une ((bitcastToFloat .f32 (shapeCast S9216 (extractStridedSlice S9216x1 ![0, 126] a3 Facts.slices_S9216x128_S9216x1_0_126) Facts.shapeCasts_S9216x1_S9216) : FVec Ideal S9216 .f32) (ix1 r)) (Ideal.ofBits .f32 0x00000000#32) = 1#1 := f4 (ix1 r)
    rw [tp, Ideal.ofBits_zero_f32] at u
    intro h0
    rw [h0] at u
    simp [Ideal.cmp] at u
  · have u : Ideal.cmp .ogt ((bitcastToFloat .f32 (shapeCast S9216 (extractStridedSlice S9216x1 ![0, 127] a3 Facts.slices_S9216x128_S9216x1_0_127) Facts.shapeCasts_S9216x1_S9216) : FVec Ideal S9216 .f32) (ix1 r)) (Ideal.ofBits .f32 0x00000000#32) = 1#1 := f5 (ix1 r)
    rw [mp, Ideal.ofBits_zero_f32] at u
    by_contra hc
    simp [Ideal.cmp, hc] at u

end Cert.Pre_inputs_ok

end
-- ==== Proof.Final.lean ====
module

public import proofs.«01_k».proof.Defs
public import proofs.«01_k».proof.Proof.Equal
public import proofs.«01_k».proof.Proof.Pre
public import proofs.«01_k».proof.Proof.RefZ

@[expose] public section

noncomputable section

namespace Cert.Proof

open Idealize.ShloMosaic Idealize.ShloMosaic.TcCoe Idealize.ShloMosaic.Tactic Idealize.SL.Sem
open Idealize.ShloMosaic.Pipeline (RDat)
open Cert.KernelIdeal.Hand Cert.Row

/-- An index is its two coordinates. -/
theorem ix2_self {a b : ℕ} (i : (⟨2, ![a, b]⟩ : Shape).Idx) : ix2 (i 0 : Fin a) (i 1 : Fin b) = i := by
  funext k; fin_cases k <;> rfl

section
variable {m : (ℓ : Loc Cert.KernelIdeal.nD Cert.KernelIdeal.τ Cert.KernelIdeal.sig) → Buf (Elt Ideal) ℓ}

/-- Every memory's arguments are functions of their coordinates. -/
theorem exists_args (m : (ℓ : Loc Cert.KernelIdeal.nD Cert.KernelIdeal.τ Cert.KernelIdeal.sig) → Buf (Elt Ideal) ℓ) (c : Dev Cert.KernelIdeal.nD) :
    ∃ (G0 G1 : ℕ → ℕ → EReal) (G2 : ℕ → ℕ → ℕ → BitVec 32) (G3 : ℕ → ℕ → BitVec 32), Args G0 G1 G2 G3 m c := by
  obtain ⟨G0, h0⟩ := nat2 (α := EReal) (fun j : Cert.KernelIdeal.S32000x1024.Idx => (m ((c.tc : Thread Cert.KernelIdeal.nD Cert.KernelIdeal.τ).loc Cert.KernelIdeal.main_arg0) : Cert.KernelIdeal.S32000x1024.Idx → EReal) j)
  obtain ⟨G1, h1⟩ := nat2 (α := EReal) (fun j : Cert.KernelIdeal.S9216x1024.Idx => (m ((c.tc : Thread Cert.KernelIdeal.nD Cert.KernelIdeal.τ).loc Cert.KernelIdeal.main_arg1) : Cert.KernelIdeal.S9216x1024.Idx → EReal) j)
  obtain ⟨G2, h2⟩ := nat3 (α := BitVec 32) (fun j : Cert.KernelIdeal.S9x9216x128.Idx => (m ((c.tc : Thread Cert.KernelIdeal.nD Cert.KernelIdeal.τ).loc Cert.KernelIdeal.main_arg2) : Cert.KernelIdeal.S9x9216x128.Idx → BitVec 32) j)
  obtain ⟨G3, h3⟩ := nat2 (α := BitVec 32) (fun j : Cert.KernelIdeal.S9216x128.Idx => (m ((c.tc : Thread Cert.KernelIdeal.nD Cert.KernelIdeal.τ).loc Cert.KernelIdeal.main_arg3) : Cert.KernelIdeal.S9216x128.Idx → BitVec 32) j)
  exact ⟨G0, G1, G2, G3, h0, h1, h2, h3⟩

/-- A device's arguments. -/
abbrev w0 (m : (ℓ : Loc Cert.KernelIdeal.nD Cert.KernelIdeal.τ Cert.KernelIdeal.sig) → Buf (Elt Ideal) ℓ) (c : Dev Cert.KernelIdeal.nD) : FVec Ideal S0 .bf16 := m ((c.tc : Thread Cert.KernelIdeal.nD Cert.KernelIdeal.τ).loc Cert.KernelIdeal.main_arg0)
abbrev w1 (m : (ℓ : Loc Cert.KernelIdeal.nD Cert.KernelIdeal.τ Cert.KernelIdeal.sig) → Buf (Elt Ideal) ℓ) (c : Dev Cert.KernelIdeal.nD) : FVec Ideal S1 .bf16 := m ((c.tc : Thread Cert.KernelIdeal.nD Cert.KernelIdeal.τ).loc Cert.KernelIdeal.main_arg1)
abbrev w2 (m : (ℓ : Loc Cert.KernelIdeal.nD Cert.KernelIdeal.τ Cert.KernelIdeal.sig) → Buf (Elt Ideal) ℓ) (c : Dev Cert.KernelIdeal.nD) : IVec S2 32 := m ((c.tc : Thread Cert.KernelIdeal.nD Cert.KernelIdeal.τ).loc Cert.KernelIdeal.main_arg2)
abbrev w3 (m : (ℓ : Loc Cert.KernelIdeal.nD Cert.KernelIdeal.τ Cert.KernelIdeal.sig) → Buf (Elt Ideal) ℓ) (c : Dev Cert.KernelIdeal.nD) : IVec S3 32 := m ((c.tc : Thread Cert.KernelIdeal.nD Cert.KernelIdeal.τ).loc Cert.KernelIdeal.main_arg3)

/-- The three results, as the reference writes them. -/
abbrev o0 (m : (ℓ : Loc Cert.KernelIdeal.nD Cert.KernelIdeal.τ Cert.KernelIdeal.sig) → Buf (Elt Ideal) ℓ) (c : Dev Cert.KernelIdeal.nD) :=
  Cert.ReferenceIdeal.Hand.vOut (Cert.ReferenceIdeal.Hand.vL (w0 m c) (w1 m c) (w2 m c) (w3 m c)) (Cert.ReferenceIdeal.Hand.vLmp (w3 m c))
abbrev o1 (m : (ℓ : Loc Cert.KernelIdeal.nD Cert.KernelIdeal.τ Cert.KernelIdeal.sig) → Buf (Elt Ideal) ℓ) (c : Dev Cert.KernelIdeal.nD) :=
  Cert.ReferenceIdeal.Hand.vZs (w0 m c) (w1 m c) (w3 m c)
abbrev o2 (m : (ℓ : Loc Cert.KernelIdeal.nD Cert.KernelIdeal.τ Cert.KernelIdeal.sig) → Buf (Elt Ideal) ℓ) (c : Dev Cert.KernelIdeal.nD) :=
  Cert.ReferenceIdeal.Hand.vSt (Cert.ReferenceIdeal.Hand.vL (w0 m c) (w1 m c) (w2 m c) (w3 m c)) (Cert.ReferenceIdeal.Hand.vLmp (w3 m c))

variable {r : PUnit × MemSt Cert.KernelIdeal.nD Cert.KernelIdeal.τ Cert.KernelIdeal.sig (Elt Ideal)} {c : Dev Cert.KernelIdeal.nD}
  {K : (c : Dev Cert.KernelIdeal.nD) → Track m c} {G0 G1 : ℕ → ℕ → EReal} {G2 : ℕ → ℕ → ℕ → BitVec 32} {G3 : ℕ → ℕ → BitVec 32}
  (A : Args G0 G1 G2 G3 m c) (hK : K c = track A)
  (h : RDat.FramePost (Cert.KernelIdeal.cfgs 0) (fun c => rd (K c)) (Cert.KernelIdeal.Gen.V m) r)
  (ok : Ok (w0 m c) (w1 m c) (w3 m c))

include A hK h ok in
theorem kernel_0 (i : Cert.KernelIdeal.S9216x32000.Idx) :
    (r.2.mem ((c.tc : Thread Cert.KernelIdeal.nD Cert.KernelIdeal.τ).loc Cert.KernelIdeal.main_v0_0) : Cert.KernelIdeal.S9216x32000.Idx → EReal) i = o0 m c i :=
  (read_4 A hK h i).trans ((out_eq A.h0 A.h1 A.h2 A.h3 ok (i 0) (i 1)).trans (congrArg (o0 m c) (ix2_self i)))

include A hK h ok in
theorem kernel_1 (i : Cert.KernelIdeal.S9216x128.Idx) (hl : (i 1).val < 40) :
    (r.2.mem ((c.tc : Thread Cert.KernelIdeal.nD Cert.KernelIdeal.τ).loc Cert.KernelIdeal.main_v0_1) : Cert.KernelIdeal.S9216x128.Idx → EReal) i = o1 m c i := by
  obtain ⟨n, hn⟩ := id_at A.h3 ok (i 0) (i 1) hl
  obtain ⟨a, b⟩ := zs_eq A.h0 A.h1 A.h3 (i 0) (i 1) hl n hn
  exact (read_5 A hK h i (n.val / 128 % 10) (n.val / 1280) hl (by omega) (by omega) a).trans (b.trans (congrArg (o1 m c) (ix2_self i)))

include A hK h ok in
theorem kernel_2 (i : Cert.KernelIdeal.S9216x128.Idx) :
    (r.2.mem ((c.tc : Thread Cert.KernelIdeal.nD Cert.KernelIdeal.τ).loc Cert.KernelIdeal.main_v0_2) : Cert.KernelIdeal.S9216x128.Idx → EReal) i = o2 m c i :=
  (read_6 A hK h i).trans ((st_eq A.h0 A.h1 A.h2 A.h3 ok (i 0) (i 1)).trans (congrArg (o2 m c) (ix2_self i)))

theorem ok_of (hp : Cert.Pre_KernelIdeal_inputs_ok (hPre_inputs_ok := Cert.Pre_inputs_ok.facts) m) (c : Dev Cert.KernelIdeal.nD) : Ok (w0 m c) (w1 m c) (w3 m c) :=
  have d := @Cert.Pre_inputs_ok.decode Cert.Pre_inputs_ok.facts (w0 m c) (w1 m c) (w2 m c) (w3 m c) (hp c)
  ⟨d.1, d.2.1, d.2.2.1, d.2.2.2.1, d.2.2.2.2⟩

end

theorem algebraic : Cert.algebraic_KernelIdeal_ReferenceIdeal_on_written_pre_inputs_ok (hKernelIdeal := Cert.KernelIdeal.Gen.facts)
    (hReferenceIdeal := Cert.ReferenceIdeal.Gen.facts) (hPre_inputs_ok := Cert.Pre_inputs_ok.facts) (hOn_written := Cert.On_written.facts) := by
  intro m g m' g' hp hm
  choose G0 G1 G2 G3 A using exists_args m
  refine ⟨o0 m, o1 m, o2 m, ?_, ?_⟩
  · refine (θ_run Cert.KernelIdeal.defs _ _).mono (fun r h c => ?_) (run_track g (fun c => track (A c)))
    have k := h.1
    refine ⟨fun i _ => kernel_0 (A c) rfl k (ok_of hp c) i,
      fun i hi => kernel_1 (A c) rfl k (ok_of hp c) i (@Cert.On_written.lane_of_written Cert.On_written.facts _ _ _ _ i hi),
      fun i _ => kernel_2 (A c) rfl k (ok_of hp c) i, ?_⟩
    exact ⟨k.arr_in c 0 rfl, k.arr_in c 1 rfl, k.arr_in c 2 rfl, k.arr_in c 3 rfl⟩
  · refine (θ_run Cert.ReferenceIdeal.defs _ _).mono (fun r h c => ?_) (Cert.ReferenceIdeal.Hand.run_arrays m' g')
    obtain ⟨e0, e1, e2, e3⟩ := hm c
    obtain ⟨r0, r1, r2, rest⟩ := h c
    have q0 : Cert.ReferenceIdeal.Hand.b0 m' c = w0 m c := e0
    have q1 : Cert.ReferenceIdeal.Hand.b1 m' c = w1 m c := e1
    have q2 : Cert.ReferenceIdeal.Hand.b2 m' c = w2 m c := e2
    have q3 : Cert.ReferenceIdeal.Hand.b3 m' c = w3 m c := e3
    rw [q0, q1, q2, q3] at r0 r2
    rw [q0, q1, q3] at r1
    exact ⟨fun i _ => congrFun r0 i, fun i _ => congrFun r1 i, fun i _ => congrFun r2 i, rest⟩

theorem frame_ri : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Hand.run_arrays m ρ)

theorem frame_ri_pre : Cert.quiescent_ReferenceIdeal_pre_inputs_ok (hReferenceIdeal := Cert.ReferenceIdeal.Gen.facts) (hPre_inputs_ok := Cert.Pre_inputs_ok.facts) :=
  fun m ρ _ => frame_ri m ρ trivial

end Cert.Proof

end
-- ==== Proof.lean ====
module

public import proofs.«01_k».proof.Defs
public import proofs.«01_k».proof.Proof.FrameK
public import proofs.«01_k».proof.Proof.FrameI
public import proofs.«01_k».proof.Proof.Final
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel (hKernel := Cert.Kernel.Gen.facts) := fun m ρ _ =>
  (θ_run Cert.Kernel.defs _ _).mono (fun _ h => ⟨fun c => Cert.Kernel.Hand.final_args h.1 c, h.2⟩)
    (Cert.Kernel.Hand.run_main (F := Bits) m ρ)

theorem frame_pi : Cert.quiescent_KernelIdeal (hKernelIdeal := Cert.KernelIdeal.Gen.facts) := fun m ρ _ =>
  (θ_run Cert.KernelIdeal.defs _ _).mono (fun _ h => ⟨fun c => Cert.KernelIdeal.Hand.final_args h.1 c, h.2⟩)
    (Cert.KernelIdeal.Hand.run_main (F := Ideal) m ρ)

theorem frame_pi_pre : Cert.quiescent_KernelIdeal_pre_inputs_ok (hKernelIdeal := Cert.KernelIdeal.Gen.facts) (hPre_inputs_ok := Cert.Pre_inputs_ok.facts) :=
  fun m ρ _ => frame_pi m ρ trivial

/-- Each renamed constant is the real number its name stands for. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "inv_ctrl" .f32 0x3F44EC4F#32 ((4194304 / 5452595 : ℝ) : EReal) rfl,
   IdealRules.named_const.statement Cert.KernelIdeal.κ "ctrl" .f32 0x3FA66666#32 ((5452595 / 4194304 : ℝ) : EReal) rfl⟩

theorem claim : Cert.Claim :=
  ⟨Cert.Kernel.Gen.facts, Cert.KernelIdeal.Gen.facts, Cert.ReferenceIdeal.Gen.facts, Cert.Pre_inputs_ok.facts, Cert.On_written.facts,
    frame_p, frame_pi, frame_pi_pre, frame_ri, frame_ri_pre, preserves, algebraic⟩

end Cert.Proof

end
